-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S2x2048x1024 : Shape := ⟨3, ![2, 2048, 1024]⟩
abbrev S2x1024x1024 : Shape := ⟨3, ![2, 1024, 1024]⟩
abbrev S2 : Shape := ⟨1, ![2]⟩
abbrev S4 : Shape := ⟨1, ![4]⟩
abbrev S12 : Shape := ⟨1, ![12]⟩
abbrev S24 : Shape := ⟨1, ![24]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S2048x1024 : Shape := ⟨2, ![2048, 1024]⟩
abbrev S1024x384 : Shape := ⟨2, ![1024, 384]⟩
abbrev S4096x256 : Shape := ⟨2, ![4096, 256]⟩
abbrev S2048x384 : Shape := ⟨2, ![2048, 384]⟩

abbrev nBuf : Space → Nat
  | .hbm => 3
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .hbm, ⟨2, _⟩ => ⟨S32768x1024, .bf16⟩
  | .local _ .vmem, ⟨0, _⟩ => ⟨S16384x1024, .bf16⟩
  | .local _ .vmem, ⟨1, _⟩ => ⟨S2x2048x1024, .f32⟩
  | .local _ .vmem, ⟨2, _⟩ => ⟨S2x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  (ofTc nBuf bufTy 1 90 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_6 : BitVec 32 := 16#32
  let v14 : BitVec 32 := Scalar.muli v9 c16_i32_6
  let v15 : BitVec 32 := Scalar.addi c0_i32 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v16 : BitVec 32 := Scalar.muli v5 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_9 : BitVec 32 := 0#32
  let v20 : BitVec 1 := Scalar.cmpi .sgt v5 c0_i32_9
  let v32 : BitVec 32 := Scalar.extui v20
  let c0_i32_20 : BitVec 32 := 0#32
  let v33 : BitVec 1 := Scalar.cmpi .ne v32 c0_i32_20
  v33

def k0_dev2 (d0 : Dev nD) : Nat :=
  let c0_i32_1710 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1709 : BitVec 32 := 16#32
  let v1908 : BitVec 32 := Scalar.muli v2 c16_i32_1709
  let v1909 : BitVec 32 := Scalar.addi c0_i32_1710 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v21 : BitVec 32 := Scalar.subi v5 c1_i32_10
  let c0_i32_11 : BitVec 32 := 0#32
  let v22 : BitVec 32 := Scalar.maxsi v21 c0_i32_11
  let c4_i32_1711 : BitVec 32 := 4#32
  let v1910 : BitVec 32 := Scalar.muli v22 c4_i32_1711
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1712 : BitVec 32 := 1#32
  let v1912 : BitVec 32 := Scalar.muli v8 c1_i32_1712
  let v1913 : BitVec 32 := Scalar.addi v1911 v1912
  v1913.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v23 : BitVec 1 := Scalar.cmpi .slt v5 c3_i32
  let v36 : BitVec 32 := Scalar.extui v23
  let c0_i32_22 : BitVec 32 := 0#32
  let v37 : BitVec 1 := Scalar.cmpi .ne v36 c0_i32_22
  v37

def k0_dev3 (d0 : Dev nD) : Nat :=
  let c0_i32_1710 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1709 : BitVec 32 := 16#32
  let v1908 : BitVec 32 := Scalar.muli v2 c16_i32_1709
  let v1909 : BitVec 32 := Scalar.addi c0_i32_1710 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v24 : BitVec 32 := Scalar.addi v5 c1_i32_12
  let c3_i32_13 : BitVec 32 := 3#32
  let v25 : BitVec 32 := Scalar.minsi v24 c3_i32_13
  let c4_i32_1711 : BitVec 32 := 4#32
  let v1910 : BitVec 32 := Scalar.muli v25 c4_i32_1711
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1712 : BitVec 32 := 1#32
  let v1912 : BitVec 32 := Scalar.muli v8 c1_i32_1712
  let v1913 : BitVec 32 := Scalar.addi v1911 v1912
  v1913.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_14 : BitVec 32 := 0#32
  let v26 : BitVec 1 := Scalar.cmpi .sgt v8 c0_i32_14
  let v40 : BitVec 32 := Scalar.extui v26
  let c0_i32_23 : BitVec 32 := 0#32
  let v41 : BitVec 1 := Scalar.cmpi .ne v40 c0_i32_23
  v41

def k0_dev4 (d0 : Dev nD) : Nat :=
  let c0_i32_1710 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1709 : BitVec 32 := 16#32
  let v1908 : BitVec 32 := Scalar.muli v2 c16_i32_1709
  let v1909 : BitVec 32 := Scalar.addi c0_i32_1710 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1711 : BitVec 32 := 4#32
  let v1910 : BitVec 32 := Scalar.muli v5 c4_i32_1711
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.subi v8 c1_i32_15
  let c0_i32_16 : BitVec 32 := 0#32
  let v28 : BitVec 32 := Scalar.maxsi v27 c0_i32_16
  let c1_i32_1712 : BitVec 32 := 1#32
  let v1912 : BitVec 32 := Scalar.muli v28 c1_i32_1712
  let v1913 : BitVec 32 := Scalar.addi v1911 v1912
  v1913.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_17 : BitVec 32 := 3#32
  let v29 : BitVec 1 := Scalar.cmpi .slt v8 c3_i32_17
  let v44 : BitVec 32 := Scalar.extui v29
  let c0_i32_24 : BitVec 32 := 0#32
  let v45 : BitVec 1 := Scalar.cmpi .ne v44 c0_i32_24
  v45

def k0_dev5 (d0 : Dev nD) : Nat :=
  let c0_i32_1710 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1709 : BitVec 32 := 16#32
  let v1908 : BitVec 32 := Scalar.muli v2 c16_i32_1709
  let v1909 : BitVec 32 := Scalar.addi c0_i32_1710 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1711 : BitVec 32 := 4#32
  let v1910 : BitVec 32 := Scalar.muli v5 c4_i32_1711
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v30 : BitVec 32 := Scalar.addi v8 c1_i32_18
  let c3_i32_19 : BitVec 32 := 3#32
  let v31 : BitVec 32 := Scalar.minsi v30 c3_i32_19
  let c1_i32_1712 : BitVec 32 := 1#32
  let v1912 : BitVec 32 := Scalar.muli v31 c1_i32_1712
  let v1913 : BitVec 32 := Scalar.addi v1911 v1912
  v1913.toNat
def k0_off1 (d0 : Dev nD) (c4_i32_0 : BitVec 32) (c1_i32 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c4_i32_25 : BitVec 32 := 4#32
  let v48 : BitVec 32 := Scalar.muli v5 c4_i32_25
  let v6 : BitVec 32 := Dev.word d0
  let v7 : BitVec 32 := Scalar.divsi v6 c1_i32
  let c4_i32_1 : BitVec 32 := 4#32
  let v8 : BitVec 32 := Scalar.remsi v7 c4_i32_1
  let v49 : BitVec 32 := Scalar.addi v48 v8
  let c1024_i32 : BitVec 32 := 1024#32
  let v52 : BitVec 32 := Scalar.muli v49 c1024_i32
  let c0_i32_31 : BitVec 32 := 0#32
  ![v52.toNat, 0]
def k0_off1_at (r : Fin 2) : BitVec 32 × BitVec 32 :=
  if r.val < 1 then
    (4#32, 1#32)
  else
    (1#32, 4#32)
def k0_amt1 (d0 : Dev nD) : BitVec 32 :=
  let c1_i32_21 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_9 : BitVec 32 := 0#32
  let v20 : BitVec 1 := Scalar.cmpi .sgt v5 c0_i32_9
  let v34 : BitVec 32 := Scalar.extui v20
  let v35 : BitVec 32 := Scalar.addi c1_i32_21 v34
  let c3_i32 : BitVec 32 := 3#32
  let v23 : BitVec 1 := Scalar.cmpi .slt v5 c3_i32
  let v38 : BitVec 32 := Scalar.extui v23
  let v39 : BitVec 32 := Scalar.addi v35 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_14 : BitVec 32 := 0#32
  let v26 : BitVec 1 := Scalar.cmpi .sgt v8 c0_i32_14
  let v42 : BitVec 32 := Scalar.extui v26
  let v43 : BitVec 32 := Scalar.addi v39 v42
  let c3_i32_17 : BitVec 32 := 3#32
  let v29 : BitVec 1 := Scalar.cmpi .slt v8 c3_i32_17
  let v46 : BitVec 32 := Scalar.extui v29
  let v47 : BitVec 32 := Scalar.addi v43 v46
  v47

def k0_off2 (d0 : Dev nD) (c4_i32_0 : BitVec 32) (c1_i32 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c4_i32_25 : BitVec 32 := 4#32
  let v48 : BitVec 32 := Scalar.muli v5 c4_i32_25
  let v6 : BitVec 32 := Dev.word d0
  let v7 : BitVec 32 := Scalar.divsi v6 c1_i32
  let c4_i32_1 : BitVec 32 := 4#32
  let v8 : BitVec 32 := Scalar.remsi v7 c4_i32_1
  let v49 : BitVec 32 := Scalar.addi v48 v8
  let c1024_i32_51 : BitVec 32 := 1024#32
  let v77 : BitVec 32 := Scalar.muli v49 c1024_i32_51
  let v78 : Index := Scalar.indexCast v77
  let c0_52 : Index := 0#32
  ![v78.toNat, 0]
def k0_off2_at (r : Fin 2) : BitVec 32 × BitVec 32 :=
  if r.val < 1 then
    (4#32, 1#32)
  else
    (1#32, 4#32)
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32_4 : BitVec 32 := 16384#32
  let v12 : BitVec 32 := Scalar.muli v2 c16384_i32_4
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v48 : BitVec 32 := Scalar.muli v5 c4_i32_25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.addi v48 v8
  let c1024_i32_63 : BitVec 32 := 1024#32
  let v96 : BitVec 32 := Scalar.muli v49 c1024_i32_63
  let v97 : BitVec 32 := Scalar.addi v12 v96
  let c0_i32_70 : BitVec 32 := 0#32
  ![v97.toNat, 0]
def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v48 : BitVec 32 := Scalar.muli v5 c4_i32_25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.addi v48 v8
  let c1024_i32_62 : BitVec 32 := 1024#32
  let v95 : BitVec 32 := Scalar.muli v49 c1024_i32_62
  let c0_i32_71 : BitVec 32 := 0#32
  ![v95.toNat, 0]
def k0_dev6 (d0 : Dev nD) : Nat :=
  let c0_i32_67 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_66 : BitVec 32 := 16#32
  let v98 : BitVec 32 := Scalar.muli v9 c16_i32_66
  let v99 : BitVec 32 := Scalar.addi c0_i32_67 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v100 : BitVec 32 := Scalar.muli v5 c4_i32_68
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v102 : BitVec 32 := Scalar.muli v8 c1_i32_69
  let v103 : BitVec 32 := Scalar.addi v101 v102
  v103.toNat
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32_4 : BitVec 32 := 16384#32
  let v12 : BitVec 32 := Scalar.muli v2 c16384_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_26 : BitVec 32 := 4#32
  let v50 : BitVec 32 := Scalar.muli v8 c4_i32_26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v51 : BitVec 32 := Scalar.addi v50 v5
  let c1024_i32_73 : BitVec 32 := 1024#32
  let v111 : BitVec 32 := Scalar.muli v51 c1024_i32_73
  let v112 : BitVec 32 := Scalar.addi v12 v111
  let c384_i32 : BitVec 32 := 384#32
  ![v112.toNat, 384]
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_26 : BitVec 32 := 4#32
  let v50 : BitVec 32 := Scalar.muli v8 c4_i32_26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v51 : BitVec 32 := Scalar.addi v50 v5
  let c1024_i32_72 : BitVec 32 := 1024#32
  let v110 : BitVec 32 := Scalar.muli v51 c1024_i32_72
  let c384_i32_80 : BitVec 32 := 384#32
  ![v110.toNat, 384]
def k0_dev7 (d0 : Dev nD) : Nat :=
  let c0_i32_77 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_76 : BitVec 32 := 16#32
  let v113 : BitVec 32 := Scalar.muli v9 c16_i32_76
  let v114 : BitVec 32 := Scalar.addi c0_i32_77 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v115 : BitVec 32 := Scalar.muli v5 c4_i32_78
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v117 : BitVec 32 := Scalar.muli v8 c1_i32_79
  let v118 : BitVec 32 := Scalar.addi v116 v117
  v118.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_90 : BitVec 32 := 0#32
  let v139 : BitVec 1 := Scalar.cmpi .sge v8 c0_i32_90
  let c2_i32_91 : BitVec 32 := 2#32
  let v140 : BitVec 1 := Scalar.cmpi .sle v8 c2_i32_91
  let v141 : BitVec 1 := Scalar.andi v139 v140
  let v158 : BitVec 32 := Scalar.extui v141
  let c0_i32_106 : BitVec 32 := 0#32
  let v159 : BitVec 1 := Scalar.cmpi .ne v158 c0_i32_106
  v159

def k0_off7 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_100 : BitVec 32 := 4#32
  let v152 : BitVec 32 := Scalar.muli v5 c4_i32_100
  let c3_i32_99 : BitVec 32 := 3#32
  let c0_i32_98 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_92 : BitVec 32 := 0#32
  let v142 : BitVec 32 := Scalar.subi v8 c0_i32_92
  let v150 : BitVec 32 := Scalar.maxsi c0_i32_98 v142
  let v151 : BitVec 32 := Scalar.minsi c3_i32_99 v150
  let v153 : BitVec 32 := Scalar.addi v152 v151
  let c1024_i32_101 : BitVec 32 := 1024#32
  let v154 : BitVec 32 := Scalar.muli v153 c1024_i32_101
  let v155 : BitVec 32 := Scalar.addi v11 v154
  let c0_i32_1712 : BitVec 32 := 0#32
  ![v155.toNat, 0]
def k0_dev8 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_103 : BitVec 32 := 3#32
  let c0_i32_102 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v143 : BitVec 32 := Scalar.addi v8 c1_i32_93
  let v156 : BitVec 32 := Scalar.maxsi c0_i32_102 v143
  let v157 : BitVec 32 := Scalar.minsi c3_i32_103 v156
  let c1_i32_1711 : BitVec 32 := 1#32
  let v1912 : BitVec 32 := Scalar.muli v157 c1_i32_1711
  let v1913 : BitVec 32 := Scalar.addi v1911 v1912
  v1913.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_107 : BitVec 32 := 3#32
  let v160 : BitVec 1 := Scalar.cmpi .sle v8 c3_i32_107
  let c1_i32_108 : BitVec 32 := 1#32
  let v161 : BitVec 1 := Scalar.cmpi .sge v8 c1_i32_108
  let v162 : BitVec 1 := Scalar.andi v160 v161
  let v179 : BitVec 32 := Scalar.extui v162
  let c0_i32_123 : BitVec 32 := 0#32
  let v180 : BitVec 1 := Scalar.cmpi .ne v179 c0_i32_123
  v180

def k0_off8 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v173 : BitVec 32 := Scalar.muli v5 c4_i32_117
  let c3_i32_116 : BitVec 32 := 3#32
  let c0_i32_115 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_109 : BitVec 32 := 0#32
  let v163 : BitVec 32 := Scalar.addi v8 c0_i32_109
  let v171 : BitVec 32 := Scalar.maxsi c0_i32_115 v163
  let v172 : BitVec 32 := Scalar.minsi c3_i32_116 v171
  let v174 : BitVec 32 := Scalar.addi v173 v172
  let c1024_i32_118 : BitVec 32 := 1024#32
  let v175 : BitVec 32 := Scalar.muli v174 c1024_i32_118
  let v176 : BitVec 32 := Scalar.addi v11 v175
  let c0_i32_1712 : BitVec 32 := 0#32
  ![v176.toNat, 0]
def k0_dev9 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_120 : BitVec 32 := 3#32
  let c0_i32_119 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v164 : BitVec 32 := Scalar.subi v8 c1_i32_110
  let v177 : BitVec 32 := Scalar.maxsi c0_i32_119 v164
  let v178 : BitVec 32 := Scalar.minsi c3_i32_120 v177
  let c1_i32_1711 : BitVec 32 := 1#32
  let v1912 : BitVec 32 := Scalar.muli v178 c1_i32_1711
  let v1913 : BitVec 32 := Scalar.addi v1911 v1912
  v1913.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_132 : BitVec 32 := 0#32
  let v191 : BitVec 1 := Scalar.cmpi .sge v5 c0_i32_132
  let c2_i32_133 : BitVec 32 := 2#32
  let v192 : BitVec 1 := Scalar.cmpi .sle v5 c2_i32_133
  let v193 : BitVec 1 := Scalar.andi v191 v192
  let v210 : BitVec 32 := Scalar.extui v193
  let c0_i32_147 : BitVec 32 := 0#32
  let v211 : BitVec 1 := Scalar.cmpi .ne v210 c0_i32_147
  v211

def k0_off9 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_142 : BitVec 32 := 4#32
  let v204 : BitVec 32 := Scalar.muli v8 c4_i32_142
  let c3_i32_141 : BitVec 32 := 3#32
  let c0_i32_140 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_134 : BitVec 32 := 0#32
  let v194 : BitVec 32 := Scalar.subi v5 c0_i32_134
  let v202 : BitVec 32 := Scalar.maxsi c0_i32_140 v194
  let v203 : BitVec 32 := Scalar.minsi c3_i32_141 v202
  let v205 : BitVec 32 := Scalar.addi v204 v203
  let c1024_i32_143 : BitVec 32 := 1024#32
  let v206 : BitVec 32 := Scalar.muli v205 c1024_i32_143
  let v207 : BitVec 32 := Scalar.addi v11 v206
  let c384_i32_1712 : BitVec 32 := 384#32
  ![v207.toNat, 384]
def k0_dev10 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_145 : BitVec 32 := 3#32
  let c0_i32_144 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_135 : BitVec 32 := 1#32
  let v195 : BitVec 32 := Scalar.addi v5 c1_i32_135
  let v208 : BitVec 32 := Scalar.maxsi c0_i32_144 v195
  let v209 : BitVec 32 := Scalar.minsi c3_i32_145 v208
  let c4_i32_1710 : BitVec 32 := 4#32
  let v1910 : BitVec 32 := Scalar.muli v209 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_148 : BitVec 32 := 3#32
  let v212 : BitVec 1 := Scalar.cmpi .sle v5 c3_i32_148
  let c1_i32_149 : BitVec 32 := 1#32
  let v213 : BitVec 1 := Scalar.cmpi .sge v5 c1_i32_149
  let v214 : BitVec 1 := Scalar.andi v212 v213
  let v231 : BitVec 32 := Scalar.extui v214
  let c0_i32_163 : BitVec 32 := 0#32
  let v232 : BitVec 1 := Scalar.cmpi .ne v231 c0_i32_163
  v232

def k0_off10 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_158 : BitVec 32 := 4#32
  let v225 : BitVec 32 := Scalar.muli v8 c4_i32_158
  let c3_i32_157 : BitVec 32 := 3#32
  let c0_i32_156 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_150 : BitVec 32 := 0#32
  let v215 : BitVec 32 := Scalar.addi v5 c0_i32_150
  let v223 : BitVec 32 := Scalar.maxsi c0_i32_156 v215
  let v224 : BitVec 32 := Scalar.minsi c3_i32_157 v223
  let v226 : BitVec 32 := Scalar.addi v225 v224
  let c1024_i32_159 : BitVec 32 := 1024#32
  let v227 : BitVec 32 := Scalar.muli v226 c1024_i32_159
  let v228 : BitVec 32 := Scalar.addi v11 v227
  let c384_i32_1712 : BitVec 32 := 384#32
  ![v228.toNat, 384]
def k0_dev11 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_161 : BitVec 32 := 3#32
  let c0_i32_160 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_151 : BitVec 32 := 1#32
  let v216 : BitVec 32 := Scalar.subi v5 c1_i32_151
  let v229 : BitVec 32 := Scalar.maxsi c0_i32_160 v216
  let v230 : BitVec 32 := Scalar.minsi c3_i32_161 v229
  let c4_i32_1710 : BitVec 32 := 4#32
  let v1910 : BitVec 32 := Scalar.muli v230 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_off11 (d0 : Dev nD) (c0_i32_81 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32_4 : BitVec 32 := 16384#32
  let v12 : BitVec 32 := Scalar.muli v2 c16384_i32_4
  let v125 : BitVec 32 := Scalar.addi v12 c0_i32_81
  let c768_i32 : BitVec 32 := 768#32
  ![v125.toNat, 768]
def k0_dev12 (d0 : Dev nD) : Nat :=
  let c0_i32_199 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_198 : BitVec 32 := 16#32
  let v265 : BitVec 32 := Scalar.muli v9 c16_i32_198
  let v266 : BitVec 32 := Scalar.addi c0_i32_199 v265
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_200 : BitVec 32 := 4#32
  let v267 : BitVec 32 := Scalar.muli v5 c4_i32_200
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v269 : BitVec 32 := Scalar.muli v8 c1_i32_201
  let v270 : BitVec 32 := Scalar.addi v268 v269
  v270.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v277 : BitVec 1 := Scalar.cmpi .sge v8 c1_i32_204
  let v295 : BitVec 32 := Scalar.extui v277
  let c0_i32_220 : BitVec 32 := 0#32
  let v296 : BitVec 1 := Scalar.cmpi .ne v295 c0_i32_220
  v296

def k0_off12 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_214 : BitVec 32 := 4#32
  let v289 : BitVec 32 := Scalar.muli v5 c4_i32_214
  let c3_i32_213 : BitVec 32 := 3#32
  let c0_i32_212 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v278 : BitVec 32 := Scalar.subi v8 c1_i32_205
  let c0_i32_206 : BitVec 32 := 0#32
  let v279 : BitVec 32 := Scalar.subi v278 c0_i32_206
  let v287 : BitVec 32 := Scalar.maxsi c0_i32_212 v279
  let v288 : BitVec 32 := Scalar.minsi c3_i32_213 v287
  let v290 : BitVec 32 := Scalar.addi v289 v288
  let c1024_i32_215 : BitVec 32 := 1024#32
  let v291 : BitVec 32 := Scalar.muli v290 c1024_i32_215
  let v292 : BitVec 32 := Scalar.addi v11 v291
  let c0_i32_1712 : BitVec 32 := 0#32
  ![v292.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v297 : BitVec 1 := Scalar.cmpi .sge v8 c1_i32_221
  let c2_i32_222 : BitVec 32 := 2#32
  let v298 : BitVec 1 := Scalar.cmpi .sle v8 c2_i32_222
  let v299 : BitVec 1 := Scalar.andi v297 v298
  let v316 : BitVec 32 := Scalar.extui v299
  let c0_i32_237 : BitVec 32 := 0#32
  let v317 : BitVec 1 := Scalar.cmpi .ne v316 c0_i32_237
  v317

def k0_off13 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v310 : BitVec 32 := Scalar.muli v5 c4_i32_231
  let c3_i32_230 : BitVec 32 := 3#32
  let c0_i32_229 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v300 : BitVec 32 := Scalar.subi v8 c1_i32_223
  let v308 : BitVec 32 := Scalar.maxsi c0_i32_229 v300
  let v309 : BitVec 32 := Scalar.minsi c3_i32_230 v308
  let v311 : BitVec 32 := Scalar.addi v310 v309
  let c1024_i32_232 : BitVec 32 := 1024#32
  let v312 : BitVec 32 := Scalar.muli v311 c1024_i32_232
  let v313 : BitVec 32 := Scalar.addi v11 v312
  let c0_i32_1712 : BitVec 32 := 0#32
  ![v313.toNat, 0]
def k0_dev13 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_234 : BitVec 32 := 3#32
  let c0_i32_233 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v301 : BitVec 32 := Scalar.addi v8 c1_i32_224
  let v314 : BitVec 32 := Scalar.maxsi c0_i32_233 v301
  let v315 : BitVec 32 := Scalar.minsi c3_i32_234 v314
  let c1_i32_1711 : BitVec 32 := 1#32
  let v1912 : BitVec 32 := Scalar.muli v315 c1_i32_1711
  let v1913 : BitVec 32 := Scalar.addi v1911 v1912
  v1913.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_238 : BitVec 32 := 2#32
  let v318 : BitVec 1 := Scalar.cmpi .sle v8 c2_i32_238
  let v336 : BitVec 32 := Scalar.extui v318
  let c0_i32_254 : BitVec 32 := 0#32
  let v337 : BitVec 1 := Scalar.cmpi .ne v336 c0_i32_254
  v337

def k0_off14 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_248 : BitVec 32 := 4#32
  let v330 : BitVec 32 := Scalar.muli v5 c4_i32_248
  let c3_i32_247 : BitVec 32 := 3#32
  let c0_i32_246 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v319 : BitVec 32 := Scalar.addi v8 c1_i32_239
  let c0_i32_240 : BitVec 32 := 0#32
  let v320 : BitVec 32 := Scalar.addi v319 c0_i32_240
  let v328 : BitVec 32 := Scalar.maxsi c0_i32_246 v320
  let v329 : BitVec 32 := Scalar.minsi c3_i32_247 v328
  let v331 : BitVec 32 := Scalar.addi v330 v329
  let c1024_i32_249 : BitVec 32 := 1024#32
  let v332 : BitVec 32 := Scalar.muli v331 c1024_i32_249
  let v333 : BitVec 32 := Scalar.addi v11 v332
  let c0_i32_1712 : BitVec 32 := 0#32
  ![v333.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_255 : BitVec 32 := 2#32
  let v338 : BitVec 1 := Scalar.cmpi .sle v8 c2_i32_255
  let c1_i32_256 : BitVec 32 := 1#32
  let v339 : BitVec 1 := Scalar.cmpi .sge v8 c1_i32_256
  let v340 : BitVec 1 := Scalar.andi v338 v339
  let v357 : BitVec 32 := Scalar.extui v340
  let c0_i32_271 : BitVec 32 := 0#32
  let v358 : BitVec 1 := Scalar.cmpi .ne v357 c0_i32_271
  v358

def k0_off15 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_265 : BitVec 32 := 4#32
  let v351 : BitVec 32 := Scalar.muli v5 c4_i32_265
  let c3_i32_264 : BitVec 32 := 3#32
  let c0_i32_263 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v341 : BitVec 32 := Scalar.addi v8 c1_i32_257
  let v349 : BitVec 32 := Scalar.maxsi c0_i32_263 v341
  let v350 : BitVec 32 := Scalar.minsi c3_i32_264 v349
  let v352 : BitVec 32 := Scalar.addi v351 v350
  let c1024_i32_266 : BitVec 32 := 1024#32
  let v353 : BitVec 32 := Scalar.muli v352 c1024_i32_266
  let v354 : BitVec 32 := Scalar.addi v11 v353
  let c0_i32_1712 : BitVec 32 := 0#32
  ![v354.toNat, 0]
def k0_dev14 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_268 : BitVec 32 := 3#32
  let c0_i32_267 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v342 : BitVec 32 := Scalar.subi v8 c1_i32_258
  let v355 : BitVec 32 := Scalar.maxsi c0_i32_267 v342
  let v356 : BitVec 32 := Scalar.minsi c3_i32_268 v355
  let c1_i32_1711 : BitVec 32 := 1#32
  let v1912 : BitVec 32 := Scalar.muli v356 c1_i32_1711
  let v1913 : BitVec 32 := Scalar.addi v1911 v1912
  v1913.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_272 : BitVec 32 := 1#32
  let v359 : BitVec 1 := Scalar.cmpi .sge v5 c1_i32_272
  let v377 : BitVec 32 := Scalar.extui v359
  let c0_i32_288 : BitVec 32 := 0#32
  let v378 : BitVec 1 := Scalar.cmpi .ne v377 c0_i32_288
  v378

def k0_off16 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_282 : BitVec 32 := 4#32
  let v371 : BitVec 32 := Scalar.muli v8 c4_i32_282
  let c3_i32_281 : BitVec 32 := 3#32
  let c0_i32_280 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v360 : BitVec 32 := Scalar.subi v5 c1_i32_273
  let c0_i32_274 : BitVec 32 := 0#32
  let v361 : BitVec 32 := Scalar.subi v360 c0_i32_274
  let v369 : BitVec 32 := Scalar.maxsi c0_i32_280 v361
  let v370 : BitVec 32 := Scalar.minsi c3_i32_281 v369
  let v372 : BitVec 32 := Scalar.addi v371 v370
  let c1024_i32_283 : BitVec 32 := 1024#32
  let v373 : BitVec 32 := Scalar.muli v372 c1024_i32_283
  let v374 : BitVec 32 := Scalar.addi v11 v373
  let c384_i32_1712 : BitVec 32 := 384#32
  ![v374.toNat, 384]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_289 : BitVec 32 := 1#32
  let v379 : BitVec 1 := Scalar.cmpi .sge v5 c1_i32_289
  let c2_i32_290 : BitVec 32 := 2#32
  let v380 : BitVec 1 := Scalar.cmpi .sle v5 c2_i32_290
  let v381 : BitVec 1 := Scalar.andi v379 v380
  let v398 : BitVec 32 := Scalar.extui v381
  let c0_i32_304 : BitVec 32 := 0#32
  let v399 : BitVec 1 := Scalar.cmpi .ne v398 c0_i32_304
  v399

def k0_off17 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_299 : BitVec 32 := 4#32
  let v392 : BitVec 32 := Scalar.muli v8 c4_i32_299
  let c3_i32_298 : BitVec 32 := 3#32
  let c0_i32_297 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v382 : BitVec 32 := Scalar.subi v5 c1_i32_291
  let v390 : BitVec 32 := Scalar.maxsi c0_i32_297 v382
  let v391 : BitVec 32 := Scalar.minsi c3_i32_298 v390
  let v393 : BitVec 32 := Scalar.addi v392 v391
  let c1024_i32_300 : BitVec 32 := 1024#32
  let v394 : BitVec 32 := Scalar.muli v393 c1024_i32_300
  let v395 : BitVec 32 := Scalar.addi v11 v394
  let c384_i32_1712 : BitVec 32 := 384#32
  ![v395.toNat, 384]
def k0_dev15 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_302 : BitVec 32 := 3#32
  let c0_i32_301 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_292 : BitVec 32 := 1#32
  let v383 : BitVec 32 := Scalar.addi v5 c1_i32_292
  let v396 : BitVec 32 := Scalar.maxsi c0_i32_301 v383
  let v397 : BitVec 32 := Scalar.minsi c3_i32_302 v396
  let c4_i32_1710 : BitVec 32 := 4#32
  let v1910 : BitVec 32 := Scalar.muli v397 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_305 : BitVec 32 := 2#32
  let v400 : BitVec 1 := Scalar.cmpi .sle v5 c2_i32_305
  let v418 : BitVec 32 := Scalar.extui v400
  let c0_i32_321 : BitVec 32 := 0#32
  let v419 : BitVec 1 := Scalar.cmpi .ne v418 c0_i32_321
  v419

def k0_off18 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_315 : BitVec 32 := 4#32
  let v412 : BitVec 32 := Scalar.muli v8 c4_i32_315
  let c3_i32_314 : BitVec 32 := 3#32
  let c0_i32_313 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_306 : BitVec 32 := 1#32
  let v401 : BitVec 32 := Scalar.addi v5 c1_i32_306
  let c0_i32_307 : BitVec 32 := 0#32
  let v402 : BitVec 32 := Scalar.addi v401 c0_i32_307
  let v410 : BitVec 32 := Scalar.maxsi c0_i32_313 v402
  let v411 : BitVec 32 := Scalar.minsi c3_i32_314 v410
  let v413 : BitVec 32 := Scalar.addi v412 v411
  let c1024_i32_316 : BitVec 32 := 1024#32
  let v414 : BitVec 32 := Scalar.muli v413 c1024_i32_316
  let v415 : BitVec 32 := Scalar.addi v11 v414
  let c384_i32_1712 : BitVec 32 := 384#32
  ![v415.toNat, 384]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_322 : BitVec 32 := 2#32
  let v420 : BitVec 1 := Scalar.cmpi .sle v5 c2_i32_322
  let c1_i32_323 : BitVec 32 := 1#32
  let v421 : BitVec 1 := Scalar.cmpi .sge v5 c1_i32_323
  let v422 : BitVec 1 := Scalar.andi v420 v421
  let v439 : BitVec 32 := Scalar.extui v422
  let c0_i32_337 : BitVec 32 := 0#32
  let v440 : BitVec 1 := Scalar.cmpi .ne v439 c0_i32_337
  v440

def k0_off19 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_332 : BitVec 32 := 4#32
  let v433 : BitVec 32 := Scalar.muli v8 c4_i32_332
  let c3_i32_331 : BitVec 32 := 3#32
  let c0_i32_330 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_324 : BitVec 32 := 1#32
  let v423 : BitVec 32 := Scalar.addi v5 c1_i32_324
  let v431 : BitVec 32 := Scalar.maxsi c0_i32_330 v423
  let v432 : BitVec 32 := Scalar.minsi c3_i32_331 v431
  let v434 : BitVec 32 := Scalar.addi v433 v432
  let c1024_i32_333 : BitVec 32 := 1024#32
  let v435 : BitVec 32 := Scalar.muli v434 c1024_i32_333
  let v436 : BitVec 32 := Scalar.addi v11 v435
  let c384_i32_1712 : BitVec 32 := 384#32
  ![v436.toNat, 384]
def k0_dev16 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_335 : BitVec 32 := 3#32
  let c0_i32_334 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_325 : BitVec 32 := 1#32
  let v424 : BitVec 32 := Scalar.subi v5 c1_i32_325
  let v437 : BitVec 32 := Scalar.maxsi c0_i32_334 v424
  let v438 : BitVec 32 := Scalar.minsi c3_i32_335 v437
  let c4_i32_1710 : BitVec 32 := 4#32
  let v1910 : BitVec 32 := Scalar.muli v438 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_dev17 (d0 : Dev nD) : Nat :=
  let c0_i32_372 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_371 : BitVec 32 := 16#32
  let v473 : BitVec 32 := Scalar.muli v9 c16_i32_371
  let v474 : BitVec 32 := Scalar.addi c0_i32_372 v473
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_373 : BitVec 32 := 4#32
  let v475 : BitVec 32 := Scalar.muli v5 c4_i32_373
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v477 : BitVec 32 := Scalar.muli v8 c1_i32_374
  let v478 : BitVec 32 := Scalar.addi v476 v477
  v478.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_378 : BitVec 32 := 2#32
  let v485 : BitVec 1 := Scalar.cmpi .sge v8 c2_i32_378
  let v503 : BitVec 32 := Scalar.extui v485
  let c0_i32_394 : BitVec 32 := 0#32
  let v504 : BitVec 1 := Scalar.cmpi .ne v503 c0_i32_394
  v504

def k0_off20 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388 : BitVec 32 := 4#32
  let v497 : BitVec 32 := Scalar.muli v5 c4_i32_388
  let c3_i32_387 : BitVec 32 := 3#32
  let c0_i32_386 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v486 : BitVec 32 := Scalar.subi v8 c1_i32_379
  let c1_i32_380 : BitVec 32 := 1#32
  let v487 : BitVec 32 := Scalar.subi v486 c1_i32_380
  let v495 : BitVec 32 := Scalar.maxsi c0_i32_386 v487
  let v496 : BitVec 32 := Scalar.minsi c3_i32_387 v495
  let v498 : BitVec 32 := Scalar.addi v497 v496
  let c1024_i32_389 : BitVec 32 := 1024#32
  let v499 : BitVec 32 := Scalar.muli v498 c1024_i32_389
  let v500 : BitVec 32 := Scalar.addi v11 v499
  let c0_i32_1712 : BitVec 32 := 0#32
  ![v500.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_395 : BitVec 32 := 2#32
  let v505 : BitVec 1 := Scalar.cmpi .sge v8 c2_i32_395
  let c2_i32_396 : BitVec 32 := 2#32
  let v506 : BitVec 1 := Scalar.cmpi .sle v8 c2_i32_396
  let v507 : BitVec 1 := Scalar.andi v505 v506
  let v524 : BitVec 32 := Scalar.extui v507
  let c0_i32_411 : BitVec 32 := 0#32
  let v525 : BitVec 1 := Scalar.cmpi .ne v524 c0_i32_411
  v525

def k0_off21 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_405 : BitVec 32 := 4#32
  let v518 : BitVec 32 := Scalar.muli v5 c4_i32_405
  let c3_i32_404 : BitVec 32 := 3#32
  let c0_i32_403 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v508 : BitVec 32 := Scalar.subi v8 c2_i32_397
  let v516 : BitVec 32 := Scalar.maxsi c0_i32_403 v508
  let v517 : BitVec 32 := Scalar.minsi c3_i32_404 v516
  let v519 : BitVec 32 := Scalar.addi v518 v517
  let c1024_i32_406 : BitVec 32 := 1024#32
  let v520 : BitVec 32 := Scalar.muli v519 c1024_i32_406
  let v521 : BitVec 32 := Scalar.addi v11 v520
  let c0_i32_1712 : BitVec 32 := 0#32
  ![v521.toNat, 0]
def k0_dev18 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_408 : BitVec 32 := 3#32
  let c0_i32_407 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v509 : BitVec 32 := Scalar.addi v8 c1_i32_398
  let v522 : BitVec 32 := Scalar.maxsi c0_i32_407 v509
  let v523 : BitVec 32 := Scalar.minsi c3_i32_408 v522
  let c1_i32_1711 : BitVec 32 := 1#32
  let v1912 : BitVec 32 := Scalar.muli v523 c1_i32_1711
  let v1913 : BitVec 32 := Scalar.addi v1911 v1912
  v1913.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_412 : BitVec 32 := 1#32
  let v526 : BitVec 1 := Scalar.cmpi .sle v8 c1_i32_412
  let v544 : BitVec 32 := Scalar.extui v526
  let c0_i32_428 : BitVec 32 := 0#32
  let v545 : BitVec 1 := Scalar.cmpi .ne v544 c0_i32_428
  v545

def k0_off22 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_422 : BitVec 32 := 4#32
  let v538 : BitVec 32 := Scalar.muli v5 c4_i32_422
  let c3_i32_421 : BitVec 32 := 3#32
  let c0_i32_420 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v527 : BitVec 32 := Scalar.addi v8 c1_i32_413
  let c1_i32_414 : BitVec 32 := 1#32
  let v528 : BitVec 32 := Scalar.addi v527 c1_i32_414
  let v536 : BitVec 32 := Scalar.maxsi c0_i32_420 v528
  let v537 : BitVec 32 := Scalar.minsi c3_i32_421 v536
  let v539 : BitVec 32 := Scalar.addi v538 v537
  let c1024_i32_423 : BitVec 32 := 1024#32
  let v540 : BitVec 32 := Scalar.muli v539 c1024_i32_423
  let v541 : BitVec 32 := Scalar.addi v11 v540
  let c0_i32_1712 : BitVec 32 := 0#32
  ![v541.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v546 : BitVec 1 := Scalar.cmpi .sle v8 c1_i32_429
  let c1_i32_430 : BitVec 32 := 1#32
  let v547 : BitVec 1 := Scalar.cmpi .sge v8 c1_i32_430
  let v548 : BitVec 1 := Scalar.andi v546 v547
  let v565 : BitVec 32 := Scalar.extui v548
  let c0_i32_444 : BitVec 32 := 0#32
  let v566 : BitVec 1 := Scalar.cmpi .ne v565 c0_i32_444
  v566

def k0_off23 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_439 : BitVec 32 := 4#32
  let v559 : BitVec 32 := Scalar.muli v5 c4_i32_439
  let c3_i32_438 : BitVec 32 := 3#32
  let c0_i32_437 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_431 : BitVec 32 := 2#32
  let v549 : BitVec 32 := Scalar.addi v8 c2_i32_431
  let v557 : BitVec 32 := Scalar.maxsi c0_i32_437 v549
  let v558 : BitVec 32 := Scalar.minsi c3_i32_438 v557
  let v560 : BitVec 32 := Scalar.addi v559 v558
  let c1024_i32_440 : BitVec 32 := 1024#32
  let v561 : BitVec 32 := Scalar.muli v560 c1024_i32_440
  let v562 : BitVec 32 := Scalar.addi v11 v561
  let c0_i32_1712 : BitVec 32 := 0#32
  ![v562.toNat, 0]
def k0_dev19 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_442 : BitVec 32 := 3#32
  let c0_i32_441 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v550 : BitVec 32 := Scalar.subi v8 c1_i32_432
  let v563 : BitVec 32 := Scalar.maxsi c0_i32_441 v550
  let v564 : BitVec 32 := Scalar.minsi c3_i32_442 v563
  let c1_i32_1711 : BitVec 32 := 1#32
  let v1912 : BitVec 32 := Scalar.muli v564 c1_i32_1711
  let v1913 : BitVec 32 := Scalar.addi v1911 v1912
  v1913.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_445 : BitVec 32 := 2#32
  let v567 : BitVec 1 := Scalar.cmpi .sge v5 c2_i32_445
  let v585 : BitVec 32 := Scalar.extui v567
  let c0_i32_461 : BitVec 32 := 0#32
  let v586 : BitVec 1 := Scalar.cmpi .ne v585 c0_i32_461
  v586

def k0_off24 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_455 : BitVec 32 := 4#32
  let v579 : BitVec 32 := Scalar.muli v8 c4_i32_455
  let c3_i32_454 : BitVec 32 := 3#32
  let c0_i32_453 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_446 : BitVec 32 := 1#32
  let v568 : BitVec 32 := Scalar.subi v5 c1_i32_446
  let c1_i32_447 : BitVec 32 := 1#32
  let v569 : BitVec 32 := Scalar.subi v568 c1_i32_447
  let v577 : BitVec 32 := Scalar.maxsi c0_i32_453 v569
  let v578 : BitVec 32 := Scalar.minsi c3_i32_454 v577
  let v580 : BitVec 32 := Scalar.addi v579 v578
  let c1024_i32_456 : BitVec 32 := 1024#32
  let v581 : BitVec 32 := Scalar.muli v580 c1024_i32_456
  let v582 : BitVec 32 := Scalar.addi v11 v581
  let c384_i32_1712 : BitVec 32 := 384#32
  ![v582.toNat, 384]
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_462 : BitVec 32 := 2#32
  let v587 : BitVec 1 := Scalar.cmpi .sge v5 c2_i32_462
  let c2_i32_463 : BitVec 32 := 2#32
  let v588 : BitVec 1 := Scalar.cmpi .sle v5 c2_i32_463
  let v589 : BitVec 1 := Scalar.andi v587 v588
  let v606 : BitVec 32 := Scalar.extui v589
  let c0_i32_477 : BitVec 32 := 0#32
  let v607 : BitVec 1 := Scalar.cmpi .ne v606 c0_i32_477
  v607

def k0_off25 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_472 : BitVec 32 := 4#32
  let v600 : BitVec 32 := Scalar.muli v8 c4_i32_472
  let c3_i32_471 : BitVec 32 := 3#32
  let c0_i32_470 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_464 : BitVec 32 := 2#32
  let v590 : BitVec 32 := Scalar.subi v5 c2_i32_464
  let v598 : BitVec 32 := Scalar.maxsi c0_i32_470 v590
  let v599 : BitVec 32 := Scalar.minsi c3_i32_471 v598
  let v601 : BitVec 32 := Scalar.addi v600 v599
  let c1024_i32_473 : BitVec 32 := 1024#32
  let v602 : BitVec 32 := Scalar.muli v601 c1024_i32_473
  let v603 : BitVec 32 := Scalar.addi v11 v602
  let c384_i32_1712 : BitVec 32 := 384#32
  ![v603.toNat, 384]
def k0_dev20 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_475 : BitVec 32 := 3#32
  let c0_i32_474 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_465 : BitVec 32 := 1#32
  let v591 : BitVec 32 := Scalar.addi v5 c1_i32_465
  let v604 : BitVec 32 := Scalar.maxsi c0_i32_474 v591
  let v605 : BitVec 32 := Scalar.minsi c3_i32_475 v604
  let c4_i32_1710 : BitVec 32 := 4#32
  let v1910 : BitVec 32 := Scalar.muli v605 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_478 : BitVec 32 := 1#32
  let v608 : BitVec 1 := Scalar.cmpi .sle v5 c1_i32_478
  let v626 : BitVec 32 := Scalar.extui v608
  let c0_i32_494 : BitVec 32 := 0#32
  let v627 : BitVec 1 := Scalar.cmpi .ne v626 c0_i32_494
  v627

def k0_off26 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_488 : BitVec 32 := 4#32
  let v620 : BitVec 32 := Scalar.muli v8 c4_i32_488
  let c3_i32_487 : BitVec 32 := 3#32
  let c0_i32_486 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_479 : BitVec 32 := 1#32
  let v609 : BitVec 32 := Scalar.addi v5 c1_i32_479
  let c1_i32_480 : BitVec 32 := 1#32
  let v610 : BitVec 32 := Scalar.addi v609 c1_i32_480
  let v618 : BitVec 32 := Scalar.maxsi c0_i32_486 v610
  let v619 : BitVec 32 := Scalar.minsi c3_i32_487 v618
  let v621 : BitVec 32 := Scalar.addi v620 v619
  let c1024_i32_489 : BitVec 32 := 1024#32
  let v622 : BitVec 32 := Scalar.muli v621 c1024_i32_489
  let v623 : BitVec 32 := Scalar.addi v11 v622
  let c384_i32_1712 : BitVec 32 := 384#32
  ![v623.toNat, 384]
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_495 : BitVec 32 := 1#32
  let v628 : BitVec 1 := Scalar.cmpi .sle v5 c1_i32_495
  let c1_i32_496 : BitVec 32 := 1#32
  let v629 : BitVec 1 := Scalar.cmpi .sge v5 c1_i32_496
  let v630 : BitVec 1 := Scalar.andi v628 v629
  let v647 : BitVec 32 := Scalar.extui v630
  let c0_i32_510 : BitVec 32 := 0#32
  let v648 : BitVec 1 := Scalar.cmpi .ne v647 c0_i32_510
  v648

def k0_off27 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_505 : BitVec 32 := 4#32
  let v641 : BitVec 32 := Scalar.muli v8 c4_i32_505
  let c3_i32_504 : BitVec 32 := 3#32
  let c0_i32_503 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_497 : BitVec 32 := 2#32
  let v631 : BitVec 32 := Scalar.addi v5 c2_i32_497
  let v639 : BitVec 32 := Scalar.maxsi c0_i32_503 v631
  let v640 : BitVec 32 := Scalar.minsi c3_i32_504 v639
  let v642 : BitVec 32 := Scalar.addi v641 v640
  let c1024_i32_506 : BitVec 32 := 1024#32
  let v643 : BitVec 32 := Scalar.muli v642 c1024_i32_506
  let v644 : BitVec 32 := Scalar.addi v11 v643
  let c384_i32_1712 : BitVec 32 := 384#32
  ![v644.toNat, 384]
def k0_dev21 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_508 : BitVec 32 := 3#32
  let c0_i32_507 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_498 : BitVec 32 := 1#32
  let v632 : BitVec 32 := Scalar.subi v5 c1_i32_498
  let v645 : BitVec 32 := Scalar.maxsi c0_i32_507 v632
  let v646 : BitVec 32 := Scalar.minsi c3_i32_508 v645
  let c4_i32_1710 : BitVec 32 := 4#32
  let v1910 : BitVec 32 := Scalar.muli v646 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_dev22 (d0 : Dev nD) : Nat :=
  let c0_i32_545 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_544 : BitVec 32 := 16#32
  let v681 : BitVec 32 := Scalar.muli v9 c16_i32_544
  let v682 : BitVec 32 := Scalar.addi c0_i32_545 v681
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_546 : BitVec 32 := 4#32
  let v683 : BitVec 32 := Scalar.muli v5 c4_i32_546
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v685 : BitVec 32 := Scalar.muli v8 c1_i32_547
  let v686 : BitVec 32 := Scalar.addi v684 v685
  v686.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_551 : BitVec 32 := 3#32
  let v693 : BitVec 1 := Scalar.cmpi .sge v8 c3_i32_551
  let v711 : BitVec 32 := Scalar.extui v693
  let c0_i32_567 : BitVec 32 := 0#32
  let v712 : BitVec 1 := Scalar.cmpi .ne v711 c0_i32_567
  v712

def k0_off28 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_561 : BitVec 32 := 4#32
  let v705 : BitVec 32 := Scalar.muli v5 c4_i32_561
  let c3_i32_560 : BitVec 32 := 3#32
  let c0_i32_559 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_552 : BitVec 32 := 1#32
  let v694 : BitVec 32 := Scalar.subi v8 c1_i32_552
  let c2_i32_553 : BitVec 32 := 2#32
  let v695 : BitVec 32 := Scalar.subi v694 c2_i32_553
  let v703 : BitVec 32 := Scalar.maxsi c0_i32_559 v695
  let v704 : BitVec 32 := Scalar.minsi c3_i32_560 v703
  let v706 : BitVec 32 := Scalar.addi v705 v704
  let c1024_i32_562 : BitVec 32 := 1024#32
  let v707 : BitVec 32 := Scalar.muli v706 c1024_i32_562
  let v708 : BitVec 32 := Scalar.addi v11 v707
  let c0_i32_1712 : BitVec 32 := 0#32
  ![v708.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_568 : BitVec 32 := 0#32
  let v713 : BitVec 1 := Scalar.cmpi .sle v8 c0_i32_568
  let v731 : BitVec 32 := Scalar.extui v713
  let c0_i32_584 : BitVec 32 := 0#32
  let v732 : BitVec 1 := Scalar.cmpi .ne v731 c0_i32_584
  v732

def k0_off29 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_578 : BitVec 32 := 4#32
  let v725 : BitVec 32 := Scalar.muli v5 c4_i32_578
  let c3_i32_577 : BitVec 32 := 3#32
  let c0_i32_576 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v714 : BitVec 32 := Scalar.addi v8 c1_i32_569
  let c2_i32_570 : BitVec 32 := 2#32
  let v715 : BitVec 32 := Scalar.addi v714 c2_i32_570
  let v723 : BitVec 32 := Scalar.maxsi c0_i32_576 v715
  let v724 : BitVec 32 := Scalar.minsi c3_i32_577 v723
  let v726 : BitVec 32 := Scalar.addi v725 v724
  let c1024_i32_579 : BitVec 32 := 1024#32
  let v727 : BitVec 32 := Scalar.muli v726 c1024_i32_579
  let v728 : BitVec 32 := Scalar.addi v11 v727
  let c0_i32_1712 : BitVec 32 := 0#32
  ![v728.toNat, 0]
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_585 : BitVec 32 := 3#32
  let v733 : BitVec 1 := Scalar.cmpi .sge v5 c3_i32_585
  let v751 : BitVec 32 := Scalar.extui v733
  let c0_i32_601 : BitVec 32 := 0#32
  let v752 : BitVec 1 := Scalar.cmpi .ne v751 c0_i32_601
  v752

def k0_off30 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_595 : BitVec 32 := 4#32
  let v745 : BitVec 32 := Scalar.muli v8 c4_i32_595
  let c3_i32_594 : BitVec 32 := 3#32
  let c0_i32_593 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_586 : BitVec 32 := 1#32
  let v734 : BitVec 32 := Scalar.subi v5 c1_i32_586
  let c2_i32_587 : BitVec 32 := 2#32
  let v735 : BitVec 32 := Scalar.subi v734 c2_i32_587
  let v743 : BitVec 32 := Scalar.maxsi c0_i32_593 v735
  let v744 : BitVec 32 := Scalar.minsi c3_i32_594 v743
  let v746 : BitVec 32 := Scalar.addi v745 v744
  let c1024_i32_596 : BitVec 32 := 1024#32
  let v747 : BitVec 32 := Scalar.muli v746 c1024_i32_596
  let v748 : BitVec 32 := Scalar.addi v11 v747
  let c384_i32_1712 : BitVec 32 := 384#32
  ![v748.toNat, 384]
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_602 : BitVec 32 := 0#32
  let v753 : BitVec 1 := Scalar.cmpi .sle v5 c0_i32_602
  let v771 : BitVec 32 := Scalar.extui v753
  let c0_i32_618 : BitVec 32 := 0#32
  let v772 : BitVec 1 := Scalar.cmpi .ne v771 c0_i32_618
  v772

def k0_off31 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_612 : BitVec 32 := 4#32
  let v765 : BitVec 32 := Scalar.muli v8 c4_i32_612
  let c3_i32_611 : BitVec 32 := 3#32
  let c0_i32_610 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_603 : BitVec 32 := 1#32
  let v754 : BitVec 32 := Scalar.addi v5 c1_i32_603
  let c2_i32_604 : BitVec 32 := 2#32
  let v755 : BitVec 32 := Scalar.addi v754 c2_i32_604
  let v763 : BitVec 32 := Scalar.maxsi c0_i32_610 v755
  let v764 : BitVec 32 := Scalar.minsi c3_i32_611 v763
  let v766 : BitVec 32 := Scalar.addi v765 v764
  let c1024_i32_613 : BitVec 32 := 1024#32
  let v767 : BitVec 32 := Scalar.muli v766 c1024_i32_613
  let v768 : BitVec 32 := Scalar.addi v11 v767
  let c384_i32_1712 : BitVec 32 := 384#32
  ![v768.toNat, 384]
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_619 : BitVec 32 := 0#32
  let v773 : BitVec 1 := Scalar.cmpi .sge v5 c0_i32_619
  let c2_i32_620 : BitVec 32 := 2#32
  let v774 : BitVec 1 := Scalar.cmpi .sle v5 c2_i32_620
  let v775 : BitVec 1 := Scalar.andi v773 v774
  let v790 : BitVec 32 := Scalar.extui v775
  let c0_i32_635 : BitVec 32 := 0#32
  let v791 : BitVec 1 := Scalar.cmpi .ne v790 c0_i32_635
  v791

def k0_off32 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_628 : BitVec 32 := 3#32
  let c0_i32_627 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_621 : BitVec 32 := 0#32
  let v776 : BitVec 32 := Scalar.subi v5 c0_i32_621
  let v783 : BitVec 32 := Scalar.maxsi c0_i32_627 v776
  let v784 : BitVec 32 := Scalar.minsi c3_i32_628 v783
  let c4096_i32_629 : BitVec 32 := 4096#32
  let v785 : BitVec 32 := Scalar.muli v784 c4096_i32_629
  let v786 : BitVec 32 := Scalar.addi v11 v785
  let c0_i32_630 : BitVec 32 := 0#32
  let v787 : BitVec 32 := Scalar.addi v786 c0_i32_630
  let c0_i32_1712 : BitVec 32 := 0#32
  ![v787.toNat, 0]
def k0_dev23 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_632 : BitVec 32 := 3#32
  let c0_i32_631 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_622 : BitVec 32 := 1#32
  let v777 : BitVec 32 := Scalar.addi v5 c1_i32_622
  let v788 : BitVec 32 := Scalar.maxsi c0_i32_631 v777
  let v789 : BitVec 32 := Scalar.minsi c3_i32_632 v788
  let c4_i32_1710 : BitVec 32 := 4#32
  let v1910 : BitVec 32 := Scalar.muli v789 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_636 : BitVec 32 := 0#32
  let v792 : BitVec 1 := Scalar.cmpi .sge v5 c0_i32_636
  let c2_i32_637 : BitVec 32 := 2#32
  let v793 : BitVec 1 := Scalar.cmpi .sle v5 c2_i32_637
  let v794 : BitVec 1 := Scalar.andi v792 v793
  let v809 : BitVec 32 := Scalar.extui v794
  let c0_i32_652 : BitVec 32 := 0#32
  let v810 : BitVec 1 := Scalar.cmpi .ne v809 c0_i32_652
  v810

def k0_off33 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_645 : BitVec 32 := 3#32
  let c0_i32_644 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_638 : BitVec 32 := 0#32
  let v795 : BitVec 32 := Scalar.subi v5 c0_i32_638
  let v802 : BitVec 32 := Scalar.maxsi c0_i32_644 v795
  let v803 : BitVec 32 := Scalar.minsi c3_i32_645 v802
  let c4096_i32_646 : BitVec 32 := 4096#32
  let v804 : BitVec 32 := Scalar.muli v803 c4096_i32_646
  let v805 : BitVec 32 := Scalar.addi v11 v804
  let c2048_i32_647 : BitVec 32 := 2048#32
  let v806 : BitVec 32 := Scalar.addi v805 c2048_i32_647
  let c0_i32_1712 : BitVec 32 := 0#32
  ![v806.toNat, 0]
def k0_dev24 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_649 : BitVec 32 := 3#32
  let c0_i32_648 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_639 : BitVec 32 := 1#32
  let v796 : BitVec 32 := Scalar.addi v5 c1_i32_639
  let v807 : BitVec 32 := Scalar.maxsi c0_i32_648 v796
  let v808 : BitVec 32 := Scalar.minsi c3_i32_649 v807
  let c4_i32_1710 : BitVec 32 := 4#32
  let v1910 : BitVec 32 := Scalar.muli v808 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_653 : BitVec 32 := 3#32
  let v811 : BitVec 1 := Scalar.cmpi .sle v5 c3_i32_653
  let c1_i32_654 : BitVec 32 := 1#32
  let v812 : BitVec 1 := Scalar.cmpi .sge v5 c1_i32_654
  let v813 : BitVec 1 := Scalar.andi v811 v812
  let v828 : BitVec 32 := Scalar.extui v813
  let c0_i32_669 : BitVec 32 := 0#32
  let v829 : BitVec 1 := Scalar.cmpi .ne v828 c0_i32_669
  v829

def k0_off34 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_662 : BitVec 32 := 3#32
  let c0_i32_661 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_655 : BitVec 32 := 0#32
  let v814 : BitVec 32 := Scalar.addi v5 c0_i32_655
  let v821 : BitVec 32 := Scalar.maxsi c0_i32_661 v814
  let v822 : BitVec 32 := Scalar.minsi c3_i32_662 v821
  let c4096_i32_663 : BitVec 32 := 4096#32
  let v823 : BitVec 32 := Scalar.muli v822 c4096_i32_663
  let v824 : BitVec 32 := Scalar.addi v11 v823
  let c0_i32_664 : BitVec 32 := 0#32
  let v825 : BitVec 32 := Scalar.addi v824 c0_i32_664
  let c0_i32_1712 : BitVec 32 := 0#32
  ![v825.toNat, 0]
def k0_dev25 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_666 : BitVec 32 := 3#32
  let c0_i32_665 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_656 : BitVec 32 := 1#32
  let v815 : BitVec 32 := Scalar.subi v5 c1_i32_656
  let v826 : BitVec 32 := Scalar.maxsi c0_i32_665 v815
  let v827 : BitVec 32 := Scalar.minsi c3_i32_666 v826
  let c4_i32_1710 : BitVec 32 := 4#32
  let v1910 : BitVec 32 := Scalar.muli v827 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_670 : BitVec 32 := 3#32
  let v830 : BitVec 1 := Scalar.cmpi .sle v5 c3_i32_670
  let c1_i32_671 : BitVec 32 := 1#32
  let v831 : BitVec 1 := Scalar.cmpi .sge v5 c1_i32_671
  let v832 : BitVec 1 := Scalar.andi v830 v831
  let v847 : BitVec 32 := Scalar.extui v832
  let c0_i32_686 : BitVec 32 := 0#32
  let v848 : BitVec 1 := Scalar.cmpi .ne v847 c0_i32_686
  v848

def k0_off35 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_679 : BitVec 32 := 3#32
  let c0_i32_678 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_672 : BitVec 32 := 0#32
  let v833 : BitVec 32 := Scalar.addi v5 c0_i32_672
  let v840 : BitVec 32 := Scalar.maxsi c0_i32_678 v833
  let v841 : BitVec 32 := Scalar.minsi c3_i32_679 v840
  let c4096_i32_680 : BitVec 32 := 4096#32
  let v842 : BitVec 32 := Scalar.muli v841 c4096_i32_680
  let v843 : BitVec 32 := Scalar.addi v11 v842
  let c2048_i32_681 : BitVec 32 := 2048#32
  let v844 : BitVec 32 := Scalar.addi v843 c2048_i32_681
  let c0_i32_1712 : BitVec 32 := 0#32
  ![v844.toNat, 0]
def k0_dev26 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_683 : BitVec 32 := 3#32
  let c0_i32_682 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_673 : BitVec 32 := 1#32
  let v834 : BitVec 32 := Scalar.subi v5 c1_i32_673
  let v845 : BitVec 32 := Scalar.maxsi c0_i32_682 v834
  let v846 : BitVec 32 := Scalar.minsi c3_i32_683 v845
  let c4_i32_1710 : BitVec 32 := 4#32
  let v1910 : BitVec 32 := Scalar.muli v846 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_687 : BitVec 32 := 0#32
  let v849 : BitVec 1 := Scalar.cmpi .sge v8 c0_i32_687
  let c2_i32_688 : BitVec 32 := 2#32
  let v850 : BitVec 1 := Scalar.cmpi .sle v8 c2_i32_688
  let v851 : BitVec 1 := Scalar.andi v849 v850
  let v866 : BitVec 32 := Scalar.extui v851
  let c0_i32_702 : BitVec 32 := 0#32
  let v867 : BitVec 1 := Scalar.cmpi .ne v866 c0_i32_702
  v867

def k0_off36 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_696 : BitVec 32 := 3#32
  let c0_i32_695 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_689 : BitVec 32 := 0#32
  let v852 : BitVec 32 := Scalar.subi v8 c0_i32_689
  let v859 : BitVec 32 := Scalar.maxsi c0_i32_695 v852
  let v860 : BitVec 32 := Scalar.minsi c3_i32_696 v859
  let c4096_i32_697 : BitVec 32 := 4096#32
  let v861 : BitVec 32 := Scalar.muli v860 c4096_i32_697
  let v862 : BitVec 32 := Scalar.addi v11 v861
  let c0_i32_698 : BitVec 32 := 0#32
  let v863 : BitVec 32 := Scalar.addi v862 c0_i32_698
  let c384_i32_1712 : BitVec 32 := 384#32
  ![v863.toNat, 384]
def k0_dev27 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_700 : BitVec 32 := 3#32
  let c0_i32_699 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v853 : BitVec 32 := Scalar.addi v8 c1_i32_690
  let v864 : BitVec 32 := Scalar.maxsi c0_i32_699 v853
  let v865 : BitVec 32 := Scalar.minsi c3_i32_700 v864
  let c1_i32_1711 : BitVec 32 := 1#32
  let v1912 : BitVec 32 := Scalar.muli v865 c1_i32_1711
  let v1913 : BitVec 32 := Scalar.addi v1911 v1912
  v1913.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_703 : BitVec 32 := 0#32
  let v868 : BitVec 1 := Scalar.cmpi .sge v8 c0_i32_703
  let c2_i32_704 : BitVec 32 := 2#32
  let v869 : BitVec 1 := Scalar.cmpi .sle v8 c2_i32_704
  let v870 : BitVec 1 := Scalar.andi v868 v869
  let v885 : BitVec 32 := Scalar.extui v870
  let c0_i32_718 : BitVec 32 := 0#32
  let v886 : BitVec 1 := Scalar.cmpi .ne v885 c0_i32_718
  v886

def k0_off37 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_712 : BitVec 32 := 3#32
  let c0_i32_711 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_705 : BitVec 32 := 0#32
  let v871 : BitVec 32 := Scalar.subi v8 c0_i32_705
  let v878 : BitVec 32 := Scalar.maxsi c0_i32_711 v871
  let v879 : BitVec 32 := Scalar.minsi c3_i32_712 v878
  let c4096_i32_713 : BitVec 32 := 4096#32
  let v880 : BitVec 32 := Scalar.muli v879 c4096_i32_713
  let v881 : BitVec 32 := Scalar.addi v11 v880
  let c2048_i32_714 : BitVec 32 := 2048#32
  let v882 : BitVec 32 := Scalar.addi v881 c2048_i32_714
  let c384_i32_1712 : BitVec 32 := 384#32
  ![v882.toNat, 384]
def k0_dev28 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_716 : BitVec 32 := 3#32
  let c0_i32_715 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v872 : BitVec 32 := Scalar.addi v8 c1_i32_706
  let v883 : BitVec 32 := Scalar.maxsi c0_i32_715 v872
  let v884 : BitVec 32 := Scalar.minsi c3_i32_716 v883
  let c1_i32_1711 : BitVec 32 := 1#32
  let v1912 : BitVec 32 := Scalar.muli v884 c1_i32_1711
  let v1913 : BitVec 32 := Scalar.addi v1911 v1912
  v1913.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_719 : BitVec 32 := 3#32
  let v887 : BitVec 1 := Scalar.cmpi .sle v8 c3_i32_719
  let c1_i32_720 : BitVec 32 := 1#32
  let v888 : BitVec 1 := Scalar.cmpi .sge v8 c1_i32_720
  let v889 : BitVec 1 := Scalar.andi v887 v888
  let v904 : BitVec 32 := Scalar.extui v889
  let c0_i32_734 : BitVec 32 := 0#32
  let v905 : BitVec 1 := Scalar.cmpi .ne v904 c0_i32_734
  v905

def k0_off38 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_728 : BitVec 32 := 3#32
  let c0_i32_727 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_721 : BitVec 32 := 0#32
  let v890 : BitVec 32 := Scalar.addi v8 c0_i32_721
  let v897 : BitVec 32 := Scalar.maxsi c0_i32_727 v890
  let v898 : BitVec 32 := Scalar.minsi c3_i32_728 v897
  let c4096_i32_729 : BitVec 32 := 4096#32
  let v899 : BitVec 32 := Scalar.muli v898 c4096_i32_729
  let v900 : BitVec 32 := Scalar.addi v11 v899
  let c0_i32_730 : BitVec 32 := 0#32
  let v901 : BitVec 32 := Scalar.addi v900 c0_i32_730
  let c384_i32_1712 : BitVec 32 := 384#32
  ![v901.toNat, 384]
def k0_dev29 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_732 : BitVec 32 := 3#32
  let c0_i32_731 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_722 : BitVec 32 := 1#32
  let v891 : BitVec 32 := Scalar.subi v8 c1_i32_722
  let v902 : BitVec 32 := Scalar.maxsi c0_i32_731 v891
  let v903 : BitVec 32 := Scalar.minsi c3_i32_732 v902
  let c1_i32_1711 : BitVec 32 := 1#32
  let v1912 : BitVec 32 := Scalar.muli v903 c1_i32_1711
  let v1913 : BitVec 32 := Scalar.addi v1911 v1912
  v1913.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_735 : BitVec 32 := 3#32
  let v906 : BitVec 1 := Scalar.cmpi .sle v8 c3_i32_735
  let c1_i32_736 : BitVec 32 := 1#32
  let v907 : BitVec 1 := Scalar.cmpi .sge v8 c1_i32_736
  let v908 : BitVec 1 := Scalar.andi v906 v907
  let v923 : BitVec 32 := Scalar.extui v908
  let c0_i32_750 : BitVec 32 := 0#32
  let v924 : BitVec 1 := Scalar.cmpi .ne v923 c0_i32_750
  v924

def k0_off39 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_744 : BitVec 32 := 3#32
  let c0_i32_743 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_737 : BitVec 32 := 0#32
  let v909 : BitVec 32 := Scalar.addi v8 c0_i32_737
  let v916 : BitVec 32 := Scalar.maxsi c0_i32_743 v909
  let v917 : BitVec 32 := Scalar.minsi c3_i32_744 v916
  let c4096_i32_745 : BitVec 32 := 4096#32
  let v918 : BitVec 32 := Scalar.muli v917 c4096_i32_745
  let v919 : BitVec 32 := Scalar.addi v11 v918
  let c2048_i32_746 : BitVec 32 := 2048#32
  let v920 : BitVec 32 := Scalar.addi v919 c2048_i32_746
  let c384_i32_1712 : BitVec 32 := 384#32
  ![v920.toNat, 384]
def k0_dev30 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_748 : BitVec 32 := 3#32
  let c0_i32_747 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v910 : BitVec 32 := Scalar.subi v8 c1_i32_738
  let v921 : BitVec 32 := Scalar.maxsi c0_i32_747 v910
  let v922 : BitVec 32 := Scalar.minsi c3_i32_748 v921
  let c1_i32_1711 : BitVec 32 := 1#32
  let v1912 : BitVec 32 := Scalar.muli v922 c1_i32_1711
  let v1913 : BitVec 32 := Scalar.addi v1911 v1912
  v1913.toNat
def k0_dev31 (d0 : Dev nD) : Nat :=
  let c0_i32_779 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_778 : BitVec 32 := 16#32
  let v952 : BitVec 32 := Scalar.muli v9 c16_i32_778
  let v953 : BitVec 32 := Scalar.addi c0_i32_779 v952
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_780 : BitVec 32 := 4#32
  let v954 : BitVec 32 := Scalar.muli v5 c4_i32_780
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v956 : BitVec 32 := Scalar.muli v8 c1_i32_781
  let v957 : BitVec 32 := Scalar.addi v955 v956
  v957.toNat
def k0_off40 (d0 : Dev nD) (c0_i32_785 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32_4 : BitVec 32 := 16384#32
  let v12 : BitVec 32 := Scalar.muli v2 c16384_i32_4
  let v964 : BitVec 32 := Scalar.addi v12 c0_i32_785
  let c0_i32_787 : BitVec 32 := 0#32
  ![v964.toNat, 0]
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_821 : BitVec 32 := 1#32
  let v1000 : BitVec 1 := Scalar.cmpi .sge v5 c1_i32_821
  let v1016 : BitVec 32 := Scalar.extui v1000
  let c0_i32_837 : BitVec 32 := 0#32
  let v1017 : BitVec 1 := Scalar.cmpi .ne v1016 c0_i32_837
  v1017

def k0_off41 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_830 : BitVec 32 := 3#32
  let c0_i32_829 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_822 : BitVec 32 := 1#32
  let v1001 : BitVec 32 := Scalar.subi v5 c1_i32_822
  let c0_i32_823 : BitVec 32 := 0#32
  let v1002 : BitVec 32 := Scalar.subi v1001 c0_i32_823
  let v1009 : BitVec 32 := Scalar.maxsi c0_i32_829 v1002
  let v1010 : BitVec 32 := Scalar.minsi c3_i32_830 v1009
  let c4096_i32_831 : BitVec 32 := 4096#32
  let v1011 : BitVec 32 := Scalar.muli v1010 c4096_i32_831
  let v1012 : BitVec 32 := Scalar.addi v11 v1011
  let c0_i32_832 : BitVec 32 := 0#32
  let v1013 : BitVec 32 := Scalar.addi v1012 c0_i32_832
  let c0_i32_1712 : BitVec 32 := 0#32
  ![v1013.toNat, 0]
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_838 : BitVec 32 := 1#32
  let v1018 : BitVec 1 := Scalar.cmpi .sge v5 c1_i32_838
  let c2_i32_839 : BitVec 32 := 2#32
  let v1019 : BitVec 1 := Scalar.cmpi .sle v5 c2_i32_839
  let v1020 : BitVec 1 := Scalar.andi v1018 v1019
  let v1035 : BitVec 32 := Scalar.extui v1020
  let c0_i32_854 : BitVec 32 := 0#32
  let v1036 : BitVec 1 := Scalar.cmpi .ne v1035 c0_i32_854
  v1036

def k0_off42 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_847 : BitVec 32 := 3#32
  let c0_i32_846 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_840 : BitVec 32 := 1#32
  let v1021 : BitVec 32 := Scalar.subi v5 c1_i32_840
  let v1028 : BitVec 32 := Scalar.maxsi c0_i32_846 v1021
  let v1029 : BitVec 32 := Scalar.minsi c3_i32_847 v1028
  let c4096_i32_848 : BitVec 32 := 4096#32
  let v1030 : BitVec 32 := Scalar.muli v1029 c4096_i32_848
  let v1031 : BitVec 32 := Scalar.addi v11 v1030
  let c0_i32_849 : BitVec 32 := 0#32
  let v1032 : BitVec 32 := Scalar.addi v1031 c0_i32_849
  let c0_i32_1712 : BitVec 32 := 0#32
  ![v1032.toNat, 0]
def k0_dev32 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_851 : BitVec 32 := 3#32
  let c0_i32_850 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_841 : BitVec 32 := 1#32
  let v1022 : BitVec 32 := Scalar.addi v5 c1_i32_841
  let v1033 : BitVec 32 := Scalar.maxsi c0_i32_850 v1022
  let v1034 : BitVec 32 := Scalar.minsi c3_i32_851 v1033
  let c4_i32_1710 : BitVec 32 := 4#32
  let v1910 : BitVec 32 := Scalar.muli v1034 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_855 : BitVec 32 := 1#32
  let v1037 : BitVec 1 := Scalar.cmpi .sge v5 c1_i32_855
  let v1053 : BitVec 32 := Scalar.extui v1037
  let c0_i32_871 : BitVec 32 := 0#32
  let v1054 : BitVec 1 := Scalar.cmpi .ne v1053 c0_i32_871
  v1054

def k0_off43 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_864 : BitVec 32 := 3#32
  let c0_i32_863 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_856 : BitVec 32 := 1#32
  let v1038 : BitVec 32 := Scalar.subi v5 c1_i32_856
  let c0_i32_857 : BitVec 32 := 0#32
  let v1039 : BitVec 32 := Scalar.subi v1038 c0_i32_857
  let v1046 : BitVec 32 := Scalar.maxsi c0_i32_863 v1039
  let v1047 : BitVec 32 := Scalar.minsi c3_i32_864 v1046
  let c4096_i32_865 : BitVec 32 := 4096#32
  let v1048 : BitVec 32 := Scalar.muli v1047 c4096_i32_865
  let v1049 : BitVec 32 := Scalar.addi v11 v1048
  let c2048_i32_866 : BitVec 32 := 2048#32
  let v1050 : BitVec 32 := Scalar.addi v1049 c2048_i32_866
  let c0_i32_1712 : BitVec 32 := 0#32
  ![v1050.toNat, 0]
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_872 : BitVec 32 := 1#32
  let v1055 : BitVec 1 := Scalar.cmpi .sge v5 c1_i32_872
  let c2_i32_873 : BitVec 32 := 2#32
  let v1056 : BitVec 1 := Scalar.cmpi .sle v5 c2_i32_873
  let v1057 : BitVec 1 := Scalar.andi v1055 v1056
  let v1072 : BitVec 32 := Scalar.extui v1057
  let c0_i32_888 : BitVec 32 := 0#32
  let v1073 : BitVec 1 := Scalar.cmpi .ne v1072 c0_i32_888
  v1073

def k0_off44 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_881 : BitVec 32 := 3#32
  let c0_i32_880 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_874 : BitVec 32 := 1#32
  let v1058 : BitVec 32 := Scalar.subi v5 c1_i32_874
  let v1065 : BitVec 32 := Scalar.maxsi c0_i32_880 v1058
  let v1066 : BitVec 32 := Scalar.minsi c3_i32_881 v1065
  let c4096_i32_882 : BitVec 32 := 4096#32
  let v1067 : BitVec 32 := Scalar.muli v1066 c4096_i32_882
  let v1068 : BitVec 32 := Scalar.addi v11 v1067
  let c2048_i32_883 : BitVec 32 := 2048#32
  let v1069 : BitVec 32 := Scalar.addi v1068 c2048_i32_883
  let c0_i32_1712 : BitVec 32 := 0#32
  ![v1069.toNat, 0]
def k0_dev33 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_885 : BitVec 32 := 3#32
  let c0_i32_884 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_875 : BitVec 32 := 1#32
  let v1059 : BitVec 32 := Scalar.addi v5 c1_i32_875
  let v1070 : BitVec 32 := Scalar.maxsi c0_i32_884 v1059
  let v1071 : BitVec 32 := Scalar.minsi c3_i32_885 v1070
  let c4_i32_1710 : BitVec 32 := 4#32
  let v1910 : BitVec 32 := Scalar.muli v1071 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_889 : BitVec 32 := 2#32
  let v1074 : BitVec 1 := Scalar.cmpi .sle v5 c2_i32_889
  let v1090 : BitVec 32 := Scalar.extui v1074
  let c0_i32_905 : BitVec 32 := 0#32
  let v1091 : BitVec 1 := Scalar.cmpi .ne v1090 c0_i32_905
  v1091

def k0_off45 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_898 : BitVec 32 := 3#32
  let c0_i32_897 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_890 : BitVec 32 := 1#32
  let v1075 : BitVec 32 := Scalar.addi v5 c1_i32_890
  let c0_i32_891 : BitVec 32 := 0#32
  let v1076 : BitVec 32 := Scalar.addi v1075 c0_i32_891
  let v1083 : BitVec 32 := Scalar.maxsi c0_i32_897 v1076
  let v1084 : BitVec 32 := Scalar.minsi c3_i32_898 v1083
  let c4096_i32_899 : BitVec 32 := 4096#32
  let v1085 : BitVec 32 := Scalar.muli v1084 c4096_i32_899
  let v1086 : BitVec 32 := Scalar.addi v11 v1085
  let c0_i32_900 : BitVec 32 := 0#32
  let v1087 : BitVec 32 := Scalar.addi v1086 c0_i32_900
  let c0_i32_1712 : BitVec 32 := 0#32
  ![v1087.toNat, 0]
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_906 : BitVec 32 := 2#32
  let v1092 : BitVec 1 := Scalar.cmpi .sle v5 c2_i32_906
  let c1_i32_907 : BitVec 32 := 1#32
  let v1093 : BitVec 1 := Scalar.cmpi .sge v5 c1_i32_907
  let v1094 : BitVec 1 := Scalar.andi v1092 v1093
  let v1109 : BitVec 32 := Scalar.extui v1094
  let c0_i32_922 : BitVec 32 := 0#32
  let v1110 : BitVec 1 := Scalar.cmpi .ne v1109 c0_i32_922
  v1110

def k0_off46 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_915 : BitVec 32 := 3#32
  let c0_i32_914 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_908 : BitVec 32 := 1#32
  let v1095 : BitVec 32 := Scalar.addi v5 c1_i32_908
  let v1102 : BitVec 32 := Scalar.maxsi c0_i32_914 v1095
  let v1103 : BitVec 32 := Scalar.minsi c3_i32_915 v1102
  let c4096_i32_916 : BitVec 32 := 4096#32
  let v1104 : BitVec 32 := Scalar.muli v1103 c4096_i32_916
  let v1105 : BitVec 32 := Scalar.addi v11 v1104
  let c0_i32_917 : BitVec 32 := 0#32
  let v1106 : BitVec 32 := Scalar.addi v1105 c0_i32_917
  let c0_i32_1712 : BitVec 32 := 0#32
  ![v1106.toNat, 0]
def k0_dev34 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_919 : BitVec 32 := 3#32
  let c0_i32_918 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_909 : BitVec 32 := 1#32
  let v1096 : BitVec 32 := Scalar.subi v5 c1_i32_909
  let v1107 : BitVec 32 := Scalar.maxsi c0_i32_918 v1096
  let v1108 : BitVec 32 := Scalar.minsi c3_i32_919 v1107
  let c4_i32_1710 : BitVec 32 := 4#32
  let v1910 : BitVec 32 := Scalar.muli v1108 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_923 : BitVec 32 := 2#32
  let v1111 : BitVec 1 := Scalar.cmpi .sle v5 c2_i32_923
  let v1127 : BitVec 32 := Scalar.extui v1111
  let c0_i32_939 : BitVec 32 := 0#32
  let v1128 : BitVec 1 := Scalar.cmpi .ne v1127 c0_i32_939
  v1128

def k0_off47 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_932 : BitVec 32 := 3#32
  let c0_i32_931 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_924 : BitVec 32 := 1#32
  let v1112 : BitVec 32 := Scalar.addi v5 c1_i32_924
  let c0_i32_925 : BitVec 32 := 0#32
  let v1113 : BitVec 32 := Scalar.addi v1112 c0_i32_925
  let v1120 : BitVec 32 := Scalar.maxsi c0_i32_931 v1113
  let v1121 : BitVec 32 := Scalar.minsi c3_i32_932 v1120
  let c4096_i32_933 : BitVec 32 := 4096#32
  let v1122 : BitVec 32 := Scalar.muli v1121 c4096_i32_933
  let v1123 : BitVec 32 := Scalar.addi v11 v1122
  let c2048_i32_934 : BitVec 32 := 2048#32
  let v1124 : BitVec 32 := Scalar.addi v1123 c2048_i32_934
  let c0_i32_1712 : BitVec 32 := 0#32
  ![v1124.toNat, 0]
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_940 : BitVec 32 := 2#32
  let v1129 : BitVec 1 := Scalar.cmpi .sle v5 c2_i32_940
  let c1_i32_941 : BitVec 32 := 1#32
  let v1130 : BitVec 1 := Scalar.cmpi .sge v5 c1_i32_941
  let v1131 : BitVec 1 := Scalar.andi v1129 v1130
  let v1146 : BitVec 32 := Scalar.extui v1131
  let c0_i32_956 : BitVec 32 := 0#32
  let v1147 : BitVec 1 := Scalar.cmpi .ne v1146 c0_i32_956
  v1147

def k0_off48 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_949 : BitVec 32 := 3#32
  let c0_i32_948 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_942 : BitVec 32 := 1#32
  let v1132 : BitVec 32 := Scalar.addi v5 c1_i32_942
  let v1139 : BitVec 32 := Scalar.maxsi c0_i32_948 v1132
  let v1140 : BitVec 32 := Scalar.minsi c3_i32_949 v1139
  let c4096_i32_950 : BitVec 32 := 4096#32
  let v1141 : BitVec 32 := Scalar.muli v1140 c4096_i32_950
  let v1142 : BitVec 32 := Scalar.addi v11 v1141
  let c2048_i32_951 : BitVec 32 := 2048#32
  let v1143 : BitVec 32 := Scalar.addi v1142 c2048_i32_951
  let c0_i32_1712 : BitVec 32 := 0#32
  ![v1143.toNat, 0]
def k0_dev35 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_953 : BitVec 32 := 3#32
  let c0_i32_952 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_943 : BitVec 32 := 1#32
  let v1133 : BitVec 32 := Scalar.subi v5 c1_i32_943
  let v1144 : BitVec 32 := Scalar.maxsi c0_i32_952 v1133
  let v1145 : BitVec 32 := Scalar.minsi c3_i32_953 v1144
  let c4_i32_1710 : BitVec 32 := 4#32
  let v1910 : BitVec 32 := Scalar.muli v1145 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_957 : BitVec 32 := 1#32
  let v1148 : BitVec 1 := Scalar.cmpi .sge v8 c1_i32_957
  let v1164 : BitVec 32 := Scalar.extui v1148
  let c0_i32_973 : BitVec 32 := 0#32
  let v1165 : BitVec 1 := Scalar.cmpi .ne v1164 c0_i32_973
  v1165

def k0_off49 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_966 : BitVec 32 := 3#32
  let c0_i32_965 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_958 : BitVec 32 := 1#32
  let v1149 : BitVec 32 := Scalar.subi v8 c1_i32_958
  let c0_i32_959 : BitVec 32 := 0#32
  let v1150 : BitVec 32 := Scalar.subi v1149 c0_i32_959
  let v1157 : BitVec 32 := Scalar.maxsi c0_i32_965 v1150
  let v1158 : BitVec 32 := Scalar.minsi c3_i32_966 v1157
  let c4096_i32_967 : BitVec 32 := 4096#32
  let v1159 : BitVec 32 := Scalar.muli v1158 c4096_i32_967
  let v1160 : BitVec 32 := Scalar.addi v11 v1159
  let c0_i32_968 : BitVec 32 := 0#32
  let v1161 : BitVec 32 := Scalar.addi v1160 c0_i32_968
  let c384_i32_1712 : BitVec 32 := 384#32
  ![v1161.toNat, 384]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_974 : BitVec 32 := 1#32
  let v1166 : BitVec 1 := Scalar.cmpi .sge v8 c1_i32_974
  let c2_i32_975 : BitVec 32 := 2#32
  let v1167 : BitVec 1 := Scalar.cmpi .sle v8 c2_i32_975
  let v1168 : BitVec 1 := Scalar.andi v1166 v1167
  let v1183 : BitVec 32 := Scalar.extui v1168
  let c0_i32_989 : BitVec 32 := 0#32
  let v1184 : BitVec 1 := Scalar.cmpi .ne v1183 c0_i32_989
  v1184

def k0_off50 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_983 : BitVec 32 := 3#32
  let c0_i32_982 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_976 : BitVec 32 := 1#32
  let v1169 : BitVec 32 := Scalar.subi v8 c1_i32_976
  let v1176 : BitVec 32 := Scalar.maxsi c0_i32_982 v1169
  let v1177 : BitVec 32 := Scalar.minsi c3_i32_983 v1176
  let c4096_i32_984 : BitVec 32 := 4096#32
  let v1178 : BitVec 32 := Scalar.muli v1177 c4096_i32_984
  let v1179 : BitVec 32 := Scalar.addi v11 v1178
  let c0_i32_985 : BitVec 32 := 0#32
  let v1180 : BitVec 32 := Scalar.addi v1179 c0_i32_985
  let c384_i32_1712 : BitVec 32 := 384#32
  ![v1180.toNat, 384]
def k0_dev36 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_987 : BitVec 32 := 3#32
  let c0_i32_986 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1170 : BitVec 32 := Scalar.addi v8 c1_i32_977
  let v1181 : BitVec 32 := Scalar.maxsi c0_i32_986 v1170
  let v1182 : BitVec 32 := Scalar.minsi c3_i32_987 v1181
  let c1_i32_1711 : BitVec 32 := 1#32
  let v1912 : BitVec 32 := Scalar.muli v1182 c1_i32_1711
  let v1913 : BitVec 32 := Scalar.addi v1911 v1912
  v1913.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1185 : BitVec 1 := Scalar.cmpi .sge v8 c1_i32_990
  let v1201 : BitVec 32 := Scalar.extui v1185
  let c0_i32_1006 : BitVec 32 := 0#32
  let v1202 : BitVec 1 := Scalar.cmpi .ne v1201 c0_i32_1006
  v1202

def k0_off51 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_999 : BitVec 32 := 3#32
  let c0_i32_998 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1186 : BitVec 32 := Scalar.subi v8 c1_i32_991
  let c0_i32_992 : BitVec 32 := 0#32
  let v1187 : BitVec 32 := Scalar.subi v1186 c0_i32_992
  let v1194 : BitVec 32 := Scalar.maxsi c0_i32_998 v1187
  let v1195 : BitVec 32 := Scalar.minsi c3_i32_999 v1194
  let c4096_i32_1000 : BitVec 32 := 4096#32
  let v1196 : BitVec 32 := Scalar.muli v1195 c4096_i32_1000
  let v1197 : BitVec 32 := Scalar.addi v11 v1196
  let c2048_i32_1001 : BitVec 32 := 2048#32
  let v1198 : BitVec 32 := Scalar.addi v1197 c2048_i32_1001
  let c384_i32_1712 : BitVec 32 := 384#32
  ![v1198.toNat, 384]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1203 : BitVec 1 := Scalar.cmpi .sge v8 c1_i32_1007
  let c2_i32_1008 : BitVec 32 := 2#32
  let v1204 : BitVec 1 := Scalar.cmpi .sle v8 c2_i32_1008
  let v1205 : BitVec 1 := Scalar.andi v1203 v1204
  let v1220 : BitVec 32 := Scalar.extui v1205
  let c0_i32_1022 : BitVec 32 := 0#32
  let v1221 : BitVec 1 := Scalar.cmpi .ne v1220 c0_i32_1022
  v1221

def k0_off52 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1016 : BitVec 32 := 3#32
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1206 : BitVec 32 := Scalar.subi v8 c1_i32_1009
  let v1213 : BitVec 32 := Scalar.maxsi c0_i32_1015 v1206
  let v1214 : BitVec 32 := Scalar.minsi c3_i32_1016 v1213
  let c4096_i32_1017 : BitVec 32 := 4096#32
  let v1215 : BitVec 32 := Scalar.muli v1214 c4096_i32_1017
  let v1216 : BitVec 32 := Scalar.addi v11 v1215
  let c2048_i32_1018 : BitVec 32 := 2048#32
  let v1217 : BitVec 32 := Scalar.addi v1216 c2048_i32_1018
  let c384_i32_1712 : BitVec 32 := 384#32
  ![v1217.toNat, 384]
def k0_dev37 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1020 : BitVec 32 := 3#32
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1207 : BitVec 32 := Scalar.addi v8 c1_i32_1010
  let v1218 : BitVec 32 := Scalar.maxsi c0_i32_1019 v1207
  let v1219 : BitVec 32 := Scalar.minsi c3_i32_1020 v1218
  let c1_i32_1711 : BitVec 32 := 1#32
  let v1912 : BitVec 32 := Scalar.muli v1219 c1_i32_1711
  let v1913 : BitVec 32 := Scalar.addi v1911 v1912
  v1913.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1023 : BitVec 32 := 2#32
  let v1222 : BitVec 1 := Scalar.cmpi .sle v8 c2_i32_1023
  let v1238 : BitVec 32 := Scalar.extui v1222
  let c0_i32_1039 : BitVec 32 := 0#32
  let v1239 : BitVec 1 := Scalar.cmpi .ne v1238 c0_i32_1039
  v1239

def k0_off53 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1032 : BitVec 32 := 3#32
  let c0_i32_1031 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1223 : BitVec 32 := Scalar.addi v8 c1_i32_1024
  let c0_i32_1025 : BitVec 32 := 0#32
  let v1224 : BitVec 32 := Scalar.addi v1223 c0_i32_1025
  let v1231 : BitVec 32 := Scalar.maxsi c0_i32_1031 v1224
  let v1232 : BitVec 32 := Scalar.minsi c3_i32_1032 v1231
  let c4096_i32_1033 : BitVec 32 := 4096#32
  let v1233 : BitVec 32 := Scalar.muli v1232 c4096_i32_1033
  let v1234 : BitVec 32 := Scalar.addi v11 v1233
  let c0_i32_1034 : BitVec 32 := 0#32
  let v1235 : BitVec 32 := Scalar.addi v1234 c0_i32_1034
  let c384_i32_1712 : BitVec 32 := 384#32
  ![v1235.toNat, 384]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1040 : BitVec 32 := 2#32
  let v1240 : BitVec 1 := Scalar.cmpi .sle v8 c2_i32_1040
  let c1_i32_1041 : BitVec 32 := 1#32
  let v1241 : BitVec 1 := Scalar.cmpi .sge v8 c1_i32_1041
  let v1242 : BitVec 1 := Scalar.andi v1240 v1241
  let v1257 : BitVec 32 := Scalar.extui v1242
  let c0_i32_1055 : BitVec 32 := 0#32
  let v1258 : BitVec 1 := Scalar.cmpi .ne v1257 c0_i32_1055
  v1258

def k0_off54 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1049 : BitVec 32 := 3#32
  let c0_i32_1048 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1042 : BitVec 32 := 1#32
  let v1243 : BitVec 32 := Scalar.addi v8 c1_i32_1042
  let v1250 : BitVec 32 := Scalar.maxsi c0_i32_1048 v1243
  let v1251 : BitVec 32 := Scalar.minsi c3_i32_1049 v1250
  let c4096_i32_1050 : BitVec 32 := 4096#32
  let v1252 : BitVec 32 := Scalar.muli v1251 c4096_i32_1050
  let v1253 : BitVec 32 := Scalar.addi v11 v1252
  let c0_i32_1051 : BitVec 32 := 0#32
  let v1254 : BitVec 32 := Scalar.addi v1253 c0_i32_1051
  let c384_i32_1712 : BitVec 32 := 384#32
  ![v1254.toNat, 384]
def k0_dev38 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1053 : BitVec 32 := 3#32
  let c0_i32_1052 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1043 : BitVec 32 := 1#32
  let v1244 : BitVec 32 := Scalar.subi v8 c1_i32_1043
  let v1255 : BitVec 32 := Scalar.maxsi c0_i32_1052 v1244
  let v1256 : BitVec 32 := Scalar.minsi c3_i32_1053 v1255
  let c1_i32_1711 : BitVec 32 := 1#32
  let v1912 : BitVec 32 := Scalar.muli v1256 c1_i32_1711
  let v1913 : BitVec 32 := Scalar.addi v1911 v1912
  v1913.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1056 : BitVec 32 := 2#32
  let v1259 : BitVec 1 := Scalar.cmpi .sle v8 c2_i32_1056
  let v1275 : BitVec 32 := Scalar.extui v1259
  let c0_i32_1072 : BitVec 32 := 0#32
  let v1276 : BitVec 1 := Scalar.cmpi .ne v1275 c0_i32_1072
  v1276

def k0_off55 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1065 : BitVec 32 := 3#32
  let c0_i32_1064 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1057 : BitVec 32 := 1#32
  let v1260 : BitVec 32 := Scalar.addi v8 c1_i32_1057
  let c0_i32_1058 : BitVec 32 := 0#32
  let v1261 : BitVec 32 := Scalar.addi v1260 c0_i32_1058
  let v1268 : BitVec 32 := Scalar.maxsi c0_i32_1064 v1261
  let v1269 : BitVec 32 := Scalar.minsi c3_i32_1065 v1268
  let c4096_i32_1066 : BitVec 32 := 4096#32
  let v1270 : BitVec 32 := Scalar.muli v1269 c4096_i32_1066
  let v1271 : BitVec 32 := Scalar.addi v11 v1270
  let c2048_i32_1067 : BitVec 32 := 2048#32
  let v1272 : BitVec 32 := Scalar.addi v1271 c2048_i32_1067
  let c384_i32_1712 : BitVec 32 := 384#32
  ![v1272.toNat, 384]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1073 : BitVec 32 := 2#32
  let v1277 : BitVec 1 := Scalar.cmpi .sle v8 c2_i32_1073
  let c1_i32_1074 : BitVec 32 := 1#32
  let v1278 : BitVec 1 := Scalar.cmpi .sge v8 c1_i32_1074
  let v1279 : BitVec 1 := Scalar.andi v1277 v1278
  let v1294 : BitVec 32 := Scalar.extui v1279
  let c0_i32_1088 : BitVec 32 := 0#32
  let v1295 : BitVec 1 := Scalar.cmpi .ne v1294 c0_i32_1088
  v1295

def k0_off56 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1082 : BitVec 32 := 3#32
  let c0_i32_1081 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1075 : BitVec 32 := 1#32
  let v1280 : BitVec 32 := Scalar.addi v8 c1_i32_1075
  let v1287 : BitVec 32 := Scalar.maxsi c0_i32_1081 v1280
  let v1288 : BitVec 32 := Scalar.minsi c3_i32_1082 v1287
  let c4096_i32_1083 : BitVec 32 := 4096#32
  let v1289 : BitVec 32 := Scalar.muli v1288 c4096_i32_1083
  let v1290 : BitVec 32 := Scalar.addi v11 v1289
  let c2048_i32_1084 : BitVec 32 := 2048#32
  let v1291 : BitVec 32 := Scalar.addi v1290 c2048_i32_1084
  let c384_i32_1712 : BitVec 32 := 384#32
  ![v1291.toNat, 384]
def k0_dev39 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1086 : BitVec 32 := 3#32
  let c0_i32_1085 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1076 : BitVec 32 := 1#32
  let v1281 : BitVec 32 := Scalar.subi v8 c1_i32_1076
  let v1292 : BitVec 32 := Scalar.maxsi c0_i32_1085 v1281
  let v1293 : BitVec 32 := Scalar.minsi c3_i32_1086 v1292
  let c1_i32_1711 : BitVec 32 := 1#32
  let v1912 : BitVec 32 := Scalar.muli v1293 c1_i32_1711
  let v1913 : BitVec 32 := Scalar.addi v1911 v1912
  v1913.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1125 : BitVec 32 := 2#32
  let v1332 : BitVec 1 := Scalar.cmpi .sge v5 c2_i32_1125
  let v1348 : BitVec 32 := Scalar.extui v1332
  let c0_i32_1141 : BitVec 32 := 0#32
  let v1349 : BitVec 1 := Scalar.cmpi .ne v1348 c0_i32_1141
  v1349

def k0_off57 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1134 : BitVec 32 := 3#32
  let c0_i32_1133 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1126 : BitVec 32 := 1#32
  let v1333 : BitVec 32 := Scalar.subi v5 c1_i32_1126
  let c1_i32_1127 : BitVec 32 := 1#32
  let v1334 : BitVec 32 := Scalar.subi v1333 c1_i32_1127
  let v1341 : BitVec 32 := Scalar.maxsi c0_i32_1133 v1334
  let v1342 : BitVec 32 := Scalar.minsi c3_i32_1134 v1341
  let c4096_i32_1135 : BitVec 32 := 4096#32
  let v1343 : BitVec 32 := Scalar.muli v1342 c4096_i32_1135
  let v1344 : BitVec 32 := Scalar.addi v11 v1343
  let c0_i32_1136 : BitVec 32 := 0#32
  let v1345 : BitVec 32 := Scalar.addi v1344 c0_i32_1136
  let c0_i32_1712 : BitVec 32 := 0#32
  ![v1345.toNat, 0]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1142 : BitVec 32 := 2#32
  let v1350 : BitVec 1 := Scalar.cmpi .sge v5 c2_i32_1142
  let c2_i32_1143 : BitVec 32 := 2#32
  let v1351 : BitVec 1 := Scalar.cmpi .sle v5 c2_i32_1143
  let v1352 : BitVec 1 := Scalar.andi v1350 v1351
  let v1367 : BitVec 32 := Scalar.extui v1352
  let c0_i32_1158 : BitVec 32 := 0#32
  let v1368 : BitVec 1 := Scalar.cmpi .ne v1367 c0_i32_1158
  v1368

def k0_off58 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1151 : BitVec 32 := 3#32
  let c0_i32_1150 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1144 : BitVec 32 := 2#32
  let v1353 : BitVec 32 := Scalar.subi v5 c2_i32_1144
  let v1360 : BitVec 32 := Scalar.maxsi c0_i32_1150 v1353
  let v1361 : BitVec 32 := Scalar.minsi c3_i32_1151 v1360
  let c4096_i32_1152 : BitVec 32 := 4096#32
  let v1362 : BitVec 32 := Scalar.muli v1361 c4096_i32_1152
  let v1363 : BitVec 32 := Scalar.addi v11 v1362
  let c0_i32_1153 : BitVec 32 := 0#32
  let v1364 : BitVec 32 := Scalar.addi v1363 c0_i32_1153
  let c0_i32_1712 : BitVec 32 := 0#32
  ![v1364.toNat, 0]
def k0_dev40 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_1155 : BitVec 32 := 3#32
  let c0_i32_1154 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1145 : BitVec 32 := 1#32
  let v1354 : BitVec 32 := Scalar.addi v5 c1_i32_1145
  let v1365 : BitVec 32 := Scalar.maxsi c0_i32_1154 v1354
  let v1366 : BitVec 32 := Scalar.minsi c3_i32_1155 v1365
  let c4_i32_1710 : BitVec 32 := 4#32
  let v1910 : BitVec 32 := Scalar.muli v1366 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1159 : BitVec 32 := 2#32
  let v1369 : BitVec 1 := Scalar.cmpi .sge v5 c2_i32_1159
  let v1385 : BitVec 32 := Scalar.extui v1369
  let c0_i32_1175 : BitVec 32 := 0#32
  let v1386 : BitVec 1 := Scalar.cmpi .ne v1385 c0_i32_1175
  v1386

def k0_off59 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1168 : BitVec 32 := 3#32
  let c0_i32_1167 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1160 : BitVec 32 := 1#32
  let v1370 : BitVec 32 := Scalar.subi v5 c1_i32_1160
  let c1_i32_1161 : BitVec 32 := 1#32
  let v1371 : BitVec 32 := Scalar.subi v1370 c1_i32_1161
  let v1378 : BitVec 32 := Scalar.maxsi c0_i32_1167 v1371
  let v1379 : BitVec 32 := Scalar.minsi c3_i32_1168 v1378
  let c4096_i32_1169 : BitVec 32 := 4096#32
  let v1380 : BitVec 32 := Scalar.muli v1379 c4096_i32_1169
  let v1381 : BitVec 32 := Scalar.addi v11 v1380
  let c2048_i32_1170 : BitVec 32 := 2048#32
  let v1382 : BitVec 32 := Scalar.addi v1381 c2048_i32_1170
  let c0_i32_1712 : BitVec 32 := 0#32
  ![v1382.toNat, 0]
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1176 : BitVec 32 := 2#32
  let v1387 : BitVec 1 := Scalar.cmpi .sge v5 c2_i32_1176
  let c2_i32_1177 : BitVec 32 := 2#32
  let v1388 : BitVec 1 := Scalar.cmpi .sle v5 c2_i32_1177
  let v1389 : BitVec 1 := Scalar.andi v1387 v1388
  let v1404 : BitVec 32 := Scalar.extui v1389
  let c0_i32_1192 : BitVec 32 := 0#32
  let v1405 : BitVec 1 := Scalar.cmpi .ne v1404 c0_i32_1192
  v1405

def k0_off60 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1185 : BitVec 32 := 3#32
  let c0_i32_1184 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1178 : BitVec 32 := 2#32
  let v1390 : BitVec 32 := Scalar.subi v5 c2_i32_1178
  let v1397 : BitVec 32 := Scalar.maxsi c0_i32_1184 v1390
  let v1398 : BitVec 32 := Scalar.minsi c3_i32_1185 v1397
  let c4096_i32_1186 : BitVec 32 := 4096#32
  let v1399 : BitVec 32 := Scalar.muli v1398 c4096_i32_1186
  let v1400 : BitVec 32 := Scalar.addi v11 v1399
  let c2048_i32_1187 : BitVec 32 := 2048#32
  let v1401 : BitVec 32 := Scalar.addi v1400 c2048_i32_1187
  let c0_i32_1712 : BitVec 32 := 0#32
  ![v1401.toNat, 0]
def k0_dev41 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_1189 : BitVec 32 := 3#32
  let c0_i32_1188 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1179 : BitVec 32 := 1#32
  let v1391 : BitVec 32 := Scalar.addi v5 c1_i32_1179
  let v1402 : BitVec 32 := Scalar.maxsi c0_i32_1188 v1391
  let v1403 : BitVec 32 := Scalar.minsi c3_i32_1189 v1402
  let c4_i32_1710 : BitVec 32 := 4#32
  let v1910 : BitVec 32 := Scalar.muli v1403 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1193 : BitVec 32 := 1#32
  let v1406 : BitVec 1 := Scalar.cmpi .sle v5 c1_i32_1193
  let v1422 : BitVec 32 := Scalar.extui v1406
  let c0_i32_1209 : BitVec 32 := 0#32
  let v1423 : BitVec 1 := Scalar.cmpi .ne v1422 c0_i32_1209
  v1423

def k0_off61 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1202 : BitVec 32 := 3#32
  let c0_i32_1201 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1194 : BitVec 32 := 1#32
  let v1407 : BitVec 32 := Scalar.addi v5 c1_i32_1194
  let c1_i32_1195 : BitVec 32 := 1#32
  let v1408 : BitVec 32 := Scalar.addi v1407 c1_i32_1195
  let v1415 : BitVec 32 := Scalar.maxsi c0_i32_1201 v1408
  let v1416 : BitVec 32 := Scalar.minsi c3_i32_1202 v1415
  let c4096_i32_1203 : BitVec 32 := 4096#32
  let v1417 : BitVec 32 := Scalar.muli v1416 c4096_i32_1203
  let v1418 : BitVec 32 := Scalar.addi v11 v1417
  let c0_i32_1204 : BitVec 32 := 0#32
  let v1419 : BitVec 32 := Scalar.addi v1418 c0_i32_1204
  let c0_i32_1712 : BitVec 32 := 0#32
  ![v1419.toNat, 0]
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1210 : BitVec 32 := 1#32
  let v1424 : BitVec 1 := Scalar.cmpi .sle v5 c1_i32_1210
  let c1_i32_1211 : BitVec 32 := 1#32
  let v1425 : BitVec 1 := Scalar.cmpi .sge v5 c1_i32_1211
  let v1426 : BitVec 1 := Scalar.andi v1424 v1425
  let v1441 : BitVec 32 := Scalar.extui v1426
  let c0_i32_1226 : BitVec 32 := 0#32
  let v1442 : BitVec 1 := Scalar.cmpi .ne v1441 c0_i32_1226
  v1442

def k0_off62 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1219 : BitVec 32 := 3#32
  let c0_i32_1218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1212 : BitVec 32 := 2#32
  let v1427 : BitVec 32 := Scalar.addi v5 c2_i32_1212
  let v1434 : BitVec 32 := Scalar.maxsi c0_i32_1218 v1427
  let v1435 : BitVec 32 := Scalar.minsi c3_i32_1219 v1434
  let c4096_i32_1220 : BitVec 32 := 4096#32
  let v1436 : BitVec 32 := Scalar.muli v1435 c4096_i32_1220
  let v1437 : BitVec 32 := Scalar.addi v11 v1436
  let c0_i32_1221 : BitVec 32 := 0#32
  let v1438 : BitVec 32 := Scalar.addi v1437 c0_i32_1221
  let c0_i32_1712 : BitVec 32 := 0#32
  ![v1438.toNat, 0]
def k0_dev42 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_1223 : BitVec 32 := 3#32
  let c0_i32_1222 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1213 : BitVec 32 := 1#32
  let v1428 : BitVec 32 := Scalar.subi v5 c1_i32_1213
  let v1439 : BitVec 32 := Scalar.maxsi c0_i32_1222 v1428
  let v1440 : BitVec 32 := Scalar.minsi c3_i32_1223 v1439
  let c4_i32_1710 : BitVec 32 := 4#32
  let v1910 : BitVec 32 := Scalar.muli v1440 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1227 : BitVec 32 := 1#32
  let v1443 : BitVec 1 := Scalar.cmpi .sle v5 c1_i32_1227
  let v1459 : BitVec 32 := Scalar.extui v1443
  let c0_i32_1243 : BitVec 32 := 0#32
  let v1460 : BitVec 1 := Scalar.cmpi .ne v1459 c0_i32_1243
  v1460

def k0_off63 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1236 : BitVec 32 := 3#32
  let c0_i32_1235 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1228 : BitVec 32 := 1#32
  let v1444 : BitVec 32 := Scalar.addi v5 c1_i32_1228
  let c1_i32_1229 : BitVec 32 := 1#32
  let v1445 : BitVec 32 := Scalar.addi v1444 c1_i32_1229
  let v1452 : BitVec 32 := Scalar.maxsi c0_i32_1235 v1445
  let v1453 : BitVec 32 := Scalar.minsi c3_i32_1236 v1452
  let c4096_i32_1237 : BitVec 32 := 4096#32
  let v1454 : BitVec 32 := Scalar.muli v1453 c4096_i32_1237
  let v1455 : BitVec 32 := Scalar.addi v11 v1454
  let c2048_i32_1238 : BitVec 32 := 2048#32
  let v1456 : BitVec 32 := Scalar.addi v1455 c2048_i32_1238
  let c0_i32_1712 : BitVec 32 := 0#32
  ![v1456.toNat, 0]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1244 : BitVec 32 := 1#32
  let v1461 : BitVec 1 := Scalar.cmpi .sle v5 c1_i32_1244
  let c1_i32_1245 : BitVec 32 := 1#32
  let v1462 : BitVec 1 := Scalar.cmpi .sge v5 c1_i32_1245
  let v1463 : BitVec 1 := Scalar.andi v1461 v1462
  let v1478 : BitVec 32 := Scalar.extui v1463
  let c0_i32_1260 : BitVec 32 := 0#32
  let v1479 : BitVec 1 := Scalar.cmpi .ne v1478 c0_i32_1260
  v1479

def k0_off64 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1253 : BitVec 32 := 3#32
  let c0_i32_1252 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1246 : BitVec 32 := 2#32
  let v1464 : BitVec 32 := Scalar.addi v5 c2_i32_1246
  let v1471 : BitVec 32 := Scalar.maxsi c0_i32_1252 v1464
  let v1472 : BitVec 32 := Scalar.minsi c3_i32_1253 v1471
  let c4096_i32_1254 : BitVec 32 := 4096#32
  let v1473 : BitVec 32 := Scalar.muli v1472 c4096_i32_1254
  let v1474 : BitVec 32 := Scalar.addi v11 v1473
  let c2048_i32_1255 : BitVec 32 := 2048#32
  let v1475 : BitVec 32 := Scalar.addi v1474 c2048_i32_1255
  let c0_i32_1712 : BitVec 32 := 0#32
  ![v1475.toNat, 0]
def k0_dev43 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let c3_i32_1257 : BitVec 32 := 3#32
  let c0_i32_1256 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1247 : BitVec 32 := 1#32
  let v1465 : BitVec 32 := Scalar.subi v5 c1_i32_1247
  let v1476 : BitVec 32 := Scalar.maxsi c0_i32_1256 v1465
  let v1477 : BitVec 32 := Scalar.minsi c3_i32_1257 v1476
  let c4_i32_1710 : BitVec 32 := 4#32
  let v1910 : BitVec 32 := Scalar.muli v1477 c4_i32_1710
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1711 : BitVec 32 := 1#32
  let v1912 : BitVec 32 := Scalar.muli v8 c1_i32_1711
  let v1913 : BitVec 32 := Scalar.addi v1911 v1912
  v1913.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1261 : BitVec 32 := 2#32
  let v1480 : BitVec 1 := Scalar.cmpi .sge v8 c2_i32_1261
  let v1496 : BitVec 32 := Scalar.extui v1480
  let c0_i32_1277 : BitVec 32 := 0#32
  let v1497 : BitVec 1 := Scalar.cmpi .ne v1496 c0_i32_1277
  v1497

def k0_off65 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1270 : BitVec 32 := 3#32
  let c0_i32_1269 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1262 : BitVec 32 := 1#32
  let v1481 : BitVec 32 := Scalar.subi v8 c1_i32_1262
  let c1_i32_1263 : BitVec 32 := 1#32
  let v1482 : BitVec 32 := Scalar.subi v1481 c1_i32_1263
  let v1489 : BitVec 32 := Scalar.maxsi c0_i32_1269 v1482
  let v1490 : BitVec 32 := Scalar.minsi c3_i32_1270 v1489
  let c4096_i32_1271 : BitVec 32 := 4096#32
  let v1491 : BitVec 32 := Scalar.muli v1490 c4096_i32_1271
  let v1492 : BitVec 32 := Scalar.addi v11 v1491
  let c0_i32_1272 : BitVec 32 := 0#32
  let v1493 : BitVec 32 := Scalar.addi v1492 c0_i32_1272
  let c384_i32_1712 : BitVec 32 := 384#32
  ![v1493.toNat, 384]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1278 : BitVec 32 := 2#32
  let v1498 : BitVec 1 := Scalar.cmpi .sge v8 c2_i32_1278
  let c2_i32_1279 : BitVec 32 := 2#32
  let v1499 : BitVec 1 := Scalar.cmpi .sle v8 c2_i32_1279
  let v1500 : BitVec 1 := Scalar.andi v1498 v1499
  let v1515 : BitVec 32 := Scalar.extui v1500
  let c0_i32_1294 : BitVec 32 := 0#32
  let v1516 : BitVec 1 := Scalar.cmpi .ne v1515 c0_i32_1294
  v1516

def k0_off66 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1287 : BitVec 32 := 3#32
  let c0_i32_1286 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1280 : BitVec 32 := 2#32
  let v1501 : BitVec 32 := Scalar.subi v8 c2_i32_1280
  let v1508 : BitVec 32 := Scalar.maxsi c0_i32_1286 v1501
  let v1509 : BitVec 32 := Scalar.minsi c3_i32_1287 v1508
  let c4096_i32_1288 : BitVec 32 := 4096#32
  let v1510 : BitVec 32 := Scalar.muli v1509 c4096_i32_1288
  let v1511 : BitVec 32 := Scalar.addi v11 v1510
  let c0_i32_1289 : BitVec 32 := 0#32
  let v1512 : BitVec 32 := Scalar.addi v1511 c0_i32_1289
  let c384_i32_1712 : BitVec 32 := 384#32
  ![v1512.toNat, 384]
def k0_dev44 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1291 : BitVec 32 := 3#32
  let c0_i32_1290 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1281 : BitVec 32 := 1#32
  let v1502 : BitVec 32 := Scalar.addi v8 c1_i32_1281
  let v1513 : BitVec 32 := Scalar.maxsi c0_i32_1290 v1502
  let v1514 : BitVec 32 := Scalar.minsi c3_i32_1291 v1513
  let c1_i32_1711 : BitVec 32 := 1#32
  let v1912 : BitVec 32 := Scalar.muli v1514 c1_i32_1711
  let v1913 : BitVec 32 := Scalar.addi v1911 v1912
  v1913.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1295 : BitVec 32 := 2#32
  let v1517 : BitVec 1 := Scalar.cmpi .sge v8 c2_i32_1295
  let v1533 : BitVec 32 := Scalar.extui v1517
  let c0_i32_1311 : BitVec 32 := 0#32
  let v1534 : BitVec 1 := Scalar.cmpi .ne v1533 c0_i32_1311
  v1534

def k0_off67 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1304 : BitVec 32 := 3#32
  let c0_i32_1303 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1296 : BitVec 32 := 1#32
  let v1518 : BitVec 32 := Scalar.subi v8 c1_i32_1296
  let c1_i32_1297 : BitVec 32 := 1#32
  let v1519 : BitVec 32 := Scalar.subi v1518 c1_i32_1297
  let v1526 : BitVec 32 := Scalar.maxsi c0_i32_1303 v1519
  let v1527 : BitVec 32 := Scalar.minsi c3_i32_1304 v1526
  let c4096_i32_1305 : BitVec 32 := 4096#32
  let v1528 : BitVec 32 := Scalar.muli v1527 c4096_i32_1305
  let v1529 : BitVec 32 := Scalar.addi v11 v1528
  let c2048_i32_1306 : BitVec 32 := 2048#32
  let v1530 : BitVec 32 := Scalar.addi v1529 c2048_i32_1306
  let c384_i32_1712 : BitVec 32 := 384#32
  ![v1530.toNat, 384]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1312 : BitVec 32 := 2#32
  let v1535 : BitVec 1 := Scalar.cmpi .sge v8 c2_i32_1312
  let c2_i32_1313 : BitVec 32 := 2#32
  let v1536 : BitVec 1 := Scalar.cmpi .sle v8 c2_i32_1313
  let v1537 : BitVec 1 := Scalar.andi v1535 v1536
  let v1552 : BitVec 32 := Scalar.extui v1537
  let c0_i32_1327 : BitVec 32 := 0#32
  let v1553 : BitVec 1 := Scalar.cmpi .ne v1552 c0_i32_1327
  v1553

def k0_off68 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1321 : BitVec 32 := 3#32
  let c0_i32_1320 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1314 : BitVec 32 := 2#32
  let v1538 : BitVec 32 := Scalar.subi v8 c2_i32_1314
  let v1545 : BitVec 32 := Scalar.maxsi c0_i32_1320 v1538
  let v1546 : BitVec 32 := Scalar.minsi c3_i32_1321 v1545
  let c4096_i32_1322 : BitVec 32 := 4096#32
  let v1547 : BitVec 32 := Scalar.muli v1546 c4096_i32_1322
  let v1548 : BitVec 32 := Scalar.addi v11 v1547
  let c2048_i32_1323 : BitVec 32 := 2048#32
  let v1549 : BitVec 32 := Scalar.addi v1548 c2048_i32_1323
  let c384_i32_1712 : BitVec 32 := 384#32
  ![v1549.toNat, 384]
def k0_dev45 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1325 : BitVec 32 := 3#32
  let c0_i32_1324 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1315 : BitVec 32 := 1#32
  let v1539 : BitVec 32 := Scalar.addi v8 c1_i32_1315
  let v1550 : BitVec 32 := Scalar.maxsi c0_i32_1324 v1539
  let v1551 : BitVec 32 := Scalar.minsi c3_i32_1325 v1550
  let c1_i32_1711 : BitVec 32 := 1#32
  let v1912 : BitVec 32 := Scalar.muli v1551 c1_i32_1711
  let v1913 : BitVec 32 := Scalar.addi v1911 v1912
  v1913.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1328 : BitVec 32 := 1#32
  let v1554 : BitVec 1 := Scalar.cmpi .sle v8 c1_i32_1328
  let v1570 : BitVec 32 := Scalar.extui v1554
  let c0_i32_1344 : BitVec 32 := 0#32
  let v1571 : BitVec 1 := Scalar.cmpi .ne v1570 c0_i32_1344
  v1571

def k0_off69 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1337 : BitVec 32 := 3#32
  let c0_i32_1336 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1329 : BitVec 32 := 1#32
  let v1555 : BitVec 32 := Scalar.addi v8 c1_i32_1329
  let c1_i32_1330 : BitVec 32 := 1#32
  let v1556 : BitVec 32 := Scalar.addi v1555 c1_i32_1330
  let v1563 : BitVec 32 := Scalar.maxsi c0_i32_1336 v1556
  let v1564 : BitVec 32 := Scalar.minsi c3_i32_1337 v1563
  let c4096_i32_1338 : BitVec 32 := 4096#32
  let v1565 : BitVec 32 := Scalar.muli v1564 c4096_i32_1338
  let v1566 : BitVec 32 := Scalar.addi v11 v1565
  let c0_i32_1339 : BitVec 32 := 0#32
  let v1567 : BitVec 32 := Scalar.addi v1566 c0_i32_1339
  let c384_i32_1712 : BitVec 32 := 384#32
  ![v1567.toNat, 384]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v1572 : BitVec 1 := Scalar.cmpi .sle v8 c1_i32_1345
  let c1_i32_1346 : BitVec 32 := 1#32
  let v1573 : BitVec 1 := Scalar.cmpi .sge v8 c1_i32_1346
  let v1574 : BitVec 1 := Scalar.andi v1572 v1573
  let v1589 : BitVec 32 := Scalar.extui v1574
  let c0_i32_1360 : BitVec 32 := 0#32
  let v1590 : BitVec 1 := Scalar.cmpi .ne v1589 c0_i32_1360
  v1590

def k0_off70 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1354 : BitVec 32 := 3#32
  let c0_i32_1353 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1347 : BitVec 32 := 2#32
  let v1575 : BitVec 32 := Scalar.addi v8 c2_i32_1347
  let v1582 : BitVec 32 := Scalar.maxsi c0_i32_1353 v1575
  let v1583 : BitVec 32 := Scalar.minsi c3_i32_1354 v1582
  let c4096_i32_1355 : BitVec 32 := 4096#32
  let v1584 : BitVec 32 := Scalar.muli v1583 c4096_i32_1355
  let v1585 : BitVec 32 := Scalar.addi v11 v1584
  let c0_i32_1356 : BitVec 32 := 0#32
  let v1586 : BitVec 32 := Scalar.addi v1585 c0_i32_1356
  let c384_i32_1712 : BitVec 32 := 384#32
  ![v1586.toNat, 384]
def k0_dev46 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1358 : BitVec 32 := 3#32
  let c0_i32_1357 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1348 : BitVec 32 := 1#32
  let v1576 : BitVec 32 := Scalar.subi v8 c1_i32_1348
  let v1587 : BitVec 32 := Scalar.maxsi c0_i32_1357 v1576
  let v1588 : BitVec 32 := Scalar.minsi c3_i32_1358 v1587
  let c1_i32_1711 : BitVec 32 := 1#32
  let v1912 : BitVec 32 := Scalar.muli v1588 c1_i32_1711
  let v1913 : BitVec 32 := Scalar.addi v1911 v1912
  v1913.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1361 : BitVec 32 := 1#32
  let v1591 : BitVec 1 := Scalar.cmpi .sle v8 c1_i32_1361
  let v1607 : BitVec 32 := Scalar.extui v1591
  let c0_i32_1377 : BitVec 32 := 0#32
  let v1608 : BitVec 1 := Scalar.cmpi .ne v1607 c0_i32_1377
  v1608

def k0_off71 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1370 : BitVec 32 := 3#32
  let c0_i32_1369 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1362 : BitVec 32 := 1#32
  let v1592 : BitVec 32 := Scalar.addi v8 c1_i32_1362
  let c1_i32_1363 : BitVec 32 := 1#32
  let v1593 : BitVec 32 := Scalar.addi v1592 c1_i32_1363
  let v1600 : BitVec 32 := Scalar.maxsi c0_i32_1369 v1593
  let v1601 : BitVec 32 := Scalar.minsi c3_i32_1370 v1600
  let c4096_i32_1371 : BitVec 32 := 4096#32
  let v1602 : BitVec 32 := Scalar.muli v1601 c4096_i32_1371
  let v1603 : BitVec 32 := Scalar.addi v11 v1602
  let c2048_i32_1372 : BitVec 32 := 2048#32
  let v1604 : BitVec 32 := Scalar.addi v1603 c2048_i32_1372
  let c384_i32_1712 : BitVec 32 := 384#32
  ![v1604.toNat, 384]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1378 : BitVec 32 := 1#32
  let v1609 : BitVec 1 := Scalar.cmpi .sle v8 c1_i32_1378
  let c1_i32_1379 : BitVec 32 := 1#32
  let v1610 : BitVec 1 := Scalar.cmpi .sge v8 c1_i32_1379
  let v1611 : BitVec 1 := Scalar.andi v1609 v1610
  let v1626 : BitVec 32 := Scalar.extui v1611
  let c0_i32_1393 : BitVec 32 := 0#32
  let v1627 : BitVec 1 := Scalar.cmpi .ne v1626 c0_i32_1393
  v1627

def k0_off72 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1387 : BitVec 32 := 3#32
  let c0_i32_1386 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1380 : BitVec 32 := 2#32
  let v1612 : BitVec 32 := Scalar.addi v8 c2_i32_1380
  let v1619 : BitVec 32 := Scalar.maxsi c0_i32_1386 v1612
  let v1620 : BitVec 32 := Scalar.minsi c3_i32_1387 v1619
  let c4096_i32_1388 : BitVec 32 := 4096#32
  let v1621 : BitVec 32 := Scalar.muli v1620 c4096_i32_1388
  let v1622 : BitVec 32 := Scalar.addi v11 v1621
  let c2048_i32_1389 : BitVec 32 := 2048#32
  let v1623 : BitVec 32 := Scalar.addi v1622 c2048_i32_1389
  let c384_i32_1712 : BitVec 32 := 384#32
  ![v1623.toNat, 384]
def k0_dev47 (d0 : Dev nD) : Nat :=
  let c0_i32_1709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1708 : BitVec 32 := 16#32
  let v1908 : BitVec 32 := Scalar.muli v2 c16_i32_1708
  let v1909 : BitVec 32 := Scalar.addi c0_i32_1709 v1908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1710 : BitVec 32 := 4#32
  let v1910 : BitVec 32 := Scalar.muli v5 c4_i32_1710
  let v1911 : BitVec 32 := Scalar.addi v1909 v1910
  let c3_i32_1391 : BitVec 32 := 3#32
  let c0_i32_1390 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1381 : BitVec 32 := 1#32
  let v1613 : BitVec 32 := Scalar.subi v8 c1_i32_1381
  let v1624 : BitVec 32 := Scalar.maxsi c0_i32_1390 v1613
  let v1625 : BitVec 32 := Scalar.minsi c3_i32_1391 v1624
  let c1_i32_1711 : BitVec 32 := 1#32
  let v1912 : BitVec 32 := Scalar.muli v1625 c1_i32_1711
  let v1913 : BitVec 32 := Scalar.addi v1911 v1912
  v1913.toNat
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1394 : BitVec 32 := 3#32
  let v1628 : BitVec 1 := Scalar.cmpi .sge v5 c3_i32_1394
  let v1644 : BitVec 32 := Scalar.extui v1628
  let c0_i32_1410 : BitVec 32 := 0#32
  let v1645 : BitVec 1 := Scalar.cmpi .ne v1644 c0_i32_1410
  v1645

def k0_off73 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1403 : BitVec 32 := 3#32
  let c0_i32_1402 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1395 : BitVec 32 := 1#32
  let v1629 : BitVec 32 := Scalar.subi v5 c1_i32_1395
  let c2_i32_1396 : BitVec 32 := 2#32
  let v1630 : BitVec 32 := Scalar.subi v1629 c2_i32_1396
  let v1637 : BitVec 32 := Scalar.maxsi c0_i32_1402 v1630
  let v1638 : BitVec 32 := Scalar.minsi c3_i32_1403 v1637
  let c4096_i32_1404 : BitVec 32 := 4096#32
  let v1639 : BitVec 32 := Scalar.muli v1638 c4096_i32_1404
  let v1640 : BitVec 32 := Scalar.addi v11 v1639
  let c0_i32_1405 : BitVec 32 := 0#32
  let v1641 : BitVec 32 := Scalar.addi v1640 c0_i32_1405
  let c0_i32_1712 : BitVec 32 := 0#32
  ![v1641.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1411 : BitVec 32 := 3#32
  let v1646 : BitVec 1 := Scalar.cmpi .sge v5 c3_i32_1411
  let v1662 : BitVec 32 := Scalar.extui v1646
  let c0_i32_1427 : BitVec 32 := 0#32
  let v1663 : BitVec 1 := Scalar.cmpi .ne v1662 c0_i32_1427
  v1663

def k0_off74 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1420 : BitVec 32 := 3#32
  let c0_i32_1419 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1412 : BitVec 32 := 1#32
  let v1647 : BitVec 32 := Scalar.subi v5 c1_i32_1412
  let c2_i32_1413 : BitVec 32 := 2#32
  let v1648 : BitVec 32 := Scalar.subi v1647 c2_i32_1413
  let v1655 : BitVec 32 := Scalar.maxsi c0_i32_1419 v1648
  let v1656 : BitVec 32 := Scalar.minsi c3_i32_1420 v1655
  let c4096_i32_1421 : BitVec 32 := 4096#32
  let v1657 : BitVec 32 := Scalar.muli v1656 c4096_i32_1421
  let v1658 : BitVec 32 := Scalar.addi v11 v1657
  let c2048_i32_1422 : BitVec 32 := 2048#32
  let v1659 : BitVec 32 := Scalar.addi v1658 c2048_i32_1422
  let c0_i32_1712 : BitVec 32 := 0#32
  ![v1659.toNat, 0]
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1428 : BitVec 32 := 0#32
  let v1664 : BitVec 1 := Scalar.cmpi .sle v5 c0_i32_1428
  let v1680 : BitVec 32 := Scalar.extui v1664
  let c0_i32_1444 : BitVec 32 := 0#32
  let v1681 : BitVec 1 := Scalar.cmpi .ne v1680 c0_i32_1444
  v1681

def k0_off75 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1437 : BitVec 32 := 3#32
  let c0_i32_1436 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1429 : BitVec 32 := 1#32
  let v1665 : BitVec 32 := Scalar.addi v5 c1_i32_1429
  let c2_i32_1430 : BitVec 32 := 2#32
  let v1666 : BitVec 32 := Scalar.addi v1665 c2_i32_1430
  let v1673 : BitVec 32 := Scalar.maxsi c0_i32_1436 v1666
  let v1674 : BitVec 32 := Scalar.minsi c3_i32_1437 v1673
  let c4096_i32_1438 : BitVec 32 := 4096#32
  let v1675 : BitVec 32 := Scalar.muli v1674 c4096_i32_1438
  let v1676 : BitVec 32 := Scalar.addi v11 v1675
  let c0_i32_1439 : BitVec 32 := 0#32
  let v1677 : BitVec 32 := Scalar.addi v1676 c0_i32_1439
  let c0_i32_1712 : BitVec 32 := 0#32
  ![v1677.toNat, 0]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1445 : BitVec 32 := 0#32
  let v1682 : BitVec 1 := Scalar.cmpi .sle v5 c0_i32_1445
  let v1698 : BitVec 32 := Scalar.extui v1682
  let c0_i32_1461 : BitVec 32 := 0#32
  let v1699 : BitVec 1 := Scalar.cmpi .ne v1698 c0_i32_1461
  v1699

def k0_off76 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1454 : BitVec 32 := 3#32
  let c0_i32_1453 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1446 : BitVec 32 := 1#32
  let v1683 : BitVec 32 := Scalar.addi v5 c1_i32_1446
  let c2_i32_1447 : BitVec 32 := 2#32
  let v1684 : BitVec 32 := Scalar.addi v1683 c2_i32_1447
  let v1691 : BitVec 32 := Scalar.maxsi c0_i32_1453 v1684
  let v1692 : BitVec 32 := Scalar.minsi c3_i32_1454 v1691
  let c4096_i32_1455 : BitVec 32 := 4096#32
  let v1693 : BitVec 32 := Scalar.muli v1692 c4096_i32_1455
  let v1694 : BitVec 32 := Scalar.addi v11 v1693
  let c2048_i32_1456 : BitVec 32 := 2048#32
  let v1695 : BitVec 32 := Scalar.addi v1694 c2048_i32_1456
  let c0_i32_1712 : BitVec 32 := 0#32
  ![v1695.toNat, 0]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1462 : BitVec 32 := 3#32
  let v1700 : BitVec 1 := Scalar.cmpi .sge v8 c3_i32_1462
  let v1716 : BitVec 32 := Scalar.extui v1700
  let c0_i32_1478 : BitVec 32 := 0#32
  let v1717 : BitVec 1 := Scalar.cmpi .ne v1716 c0_i32_1478
  v1717

def k0_off77 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1471 : BitVec 32 := 3#32
  let c0_i32_1470 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1463 : BitVec 32 := 1#32
  let v1701 : BitVec 32 := Scalar.subi v8 c1_i32_1463
  let c2_i32_1464 : BitVec 32 := 2#32
  let v1702 : BitVec 32 := Scalar.subi v1701 c2_i32_1464
  let v1709 : BitVec 32 := Scalar.maxsi c0_i32_1470 v1702
  let v1710 : BitVec 32 := Scalar.minsi c3_i32_1471 v1709
  let c4096_i32_1472 : BitVec 32 := 4096#32
  let v1711 : BitVec 32 := Scalar.muli v1710 c4096_i32_1472
  let v1712 : BitVec 32 := Scalar.addi v11 v1711
  let c0_i32_1473 : BitVec 32 := 0#32
  let v1713 : BitVec 32 := Scalar.addi v1712 c0_i32_1473
  let c384_i32_1712 : BitVec 32 := 384#32
  ![v1713.toNat, 384]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1479 : BitVec 32 := 3#32
  let v1718 : BitVec 1 := Scalar.cmpi .sge v8 c3_i32_1479
  let v1734 : BitVec 32 := Scalar.extui v1718
  let c0_i32_1495 : BitVec 32 := 0#32
  let v1735 : BitVec 1 := Scalar.cmpi .ne v1734 c0_i32_1495
  v1735

def k0_off78 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1488 : BitVec 32 := 3#32
  let c0_i32_1487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1480 : BitVec 32 := 1#32
  let v1719 : BitVec 32 := Scalar.subi v8 c1_i32_1480
  let c2_i32_1481 : BitVec 32 := 2#32
  let v1720 : BitVec 32 := Scalar.subi v1719 c2_i32_1481
  let v1727 : BitVec 32 := Scalar.maxsi c0_i32_1487 v1720
  let v1728 : BitVec 32 := Scalar.minsi c3_i32_1488 v1727
  let c4096_i32_1489 : BitVec 32 := 4096#32
  let v1729 : BitVec 32 := Scalar.muli v1728 c4096_i32_1489
  let v1730 : BitVec 32 := Scalar.addi v11 v1729
  let c2048_i32_1490 : BitVec 32 := 2048#32
  let v1731 : BitVec 32 := Scalar.addi v1730 c2048_i32_1490
  let c384_i32_1712 : BitVec 32 := 384#32
  ![v1731.toNat, 384]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1496 : BitVec 32 := 0#32
  let v1736 : BitVec 1 := Scalar.cmpi .sle v8 c0_i32_1496
  let v1752 : BitVec 32 := Scalar.extui v1736
  let c0_i32_1512 : BitVec 32 := 0#32
  let v1753 : BitVec 1 := Scalar.cmpi .ne v1752 c0_i32_1512
  v1753

def k0_off79 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1505 : BitVec 32 := 3#32
  let c0_i32_1504 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1497 : BitVec 32 := 1#32
  let v1737 : BitVec 32 := Scalar.addi v8 c1_i32_1497
  let c2_i32_1498 : BitVec 32 := 2#32
  let v1738 : BitVec 32 := Scalar.addi v1737 c2_i32_1498
  let v1745 : BitVec 32 := Scalar.maxsi c0_i32_1504 v1738
  let v1746 : BitVec 32 := Scalar.minsi c3_i32_1505 v1745
  let c4096_i32_1506 : BitVec 32 := 4096#32
  let v1747 : BitVec 32 := Scalar.muli v1746 c4096_i32_1506
  let v1748 : BitVec 32 := Scalar.addi v11 v1747
  let c0_i32_1507 : BitVec 32 := 0#32
  let v1749 : BitVec 32 := Scalar.addi v1748 c0_i32_1507
  let c384_i32_1712 : BitVec 32 := 384#32
  ![v1749.toNat, 384]
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1513 : BitVec 32 := 0#32
  let v1754 : BitVec 1 := Scalar.cmpi .sle v8 c0_i32_1513
  let v1770 : BitVec 32 := Scalar.extui v1754
  let c0_i32_1529 : BitVec 32 := 0#32
  let v1771 : BitVec 1 := Scalar.cmpi .ne v1770 c0_i32_1529
  v1771

def k0_off80 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1522 : BitVec 32 := 3#32
  let c0_i32_1521 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1514 : BitVec 32 := 1#32
  let v1755 : BitVec 32 := Scalar.addi v8 c1_i32_1514
  let c2_i32_1515 : BitVec 32 := 2#32
  let v1756 : BitVec 32 := Scalar.addi v1755 c2_i32_1515
  let v1763 : BitVec 32 := Scalar.maxsi c0_i32_1521 v1756
  let v1764 : BitVec 32 := Scalar.minsi c3_i32_1522 v1763
  let c4096_i32_1523 : BitVec 32 := 4096#32
  let v1765 : BitVec 32 := Scalar.muli v1764 c4096_i32_1523
  let v1766 : BitVec 32 := Scalar.addi v11 v1765
  let c2048_i32_1524 : BitVec 32 := 2048#32
  let v1767 : BitVec 32 := Scalar.addi v1766 c2048_i32_1524
  let c384_i32_1712 : BitVec 32 := 384#32
  ![v1767.toNat, 384]
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_90 : BitVec 32 := 0#32
  let v139 : BitVec 1 := Scalar.cmpi .sge v8 c0_i32_90
  let c2_i32_91 : BitVec 32 := 2#32
  let v140 : BitVec 1 := Scalar.cmpi .sle v8 c2_i32_91
  let v141 : BitVec 1 := Scalar.andi v139 v140
  let v1836 : BitVec 32 := Scalar.extui v141
  let c0_i32_1602 : BitVec 32 := 0#32
  let v1837 : BitVec 1 := Scalar.cmpi .ne v1836 c0_i32_1602
  v1837

def k0_off81 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_96 : BitVec 32 := 4#32
  let v146 : BitVec 32 := Scalar.muli v5 c4_i32_96
  let c3_i32_95 : BitVec 32 := 3#32
  let c0_i32_94 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_92 : BitVec 32 := 0#32
  let v142 : BitVec 32 := Scalar.subi v8 c0_i32_92
  let v144 : BitVec 32 := Scalar.maxsi c0_i32_94 v142
  let v145 : BitVec 32 := Scalar.minsi c3_i32_95 v144
  let v147 : BitVec 32 := Scalar.addi v146 v145
  let c1024_i32_97 : BitVec 32 := 1024#32
  let v148 : BitVec 32 := Scalar.muli v147 c1024_i32_97
  let v149 : BitVec 32 := Scalar.addi v11 v148
  let c0_i32_1709 : BitVec 32 := 0#32
  ![v149.toNat, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_107 : BitVec 32 := 3#32
  let v160 : BitVec 1 := Scalar.cmpi .sle v8 c3_i32_107
  let c1_i32_108 : BitVec 32 := 1#32
  let v161 : BitVec 1 := Scalar.cmpi .sge v8 c1_i32_108
  let v162 : BitVec 1 := Scalar.andi v160 v161
  let v1838 : BitVec 32 := Scalar.extui v162
  let c0_i32_1605 : BitVec 32 := 0#32
  let v1839 : BitVec 1 := Scalar.cmpi .ne v1838 c0_i32_1605
  v1839

def k0_off82 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v167 : BitVec 32 := Scalar.muli v5 c4_i32_113
  let c3_i32_112 : BitVec 32 := 3#32
  let c0_i32_111 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_109 : BitVec 32 := 0#32
  let v163 : BitVec 32 := Scalar.addi v8 c0_i32_109
  let v165 : BitVec 32 := Scalar.maxsi c0_i32_111 v163
  let v166 : BitVec 32 := Scalar.minsi c3_i32_112 v165
  let v168 : BitVec 32 := Scalar.addi v167 v166
  let c1024_i32_114 : BitVec 32 := 1024#32
  let v169 : BitVec 32 := Scalar.muli v168 c1024_i32_114
  let v170 : BitVec 32 := Scalar.addi v11 v169
  let c0_i32_1709 : BitVec 32 := 0#32
  ![v170.toNat, 0]
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_132 : BitVec 32 := 0#32
  let v191 : BitVec 1 := Scalar.cmpi .sge v5 c0_i32_132
  let c2_i32_133 : BitVec 32 := 2#32
  let v192 : BitVec 1 := Scalar.cmpi .sle v5 c2_i32_133
  let v193 : BitVec 1 := Scalar.andi v191 v192
  let v1840 : BitVec 32 := Scalar.extui v193
  let c0_i32_1608 : BitVec 32 := 0#32
  let v1841 : BitVec 1 := Scalar.cmpi .ne v1840 c0_i32_1608
  v1841

def k0_off83 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_138 : BitVec 32 := 4#32
  let v198 : BitVec 32 := Scalar.muli v8 c4_i32_138
  let c3_i32_137 : BitVec 32 := 3#32
  let c0_i32_136 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_134 : BitVec 32 := 0#32
  let v194 : BitVec 32 := Scalar.subi v5 c0_i32_134
  let v196 : BitVec 32 := Scalar.maxsi c0_i32_136 v194
  let v197 : BitVec 32 := Scalar.minsi c3_i32_137 v196
  let v199 : BitVec 32 := Scalar.addi v198 v197
  let c1024_i32_139 : BitVec 32 := 1024#32
  let v200 : BitVec 32 := Scalar.muli v199 c1024_i32_139
  let v201 : BitVec 32 := Scalar.addi v11 v200
  let c384_i32_1709 : BitVec 32 := 384#32
  ![v201.toNat, 384]
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_148 : BitVec 32 := 3#32
  let v212 : BitVec 1 := Scalar.cmpi .sle v5 c3_i32_148
  let c1_i32_149 : BitVec 32 := 1#32
  let v213 : BitVec 1 := Scalar.cmpi .sge v5 c1_i32_149
  let v214 : BitVec 1 := Scalar.andi v212 v213
  let v1842 : BitVec 32 := Scalar.extui v214
  let c0_i32_1611 : BitVec 32 := 0#32
  let v1843 : BitVec 1 := Scalar.cmpi .ne v1842 c0_i32_1611
  v1843

def k0_off84 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_154 : BitVec 32 := 4#32
  let v219 : BitVec 32 := Scalar.muli v8 c4_i32_154
  let c3_i32_153 : BitVec 32 := 3#32
  let c0_i32_152 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_150 : BitVec 32 := 0#32
  let v215 : BitVec 32 := Scalar.addi v5 c0_i32_150
  let v217 : BitVec 32 := Scalar.maxsi c0_i32_152 v215
  let v218 : BitVec 32 := Scalar.minsi c3_i32_153 v217
  let v220 : BitVec 32 := Scalar.addi v219 v218
  let c1024_i32_155 : BitVec 32 := 1024#32
  let v221 : BitVec 32 := Scalar.muli v220 c1024_i32_155
  let v222 : BitVec 32 := Scalar.addi v11 v221
  let c384_i32_1709 : BitVec 32 := 384#32
  ![v222.toNat, 384]
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v297 : BitVec 1 := Scalar.cmpi .sge v8 c1_i32_221
  let c2_i32_222 : BitVec 32 := 2#32
  let v298 : BitVec 1 := Scalar.cmpi .sle v8 c2_i32_222
  let v299 : BitVec 1 := Scalar.andi v297 v298
  let v1844 : BitVec 32 := Scalar.extui v299
  let c0_i32_1614 : BitVec 32 := 0#32
  let v1845 : BitVec 1 := Scalar.cmpi .ne v1844 c0_i32_1614
  v1845

def k0_off85 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_227 : BitVec 32 := 4#32
  let v304 : BitVec 32 := Scalar.muli v5 c4_i32_227
  let c3_i32_226 : BitVec 32 := 3#32
  let c0_i32_225 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v300 : BitVec 32 := Scalar.subi v8 c1_i32_223
  let v302 : BitVec 32 := Scalar.maxsi c0_i32_225 v300
  let v303 : BitVec 32 := Scalar.minsi c3_i32_226 v302
  let v305 : BitVec 32 := Scalar.addi v304 v303
  let c1024_i32_228 : BitVec 32 := 1024#32
  let v306 : BitVec 32 := Scalar.muli v305 c1024_i32_228
  let v307 : BitVec 32 := Scalar.addi v11 v306
  let c0_i32_1709 : BitVec 32 := 0#32
  ![v307.toNat, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_255 : BitVec 32 := 2#32
  let v338 : BitVec 1 := Scalar.cmpi .sle v8 c2_i32_255
  let c1_i32_256 : BitVec 32 := 1#32
  let v339 : BitVec 1 := Scalar.cmpi .sge v8 c1_i32_256
  let v340 : BitVec 1 := Scalar.andi v338 v339
  let v1846 : BitVec 32 := Scalar.extui v340
  let c0_i32_1617 : BitVec 32 := 0#32
  let v1847 : BitVec 1 := Scalar.cmpi .ne v1846 c0_i32_1617
  v1847

def k0_off86 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_261 : BitVec 32 := 4#32
  let v345 : BitVec 32 := Scalar.muli v5 c4_i32_261
  let c3_i32_260 : BitVec 32 := 3#32
  let c0_i32_259 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v341 : BitVec 32 := Scalar.addi v8 c1_i32_257
  let v343 : BitVec 32 := Scalar.maxsi c0_i32_259 v341
  let v344 : BitVec 32 := Scalar.minsi c3_i32_260 v343
  let v346 : BitVec 32 := Scalar.addi v345 v344
  let c1024_i32_262 : BitVec 32 := 1024#32
  let v347 : BitVec 32 := Scalar.muli v346 c1024_i32_262
  let v348 : BitVec 32 := Scalar.addi v11 v347
  let c0_i32_1709 : BitVec 32 := 0#32
  ![v348.toNat, 0]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_289 : BitVec 32 := 1#32
  let v379 : BitVec 1 := Scalar.cmpi .sge v5 c1_i32_289
  let c2_i32_290 : BitVec 32 := 2#32
  let v380 : BitVec 1 := Scalar.cmpi .sle v5 c2_i32_290
  let v381 : BitVec 1 := Scalar.andi v379 v380
  let v1848 : BitVec 32 := Scalar.extui v381
  let c0_i32_1620 : BitVec 32 := 0#32
  let v1849 : BitVec 1 := Scalar.cmpi .ne v1848 c0_i32_1620
  v1849

def k0_off87 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_295 : BitVec 32 := 4#32
  let v386 : BitVec 32 := Scalar.muli v8 c4_i32_295
  let c3_i32_294 : BitVec 32 := 3#32
  let c0_i32_293 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v382 : BitVec 32 := Scalar.subi v5 c1_i32_291
  let v384 : BitVec 32 := Scalar.maxsi c0_i32_293 v382
  let v385 : BitVec 32 := Scalar.minsi c3_i32_294 v384
  let v387 : BitVec 32 := Scalar.addi v386 v385
  let c1024_i32_296 : BitVec 32 := 1024#32
  let v388 : BitVec 32 := Scalar.muli v387 c1024_i32_296
  let v389 : BitVec 32 := Scalar.addi v11 v388
  let c384_i32_1709 : BitVec 32 := 384#32
  ![v389.toNat, 384]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_322 : BitVec 32 := 2#32
  let v420 : BitVec 1 := Scalar.cmpi .sle v5 c2_i32_322
  let c1_i32_323 : BitVec 32 := 1#32
  let v421 : BitVec 1 := Scalar.cmpi .sge v5 c1_i32_323
  let v422 : BitVec 1 := Scalar.andi v420 v421
  let v1850 : BitVec 32 := Scalar.extui v422
  let c0_i32_1623 : BitVec 32 := 0#32
  let v1851 : BitVec 1 := Scalar.cmpi .ne v1850 c0_i32_1623
  v1851

def k0_off88 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_328 : BitVec 32 := 4#32
  let v427 : BitVec 32 := Scalar.muli v8 c4_i32_328
  let c3_i32_327 : BitVec 32 := 3#32
  let c0_i32_326 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_324 : BitVec 32 := 1#32
  let v423 : BitVec 32 := Scalar.addi v5 c1_i32_324
  let v425 : BitVec 32 := Scalar.maxsi c0_i32_326 v423
  let v426 : BitVec 32 := Scalar.minsi c3_i32_327 v425
  let v428 : BitVec 32 := Scalar.addi v427 v426
  let c1024_i32_329 : BitVec 32 := 1024#32
  let v429 : BitVec 32 := Scalar.muli v428 c1024_i32_329
  let v430 : BitVec 32 := Scalar.addi v11 v429
  let c384_i32_1709 : BitVec 32 := 384#32
  ![v430.toNat, 384]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_395 : BitVec 32 := 2#32
  let v505 : BitVec 1 := Scalar.cmpi .sge v8 c2_i32_395
  let c2_i32_396 : BitVec 32 := 2#32
  let v506 : BitVec 1 := Scalar.cmpi .sle v8 c2_i32_396
  let v507 : BitVec 1 := Scalar.andi v505 v506
  let v1852 : BitVec 32 := Scalar.extui v507
  let c0_i32_1626 : BitVec 32 := 0#32
  let v1853 : BitVec 1 := Scalar.cmpi .ne v1852 c0_i32_1626
  v1853

def k0_off89 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_401 : BitVec 32 := 4#32
  let v512 : BitVec 32 := Scalar.muli v5 c4_i32_401
  let c3_i32_400 : BitVec 32 := 3#32
  let c0_i32_399 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v508 : BitVec 32 := Scalar.subi v8 c2_i32_397
  let v510 : BitVec 32 := Scalar.maxsi c0_i32_399 v508
  let v511 : BitVec 32 := Scalar.minsi c3_i32_400 v510
  let v513 : BitVec 32 := Scalar.addi v512 v511
  let c1024_i32_402 : BitVec 32 := 1024#32
  let v514 : BitVec 32 := Scalar.muli v513 c1024_i32_402
  let v515 : BitVec 32 := Scalar.addi v11 v514
  let c0_i32_1709 : BitVec 32 := 0#32
  ![v515.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v546 : BitVec 1 := Scalar.cmpi .sle v8 c1_i32_429
  let c1_i32_430 : BitVec 32 := 1#32
  let v547 : BitVec 1 := Scalar.cmpi .sge v8 c1_i32_430
  let v548 : BitVec 1 := Scalar.andi v546 v547
  let v1854 : BitVec 32 := Scalar.extui v548
  let c0_i32_1629 : BitVec 32 := 0#32
  let v1855 : BitVec 1 := Scalar.cmpi .ne v1854 c0_i32_1629
  v1855

def k0_off90 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_435 : BitVec 32 := 4#32
  let v553 : BitVec 32 := Scalar.muli v5 c4_i32_435
  let c3_i32_434 : BitVec 32 := 3#32
  let c0_i32_433 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_431 : BitVec 32 := 2#32
  let v549 : BitVec 32 := Scalar.addi v8 c2_i32_431
  let v551 : BitVec 32 := Scalar.maxsi c0_i32_433 v549
  let v552 : BitVec 32 := Scalar.minsi c3_i32_434 v551
  let v554 : BitVec 32 := Scalar.addi v553 v552
  let c1024_i32_436 : BitVec 32 := 1024#32
  let v555 : BitVec 32 := Scalar.muli v554 c1024_i32_436
  let v556 : BitVec 32 := Scalar.addi v11 v555
  let c0_i32_1709 : BitVec 32 := 0#32
  ![v556.toNat, 0]
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_462 : BitVec 32 := 2#32
  let v587 : BitVec 1 := Scalar.cmpi .sge v5 c2_i32_462
  let c2_i32_463 : BitVec 32 := 2#32
  let v588 : BitVec 1 := Scalar.cmpi .sle v5 c2_i32_463
  let v589 : BitVec 1 := Scalar.andi v587 v588
  let v1856 : BitVec 32 := Scalar.extui v589
  let c0_i32_1632 : BitVec 32 := 0#32
  let v1857 : BitVec 1 := Scalar.cmpi .ne v1856 c0_i32_1632
  v1857

def k0_off91 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_468 : BitVec 32 := 4#32
  let v594 : BitVec 32 := Scalar.muli v8 c4_i32_468
  let c3_i32_467 : BitVec 32 := 3#32
  let c0_i32_466 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_464 : BitVec 32 := 2#32
  let v590 : BitVec 32 := Scalar.subi v5 c2_i32_464
  let v592 : BitVec 32 := Scalar.maxsi c0_i32_466 v590
  let v593 : BitVec 32 := Scalar.minsi c3_i32_467 v592
  let v595 : BitVec 32 := Scalar.addi v594 v593
  let c1024_i32_469 : BitVec 32 := 1024#32
  let v596 : BitVec 32 := Scalar.muli v595 c1024_i32_469
  let v597 : BitVec 32 := Scalar.addi v11 v596
  let c384_i32_1709 : BitVec 32 := 384#32
  ![v597.toNat, 384]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_495 : BitVec 32 := 1#32
  let v628 : BitVec 1 := Scalar.cmpi .sle v5 c1_i32_495
  let c1_i32_496 : BitVec 32 := 1#32
  let v629 : BitVec 1 := Scalar.cmpi .sge v5 c1_i32_496
  let v630 : BitVec 1 := Scalar.andi v628 v629
  let v1858 : BitVec 32 := Scalar.extui v630
  let c0_i32_1635 : BitVec 32 := 0#32
  let v1859 : BitVec 1 := Scalar.cmpi .ne v1858 c0_i32_1635
  v1859

def k0_off92 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_501 : BitVec 32 := 4#32
  let v635 : BitVec 32 := Scalar.muli v8 c4_i32_501
  let c3_i32_500 : BitVec 32 := 3#32
  let c0_i32_499 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_497 : BitVec 32 := 2#32
  let v631 : BitVec 32 := Scalar.addi v5 c2_i32_497
  let v633 : BitVec 32 := Scalar.maxsi c0_i32_499 v631
  let v634 : BitVec 32 := Scalar.minsi c3_i32_500 v633
  let v636 : BitVec 32 := Scalar.addi v635 v634
  let c1024_i32_502 : BitVec 32 := 1024#32
  let v637 : BitVec 32 := Scalar.muli v636 c1024_i32_502
  let v638 : BitVec 32 := Scalar.addi v11 v637
  let c384_i32_1709 : BitVec 32 := 384#32
  ![v638.toNat, 384]
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_619 : BitVec 32 := 0#32
  let v773 : BitVec 1 := Scalar.cmpi .sge v5 c0_i32_619
  let c2_i32_620 : BitVec 32 := 2#32
  let v774 : BitVec 1 := Scalar.cmpi .sle v5 c2_i32_620
  let v775 : BitVec 1 := Scalar.andi v773 v774
  let v1860 : BitVec 32 := Scalar.extui v775
  let c0_i32_1638 : BitVec 32 := 0#32
  let v1861 : BitVec 1 := Scalar.cmpi .ne v1860 c0_i32_1638
  v1861

def k0_off93 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_624 : BitVec 32 := 3#32
  let c0_i32_623 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_621 : BitVec 32 := 0#32
  let v776 : BitVec 32 := Scalar.subi v5 c0_i32_621
  let v778 : BitVec 32 := Scalar.maxsi c0_i32_623 v776
  let v779 : BitVec 32 := Scalar.minsi c3_i32_624 v778
  let c4096_i32_625 : BitVec 32 := 4096#32
  let v780 : BitVec 32 := Scalar.muli v779 c4096_i32_625
  let v781 : BitVec 32 := Scalar.addi v11 v780
  let c0_i32_626 : BitVec 32 := 0#32
  let v782 : BitVec 32 := Scalar.addi v781 c0_i32_626
  let c0_i32_1709 : BitVec 32 := 0#32
  ![v782.toNat, 0]
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_636 : BitVec 32 := 0#32
  let v792 : BitVec 1 := Scalar.cmpi .sge v5 c0_i32_636
  let c2_i32_637 : BitVec 32 := 2#32
  let v793 : BitVec 1 := Scalar.cmpi .sle v5 c2_i32_637
  let v794 : BitVec 1 := Scalar.andi v792 v793
  let v1862 : BitVec 32 := Scalar.extui v794
  let c0_i32_1641 : BitVec 32 := 0#32
  let v1863 : BitVec 1 := Scalar.cmpi .ne v1862 c0_i32_1641
  v1863

def k0_off94 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_641 : BitVec 32 := 3#32
  let c0_i32_640 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_638 : BitVec 32 := 0#32
  let v795 : BitVec 32 := Scalar.subi v5 c0_i32_638
  let v797 : BitVec 32 := Scalar.maxsi c0_i32_640 v795
  let v798 : BitVec 32 := Scalar.minsi c3_i32_641 v797
  let c4096_i32_642 : BitVec 32 := 4096#32
  let v799 : BitVec 32 := Scalar.muli v798 c4096_i32_642
  let v800 : BitVec 32 := Scalar.addi v11 v799
  let c2048_i32_643 : BitVec 32 := 2048#32
  let v801 : BitVec 32 := Scalar.addi v800 c2048_i32_643
  let c0_i32_1709 : BitVec 32 := 0#32
  ![v801.toNat, 0]
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_653 : BitVec 32 := 3#32
  let v811 : BitVec 1 := Scalar.cmpi .sle v5 c3_i32_653
  let c1_i32_654 : BitVec 32 := 1#32
  let v812 : BitVec 1 := Scalar.cmpi .sge v5 c1_i32_654
  let v813 : BitVec 1 := Scalar.andi v811 v812
  let v1864 : BitVec 32 := Scalar.extui v813
  let c0_i32_1644 : BitVec 32 := 0#32
  let v1865 : BitVec 1 := Scalar.cmpi .ne v1864 c0_i32_1644
  v1865

def k0_off95 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_658 : BitVec 32 := 3#32
  let c0_i32_657 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_655 : BitVec 32 := 0#32
  let v814 : BitVec 32 := Scalar.addi v5 c0_i32_655
  let v816 : BitVec 32 := Scalar.maxsi c0_i32_657 v814
  let v817 : BitVec 32 := Scalar.minsi c3_i32_658 v816
  let c4096_i32_659 : BitVec 32 := 4096#32
  let v818 : BitVec 32 := Scalar.muli v817 c4096_i32_659
  let v819 : BitVec 32 := Scalar.addi v11 v818
  let c0_i32_660 : BitVec 32 := 0#32
  let v820 : BitVec 32 := Scalar.addi v819 c0_i32_660
  let c0_i32_1709 : BitVec 32 := 0#32
  ![v820.toNat, 0]
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_670 : BitVec 32 := 3#32
  let v830 : BitVec 1 := Scalar.cmpi .sle v5 c3_i32_670
  let c1_i32_671 : BitVec 32 := 1#32
  let v831 : BitVec 1 := Scalar.cmpi .sge v5 c1_i32_671
  let v832 : BitVec 1 := Scalar.andi v830 v831
  let v1866 : BitVec 32 := Scalar.extui v832
  let c0_i32_1647 : BitVec 32 := 0#32
  let v1867 : BitVec 1 := Scalar.cmpi .ne v1866 c0_i32_1647
  v1867

def k0_off96 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_675 : BitVec 32 := 3#32
  let c0_i32_674 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_672 : BitVec 32 := 0#32
  let v833 : BitVec 32 := Scalar.addi v5 c0_i32_672
  let v835 : BitVec 32 := Scalar.maxsi c0_i32_674 v833
  let v836 : BitVec 32 := Scalar.minsi c3_i32_675 v835
  let c4096_i32_676 : BitVec 32 := 4096#32
  let v837 : BitVec 32 := Scalar.muli v836 c4096_i32_676
  let v838 : BitVec 32 := Scalar.addi v11 v837
  let c2048_i32_677 : BitVec 32 := 2048#32
  let v839 : BitVec 32 := Scalar.addi v838 c2048_i32_677
  let c0_i32_1709 : BitVec 32 := 0#32
  ![v839.toNat, 0]
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_687 : BitVec 32 := 0#32
  let v849 : BitVec 1 := Scalar.cmpi .sge v8 c0_i32_687
  let c2_i32_688 : BitVec 32 := 2#32
  let v850 : BitVec 1 := Scalar.cmpi .sle v8 c2_i32_688
  let v851 : BitVec 1 := Scalar.andi v849 v850
  let v1868 : BitVec 32 := Scalar.extui v851
  let c0_i32_1650 : BitVec 32 := 0#32
  let v1869 : BitVec 1 := Scalar.cmpi .ne v1868 c0_i32_1650
  v1869

def k0_off97 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_692 : BitVec 32 := 3#32
  let c0_i32_691 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_689 : BitVec 32 := 0#32
  let v852 : BitVec 32 := Scalar.subi v8 c0_i32_689
  let v854 : BitVec 32 := Scalar.maxsi c0_i32_691 v852
  let v855 : BitVec 32 := Scalar.minsi c3_i32_692 v854
  let c4096_i32_693 : BitVec 32 := 4096#32
  let v856 : BitVec 32 := Scalar.muli v855 c4096_i32_693
  let v857 : BitVec 32 := Scalar.addi v11 v856
  let c0_i32_694 : BitVec 32 := 0#32
  let v858 : BitVec 32 := Scalar.addi v857 c0_i32_694
  let c384_i32_1709 : BitVec 32 := 384#32
  ![v858.toNat, 384]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_703 : BitVec 32 := 0#32
  let v868 : BitVec 1 := Scalar.cmpi .sge v8 c0_i32_703
  let c2_i32_704 : BitVec 32 := 2#32
  let v869 : BitVec 1 := Scalar.cmpi .sle v8 c2_i32_704
  let v870 : BitVec 1 := Scalar.andi v868 v869
  let v1870 : BitVec 32 := Scalar.extui v870
  let c0_i32_1653 : BitVec 32 := 0#32
  let v1871 : BitVec 1 := Scalar.cmpi .ne v1870 c0_i32_1653
  v1871

def k0_off98 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_708 : BitVec 32 := 3#32
  let c0_i32_707 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_705 : BitVec 32 := 0#32
  let v871 : BitVec 32 := Scalar.subi v8 c0_i32_705
  let v873 : BitVec 32 := Scalar.maxsi c0_i32_707 v871
  let v874 : BitVec 32 := Scalar.minsi c3_i32_708 v873
  let c4096_i32_709 : BitVec 32 := 4096#32
  let v875 : BitVec 32 := Scalar.muli v874 c4096_i32_709
  let v876 : BitVec 32 := Scalar.addi v11 v875
  let c2048_i32_710 : BitVec 32 := 2048#32
  let v877 : BitVec 32 := Scalar.addi v876 c2048_i32_710
  let c384_i32_1709 : BitVec 32 := 384#32
  ![v877.toNat, 384]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_719 : BitVec 32 := 3#32
  let v887 : BitVec 1 := Scalar.cmpi .sle v8 c3_i32_719
  let c1_i32_720 : BitVec 32 := 1#32
  let v888 : BitVec 1 := Scalar.cmpi .sge v8 c1_i32_720
  let v889 : BitVec 1 := Scalar.andi v887 v888
  let v1872 : BitVec 32 := Scalar.extui v889
  let c0_i32_1656 : BitVec 32 := 0#32
  let v1873 : BitVec 1 := Scalar.cmpi .ne v1872 c0_i32_1656
  v1873

def k0_off99 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_724 : BitVec 32 := 3#32
  let c0_i32_723 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_721 : BitVec 32 := 0#32
  let v890 : BitVec 32 := Scalar.addi v8 c0_i32_721
  let v892 : BitVec 32 := Scalar.maxsi c0_i32_723 v890
  let v893 : BitVec 32 := Scalar.minsi c3_i32_724 v892
  let c4096_i32_725 : BitVec 32 := 4096#32
  let v894 : BitVec 32 := Scalar.muli v893 c4096_i32_725
  let v895 : BitVec 32 := Scalar.addi v11 v894
  let c0_i32_726 : BitVec 32 := 0#32
  let v896 : BitVec 32 := Scalar.addi v895 c0_i32_726
  let c384_i32_1709 : BitVec 32 := 384#32
  ![v896.toNat, 384]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_735 : BitVec 32 := 3#32
  let v906 : BitVec 1 := Scalar.cmpi .sle v8 c3_i32_735
  let c1_i32_736 : BitVec 32 := 1#32
  let v907 : BitVec 1 := Scalar.cmpi .sge v8 c1_i32_736
  let v908 : BitVec 1 := Scalar.andi v906 v907
  let v1874 : BitVec 32 := Scalar.extui v908
  let c0_i32_1659 : BitVec 32 := 0#32
  let v1875 : BitVec 1 := Scalar.cmpi .ne v1874 c0_i32_1659
  v1875

def k0_off100 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_740 : BitVec 32 := 3#32
  let c0_i32_739 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_737 : BitVec 32 := 0#32
  let v909 : BitVec 32 := Scalar.addi v8 c0_i32_737
  let v911 : BitVec 32 := Scalar.maxsi c0_i32_739 v909
  let v912 : BitVec 32 := Scalar.minsi c3_i32_740 v911
  let c4096_i32_741 : BitVec 32 := 4096#32
  let v913 : BitVec 32 := Scalar.muli v912 c4096_i32_741
  let v914 : BitVec 32 := Scalar.addi v11 v913
  let c2048_i32_742 : BitVec 32 := 2048#32
  let v915 : BitVec 32 := Scalar.addi v914 c2048_i32_742
  let c384_i32_1709 : BitVec 32 := 384#32
  ![v915.toNat, 384]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_838 : BitVec 32 := 1#32
  let v1018 : BitVec 1 := Scalar.cmpi .sge v5 c1_i32_838
  let c2_i32_839 : BitVec 32 := 2#32
  let v1019 : BitVec 1 := Scalar.cmpi .sle v5 c2_i32_839
  let v1020 : BitVec 1 := Scalar.andi v1018 v1019
  let v1876 : BitVec 32 := Scalar.extui v1020
  let c0_i32_1662 : BitVec 32 := 0#32
  let v1877 : BitVec 1 := Scalar.cmpi .ne v1876 c0_i32_1662
  v1877

def k0_off101 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_843 : BitVec 32 := 3#32
  let c0_i32_842 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_840 : BitVec 32 := 1#32
  let v1021 : BitVec 32 := Scalar.subi v5 c1_i32_840
  let v1023 : BitVec 32 := Scalar.maxsi c0_i32_842 v1021
  let v1024 : BitVec 32 := Scalar.minsi c3_i32_843 v1023
  let c4096_i32_844 : BitVec 32 := 4096#32
  let v1025 : BitVec 32 := Scalar.muli v1024 c4096_i32_844
  let v1026 : BitVec 32 := Scalar.addi v11 v1025
  let c0_i32_845 : BitVec 32 := 0#32
  let v1027 : BitVec 32 := Scalar.addi v1026 c0_i32_845
  let c0_i32_1709 : BitVec 32 := 0#32
  ![v1027.toNat, 0]
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_872 : BitVec 32 := 1#32
  let v1055 : BitVec 1 := Scalar.cmpi .sge v5 c1_i32_872
  let c2_i32_873 : BitVec 32 := 2#32
  let v1056 : BitVec 1 := Scalar.cmpi .sle v5 c2_i32_873
  let v1057 : BitVec 1 := Scalar.andi v1055 v1056
  let v1878 : BitVec 32 := Scalar.extui v1057
  let c0_i32_1665 : BitVec 32 := 0#32
  let v1879 : BitVec 1 := Scalar.cmpi .ne v1878 c0_i32_1665
  v1879

def k0_off102 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_877 : BitVec 32 := 3#32
  let c0_i32_876 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_874 : BitVec 32 := 1#32
  let v1058 : BitVec 32 := Scalar.subi v5 c1_i32_874
  let v1060 : BitVec 32 := Scalar.maxsi c0_i32_876 v1058
  let v1061 : BitVec 32 := Scalar.minsi c3_i32_877 v1060
  let c4096_i32_878 : BitVec 32 := 4096#32
  let v1062 : BitVec 32 := Scalar.muli v1061 c4096_i32_878
  let v1063 : BitVec 32 := Scalar.addi v11 v1062
  let c2048_i32_879 : BitVec 32 := 2048#32
  let v1064 : BitVec 32 := Scalar.addi v1063 c2048_i32_879
  let c0_i32_1709 : BitVec 32 := 0#32
  ![v1064.toNat, 0]
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_906 : BitVec 32 := 2#32
  let v1092 : BitVec 1 := Scalar.cmpi .sle v5 c2_i32_906
  let c1_i32_907 : BitVec 32 := 1#32
  let v1093 : BitVec 1 := Scalar.cmpi .sge v5 c1_i32_907
  let v1094 : BitVec 1 := Scalar.andi v1092 v1093
  let v1880 : BitVec 32 := Scalar.extui v1094
  let c0_i32_1668 : BitVec 32 := 0#32
  let v1881 : BitVec 1 := Scalar.cmpi .ne v1880 c0_i32_1668
  v1881

def k0_off103 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_911 : BitVec 32 := 3#32
  let c0_i32_910 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_908 : BitVec 32 := 1#32
  let v1095 : BitVec 32 := Scalar.addi v5 c1_i32_908
  let v1097 : BitVec 32 := Scalar.maxsi c0_i32_910 v1095
  let v1098 : BitVec 32 := Scalar.minsi c3_i32_911 v1097
  let c4096_i32_912 : BitVec 32 := 4096#32
  let v1099 : BitVec 32 := Scalar.muli v1098 c4096_i32_912
  let v1100 : BitVec 32 := Scalar.addi v11 v1099
  let c0_i32_913 : BitVec 32 := 0#32
  let v1101 : BitVec 32 := Scalar.addi v1100 c0_i32_913
  let c0_i32_1709 : BitVec 32 := 0#32
  ![v1101.toNat, 0]
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_940 : BitVec 32 := 2#32
  let v1129 : BitVec 1 := Scalar.cmpi .sle v5 c2_i32_940
  let c1_i32_941 : BitVec 32 := 1#32
  let v1130 : BitVec 1 := Scalar.cmpi .sge v5 c1_i32_941
  let v1131 : BitVec 1 := Scalar.andi v1129 v1130
  let v1882 : BitVec 32 := Scalar.extui v1131
  let c0_i32_1671 : BitVec 32 := 0#32
  let v1883 : BitVec 1 := Scalar.cmpi .ne v1882 c0_i32_1671
  v1883

def k0_off104 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_945 : BitVec 32 := 3#32
  let c0_i32_944 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_942 : BitVec 32 := 1#32
  let v1132 : BitVec 32 := Scalar.addi v5 c1_i32_942
  let v1134 : BitVec 32 := Scalar.maxsi c0_i32_944 v1132
  let v1135 : BitVec 32 := Scalar.minsi c3_i32_945 v1134
  let c4096_i32_946 : BitVec 32 := 4096#32
  let v1136 : BitVec 32 := Scalar.muli v1135 c4096_i32_946
  let v1137 : BitVec 32 := Scalar.addi v11 v1136
  let c2048_i32_947 : BitVec 32 := 2048#32
  let v1138 : BitVec 32 := Scalar.addi v1137 c2048_i32_947
  let c0_i32_1709 : BitVec 32 := 0#32
  ![v1138.toNat, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_974 : BitVec 32 := 1#32
  let v1166 : BitVec 1 := Scalar.cmpi .sge v8 c1_i32_974
  let c2_i32_975 : BitVec 32 := 2#32
  let v1167 : BitVec 1 := Scalar.cmpi .sle v8 c2_i32_975
  let v1168 : BitVec 1 := Scalar.andi v1166 v1167
  let v1884 : BitVec 32 := Scalar.extui v1168
  let c0_i32_1674 : BitVec 32 := 0#32
  let v1885 : BitVec 1 := Scalar.cmpi .ne v1884 c0_i32_1674
  v1885

def k0_off105 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_979 : BitVec 32 := 3#32
  let c0_i32_978 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_976 : BitVec 32 := 1#32
  let v1169 : BitVec 32 := Scalar.subi v8 c1_i32_976
  let v1171 : BitVec 32 := Scalar.maxsi c0_i32_978 v1169
  let v1172 : BitVec 32 := Scalar.minsi c3_i32_979 v1171
  let c4096_i32_980 : BitVec 32 := 4096#32
  let v1173 : BitVec 32 := Scalar.muli v1172 c4096_i32_980
  let v1174 : BitVec 32 := Scalar.addi v11 v1173
  let c0_i32_981 : BitVec 32 := 0#32
  let v1175 : BitVec 32 := Scalar.addi v1174 c0_i32_981
  let c384_i32_1709 : BitVec 32 := 384#32
  ![v1175.toNat, 384]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1203 : BitVec 1 := Scalar.cmpi .sge v8 c1_i32_1007
  let c2_i32_1008 : BitVec 32 := 2#32
  let v1204 : BitVec 1 := Scalar.cmpi .sle v8 c2_i32_1008
  let v1205 : BitVec 1 := Scalar.andi v1203 v1204
  let v1886 : BitVec 32 := Scalar.extui v1205
  let c0_i32_1677 : BitVec 32 := 0#32
  let v1887 : BitVec 1 := Scalar.cmpi .ne v1886 c0_i32_1677
  v1887

def k0_off106 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1012 : BitVec 32 := 3#32
  let c0_i32_1011 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1206 : BitVec 32 := Scalar.subi v8 c1_i32_1009
  let v1208 : BitVec 32 := Scalar.maxsi c0_i32_1011 v1206
  let v1209 : BitVec 32 := Scalar.minsi c3_i32_1012 v1208
  let c4096_i32_1013 : BitVec 32 := 4096#32
  let v1210 : BitVec 32 := Scalar.muli v1209 c4096_i32_1013
  let v1211 : BitVec 32 := Scalar.addi v11 v1210
  let c2048_i32_1014 : BitVec 32 := 2048#32
  let v1212 : BitVec 32 := Scalar.addi v1211 c2048_i32_1014
  let c384_i32_1709 : BitVec 32 := 384#32
  ![v1212.toNat, 384]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1040 : BitVec 32 := 2#32
  let v1240 : BitVec 1 := Scalar.cmpi .sle v8 c2_i32_1040
  let c1_i32_1041 : BitVec 32 := 1#32
  let v1241 : BitVec 1 := Scalar.cmpi .sge v8 c1_i32_1041
  let v1242 : BitVec 1 := Scalar.andi v1240 v1241
  let v1888 : BitVec 32 := Scalar.extui v1242
  let c0_i32_1680 : BitVec 32 := 0#32
  let v1889 : BitVec 1 := Scalar.cmpi .ne v1888 c0_i32_1680
  v1889

def k0_off107 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1045 : BitVec 32 := 3#32
  let c0_i32_1044 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1042 : BitVec 32 := 1#32
  let v1243 : BitVec 32 := Scalar.addi v8 c1_i32_1042
  let v1245 : BitVec 32 := Scalar.maxsi c0_i32_1044 v1243
  let v1246 : BitVec 32 := Scalar.minsi c3_i32_1045 v1245
  let c4096_i32_1046 : BitVec 32 := 4096#32
  let v1247 : BitVec 32 := Scalar.muli v1246 c4096_i32_1046
  let v1248 : BitVec 32 := Scalar.addi v11 v1247
  let c0_i32_1047 : BitVec 32 := 0#32
  let v1249 : BitVec 32 := Scalar.addi v1248 c0_i32_1047
  let c384_i32_1709 : BitVec 32 := 384#32
  ![v1249.toNat, 384]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1073 : BitVec 32 := 2#32
  let v1277 : BitVec 1 := Scalar.cmpi .sle v8 c2_i32_1073
  let c1_i32_1074 : BitVec 32 := 1#32
  let v1278 : BitVec 1 := Scalar.cmpi .sge v8 c1_i32_1074
  let v1279 : BitVec 1 := Scalar.andi v1277 v1278
  let v1890 : BitVec 32 := Scalar.extui v1279
  let c0_i32_1683 : BitVec 32 := 0#32
  let v1891 : BitVec 1 := Scalar.cmpi .ne v1890 c0_i32_1683
  v1891

def k0_off108 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1078 : BitVec 32 := 3#32
  let c0_i32_1077 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1075 : BitVec 32 := 1#32
  let v1280 : BitVec 32 := Scalar.addi v8 c1_i32_1075
  let v1282 : BitVec 32 := Scalar.maxsi c0_i32_1077 v1280
  let v1283 : BitVec 32 := Scalar.minsi c3_i32_1078 v1282
  let c4096_i32_1079 : BitVec 32 := 4096#32
  let v1284 : BitVec 32 := Scalar.muli v1283 c4096_i32_1079
  let v1285 : BitVec 32 := Scalar.addi v11 v1284
  let c2048_i32_1080 : BitVec 32 := 2048#32
  let v1286 : BitVec 32 := Scalar.addi v1285 c2048_i32_1080
  let c384_i32_1709 : BitVec 32 := 384#32
  ![v1286.toNat, 384]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1142 : BitVec 32 := 2#32
  let v1350 : BitVec 1 := Scalar.cmpi .sge v5 c2_i32_1142
  let c2_i32_1143 : BitVec 32 := 2#32
  let v1351 : BitVec 1 := Scalar.cmpi .sle v5 c2_i32_1143
  let v1352 : BitVec 1 := Scalar.andi v1350 v1351
  let v1892 : BitVec 32 := Scalar.extui v1352
  let c0_i32_1686 : BitVec 32 := 0#32
  let v1893 : BitVec 1 := Scalar.cmpi .ne v1892 c0_i32_1686
  v1893

def k0_off109 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1147 : BitVec 32 := 3#32
  let c0_i32_1146 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1144 : BitVec 32 := 2#32
  let v1353 : BitVec 32 := Scalar.subi v5 c2_i32_1144
  let v1355 : BitVec 32 := Scalar.maxsi c0_i32_1146 v1353
  let v1356 : BitVec 32 := Scalar.minsi c3_i32_1147 v1355
  let c4096_i32_1148 : BitVec 32 := 4096#32
  let v1357 : BitVec 32 := Scalar.muli v1356 c4096_i32_1148
  let v1358 : BitVec 32 := Scalar.addi v11 v1357
  let c0_i32_1149 : BitVec 32 := 0#32
  let v1359 : BitVec 32 := Scalar.addi v1358 c0_i32_1149
  let c0_i32_1709 : BitVec 32 := 0#32
  ![v1359.toNat, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1176 : BitVec 32 := 2#32
  let v1387 : BitVec 1 := Scalar.cmpi .sge v5 c2_i32_1176
  let c2_i32_1177 : BitVec 32 := 2#32
  let v1388 : BitVec 1 := Scalar.cmpi .sle v5 c2_i32_1177
  let v1389 : BitVec 1 := Scalar.andi v1387 v1388
  let v1894 : BitVec 32 := Scalar.extui v1389
  let c0_i32_1689 : BitVec 32 := 0#32
  let v1895 : BitVec 1 := Scalar.cmpi .ne v1894 c0_i32_1689
  v1895

def k0_off110 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1181 : BitVec 32 := 3#32
  let c0_i32_1180 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1178 : BitVec 32 := 2#32
  let v1390 : BitVec 32 := Scalar.subi v5 c2_i32_1178
  let v1392 : BitVec 32 := Scalar.maxsi c0_i32_1180 v1390
  let v1393 : BitVec 32 := Scalar.minsi c3_i32_1181 v1392
  let c4096_i32_1182 : BitVec 32 := 4096#32
  let v1394 : BitVec 32 := Scalar.muli v1393 c4096_i32_1182
  let v1395 : BitVec 32 := Scalar.addi v11 v1394
  let c2048_i32_1183 : BitVec 32 := 2048#32
  let v1396 : BitVec 32 := Scalar.addi v1395 c2048_i32_1183
  let c0_i32_1709 : BitVec 32 := 0#32
  ![v1396.toNat, 0]
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1210 : BitVec 32 := 1#32
  let v1424 : BitVec 1 := Scalar.cmpi .sle v5 c1_i32_1210
  let c1_i32_1211 : BitVec 32 := 1#32
  let v1425 : BitVec 1 := Scalar.cmpi .sge v5 c1_i32_1211
  let v1426 : BitVec 1 := Scalar.andi v1424 v1425
  let v1896 : BitVec 32 := Scalar.extui v1426
  let c0_i32_1692 : BitVec 32 := 0#32
  let v1897 : BitVec 1 := Scalar.cmpi .ne v1896 c0_i32_1692
  v1897

def k0_off111 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1215 : BitVec 32 := 3#32
  let c0_i32_1214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1212 : BitVec 32 := 2#32
  let v1427 : BitVec 32 := Scalar.addi v5 c2_i32_1212
  let v1429 : BitVec 32 := Scalar.maxsi c0_i32_1214 v1427
  let v1430 : BitVec 32 := Scalar.minsi c3_i32_1215 v1429
  let c4096_i32_1216 : BitVec 32 := 4096#32
  let v1431 : BitVec 32 := Scalar.muli v1430 c4096_i32_1216
  let v1432 : BitVec 32 := Scalar.addi v11 v1431
  let c0_i32_1217 : BitVec 32 := 0#32
  let v1433 : BitVec 32 := Scalar.addi v1432 c0_i32_1217
  let c0_i32_1709 : BitVec 32 := 0#32
  ![v1433.toNat, 0]
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1244 : BitVec 32 := 1#32
  let v1461 : BitVec 1 := Scalar.cmpi .sle v5 c1_i32_1244
  let c1_i32_1245 : BitVec 32 := 1#32
  let v1462 : BitVec 1 := Scalar.cmpi .sge v5 c1_i32_1245
  let v1463 : BitVec 1 := Scalar.andi v1461 v1462
  let v1898 : BitVec 32 := Scalar.extui v1463
  let c0_i32_1695 : BitVec 32 := 0#32
  let v1899 : BitVec 1 := Scalar.cmpi .ne v1898 c0_i32_1695
  v1899

def k0_off112 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1249 : BitVec 32 := 3#32
  let c0_i32_1248 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1246 : BitVec 32 := 2#32
  let v1464 : BitVec 32 := Scalar.addi v5 c2_i32_1246
  let v1466 : BitVec 32 := Scalar.maxsi c0_i32_1248 v1464
  let v1467 : BitVec 32 := Scalar.minsi c3_i32_1249 v1466
  let c4096_i32_1250 : BitVec 32 := 4096#32
  let v1468 : BitVec 32 := Scalar.muli v1467 c4096_i32_1250
  let v1469 : BitVec 32 := Scalar.addi v11 v1468
  let c2048_i32_1251 : BitVec 32 := 2048#32
  let v1470 : BitVec 32 := Scalar.addi v1469 c2048_i32_1251
  let c0_i32_1709 : BitVec 32 := 0#32
  ![v1470.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1278 : BitVec 32 := 2#32
  let v1498 : BitVec 1 := Scalar.cmpi .sge v8 c2_i32_1278
  let c2_i32_1279 : BitVec 32 := 2#32
  let v1499 : BitVec 1 := Scalar.cmpi .sle v8 c2_i32_1279
  let v1500 : BitVec 1 := Scalar.andi v1498 v1499
  let v1900 : BitVec 32 := Scalar.extui v1500
  let c0_i32_1698 : BitVec 32 := 0#32
  let v1901 : BitVec 1 := Scalar.cmpi .ne v1900 c0_i32_1698
  v1901

def k0_off113 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1283 : BitVec 32 := 3#32
  let c0_i32_1282 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1280 : BitVec 32 := 2#32
  let v1501 : BitVec 32 := Scalar.subi v8 c2_i32_1280
  let v1503 : BitVec 32 := Scalar.maxsi c0_i32_1282 v1501
  let v1504 : BitVec 32 := Scalar.minsi c3_i32_1283 v1503
  let c4096_i32_1284 : BitVec 32 := 4096#32
  let v1505 : BitVec 32 := Scalar.muli v1504 c4096_i32_1284
  let v1506 : BitVec 32 := Scalar.addi v11 v1505
  let c0_i32_1285 : BitVec 32 := 0#32
  let v1507 : BitVec 32 := Scalar.addi v1506 c0_i32_1285
  let c384_i32_1709 : BitVec 32 := 384#32
  ![v1507.toNat, 384]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1312 : BitVec 32 := 2#32
  let v1535 : BitVec 1 := Scalar.cmpi .sge v8 c2_i32_1312
  let c2_i32_1313 : BitVec 32 := 2#32
  let v1536 : BitVec 1 := Scalar.cmpi .sle v8 c2_i32_1313
  let v1537 : BitVec 1 := Scalar.andi v1535 v1536
  let v1902 : BitVec 32 := Scalar.extui v1537
  let c0_i32_1701 : BitVec 32 := 0#32
  let v1903 : BitVec 1 := Scalar.cmpi .ne v1902 c0_i32_1701
  v1903

def k0_off114 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1317 : BitVec 32 := 3#32
  let c0_i32_1316 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1314 : BitVec 32 := 2#32
  let v1538 : BitVec 32 := Scalar.subi v8 c2_i32_1314
  let v1540 : BitVec 32 := Scalar.maxsi c0_i32_1316 v1538
  let v1541 : BitVec 32 := Scalar.minsi c3_i32_1317 v1540
  let c4096_i32_1318 : BitVec 32 := 4096#32
  let v1542 : BitVec 32 := Scalar.muli v1541 c4096_i32_1318
  let v1543 : BitVec 32 := Scalar.addi v11 v1542
  let c2048_i32_1319 : BitVec 32 := 2048#32
  let v1544 : BitVec 32 := Scalar.addi v1543 c2048_i32_1319
  let c384_i32_1709 : BitVec 32 := 384#32
  ![v1544.toNat, 384]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v1572 : BitVec 1 := Scalar.cmpi .sle v8 c1_i32_1345
  let c1_i32_1346 : BitVec 32 := 1#32
  let v1573 : BitVec 1 := Scalar.cmpi .sge v8 c1_i32_1346
  let v1574 : BitVec 1 := Scalar.andi v1572 v1573
  let v1904 : BitVec 32 := Scalar.extui v1574
  let c0_i32_1704 : BitVec 32 := 0#32
  let v1905 : BitVec 1 := Scalar.cmpi .ne v1904 c0_i32_1704
  v1905

def k0_off115 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1350 : BitVec 32 := 3#32
  let c0_i32_1349 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1347 : BitVec 32 := 2#32
  let v1575 : BitVec 32 := Scalar.addi v8 c2_i32_1347
  let v1577 : BitVec 32 := Scalar.maxsi c0_i32_1349 v1575
  let v1578 : BitVec 32 := Scalar.minsi c3_i32_1350 v1577
  let c4096_i32_1351 : BitVec 32 := 4096#32
  let v1579 : BitVec 32 := Scalar.muli v1578 c4096_i32_1351
  let v1580 : BitVec 32 := Scalar.addi v11 v1579
  let c0_i32_1352 : BitVec 32 := 0#32
  let v1581 : BitVec 32 := Scalar.addi v1580 c0_i32_1352
  let c384_i32_1709 : BitVec 32 := 384#32
  ![v1581.toNat, 384]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1378 : BitVec 32 := 1#32
  let v1609 : BitVec 1 := Scalar.cmpi .sle v8 c1_i32_1378
  let c1_i32_1379 : BitVec 32 := 1#32
  let v1610 : BitVec 1 := Scalar.cmpi .sge v8 c1_i32_1379
  let v1611 : BitVec 1 := Scalar.andi v1609 v1610
  let v1906 : BitVec 32 := Scalar.extui v1611
  let c0_i32_1707 : BitVec 32 := 0#32
  let v1907 : BitVec 1 := Scalar.cmpi .ne v1906 c0_i32_1707
  v1907

def k0_off116 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16384_i32 : BitVec 32 := 16384#32
  let v11 : BitVec 32 := Scalar.muli v10 c16384_i32
  let c3_i32_1383 : BitVec 32 := 3#32
  let c0_i32_1382 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1380 : BitVec 32 := 2#32
  let v1612 : BitVec 32 := Scalar.addi v8 c2_i32_1380
  let v1614 : BitVec 32 := Scalar.maxsi c0_i32_1382 v1612
  let v1615 : BitVec 32 := Scalar.minsi c3_i32_1383 v1614
  let c4096_i32_1384 : BitVec 32 := 4096#32
  let v1616 : BitVec 32 := Scalar.muli v1615 c4096_i32_1384
  let v1617 : BitVec 32 := Scalar.addi v11 v1616
  let c2048_i32_1385 : BitVec 32 := 2048#32
  let v1618 : BitVec 32 := Scalar.addi v1617 c2048_i32_1385
  let c384_i32_1709 : BitVec 32 := 384#32
  ![v1618.toNat, 384]
-- ==== ReferenceIdeal.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Names.lean ====
/-
  The names the proof talks about: the six kinds of neighbour, the remote copies ("channels"), the local copies
  ("jobs"), the windows each of them moves, and the order in which a device issues its operations ("script").
  Everything here is finite and decided by evaluation.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

namespace Cert.Ag

open Cert.KernelIdeal Cert.KernelIdeal.Gen
open Idealize.ShloMosaic

/-! ## Devices and neighbours -/

def cx (c : Dev nD) : ℕ := c.val / 16
def cy (c : Dev nD) : ℕ := c.val / 4 % 4
def cz (c : Dev nD) : ℕ := c.val % 4

/-- The device at `(x, y, z)`. -/
def mk (x y z : ℕ) : Dev nD := ⟨(16 * x + 4 * y + z) % 32, Nat.mod_lt _ (by decide)⟩

/-- The partner along x, and the two neighbours along y and along z. -/
inductive Dir | P | yd | yu | zd | zu
deriving DecidableEq

instance : Fintype Dir := ⟨{.P, .yd, .yu, .zd, .zu}, by intro d; cases d <;> decide⟩

def opp : Dir → Dir | .P => .P | .yd => .yu | .yu => .yd | .zd => .zu | .zu => .zd

/-- Whether device `c` has a neighbour that way. -/
def has : Dir → Dev nD → Bool
  | .P, _ => true
  | .yd, c => decide (1 ≤ cy c)
  | .yu, c => decide (cy c ≤ 2)
  | .zd, c => decide (1 ≤ cz c)
  | .zu, c => decide (cz c ≤ 2)

/-- The neighbour (meant where `has` holds). -/
def nb : Dir → Dev nD → Dev nD
  | .P, c => ⟨(c.val + 16) % 32, Nat.mod_lt _ (by decide)⟩
  | .yd, c => ⟨(c.val + 28) % 32, Nat.mod_lt _ (by decide)⟩
  | .yu, c => ⟨(c.val + 4) % 32, Nat.mod_lt _ (by decide)⟩
  | .zd, c => ⟨(c.val + 31) % 32, Nat.mod_lt _ (by decide)⟩
  | .zu, c => ⟨(c.val + 1) % 32, Nat.mod_lt _ (by decide)⟩

theorem opp_opp (d : Dir) : opp (opp d) = d := by cases d <;> rfl
theorem opp_inj {d e : Dir} (h : opp d = opp e) : d = e := by rw [← opp_opp d, h, opp_opp]
theorem nb_opp : ∀ (d : Dir) (c : Dev nD), nb (opp d) (nb d c) = c := by decide +kernel
theorem has_opp : ∀ (d : Dir) (c : Dev nD), has d c = true → has (opp d) (nb d c) = true := by decide +kernel

/-! ## Channels -/

/-- The remote copies a device may issue: the two injections and the four column-tail copies to the partner, and the hops
    of the two phases (`h` the column group, `st` upward or downward, `t` the hop, `sub` the half of a group of rows). -/
inductive Chan
  | inj (h : Fin 2)
  | h3 (j : Fin 4)
  | a (h st : Fin 2) (t : Fin 3)
  | b (h st : Fin 2) (t : Fin 3) (sub : Fin 2)
deriving DecidableEq

def chans : List Chan :=
  [.inj 0, .inj 1, .h3 0, .h3 1, .h3 2, .h3 3]
    ++ (List.finRange 12).map (fun n => .a ⟨n.val / 6, by omega⟩ ⟨n.val / 3 % 2, by omega⟩ ⟨n.val % 3, by omega⟩)
    ++ (List.finRange 24).map (fun n => .b ⟨n.val / 12, by omega⟩ ⟨n.val / 6 % 2, by omega⟩ ⟨n.val / 2 % 3, by omega⟩ ⟨n.val % 2, by omega⟩)

instance : Fintype Chan := ⟨⟨chans, by decide +kernel⟩, by
  have h1 : ∀ h, Chan.inj h ∈ chans := by decide +kernel
  have h2 : ∀ j, Chan.h3 j ∈ chans := by decide +kernel
  have h3 : ∀ h st t, Chan.a h st t ∈ chans := by decide +kernel
  have h4 : ∀ h st t sub, Chan.b h st t sub ∈ chans := by decide +kernel
  intro i; cases i
  · exact h1 _
  · exact h2 _
  · exact h3 _ _ _
  · exact h4 _ _ _ _⟩

/-- Upward or downward along z (`true`) or y. -/
def along (z : Bool) (st : Fin 2) : Dir :=
  match z, st with
  | true, 0 => .zu
  | true, 1 => .zd
  | false, 0 => .yu
  | false, 1 => .yd

def dirOf : Chan → Dir
  | .inj _ => .P
  | .h3 _ => .P
  | .a h st _ => along (h = 0) st
  | .b h st _ _ => along (h = 1) st

def coord (z : Bool) (c : Dev nD) : ℕ := if z then cz c else cy c

/-- Does a device at `k` along the chain send at hop `t`? -/
def hop (st : Fin 2) (t : Fin 3) (k : ℕ) : Bool :=
  if st = 0 then decide (t.val ≤ k ∧ k ≤ 2) else decide (1 ≤ k ∧ k + t.val ≤ 3)

/-- Whose block the device at `k` sends at hop `t`. -/
def org (st : Fin 2) (t : Fin 3) (k : ℕ) : ℕ := if st = 0 then k - t.val else min 3 (k + t.val)

/-- Whether device `c` issues the copy. -/
def snds : Chan → Dev nD → Bool
  | .inj _, _ => true
  | .h3 _, _ => true
  | .a h st t, c => hop st t (coord (h = 0) c)
  | .b h st t _, c => hop st t (coord (h = 1) c)

def tgt (i : Chan) (c : Dev nD) : Dev nD := nb (dirOf i) c
def src (i : Chan) (c : Dev nD) : Dev nD := nb (opp (dirOf i)) c

/-- Whether device `c` receives the copy. -/
def rcvs (i : Chan) (c : Dev nD) : Bool := has (opp (dirOf i)) c && snds i (src i c)

theorem tgt_src (i : Chan) (c : Dev nD) : tgt i (src i c) = c := by
  have := nb_opp (opp (dirOf i)) c; rw [opp_opp] at this; exact this
theorem src_tgt (i : Chan) (c : Dev nD) : src i (tgt i c) = c := nb_opp _ _
theorem has_of_snds : ∀ (i : Chan) (c : Dev nD), snds i c = true → has (dirOf i) c = true := by decide +kernel
theorem rcvs_tgt (i : Chan) (c : Dev nD) (h : snds i c = true) : rcvs i (tgt i c) = true := by
  unfold rcvs; rw [src_tgt, h, Bool.and_true]; exact has_opp _ _ (has_of_snds i c h)

/-! ## Windows

Rows are counted in blocks of 1024, columns in the three groups 0:384, 384:768, 768:1024. -/

/-- A cell of the coarse grid over the result (32 row blocks) and over a device's block (16 row blocks). -/
abbrev Atom : Type := Fin 32 × Fin 3
abbrev XAtom : Type := Fin 16 × Fin 3

def win (r n : ℕ) (g : Fin 3) : Finset Atom := Finset.univ.filter fun a => a.2 = g ∧ r ≤ a.1.val ∧ a.1.val < r + n
def xwin (r n : ℕ) (g : Fin 3) : Finset XAtom := Finset.univ.filter fun a => a.2 = g ∧ r ≤ a.1.val ∧ a.1.val < r + n
def rows (r n : ℕ) : Finset Atom := Finset.univ.filter fun a => r ≤ a.1.val ∧ a.1.val < r + n
def xrows (r n : ℕ) : Finset XAtom := Finset.univ.filter fun a => r ≤ a.1.val ∧ a.1.val < r + n

/-- The block a device injects into column group `h`. -/
def idx (h : Fin 2) (c : Dev nD) : ℕ := if h = 0 then 4 * cy c + cz c else 4 * cz c + cy c

def nrow : Chan → ℕ | .inj _ => 1 | .h3 _ => 4 | .a _ _ _ => 1 | .b _ _ _ _ => 2
def grp : Chan → Fin 3
  | .inj h => ⟨h.val, by omega⟩ | .h3 _ => 2 | .a h _ _ => ⟨h.val, by omega⟩ | .b h _ _ _ => ⟨h.val, by omega⟩

/-- First row block of the window device `c` writes on its target. -/
def row0 : Chan → Dev nD → ℕ
  | .inj h, c => 16 * cx c + idx h c
  | .h3 j, c => 16 * cx c + 4 * j.val
  | .a h st t, c => 16 * (1 - cx c) + (4 * coord (h ≠ 0) c + org st t (coord (h = 0) c))
  | .b h st t sub, c => 16 * (1 - cx c) + (4 * org st t (coord (h = 1) c) + 2 * sub.val)

def swin (i : Chan) (c : Dev nD) : Finset Atom := win (row0 i c) (nrow i) (grp i)
/-- The window device `c` receives. -/
def rwin (i : Chan) (c : Dev nD) : Finset Atom := swin i (src i c)
theorem rwin_tgt (i : Chan) (c : Dev nD) : rwin i (tgt i c) = swin i c := by unfold rwin; rw [src_tgt]

/-- First row block of the source window of an injection or a column-tail copy, in the device's own block. -/
def xrow0 : Chan → Dev nD → ℕ
  | .inj h, c => idx h c
  | .h3 j, _ => 4 * j.val
  | _, _ => 0
def xswin (i : Chan) (c : Dev nD) : Finset XAtom := xwin (xrow0 i c) (nrow i) (grp i)

/-- Copies out of the device's own block (the others are out of the result). -/
def fromX : Chan → Bool | .inj _ => true | .h3 _ => true | _ => false

/-- Which of the four shares of the result a hop reads with. -/
inductive Sh | au | ad | bu | bd
deriving DecidableEq

def shOf : Chan → Sh
  | .a _ st _ => if st = 0 then .au else .ad
  | .b _ st _ _ => if st = 0 then .bu else .bd
  | _ => .au

/-- The result rows of the device's own chunk `k`. -/
def orow (k : Fin 8) (c : Dev nD) : ℕ := 16 * cx c + 2 * k.val
def owin (k : Fin 8) (c : Dev nD) : Finset Atom := rows (orow k c) 2

/-! ## Semaphores -/

def sN : Chan → ℕ
  | .inj h => 6 + h.val
  | .h3 j => 10 + j.val
  | .a h st t => 18 + ((h.val * 2 + st.val) * 3 + t.val)
  | .b h st t sub => 42 + (((h.val * 2 + st.val) * 3 + t.val) * 2 + sub.val)
def rN : Chan → ℕ
  | .inj h => 8 + h.val
  | .h3 j => 14 + j.val
  | .a h st t => 30 + ((h.val * 2 + st.val) * 3 + t.val)
  | .b h st t sub => 66 + (((h.val * 2 + st.val) * 3 + t.val) * 2 + sub.val)
theorem sN_lt : ∀ i, sN i < 90 := by decide +kernel
theorem rN_lt : ∀ i, rN i < 90 := by decide +kernel

/-- A DMA semaphore by its number. -/
def dq (n : Fin 90) : DmaSem sig := n
def sS (i : Chan) : DmaSem sig := dq ⟨sN i, sN_lt i⟩
def rS (i : Chan) : DmaSem sig := dq ⟨rN i, rN_lt i⟩

/-- The local copies: a chunk of the argument into a staging slot, an injected block into its slot, a converted chunk
    into the result. -/
inductive Job
  | f (k : Fin 8)
  | p (h : Fin 2)
  | o (k : Fin 8)
deriving DecidableEq

def jobs : List Job :=
  (List.finRange 8).map .f ++ (List.finRange 2).map .p ++ (List.finRange 8).map .o

instance : Fintype Job := ⟨⟨jobs, by decide +kernel⟩, by
  have h1 : ∀ k, Job.f k ∈ jobs := by decide +kernel
  have h2 : ∀ h, Job.p h ∈ jobs := by decide +kernel
  have h3 : ∀ k, Job.o k ∈ jobs := by decide +kernel
  intro j; cases j
  · exact h1 _
  · exact h2 _
  · exact h3 _⟩

def lN : Job → ℕ | .f k => k.val % 2 | .p h => 2 + h.val | .o k => 4 + k.val % 2
theorem lN_lt : ∀ j, lN j < 90 := by decide
def lS (j : Job) : DmaSem sig := dq ⟨lN j, lN_lt j⟩
/-- The round of its semaphore a local copy completes. -/
def lR : Job → ℕ | .f k => k.val / 2 | .p _ => 0 | .o k => k.val / 2

/-- What a semaphore is for. -/
inductive Use
  | loc (n : ℕ)
  | snd (i : Chan)
  | rcv (i : Chan)
deriving DecidableEq

def use (q : DmaSem sig) : Use :=
  match chans.find? (fun i => sS i = q) with
  | some i => .snd i
  | none => match chans.find? (fun i => rS i = q) with
    | some i => .rcv i
    | none => .loc q.val

theorem use_sS : ∀ i, use (sS i) = .snd i := by decide +kernel
theorem use_rS : ∀ i, use (rS i) = .rcv i := by decide +kernel
theorem use_lS : ∀ j, use (lS j) = .loc (lN j) := by decide +kernel

/-- Rounds of a local semaphore. -/
def lrounds (n : ℕ) : ℕ := if n = 2 ∨ n = 3 then 1 else 4
theorem lR_lt : ∀ j, lR j < lrounds (lN j) := by decide
/-- The local copy completing round `r` of local semaphore `n`. -/
def jobAt (n r : ℕ) : Job :=
  if n < 2 then .f ⟨(2 * r + n) % 8, Nat.mod_lt _ (by decide)⟩
  else if n < 4 then .p ⟨n % 2, Nat.mod_lt _ (by decide)⟩
  else .o ⟨(2 * r + n % 2) % 8, Nat.mod_lt _ (by decide)⟩
theorem jobAt_lN : ∀ j, jobAt (lN j) (lR j) = j := by decide

/-! ## The order of a device's operations -/

inductive Act
  | sig (d : Dir)
  | bar
  | lst (j : Job)
  | lwt (j : Job)
  | pcv (h : Fin 2)
  | cnv (k : Fin 8)
  | snd (i : Chan)
  | rcv (i : Chan)
  | wsd (i : Chan)
deriving DecidableEq

def cvt (k : Fin 8) : List Act :=
  [.lwt (.f k)] ++ (if h : k.val + 1 < 8 then [.lst (.f ⟨k.val + 1, h⟩)] else []) ++ [.cnv k]

def phA (t : Fin 3) (prev : Option (Fin 3)) : List Act :=
  ([0, 1] : List (Fin 2)).flatMap fun h =>
    (if t = 0 then [.rcv (.inj h)] else []) ++
    ([0, 1] : List (Fin 2)).flatMap fun st =>
      (match prev with | some p => [.rcv (.a h st p)] | none => []) ++ [.snd (.a h st t)]

def phB (t : Fin 3) (prev : Option (Fin 3)) : List Act :=
  ([0, 1] : List (Fin 2)).flatMap fun h =>
    ([0, 1] : List (Fin 2)).flatMap fun st =>
      ([0, 1] : List (Fin 2)).flatMap fun sub =>
        (match prev with | some p => [.rcv (.b h st p sub)] | none => []) ++ [.snd (.b h st t sub)]

def own (k : Fin 8) : List Act := [.lst (.o k), .lwt (.o k)]

def script : List Act :=
  [.sig .P, .sig .yd, .sig .yu, .sig .zd, .sig .zu, .lst (.p 0), .lst (.p 1), .lst (.f 0), .bar,
    .lwt (.p 0), .pcv 0, .lwt (.p 1), .pcv 1, .snd (.inj 0), .snd (.inj 1)]
  ++ phA 0 none ++ cvt 0 ++ cvt 1 ++ [.snd (.h3 0)]
  ++ phA 1 (some 0) ++ cvt 2 ++ cvt 3 ++ [.snd (.h3 1)]
  ++ phA 2 (some 1) ++ cvt 4 ++ cvt 5 ++ [.snd (.h3 2)]
  ++ [.rcv (.a 0 0 2), .rcv (.a 0 1 2), .rcv (.a 1 0 2), .rcv (.a 1 1 2)]
  ++ phB 0 none ++ cvt 6 ++ cvt 7 ++ [.snd (.h3 3)] ++ own 0 ++ own 1 ++ own 2 ++ own 3
  ++ phB 1 (some 0) ++ own 4 ++ own 5 ++ own 6 ++ own 7
  ++ phB 2 (some 1)
  ++ (([0, 1] : List (Fin 2)).flatMap fun h => ([0, 1] : List (Fin 2)).flatMap fun st =>
        ([0, 1] : List (Fin 2)).map fun sub => .rcv (.b h st 2 sub))
  ++ [.wsd (.inj 0), .wsd (.inj 1)]
  ++ (([0, 1, 2, 3] : List (Fin 4)).flatMap fun j => [.wsd (.h3 j), .rcv (.h3 j)])
  ++ (([0, 1, 2] : List (Fin 3)).flatMap fun t => ([0, 1] : List (Fin 2)).flatMap fun h =>
        ([0, 1] : List (Fin 2)).map fun st => .wsd (.a h st t))
  ++ (([0, 1, 2] : List (Fin 3)).flatMap fun t => ([0, 1] : List (Fin 2)).flatMap fun h =>
        ([0, 1] : List (Fin 2)).flatMap fun st => ([0, 1] : List (Fin 2)).map fun sub => .wsd (.b h st t sub))

/-- What a device must have received before it may send on a channel of the two phases. -/
def needs : Chan → List Chan
  | .inj _ => []
  | .h3 _ => []
  | .a h st t => if h0 : t.val = 0 then [.inj h] else [.a h st ⟨t.val - 1, by omega⟩]
  | .b h st t sub => if h0 : t.val = 0 then
        [.inj h] ++ ([0, 1] : List (Fin 2)).flatMap (fun st' => ([0, 1, 2] : List (Fin 3)).map fun t' => .a h st' t')
      else [.b h st ⟨t.val - 1, by omega⟩ sub]

/-- The level of a channel's receive semaphore; the local semaphores and the barrier are at 0. -/
def lvl : Chan → ℕ
  | .inj _ => 1
  | .h3 _ => 9
  | .a _ _ t => 2 + t.val
  | .b _ _ t _ => 5 + t.val

/-- A number for each operation, to compare them by. -/
def code : Act → ℕ
  | .sig .P => 0 | .sig .yd => 1 | .sig .yu => 2 | .sig .zd => 3 | .sig .zu => 4
  | .bar => 5
  | .lst (.f k) => 10 + k.val | .lst (.p h) => 20 + h.val | .lst (.o k) => 30 + k.val
  | .lwt (.f k) => 40 + k.val | .lwt (.p h) => 50 + h.val | .lwt (.o k) => 60 + k.val
  | .pcv h => 70 + h.val
  | .cnv k => 80 + k.val
  | .snd i => 100 + rN i
  | .rcv i => 200 + rN i
  | .wsd i => 300 + rN i

def codes : List ℕ := script.map code

/-- When an operation is issued. -/
def pos (a : Act) : ℕ := codes.idxOf (code a)

/-- The operation has been issued when the first `n` have. -/
abbrev done (n : ℕ) (a : Act) : Prop := pos a < n

theorem pos_script : ∀ n : Fin script.length, pos script[n] = n.val := by decide +kernel

theorem pos_of {n : ℕ} {a : Act} (h : script[n]? = some a) : pos a = n := by
  obtain ⟨hn, h⟩ := List.getElem?_eq_some_iff.1 h
  exact h ▸ pos_script ⟨n, hn⟩

theorem mem_script (a : Act) : a ∈ script := by
  have h1 : ∀ d, Act.sig d ∈ script := by decide +kernel
  have h2 : Act.bar ∈ script := by decide +kernel
  have h3 : ∀ j, Act.lst j ∈ script ∧ Act.lwt j ∈ script := by decide +kernel
  have h4 : ∀ h, Act.pcv h ∈ script := by decide +kernel
  have h5 : ∀ k, Act.cnv k ∈ script := by decide +kernel
  have h6 : ∀ i, Act.snd i ∈ script ∧ Act.rcv i ∈ script ∧ Act.wsd i ∈ script := by decide +kernel
  cases a
  · exact h1 _
  · exact h2
  · exact (h3 _).1
  · exact (h3 _).2
  · exact h4 _
  · exact h5 _
  · exact (h6 _).1
  · exact (h6 _).2.1
  · exact (h6 _).2.2

theorem pos_inj {a b : Act} (h : pos a = pos b) : a = b := by
  obtain ⟨n, hn, rfl⟩ := List.mem_iff_getElem.1 (mem_script a)
  obtain ⟨k, hk, rfl⟩ := List.mem_iff_getElem.1 (mem_script b)
  have e1 := pos_script ⟨n, hn⟩
  have e2 := pos_script ⟨k, hk⟩
  simp only [Fin.getElem_fin] at e1 e2
  rw [e1, e2] at h
  subst h; rfl

theorem pos_lt (a : Act) : pos a < script.length := by
  obtain ⟨n, hn, rfl⟩ := List.mem_iff_getElem.1 (mem_script a)
  have := pos_script ⟨n, hn⟩
  simp only [Fin.getElem_fin] at this
  omega

/-- One operation further, only that operation has changed. -/
theorem done_succ {n : ℕ} {a b : Act} (h : pos a = n) (hb : b ≠ a) : done (n + 1) b ↔ done n b := by
  have : pos b ≠ n := fun e => hb (pos_inj (e.trans h.symm))
  unfold done; omega
theorem done_self {n : ℕ} {a : Act} (h : pos a = n) : done (n + 1) a := by unfold done; omega
theorem not_done {n : ℕ} {a : Act} (h : pos a = n) : ¬ done n a := by unfold done; omega

/-! ### What comes before what -/

theorem ord_sig_bar : ∀ d, pos (.sig d) < pos .bar := by decide +kernel
theorem ord_bar_snd : ∀ i, pos .bar < pos (.snd i) := by decide +kernel
theorem ord_bar_rcv : ∀ i, pos .bar < pos (.rcv i) := by decide +kernel
theorem ord_snd_wsd : ∀ i, pos (.snd i) < pos (.wsd i) := by decide +kernel
theorem ord_all_wsd : ∀ i j, pos (.snd j) < pos (.wsd i) := by decide +kernel
theorem ord_lvl : ∀ i j, pos (.rcv i) < pos (.snd j) → lvl i < lvl j := by decide +kernel
theorem ord_needs : ∀ i, ∀ j ∈ needs i, pos (.rcv j) < pos (.snd i) := by decide +kernel
theorem ord_lst_lwt : ∀ j, pos (.lst j) < pos (.lwt j) := by decide +kernel
theorem ord_lR : ∀ j j', lN j = lN j' → lR j < lR j' → pos (.lwt j) < pos (.lst j') := by decide +kernel
theorem ord_sig_lwt : ∀ d j, pos (.sig d) < pos (.lwt j) := by decide +kernel
theorem ord_lwt_pcv : ∀ h, pos (.lwt (.p h)) < pos (.pcv h) := by decide +kernel
theorem ord_pcv_snd : ∀ h i, pos (.pcv h) < pos (.snd i) := by decide +kernel
theorem ord_lwt_cnv : ∀ k, pos (.lwt (.f k)) < pos (.cnv k) := by decide +kernel
theorem ord_cnv_lst : ∀ k k' : Fin 8, k'.val % 2 = k.val % 2 → k.val < k'.val → pos (.cnv k) < pos (.lst (.f k')) := by decide +kernel
theorem ord_cnv_own : ∀ k, pos (.cnv 7) < pos (.lst (.o k)) := by decide +kernel
theorem ord_cnv_cnv : ∀ k k' : Fin 8, k.val ≤ k'.val → pos (.cnv k) ≤ pos (.cnv k') := by decide +kernel
theorem ord_h3_cnv : ∀ (j : Fin 4) (k : Fin 8), pos (.snd (.h3 j)) < pos (.cnv k) ↔ 2 * j.val + 1 < k.val := by decide +kernel
theorem ord_inj_cnv : ∀ h k, pos (.snd (.inj h)) < pos (.cnv k) := by decide +kernel
theorem ord_own_own : ∀ k k', pos (.lst (.o k)) < pos (.lst (.o k')) → pos (.lwt (.o k)) < pos (.lst (.o k')) := by decide +kernel

theorem ord_cnv_h3 : ∀ (j : Fin 4) (k : Fin 8), k.val / 2 = j.val → pos (.cnv k) < pos (.snd (.h3 j)) := by decide +kernel
theorem ord_cnv_own' : ∀ k k' : Fin 8, pos (.cnv k) < pos (.lst (.o k')) := by decide +kernel

end Cert.Ag
-- ==== Proof.Geo.lean ====
/-
  What the buffers are to hold, and the sets of elements the copies move: the result is seen as a grid of 32 row blocks by three
  column groups, a device's own block as 16 by three.
-/
module

public import proofs.«01_k».proof.Proof.Names
public import Idealize.ShloMosaic.Lib.ValueLayout

@[expose] public section

namespace Cert.Ag

open Cert.KernelIdeal Cert.KernelIdeal.Gen
open Idealize.ShloMosaic
open Idealize.ShloMosaic.ValueIdx (ix2 ix3)

/-! ## Sets given by a map to a small type -/

def pre {ι α : Type} [Fintype ι] [DecidableEq α] (f : ι → α) (A : Finset α) : Finset ι := Finset.univ.filter fun i => f i ∈ A

section pre
variable {ι α : Type} [Fintype ι] [DecidableEq ι] [DecidableEq α] {f : ι → α}
theorem mem_pre {A : Finset α} {i : ι} : i ∈ pre f A ↔ f i ∈ A := by simp [pre]
theorem pre_mono {A B : Finset α} (h : A ⊆ B) : pre f A ⊆ pre f B := fun _ hi => mem_pre.2 (h (mem_pre.1 hi))
theorem pre_sdiff {A B : Finset α} : pre f (A \ B) = pre f A \ pre f B := by ext; simp [mem_pre]
theorem pre_union {A B : Finset α} : pre f (A ∪ B) = pre f A ∪ pre f B := by ext; simp [mem_pre]
theorem pre_disjoint {A B : Finset α} (h : Disjoint A B) : Disjoint (pre f A) (pre f B) :=
  Finset.disjoint_left.2 fun _ ha hb => Finset.disjoint_left.1 h (mem_pre.1 ha) (mem_pre.1 hb)
theorem pre_univ [Fintype α] : pre f Finset.univ = Finset.univ := by ext; simp [mem_pre]
theorem pre_empty : pre f ∅ = ∅ := by ext; simp [mem_pre]
end pre

/-! ## Atoms -/

def colg (c : ℕ) : Fin 3 := if c < 384 then 0 else if c < 768 then 1 else 2
def col0 (g : Fin 3) : ℕ := 384 * g.val
def wid (g : Fin 3) : ℕ := if g = 2 then 256 else 384

def atom (i : S32768x1024.Idx) : Atom := (⟨(i 0).val / 1024, by have : (i 0).val < 32768 := (i 0).isLt; omega⟩, colg (i 1).val)
def xatom (i : S16384x1024.Idx) : XAtom := (⟨(i 0).val / 1024, by have : (i 0).val < 16384 := (i 0).isLt; omega⟩, colg (i 1).val)
def fslot (i : S2x2048x1024.Idx) : Fin 2 := ⟨(i 0).val, (i 0).isLt⟩
def pslot (i : S2x1024x1024.Idx) : Fin 2 := ⟨(i 0).val, (i 0).isLt⟩

theorem colg_iff (c : ℕ) (hc : c < 1024) : ∀ g : Fin 3, colg c = g ↔ col0 g ≤ c ∧ c < col0 g + wid g := by
  intro g; unfold colg col0 wid
  match g with
  | 0 => by_cases h : c < 384 <;> by_cases h' : c < 768 <;> simp [h, h'] <;> omega
  | 1 => by_cases h : c < 384 <;> by_cases h' : c < 768 <;> simp [h, h'] <;> omega
  | 2 => by_cases h : c < 384 <;> by_cases h' : c < 768 <;> simp [h, h'] <;> omega

theorem mem_win {r n : ℕ} {g : Fin 3} {a : Atom} : a ∈ win r n g ↔ a.2 = g ∧ r ≤ a.1.val ∧ a.1.val < r + n := by simp [win]
theorem mem_xwin {r n : ℕ} {g : Fin 3} {a : XAtom} : a ∈ xwin r n g ↔ a.2 = g ∧ r ≤ a.1.val ∧ a.1.val < r + n := by simp [xwin]
theorem mem_rows {r n : ℕ} {a : Atom} : a ∈ rows r n ↔ r ≤ a.1.val ∧ a.1.val < r + n := by simp [rows]
theorem mem_xrows {r n : ℕ} {a : XAtom} : a ∈ xrows r n ↔ r ≤ a.1.val ∧ a.1.val < r + n := by simp [xrows]

theorem mem_atom_win {r n : ℕ} {g : Fin 3} {i : S32768x1024.Idx} :
    i ∈ pre atom (win r n g) ↔
      (1024 * r ≤ (i 0).val ∧ (i 0).val < 1024 * r + 1024 * n) ∧ col0 g ≤ (i 1).val ∧ (i 1).val < col0 g + wid g := by
  have h1 : (i 1).val < 1024 := (i 1).isLt
  rw [mem_pre, mem_win, ← colg_iff _ h1 g]
  simp only [atom]
  constructor
  · rintro ⟨h, h'⟩; exact ⟨by omega, h⟩
  · rintro ⟨h, h'⟩; exact ⟨h', by omega⟩
theorem mem_xatom_win {r n : ℕ} {g : Fin 3} {i : S16384x1024.Idx} :
    i ∈ pre xatom (xwin r n g) ↔
      (1024 * r ≤ (i 0).val ∧ (i 0).val < 1024 * r + 1024 * n) ∧ col0 g ≤ (i 1).val ∧ (i 1).val < col0 g + wid g := by
  have h1 : (i 1).val < 1024 := (i 1).isLt
  rw [mem_pre, mem_xwin, ← colg_iff _ h1 g]
  simp only [xatom]
  constructor
  · rintro ⟨h, h'⟩; exact ⟨by omega, h⟩
  · rintro ⟨h, h'⟩; exact ⟨h', by omega⟩
theorem mem_atom_rows {r n : ℕ} {i : S32768x1024.Idx} :
    i ∈ pre atom (rows r n) ↔ 1024 * r ≤ (i 0).val ∧ (i 0).val < 1024 * r + 1024 * n := by
  rw [mem_pre, mem_rows]; simp only [atom]; omega
theorem mem_xatom_rows {r n : ℕ} {i : S16384x1024.Idx} :
    i ∈ pre xatom (xrows r n) ↔ 1024 * r ≤ (i 0).val ∧ (i 0).val < 1024 * r + 1024 * n := by
  rw [mem_pre, mem_xrows]; simp only [xatom]; omega

/-! ## Rectangles as sets of atoms -/

theorem unit_win {off sz : Fin 2 → ℕ} (inb) {r n : ℕ} {g : Fin 3} (ho : off = ![1024 * r, col0 g]) (hs : sz = ![1024 * n, wid g]) :
    (Rect.unit (s := S32768x1024) off sz inb).set = pre atom (win r n g) := by
  subst ho hs; ext i
  rw [Rect.mem_set_unit, mem_atom_win]
  exact Fin.forall_fin_two
theorem unit_xwin {off sz : Fin 2 → ℕ} (inb) {r n : ℕ} {g : Fin 3} (ho : off = ![1024 * r, col0 g]) (hs : sz = ![1024 * n, wid g]) :
    (Rect.unit (s := S16384x1024) off sz inb).set = pre xatom (xwin r n g) := by
  subst ho hs; ext i
  rw [Rect.mem_set_unit, mem_xatom_win]
  exact Fin.forall_fin_two
theorem unit_rows {off sz : Fin 2 → ℕ} (inb) {r n : ℕ} (ho : off = ![1024 * r, 0]) (hs : sz = ![1024 * n, 1024]) :
    (Rect.unit (s := S32768x1024) off sz inb).set = pre atom (rows r n) := by
  subst ho hs; ext i
  rw [Rect.mem_set_unit, mem_atom_rows]
  refine Fin.forall_fin_two.trans ⟨fun h => h.1, fun h => ⟨h, Nat.zero_le _, ?_⟩⟩
  have h1 : (i 1).val < 1024 := (i 1).isLt
  exact h1.trans_le (by simp)
theorem unit_xrows {off sz : Fin 2 → ℕ} (inb) {r n : ℕ} (ho : off = ![1024 * r, 0]) (hs : sz = ![1024 * n, 1024]) :
    (Rect.unit (s := S16384x1024) off sz inb).set = pre xatom (xrows r n) := by
  subst ho hs; ext i
  rw [Rect.mem_set_unit, mem_xatom_rows]
  refine Fin.forall_fin_two.trans ⟨fun h => h.1, fun h => ⟨h, Nat.zero_le _, ?_⟩⟩
  have h1 : (i 1).val < 1024 := (i 1).isLt
  exact h1.trans_le (by simp)
theorem unit_fslot {off sz : Fin 3 → ℕ} (inb) {s : Fin 2} (ho : off = ![s.val, 0, 0]) (hs : sz = ![1, 2048, 1024]) :
    (Rect.unit (s := S2x2048x1024) off sz inb).set = pre fslot {s} := by
  subst ho hs; ext i
  rw [Rect.mem_set_unit, mem_pre, Finset.mem_singleton, fslot, Fin.ext_iff, Fin.forall_fin_succ, Fin.forall_fin_two]
  have h1 : (i 1).val < 2048 := (i 1).isLt
  have h2 : (i 2).val < 1024 := (i 2).isLt
  show ((s.val ≤ (i 0).val ∧ (i 0).val < s.val + 1) ∧ (0 ≤ (i 1).val ∧ (i 1).val < 0 + 2048) ∧ (0 ≤ (i 2).val ∧ (i 2).val < 0 + 1024)) ↔ (i 0).val = s.val
  omega
theorem unit_pslot {off sz : Fin 3 → ℕ} (inb) {s : Fin 2} (ho : off = ![s.val, 0, 0]) (hs : sz = ![1, 1024, 1024]) :
    (Rect.unit (s := S2x1024x1024) off sz inb).set = pre pslot {s} := by
  subst ho hs; ext i
  rw [Rect.mem_set_unit, mem_pre, Finset.mem_singleton, pslot, Fin.ext_iff, Fin.forall_fin_succ, Fin.forall_fin_two]
  have h1 : (i 1).val < 1024 := (i 1).isLt
  have h2 : (i 2).val < 1024 := (i 2).isLt
  show ((s.val ≤ (i 0).val ∧ (i 0).val < s.val + 1) ∧ (0 ≤ (i 1).val ∧ (i 1).val < 0 + 1024) ∧ (0 ≤ (i 2).val ∧ (i 2).val < 0 + 1024)) ↔ (i 0).val = s.val
  omega

/-! ## Contents -/

def xi (r c : ℕ) : S16384x1024.Idx := ix2 ⟨r % 16384, Nat.mod_lt _ (by decide)⟩ ⟨c % 1024, Nat.mod_lt _ (by decide)⟩

theorem xi_self (i : S16384x1024.Idx) : xi (i 0).val (i 1).val = i := by
  have h0 : (i 0).val < 16384 := (i 0).isLt
  have h1 : (i 1).val < 1024 := (i 1).isLt
  refine funext (Fin.forall_fin_two.2 ⟨?_, ?_⟩)
  · exact Fin.ext (Nat.mod_eq_of_lt h0)
  · exact Fin.ext (Nat.mod_eq_of_lt h1)

/-- Whose value the result holds on an atom. -/
def own' (c : Dev nD) (a : Atom) : Dev nD :=
  if a.1.val / 16 = cx c then c
  else if a.2 = 0 then mk (1 - cx c) (a.1.val % 16 / 4) (a.1.val % 4)
  else if a.2 = 1 then mk (1 - cx c) (a.1.val % 4) (a.1.val % 16 / 4)
  else nb .P c

variable {F : FTy → Type} [FloatOps F]

/-- A device's block in the narrow type. -/
def XB (A : Dev nD → S16384x1024.Idx → Elt F .f32) (c : Dev nD) (i : S16384x1024.Idx) : Elt F .bf16 :=
  FloatOps.truncf (F := F) (φ := .f32) .bf16 bitsLt_bf16_f32 (A c i)
/-- A staging slot holding chunk `k`, an injection slot holding block `idx h`. -/
def FB (A : Dev nD → S16384x1024.Idx → Elt F .f32) (c : Dev nD) (k : Fin 8) (i : S2x2048x1024.Idx) : Elt F .f32 :=
  A c (xi (2048 * k.val + (i 1).val) (i 2).val)
def PB (A : Dev nD → S16384x1024.Idx → Elt F .f32) (c : Dev nD) (h : Fin 2) (i : S2x1024x1024.Idx) : Elt F .f32 :=
  A c (xi (1024 * idx h c + (i 1).val) (i 2).val)
/-- What the result is to hold. -/
def fin (A : Dev nD → S16384x1024.Idx → Elt F .f32) (c : Dev nD) (i : S32768x1024.Idx) : Elt F .bf16 :=
  XB A (own' c (atom i)) (xi (i 0).val (i 1).val)

end Cert.Ag
-- ==== Proof.Sched.lean ====
/-
  The protocol of the kernel: per semaphore the rounds, what each round's units pay, and the levels that order the waits.
-/
module

public import proofs.«01_k».proof.Proof.Geo
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

/-- The resource algebra beside the machine's: the pipeline library's rounds and the protocol's. -/
abbrev UU : Type := UR sig nD τ × Rounds.URounds (GSem nD τ sig) Dir

local notation "𝕄" => MT nD τ sig Unit (Elt F) ℕ UU ℕ

abbrev EP : Emb (UR sig nD τ) (MT nD τ sig Unit (Elt F) ℕ UU ℕ) := embL
abbrev ER : Emb (Rounds.URounds (GSem nD τ sig) Dir) (MT nD τ sig Unit (Elt F) ℕ UU ℕ) := embR

/-! ## Cells and what is held of the buffers -/

abbrev barC (c : Dev nD) : GSem nD τ sig := ((c : Thread nD τ), .reg barrier0)
abbrev dC (c : Dev nD) (q : DmaSem sig) : GSem nD τ sig := ((c : Thread nD τ), .dma q)

abbrev argP (c : Dev nD) (S : Finset S16384x1024.Idx) (q : PosShare TreeShare) (f : S16384x1024.Idx → Elt F .f32) : sProp 𝕄 :=
  (c : Thread nD τ).loc main_arg0 ↦[S]{q} f
abbrev outP (c : Dev nD) (S : Finset S32768x1024.Idx) (q : PosShare TreeShare) (f : S32768x1024.Idx → Elt F .bf16) : sProp 𝕄 :=
  (c : Thread nD τ).loc main_v2 ↦[S]{q} f
abbrev xbP (c : Dev nD) (S : Finset S16384x1024.Idx) (q : PosShare TreeShare) (f : S16384x1024.Idx → Elt F .bf16) : sProp 𝕄 :=
  (c : Thread nD τ).loc cc0_scratch0 ↦[S]{q} f
abbrev fbP (c : Dev nD) (S : Finset S2x2048x1024.Idx) (q : PosShare TreeShare) (f : S2x2048x1024.Idx → Elt F .f32) : sProp 𝕄 :=
  (c : Thread nD τ).loc cc0_scratch1 ↦[S]{q} f
abbrev pbP (c : Dev nD) (S : Finset S2x1024x1024.Idx) (q : PosShare TreeShare) (f : S2x1024x1024.Idx → Elt F .f32) : sProp 𝕄 :=
  (c : Thread nD τ).loc cc0_scratch2 ↦[S]{q} f

/-- The share of the result each of the four lanes reads with. -/
def shq : Sh → PosShare TreeShare
  | .au => fullShare.left.left | .ad => fullShare.left.right | .bu => fullShare.right.left | .bd => fullShare.right.right

/-! ## Amounts and payloads -/

def amt : Chan → ℕ | .inj _ => 24576 | .h3 _ => 65536 | .a _ _ _ => 24576 | .b _ _ _ _ => 49152
def lamt (n : ℕ) : ℕ := if n < 2 then 262144 else 131072
theorem amt_pos (i : Chan) : 0 < amt i := by cases i <;> simp [amt]
theorem lamt_pos (n : ℕ) : 0 < lamt n := by unfold lamt; split <;> decide

variable (A : Dev nD → S16384x1024.Idx → Elt F .f32)

/-- What neighbour `d` pays device `c`'s barrier: the windows of its result `c` is going to write, and that the cells telling
    of the writes are at their first round. -/
def barPay (c : Dev nD) (d : Dir) : sProp 𝕄 :=
  bigSep Finset.univ fun i : Chan => if dirOf i = d ∧ snds i c = true then
    iprop((∃ f, outP (nb d c) (pre atom (swin i c)) fullShare f) ∗ reached ER (dC (nb d c) (rS i)) 0) else iprop(emp)
/-- The source of a remote copy, given back. -/
def sndPay (c : Dev nD) (i : Chan) : sProp 𝕄 :=
  if fromX i = true then xbP c (pre xatom (xswin i c)) fullShare.right (XB A c) else outP c (pre atom (swin i c)) (shq (shOf i)) (fin A c)
/-- The window a remote copy wrote, at its contents. -/
def rcvPay (c : Dev nD) (i : Chan) : sProp 𝕄 := outP c (pre atom (rwin i c)) fullShare (fin A c)
/-- The source of a local copy. -/
def jsrc (c : Dev nD) : Job → sProp 𝕄
  | .f k => argP c (pre xatom (xrows (2 * k.val) 2)) fullShare.left (A c)
  | .p h => argP c (pre xatom (xrows (idx h c) 1)) (if h = 0 then fullShare.right.left else fullShare.right.right) (A c)
  | .o k => xbP c (pre xatom (xrows (2 * k.val) 2)) fullShare.left (XB A c)
/-- What a local copy wrote. -/
def jdst (c : Dev nD) : Job → sProp 𝕄
  | .f k => fbP c (pre fslot {⟨k.val % 2, Nat.mod_lt _ (by decide)⟩}) fullShare (FB A c k)
  | .p h => pbP c (pre pslot {h}) fullShare (PB A c h)
  | .o k => outP c (pre atom (owin k c)) fullShare (fin A c)
def jobPay (c : Dev nD) (j : Job) : sProp 𝕄 := iprop(jdst A c j ∗ jsrc A c j)

def dutiesAt (c : Dev nD) (s : SemLoc sig) (r : ℕ) : Finset Dir :=
  match s with
  | .reg _ => if r = 0 then Finset.univ.filter (fun d => has d c = true) else ∅
  | .dma q => match use q with
    | .snd i => if r = 0 ∧ snds i c = true then {.P} else ∅
    | .rcv i => if r = 0 ∧ rcvs i c = true then {.P} else ∅
    | .loc n => if n < 6 ∧ r < lrounds n then {.P} else ∅

def amountAt (s : SemLoc sig) : ℕ :=
  match s with
  | .reg _ => 1
  | .dma q => match use q with
    | .snd i => amt i
    | .rcv i => amt i
    | .loc n => lamt n

def payAt (c : Dev nD) (s : SemLoc sig) (r : ℕ) (d : Dir) : sProp 𝕄 :=
  match s with
  | .reg _ => barPay c d
  | .dma q => match use q with
    | .snd i => sndPay A c i
    | .rcv i => rcvPay A c i
    | .loc n => jobPay A c (jobAt n r)

def Rd : Rounds.Schedule (GSem nD τ sig) Dir 𝕄 where
  duties g r := if g.1.2 = .tc then dutiesAt g.1.1 g.2 r else ∅
  amount g _ _ := amountAt g.2
  payload g r d := payAt A g.1.1 g.2 r d
  amount_pos g _ _ _ := by
    unfold amountAt
    split
    · exact Nat.one_pos
    · split
      · exact amt_pos _
      · exact amt_pos _
      · exact lamt_pos _

instance barPay_storable (c : Dev nD) (d : Dir) : BI.Storable (upEmb : UEmb _ 𝕄) (barPay (F := F) c d) := by
  unfold barPay
  have : ∀ i : Chan, BI.Storable (upEmb : UEmb _ 𝕄) (if dirOf i = d ∧ snds i c = true then
    iprop((∃ f, outP (F := F) (nb d c) (pre atom (swin i c)) fullShare f) ∗ reached ER (dC (nb d c) (rS i)) 0) else iprop(emp)) := by
    intro i; split <;> infer_instance
  infer_instance
instance sndPay_storable (c : Dev nD) (i : Chan) : BI.Storable (upEmb : UEmb _ 𝕄) (sndPay A c i) := by
  unfold sndPay; split <;> infer_instance
instance rcvPay_storable (c : Dev nD) (i : Chan) : BI.Storable (upEmb : UEmb _ 𝕄) (rcvPay A c i) := by
  unfold rcvPay; infer_instance
instance jobPay_storable (c : Dev nD) (j : Job) : BI.Storable (upEmb : UEmb _ 𝕄) (jobPay A c j) := by
  unfold jobPay; cases j <;> unfold jdst jsrc <;> infer_instance
instance payAt_storable (c : Dev nD) (s : SemLoc sig) (r : ℕ) (d : Dir) : BI.Storable (upEmb : UEmb _ 𝕄) (payAt A c s r d) := by
  unfold payAt
  split
  · infer_instance
  · split <;> infer_instance
instance Rd_storable (g : GSem nD τ sig) (r : ℕ) (d : Dir) : BI.Storable (upEmb : UEmb _ 𝕄) ((Rd A).payload g r d) := by
  unfold Rd; infer_instance

/-! ## The schedule at the cells -/

theorem duties_bar (c : Dev nD) : (Rd A).duties (barC c) 0 = Finset.univ.filter (fun d => has d c = true) := rfl
theorem duties_dma (c : Dev nD) (q : DmaSem sig) (r : ℕ) : (Rd A).duties (dC c q) r = dutiesAt c (.dma q) r := by
  dsimp only [Rd]; exact if_pos rfl
theorem duties_snd (c : Dev nD) (i : Chan) (h : snds i c = true) : (Rd A).duties (dC c (sS i)) 0 = {.P} := by
  rw [duties_dma]; simp [dutiesAt, use_sS, h]
theorem duties_rcv (c : Dev nD) (i : Chan) (h : rcvs i c = true) : (Rd A).duties (dC c (rS i)) 0 = {.P} := by
  rw [duties_dma]; simp [dutiesAt, use_rS, h]
theorem lN_lt6 : ∀ j, lN j < 6 := by decide
theorem duties_loc (c : Dev nD) (j : Job) : (Rd A).duties (dC c (lS j)) (lR j) = {.P} := by
  rw [duties_dma]; simp only [dutiesAt, use_lS]; exact if_pos ⟨lN_lt6 j, lR_lt j⟩

theorem amount_snd (c : Dev nD) (i : Chan) (r : ℕ) (d : Dir) : (Rd A).amount (dC c (sS i)) r d = amt i := by
  dsimp only [Rd]; simp only [amountAt, use_sS]
theorem amount_rcv (c : Dev nD) (i : Chan) (r : ℕ) (d : Dir) : (Rd A).amount (dC c (rS i)) r d = amt i := by
  dsimp only [Rd]; simp only [amountAt, use_rS]
theorem amount_loc (c : Dev nD) (j : Job) (r : ℕ) (d : Dir) : (Rd A).amount (dC c (lS j)) r d = lamt (lN j) := by
  dsimp only [Rd]; simp only [amountAt, use_lS]

theorem payload_snd (c : Dev nD) (i : Chan) (r : ℕ) (d : Dir) : (Rd A).payload (dC c (sS i)) r d = sndPay A c i := by
  dsimp only [Rd]; simp only [payAt, use_sS]
theorem payload_rcv (c : Dev nD) (i : Chan) (r : ℕ) (d : Dir) : (Rd A).payload (dC c (rS i)) r d = rcvPay A c i := by
  dsimp only [Rd]; simp only [payAt, use_rS]
theorem payload_loc (c : Dev nD) (j : Job) (d : Dir) : (Rd A).payload (dC c (lS j)) (lR j) d = jobPay A c j := by
  dsimp only [Rd]; simp only [payAt, use_lS, jobAt_lN]
theorem payload_bar (c : Dev nD) (r : ℕ) (d : Dir) : (Rd A).payload (barC c) r d = barPay c d := rfl

theorem expect_snd (c : Dev nD) (i : Chan) (h : snds i c = true) : (Rd A).expect (dC c (sS i)) 0 = amt i := by
  unfold Schedule.expect Schedule.amountOf; rw [duties_snd A c i h, Finset.sum_singleton, amount_snd]
theorem expect_rcv (c : Dev nD) (i : Chan) (h : rcvs i c = true) : (Rd A).expect (dC c (rS i)) 0 = amt i := by
  unfold Schedule.expect Schedule.amountOf; rw [duties_rcv A c i h, Finset.sum_singleton, amount_rcv]
theorem expect_loc (c : Dev nD) (j : Job) : (Rd A).expect (dC c (lS j)) (lR j) = lamt (lN j) := by
  unfold Schedule.expect Schedule.amountOf; rw [duties_loc A c j, Finset.sum_singleton, amount_loc]
/-- How many neighbours a device has. -/
def nbs (c : Dev nD) : ℕ := (Finset.univ.filter (fun d => has d c = true)).card
theorem expect_bar (c : Dev nD) : (Rd A).expect (barC c) 0 = nbs c := by
  unfold Schedule.expect Schedule.amountOf; rw [duties_bar]; exact Finset.sum_const_nat (m := 1) (fun _ _ => rfl) |>.trans (Nat.mul_one _)

theorem rest_snd (c : Dev nD) (i : Chan) (h : snds i c = true) :
    bigSep ((Rd A).duties (dC c (sS i)) 0 \ ∅) (fun d => (Rd A).payload (dC c (sS i)) 0 d) = sndPay A c i := by
  rw [Finset.sdiff_empty, duties_snd A c i h, bigSep_singleton, payload_snd]
theorem rest_rcv (c : Dev nD) (i : Chan) (h : rcvs i c = true) :
    bigSep ((Rd A).duties (dC c (rS i)) 0 \ ∅) (fun d => (Rd A).payload (dC c (rS i)) 0 d) = rcvPay A c i := by
  rw [Finset.sdiff_empty, duties_rcv A c i h, bigSep_singleton, payload_rcv]
theorem rest_loc (c : Dev nD) (j : Job) :
    bigSep ((Rd A).duties (dC c (lS j)) (lR j) \ ∅) (fun d => (Rd A).payload (dC c (lS j)) (lR j) d) = jobPay A c j := by
  rw [Finset.sdiff_empty, duties_loc A c j, bigSep_singleton, payload_loc]

/-- No duty at or past this round. -/
def roundsOf (c : Dev nD) (q : DmaSem sig) : ℕ :=
  match use q with
  | .snd i => if snds i c = true then 1 else 0
  | .rcv i => if rcvs i c = true then 1 else 0
  | .loc n => if n < 6 then lrounds n else 0
theorem duties_none (c : Dev nD) (q : DmaSem sig) : ∀ r, roundsOf c q ≤ r → (Rd A).duties (dC c q) r = ∅ := by
  intro r hr
  rw [duties_dma]
  unfold roundsOf at hr; unfold dutiesAt
  dsimp only
  split <;> rename_i h <;> rw [h] at hr <;> dsimp only at hr <;> refine if_neg fun e => ?_
  · rw [if_pos e.2] at hr; omega
  · rw [if_pos e.2] at hr; omega
  · rw [if_pos e.1] at hr; omega

/-! ## Levels and what a device owes -/

def L (g : GSem nD τ sig) : Finset Unit := if g.1.2 = .tc then {()} else ∅
def lvAt (s : SemLoc sig) : ℕ :=
  match s with
  | .reg _ => 0
  | .dma q => match use q with
    | .snd _ => 0
    | .rcv i => lvl i
    | .loc _ => 0
def lv (g : GSem nD τ sig) (_ : Unit) : ℕ := lvAt g.2
theorem lv_rcv (c : Dev nD) (i : Chan) (u : Unit) : lv (dC c (rS i)) u = lvl i := by simp only [lv, lvAt, use_rS]
theorem lv_snd (c : Dev nD) (i : Chan) (u : Unit) : lv (dC c (sS i)) u = 0 := by simp only [lv, lvAt, use_sS]
theorem lv_loc (c : Dev nD) (j : Job) (u : Unit) : lv (dC c (lS j)) u = 0 := by simp only [lv, lvAt, use_lS]
theorem lvl_pos (i : Chan) : 0 < lvl i := by cases i <;> simp [lvl]
theorem L_tc (c : Dev nD) (s : SemLoc sig) : L ((c : Thread nD τ), s) = {()} := if_pos rfl

/-- The signals and the remote copies a device still has to make. -/
def owedSig (c : Dev nD) (n : ℕ) (d : Dir) : CellTallies nD τ sig Unit :=
  if has d c = true ∧ ¬ done n (.sig d) then tallyAt (barC (nb d c)) () 1 else 0
def owedSnd (c : Dev nD) (n : ℕ) (i : Chan) : CellTallies nD τ sig Unit :=
  if snds i c = true ∧ ¬ done n (.snd i) then tallyAt (dC (tgt i c) (rS i)) () (amt i) else 0
def owed (c : Dev nD) (n : ℕ) : CellTallies nD τ sig Unit := (∑ d, owedSig c n d) + ∑ i, owedSnd c n i

theorem sum_drop {ι : Type} [Fintype ι] [DecidableEq ι] {M : Type} [AddCommMonoid M] (f g : ι → M) (i : ι) (hg : g i = 0)
    (h : ∀ j, j ≠ i → f j = g j) : ∑ j, f j = ∑ j, g j + f i := by
  rw [← Finset.add_sum_erase _ f (Finset.mem_univ i), ← Finset.add_sum_erase _ g (Finset.mem_univ i), hg, zero_add, add_comm]
  congr 1
  exact Finset.sum_congr rfl fun j hj => h j (Finset.ne_of_mem_erase hj)

theorem owed_same (c : Dev nD) {n : ℕ} {a : Act} (h : pos a = n) (h1 : ∀ d, a ≠ .sig d) (h2 : ∀ i, a ≠ .snd i) :
    owed c (n + 1) = owed c n := by
  unfold owed owedSig owedSnd
  simp only [done_succ h (Ne.symm (h1 _)), done_succ h (Ne.symm (h2 _))]
theorem owed_sig (c : Dev nD) {n : ℕ} {d : Dir} (h : pos (.sig d) = n) (hd : has d c = true) :
    owed c n = owed c (n + 1) + tallyAt (barC (nb d c)) () 1 := by
  have e1 : ∑ i, owedSnd c n i = ∑ i, owedSnd c (n + 1) i := Finset.sum_congr rfl fun i _ => by
    unfold owedSnd; simp only [done_succ h (show Act.snd i ≠ _ by simp)]
  have e2 := sum_drop (owedSig c n) (owedSig c (n + 1)) d (if_neg fun e => e.2 (done_self h))
    (fun j hj => by unfold owedSig; simp only [done_succ h (show Act.sig j ≠ _ by simpa using hj)])
  have e3 : owedSig c n d = tallyAt (barC (nb d c)) () 1 := if_pos ⟨hd, not_done h⟩
  unfold owed; rw [e1, e2, e3, add_right_comm]
theorem owed_snd (c : Dev nD) {n : ℕ} {i : Chan} (h : pos (.snd i) = n) (hs : snds i c = true) :
    owed c n = owed c (n + 1) + tallyAt (dC (tgt i c) (rS i)) () (amt i) := by
  have e1 : ∑ d, owedSig c n d = ∑ d, owedSig c (n + 1) d := Finset.sum_congr rfl fun i _ => by
    unfold owedSig; simp only [done_succ h (show Act.sig i ≠ _ by simp)]
  have e2 := sum_drop (owedSnd c n) (owedSnd c (n + 1)) i (if_neg fun e => e.2 (done_self h))
    (fun j hj => by unfold owedSnd; simp only [done_succ h (show Act.snd j ≠ _ by simpa using hj)])
  have e3 : owedSnd c n i = tallyAt (dC (tgt i c) (rS i)) () (amt i) := if_pos ⟨hs, not_done h⟩
  unfold owed; rw [e1, e2, e3, add_assoc]
theorem owed_skip (c : Dev nD) {n : ℕ} {a : Act} (h : pos a = n) (h1 : ∀ d, a = .sig d → has d c = false)
    (h2 : ∀ i, a = .snd i → snds i c = false) : owed c (n + 1) = owed c n := by
  have e1 : ∑ d, owedSig c (n + 1) d = ∑ d, owedSig c n d := Finset.sum_congr rfl fun d _ => by
    unfold owedSig
    by_cases hd : Act.sig d = a
    · simp [h1 d hd.symm]
    · simp only [done_succ h hd]
  have e2 : ∑ i, owedSnd c (n + 1) i = ∑ i, owedSnd c n i := Finset.sum_congr rfl fun i _ => by
    unfold owedSnd
    by_cases hd : Act.snd i = a
    · simp [h2 i hd.symm]
    · simp only [done_succ h hd]
  unfold owed; rw [e1, e2]

/-- What is owed after the signals is owed to receive cells of copies not yet sent. -/
theorem owed_mem (c : Dev nD) {n : ℕ} (hs : ∀ d, done n (.sig d)) {g : GSem nD τ sig} {u : Unit} (h : 0 < owed c n g u) :
    ∃ i, snds i c = true ∧ ¬ done n (.snd i) ∧ g = dC (tgt i c) (rS i) := by
  have e1 : ∑ d, owedSig c n d = 0 := Finset.sum_eq_zero fun d _ => if_neg fun e => e.2 (hs d)
  unfold owed at h
  rw [e1, zero_add] at h
  have e : (∑ i, owedSnd c n i) g u = ∑ i, owedSnd c n i g u := by simp [Finset.sum_apply]
  rw [e] at h
  obtain ⟨i, -, hi⟩ := Finset.exists_ne_zero_of_sum_ne_zero (Nat.pos_iff_ne_zero.1 h)
  unfold owedSnd at hi
  by_cases hc : snds i c = true ∧ ¬ done n (.snd i)
  · rw [if_pos hc, tallyAt_apply] at hi
    by_cases hg : g = dC (tgt i c) (rS i) ∧ u = ()
    · exact ⟨i, hc.1, hc.2, hg.1⟩
    · rw [if_neg hg] at hi; exact absurd rfl hi
  · rw [if_neg hc] at hi; exact absurd rfl hi

theorem mayWait (c : Dev nD) {n : ℕ} (hs : ∀ d, done n (.sig d)) (s : SemLoc sig)
    (hl : ∀ i, ¬ done n (.snd i) → lvAt s < lvl i) : (levAts L lv : sProp 𝕄) ⊢ MayWait (c : Thread nD τ) s () (owed c n) :=
  MayOwe.of_cut (L := L) (lev := lv) (lvAt s) (fun p hp => by rw [Finset.mem_singleton.mp hp, L_tc]; exact Finset.mem_singleton_self _)
    (fun g u hg => by obtain ⟨i, -, -, rfl⟩ := owed_mem c hs hg; rw [L_tc]; exact Finset.mem_singleton_self _)
    (fun p hp => by rw [Finset.mem_singleton.mp hp]; exact le_refl _)
    (fun g u hg => by obtain ⟨i, -, hn, rfl⟩ := owed_mem c hs hg; rw [lv_rcv]; exact hl i hn)

end Cert.Ag
-- ==== Proof.GeoFacts.lean ====
/-
  How the windows of the copies lie: whose values they carry, which never meet, and how the result falls into the device's own chunks
  and the windows it receives.  All decided over the devices.
-/
module

public import proofs.«01_k».proof.Proof.Geo

@[expose] public section

namespace Cert.Ag

open Cert.KernelIdeal Cert.KernelIdeal.Gen
open Idealize.ShloMosaic

/-! ## Facts about windows -/

def at' (r : ℕ) (g : Fin 3) : Atom := (⟨r % 32, Nat.mod_lt _ (by decide)⟩, g)

theorem win_at {r n : ℕ} {g : Fin 3} {a : Atom} (h : a ∈ win r n g) : ∃ k, k < n ∧ a = at' (r + k) g := by
  rw [mem_win] at h
  refine ⟨a.1.val - r, by omega, Prod.ext (Fin.ext ?_) h.1⟩
  have := a.1.isLt
  simp only [at']; omega

theorem nrow_le : ∀ i, nrow i ≤ 4 := by decide +kernel
theorem own_fwd (i : Chan) (c : Dev nD) (h : fromX i = false) (hs : snds i c = true) {a : Atom} (ha : a ∈ swin i c) :
    own' (tgt i c) a = own' c a := by
  have key : ∀ (i : Chan) (c : Dev nD) (k : Fin 4), (fromX i || !snds i c || decide (nrow i ≤ k.val)
    || decide (own' (tgt i c) (at' (row0 i c + k.val) (grp i)) = own' c (at' (row0 i c + k.val) (grp i)))) = true := by decide +kernel
  obtain ⟨k, hk, rfl⟩ := win_at ha
  have := key i c ⟨k, hk.trans_le (nrow_le i)⟩
  simpa [h, hs, Nat.not_le.2 hk] using this
theorem own_src (i : Chan) (c : Dev nD) (h : fromX i = true) {a : Atom} (ha : a ∈ swin i c) : own' (tgt i c) a = c := by
  have key : ∀ (i : Chan) (c : Dev nD) (k : Fin 4), (!fromX i || decide (nrow i ≤ k.val)
    || decide (own' (tgt i c) (at' (row0 i c + k.val) (grp i)) = c)) = true := by decide +kernel
  obtain ⟨k, hk, rfl⟩ := win_at ha
  have := key i c ⟨k, hk.trans_le (nrow_le i)⟩
  simpa [h, Nat.not_le.2 hk] using this
theorem own_own (k : Fin 8) (c : Dev nD) {a : Atom} (ha : a ∈ owin k c) : own' c a = c := by
  have h : a.1.val / 16 = cx c := by
    rw [owin, mem_rows, orow] at ha
    have := k.isLt
    omega
  simp [own', h]
theorem row_src : ∀ (i : Chan) (c : Dev nD), fromX i = true → row0 i c = 16 * cx c + xrow0 i c := by decide +kernel

/-- The pieces the result falls into: the device's own chunks and the windows it receives. -/
inductive Piece
  | own (k : Fin 8)
  | rcv (i : Chan)
deriving DecidableEq

def pieces : List Piece := (List.finRange 8).map .own ++ chans.map .rcv
instance : Fintype Piece := ⟨⟨pieces, by decide +kernel⟩, by
  have h1 : ∀ k, Piece.own k ∈ pieces := by decide +kernel
  have h2 : ∀ i, Piece.rcv i ∈ pieces := by decide +kernel
  intro p; cases p
  · exact h1 _
  · exact h2 _⟩

def inB (c : Dev nD) (a : Atom) : Piece → Bool
  | .own k => decide (orow k c ≤ a.1.val ∧ a.1.val < orow k c + 2)
  | .rcv i => rcvs i c && decide (a.2 = grp i ∧ row0 i (src i c) ≤ a.1.val ∧ a.1.val < row0 i (src i c) + nrow i)

def which (c : Dev nD) (a : Atom) : Option Piece := pieces.find? (inB c a)
theorem which_some : ∀ (c : Dev nD) (a : Atom), (which c a).isSome = true := by decide +kernel
theorem which_eq : ∀ (c : Dev nD) (a : Atom), ∀ p, inB c a p = true → which c a = some p := by decide +kernel

/-- The atoms of a piece. -/
def piece (c : Dev nD) : Piece → Finset Atom
  | .own k => owin k c
  | .rcv i => if rcvs i c = true then rwin i c else ∅

theorem mem_piece {c : Dev nD} {a : Atom} {p : Piece} : a ∈ piece c p ↔ which c a = some p := by
  have h : a ∈ piece c p ↔ inB c a p = true := by
    cases p with
    | own k => simp [piece, inB, owin, mem_rows]
    | rcv i => by_cases h : rcvs i c = true <;> simp [piece, inB, rwin, swin, mem_win, h]
  rw [h]
  exact ⟨which_eq c a p, fun e => List.find?_some e⟩

theorem piece_disjoint (c : Dev nD) {p q : Piece} (h : p ≠ q) : Disjoint (piece c p) (piece c q) :=
  Finset.disjoint_left.2 fun _ ha hb => h (Option.some.inj ((mem_piece.1 ha).symm.trans (mem_piece.1 hb)))
theorem piece_cover (c : Dev nD) (a : Atom) : ∃ p, a ∈ piece c p := by
  obtain ⟨p, hp⟩ := Option.isSome_iff_exists.1 (which_some c a)
  exact ⟨p, mem_piece.2 hp⟩

theorem win_disjoint {r n r' n' : ℕ} {g g' : Fin 3} (h : g ≠ g' ∨ r + n ≤ r' ∨ r' + n' ≤ r) : Disjoint (win r n g) (win r' n' g') :=
  Finset.disjoint_left.2 fun a ha hb => by
    rw [mem_win] at ha hb
    rcases h with h | h | h
    · exact h (ha.1.symm.trans hb.1)
    · omega
    · omega

/-- Two windows read with one share never meet. -/
theorem swin_disjoint (i j : Chan) (c : Dev nD) (hi : fromX i = false) (hj : fromX j = false) (hc : snds i c = true)
    (hc' : snds j c = true) (hs : shOf i = shOf j) (hij : i ≠ j) : Disjoint (swin i c) (swin j c) := by
  refine win_disjoint ?_
  have key : ∀ (i j : Chan) (c : Dev nD), (fromX i || fromX j || !snds i c || !snds j c || decide (shOf i ≠ shOf j) || decide (i = j)
    || decide (grp i ≠ grp j) || decide (row0 i c + nrow i ≤ row0 j c) || decide (row0 j c + nrow j ≤ row0 i c)) = true := by
    decide +kernel
  simpa [hi, hj, hc, hc', hs, hij, or_assoc] using key i j c

theorem needs_cover (i : Chan) (c : Dev nD) (hi : fromX i = false) (hc : snds i c = true) {a : Atom} (ha : a ∈ swin i c) :
    ∃ j ∈ needs i, a ∈ piece c (.rcv j) := by
  have key : ∀ (i : Chan) (c : Dev nD) (k : Fin 4), (fromX i || !snds i c || decide (nrow i ≤ k.val)
    || (needs i).any fun j => inB c (at' (row0 i c + k.val) (grp i)) (.rcv j)) = true := by decide +kernel
  obtain ⟨k, hk, rfl⟩ := win_at ha
  have := key i c ⟨k, hk.trans_le (nrow_le i)⟩
  have : ((needs i).any fun j => inB c (at' (row0 i c + k) (grp i)) (.rcv j)) = true := by simpa [hi, hc, Nat.not_le.2 hk] using this
  obtain ⟨j, hj, hb⟩ := List.any_eq_true.1 this
  exact ⟨j, hj, mem_piece.2 (which_eq _ _ _ hb)⟩

theorem xwin_disjoint {r n r' n' : ℕ} {g g' : Fin 3} (h : g ≠ g' ∨ r + n ≤ r' ∨ r' + n' ≤ r) : Disjoint (xwin r n g) (xwin r' n' g') :=
  Finset.disjoint_left.2 fun a ha hb => by
    rw [mem_xwin] at ha hb
    rcases h with h | h | h
    · exact h (ha.1.symm.trans hb.1)
    · omega
    · omega
theorem xswin_disjoint (i j : Chan) (c : Dev nD) (hi : fromX i = true) (hj : fromX j = true) (hij : i ≠ j) :
    Disjoint (xswin i c) (xswin j c) := by
  refine xwin_disjoint ?_
  revert i j c
  decide +kernel
theorem idx_lt : ∀ (h : Fin 2) (c : Dev nD), idx h c < 16 := by decide +kernel

end Cert.Ag
-- ==== Proof.State.lean ====
/-
  What a device holds when the first `n` operations of its script have been issued, part by part, and when a part is the same one
  operation later.
-/
module

public import proofs.«01_k».proof.Proof.Sched
public import proofs.«01_k».proof.Proof.GeoFacts

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

/-! ## Positions -/

def useCell : Use → DmaSem sig | .snd i => sS i | .rcv i => rS i | .loc k => dq ⟨k % 90, Nat.mod_lt _ (by decide)⟩
theorem use_inv : ∀ q : DmaSem sig, q = useCell (use q) := by decide +kernel
theorem lN_jobAt : ∀ (k : Fin 6) (r : Fin 4), r.val < lrounds k.val → lN (jobAt k.val r.val) = k.val := by decide +kernel
theorem lrounds_le (k : ℕ) : lrounds k ≤ 4 := by unfold lrounds; split <;> omega

/-- How many of the rounds of a local semaphore have been waited for. -/
def locPos (n k : ℕ) : ℕ := ((Finset.range (lrounds k)).filter fun r => done n (.lwt (jobAt k r))).card
/-- The round a device's semaphore is at. -/
def posOf (c : Dev nD) (n : ℕ) (q : DmaSem sig) : ℕ :=
  match use q with
  | .snd i => if snds i c = true ∧ done n (.wsd i) then 1 else 0
  | .rcv i => if rcvs i c = true ∧ done n (.rcv i) then 1 else 0
  | .loc k => if k < 6 then locPos n k else 0

theorem locPos_lst : ∀ j, locPos (pos (.lst j)) (lN j) = lR j := by decide +kernel
theorem locPos_lwt : ∀ j, locPos (pos (.lwt j)) (lN j) = lR j := by decide +kernel
theorem locPos_lwt' : ∀ j, locPos (pos (.lwt j) + 1) (lN j) = lR j + 1 := by decide +kernel
theorem locPos_zero : ∀ k : Fin 6, locPos 0 k.val = 0 := by decide +kernel
theorem locPos_end : ∀ k : Fin 6, locPos script.length k.val = lrounds k.val := by decide +kernel

theorem posOf_same (c : Dev nD) {n : ℕ} {a : Act} (h : pos a = n) (q : DmaSem sig)
    (h1 : ∀ i, q = sS i → Act.wsd i = a → snds i c = false) (h2 : ∀ i, q = rS i → Act.rcv i = a → rcvs i c = false)
    (h3 : ∀ j, q = lS j → Act.lwt j ≠ a) : posOf c (n + 1) q = posOf c n q := by
  have hu := use_inv q
  unfold posOf
  cases e : use q with
  | snd i =>
    rw [e] at hu
    dsimp only [useCell] at hu ⊢
    by_cases hi : snds i c = true
    · have hn : Act.wsd i ≠ a := fun ea => by rw [h1 i hu ea] at hi; exact absurd hi (by decide)
      simp only [done_succ h hn]
    · simp only [hi, false_and]; rfl
  | rcv i =>
    rw [e] at hu
    dsimp only [useCell] at hu ⊢
    by_cases hi : rcvs i c = true
    · have hn : Act.rcv i ≠ a := fun ea => by rw [h2 i hu ea] at hi; exact absurd hi (by decide)
      simp only [done_succ h hn]
    · simp only [hi, false_and]; rfl
  | loc k =>
    rw [e] at hu
    dsimp only [useCell] at hu ⊢
    split
    · rename_i hk
      unfold locPos
      congr 1
      refine Finset.filter_congr fun r hr => done_succ h (h3 _ ?_)
      rw [Finset.mem_range] at hr
      have := lN_jobAt ⟨k, hk⟩ ⟨r, hr.trans_le (lrounds_le k)⟩ hr
      exact hu.trans (Fin.ext ((Nat.mod_eq_of_lt (by omega)).trans this.symm))
    · rfl

theorem posOf_snd0 (c : Dev nD) (i : Chan) {n : ℕ} (h : ¬ done n (.wsd i)) : posOf c n (sS i) = 0 := by
  unfold posOf; rw [use_sS]; exact if_neg fun e => h e.2
theorem posOf_snd1 (c : Dev nD) (i : Chan) {n : ℕ} (hs : snds i c = true) (h : done n (.wsd i)) : posOf c n (sS i) = 1 := by
  unfold posOf; rw [use_sS]; exact if_pos ⟨hs, h⟩
theorem posOf_rcv0 (c : Dev nD) (i : Chan) {n : ℕ} (h : ¬ done n (.rcv i)) : posOf c n (rS i) = 0 := by
  unfold posOf; rw [use_rS]; exact if_neg fun e => h e.2
theorem posOf_rcv1 (c : Dev nD) (i : Chan) {n : ℕ} (hs : rcvs i c = true) (h : done n (.rcv i)) : posOf c n (rS i) = 1 := by
  unfold posOf; rw [use_rS]; exact if_pos ⟨hs, h⟩
theorem posOf_loc (c : Dev nD) (j : Job) (n : ℕ) : posOf c n (lS j) = locPos n (lN j) := by
  unfold posOf; rw [use_lS]; exact if_pos (lN_lt6 j)
theorem posOf_lst (c : Dev nD) (j : Job) {n : ℕ} (h : pos (.lst j) = n) : posOf c n (lS j) = lR j := by
  rw [posOf_loc, ← h, locPos_lst]
theorem posOf_lwt (c : Dev nD) (j : Job) {n : ℕ} (h : pos (.lwt j) = n) : posOf c n (lS j) = lR j := by
  rw [posOf_loc, ← h, locPos_lwt]
theorem posOf_lwt' (c : Dev nD) (j : Job) {n : ℕ} (h : pos (.lwt j) = n) : posOf c (n + 1) (lS j) = lR j + 1 := by
  rw [posOf_loc, ← h, locPos_lwt']
theorem posOf_zero (c : Dev nD) (q : DmaSem sig) : posOf c 0 q = 0 := by
  unfold posOf
  cases use q with
  | snd i => exact if_neg fun e => absurd e.2 (Nat.not_lt_zero _)
  | rcv i => exact if_neg fun e => absurd e.2 (Nat.not_lt_zero _)
  | loc k =>
    dsimp only
    split
    · rename_i hk; exact locPos_zero ⟨k, hk⟩
    · rfl
theorem posOf_end (c : Dev nD) (q : DmaSem sig) : posOf c script.length q = roundsOf c q := by
  unfold posOf roundsOf
  cases use q with
  | snd i => simp only [done, pos_lt, _root_.and_true]
  | rcv i => simp only [done, pos_lt, _root_.and_true]
  | loc k =>
    dsimp only
    split
    · rename_i hk; exact locPos_end ⟨k, hk⟩
    · rfl

/-! ## Which elements are lent, which are there -/

def gotAct : Piece → Act | .own k => .lwt (.o k) | .rcv i => .rcv i

open Classical in
/-- The part of the result that is there and not lent out of lane `s`. -/
def bank (s : Sh) (c : Dev nD) (n : ℕ) : Finset Atom := Finset.univ.filter fun a =>
  (∃ p, done n (gotAct p) ∧ a ∈ piece c p) ∧
    ¬ ∃ i, (fromX i = false ∧ shOf i = s ∧ snds i c = true) ∧ (done n (.snd i) ∧ ¬ done n (.wsd i)) ∧ a ∈ swin i c
open Classical in
/-- The part of the converted block that has been converted; that is not being sent; that is not being copied. -/
def cvd (c : Dev nD) (n : ℕ) : Finset XAtom := Finset.univ.filter fun a =>
  (∃ h, done n (.pcv h) ∧ a ∈ xrows (idx h c) 1) ∨ ∃ k : Fin 8, done n (.cnv k) ∧ a ∈ xrows (2 * k.val) 2
open Classical in
def rfree (c : Dev nD) (n : ℕ) : Finset XAtom := Finset.univ.filter fun a =>
  ¬ ∃ i, fromX i = true ∧ (done n (.snd i) ∧ ¬ done n (.wsd i)) ∧ a ∈ xswin i c
open Classical in
def lfree (n : ℕ) : Finset XAtom := Finset.univ.filter fun a =>
  ¬ ∃ k : Fin 8, (done n (.lst (.o k)) ∧ ¬ done n (.lwt (.o k))) ∧ a ∈ xrows (2 * k.val) 2

theorem mem_bank {s : Sh} {c : Dev nD} {n : ℕ} {a : Atom} : a ∈ bank s c n ↔ (∃ p, done n (gotAct p) ∧ a ∈ piece c p) ∧
    ¬ ∃ i, (fromX i = false ∧ shOf i = s ∧ snds i c = true) ∧ (done n (.snd i) ∧ ¬ done n (.wsd i)) ∧ a ∈ swin i c := by
  simp only [bank, Finset.mem_filter, Finset.mem_univ, true_and]
theorem mem_cvd {c : Dev nD} {n : ℕ} {a : XAtom} : a ∈ cvd c n ↔
    (∃ h, done n (.pcv h) ∧ a ∈ xrows (idx h c) 1) ∨ ∃ k : Fin 8, done n (.cnv k) ∧ a ∈ xrows (2 * k.val) 2 := by
  simp only [cvd, Finset.mem_filter, Finset.mem_univ, true_and]
theorem mem_rfree {c : Dev nD} {n : ℕ} {a : XAtom} : a ∈ rfree c n ↔
    ¬ ∃ i, fromX i = true ∧ (done n (.snd i) ∧ ¬ done n (.wsd i)) ∧ a ∈ xswin i c := by
  simp only [rfree, Finset.mem_filter, Finset.mem_univ, true_and]
theorem mem_lfree {n : ℕ} {a : XAtom} : a ∈ lfree n ↔
    ¬ ∃ k : Fin 8, (done n (.lst (.o k)) ∧ ¬ done n (.lwt (.o k))) ∧ a ∈ xrows (2 * k.val) 2 := by
  simp only [lfree, Finset.mem_filter, Finset.mem_univ, true_and]

theorem bank_same {s : Sh} {c : Dev nD} {n : ℕ} {a : Act} (h : pos a = n) (hp : ∀ p, gotAct p = a → piece c p = ∅)
    (h1 : ∀ i, fromX i = false → shOf i = s → snds i c = true → Act.snd i ≠ a ∧ Act.wsd i ≠ a) : bank s c (n + 1) = bank s c n := by
  ext x
  rw [mem_bank, mem_bank]
  refine and_congr (exists_congr fun p => ?_) (not_congr (exists_congr fun i => and_congr_right fun hi => ?_))
  · by_cases e : gotAct p = a
    · rw [hp p e]; simp
    · rw [done_succ h e]
  · have := h1 i hi.1 hi.2.1 hi.2.2
    rw [done_succ h this.1, done_succ h this.2]
theorem cvd_same {c : Dev nD} {n : ℕ} {a : Act} (h : pos a = n) (h1 : ∀ h, Act.pcv h ≠ a) (h2 : ∀ k, Act.cnv k ≠ a) :
    cvd c (n + 1) = cvd c n := by
  ext x; simp only [mem_cvd, done_succ h (h1 _), done_succ h (h2 _)]
theorem rfree_same {c : Dev nD} {n : ℕ} {a : Act} (h : pos a = n) (h1 : ∀ i, fromX i = true → Act.snd i ≠ a ∧ Act.wsd i ≠ a) :
    rfree c (n + 1) = rfree c n := by
  ext x
  rw [mem_rfree, mem_rfree]
  refine not_congr (exists_congr fun i => and_congr_right fun hi => ?_)
  rw [done_succ h (h1 i hi).1, done_succ h (h1 i hi).2]
theorem lfree_same {n : ℕ} {a : Act} (h : pos a = n) (h1 : ∀ k, Act.lst (.o k) ≠ a) (h2 : ∀ k, Act.lwt (.o k) ≠ a) :
    lfree (n + 1) = lfree n := by
  ext x; simp only [mem_lfree, done_succ h (h1 _), done_succ h (h2 _)]

/-- A piece arrives. -/
theorem bank_got {s : Sh} {c : Dev nD} {n : ℕ} {p : Piece} (h : pos (gotAct p) = n) :
    bank s c (n + 1) = bank s c n ∪ piece c p ∧ Disjoint (bank s c n) (piece c p) := by
  have ne1 : ∀ i, Act.snd i ≠ gotAct p := by intro i; cases p <;> simp [gotAct]
  have ne2 : ∀ i, Act.wsd i ≠ gotAct p := by intro i; cases p <;> simp [gotAct]
  have inj : ∀ p', gotAct p' = gotAct p → p' = p := by intro p' e; cases p <;> cases p' <;> simp_all [gotAct]
  have hd : ∀ a, a ∈ piece c p → ∀ p', done n (gotAct p') → a ∉ piece c p' := by
    intro a ha p' hp' ha'
    have e : p' = p := Option.some.inj ((mem_piece.1 ha').symm.trans (mem_piece.1 ha))
    subst e; exact not_done h hp'
  have hl : ∀ a, a ∈ piece c p → ¬ ∃ i, (fromX i = false ∧ shOf i = s ∧ snds i c = true) ∧ (done n (.snd i) ∧ ¬ done n (.wsd i)) ∧ a ∈ swin i c := by
    rintro a ha ⟨i, hi, hd', hw⟩
    obtain ⟨j, hj, hjp⟩ := needs_cover i c hi.1 hi.2.2 hw
    exact hd a ha (.rcv j) ((ord_needs i j hj).trans hd'.1) hjp
  constructor
  · ext a
    rw [Finset.mem_union, mem_bank, mem_bank]
    simp only [done_succ h (ne1 _), done_succ h (ne2 _)]
    constructor
    · rintro ⟨⟨p', hp', ha⟩, hn⟩
      by_cases e : gotAct p' = gotAct p
      · exact .inr (inj _ e ▸ ha)
      · exact .inl ⟨⟨p', (done_succ h e).1 hp', ha⟩, hn⟩
    · rintro (⟨⟨p', hp', ha⟩, hn⟩ | ha)
      · exact ⟨⟨p', Nat.lt_succ_of_lt hp', ha⟩, hn⟩
      · exact ⟨⟨p, done_self h, ha⟩, hl a ha⟩
  · refine Finset.disjoint_left.2 fun a ha hb => ?_
    obtain ⟨p', hp', ha'⟩ := (mem_bank.1 ha).1
    exact hd a hb p' hp' ha'

/-- What a hop sends is there before and lent after; it comes back when the copy is waited for. -/
theorem bank_snd {c : Dev nD} {n : ℕ} {i : Chan} (h : pos (.snd i) = n) (hx : fromX i = false) (hs : snds i c = true) :
    bank (shOf i) c n = bank (shOf i) c (n + 1) ∪ swin i c ∧ Disjoint (bank (shOf i) c (n + 1)) (swin i c) := by
  have ne1 : ∀ p, gotAct p ≠ Act.snd i := by intro p; cases p <;> simp [gotAct]
  have hnl : ∀ a, a ∈ swin i c → ¬ ∃ j, (fromX j = false ∧ shOf j = shOf i ∧ snds j c = true) ∧ (done n (.snd j) ∧ ¬ done n (.wsd j)) ∧ a ∈ swin j c := by
    rintro a ha ⟨j, hj, hd, hw⟩
    have hij : i ≠ j := by rintro rfl; exact not_done h hd.1
    exact Finset.disjoint_left.1 (swin_disjoint i j c hx hj.1 hs hj.2.2 hj.2.1.symm hij) ha hw
  constructor
  · ext a
    rw [Finset.mem_union, mem_bank, mem_bank]
    simp only [done_succ h (ne1 _), done_succ h (show Act.wsd _ ≠ _ by simp)]
    constructor
    · rintro ⟨hg, hn⟩
      by_cases ha : a ∈ swin i c
      · exact .inr ha
      · refine .inl ⟨hg, ?_⟩
        rintro ⟨j, hj, hd, hw⟩
        by_cases e : j = i
        · subst e; exact ha hw
        · exact hn ⟨j, hj, ⟨(done_succ h (by simpa using e)).1 hd.1, hd.2⟩, hw⟩
    · rintro (⟨hg, hn⟩ | ha)
      · exact ⟨hg, fun ⟨j, hj, hd, hw⟩ => hn ⟨j, hj, ⟨Nat.lt_succ_of_lt hd.1, hd.2⟩, hw⟩⟩
      · obtain ⟨j, hj, hjp⟩ := needs_cover i c hx hs ha
        exact ⟨⟨.rcv j, show done n (.rcv j) by (have := ord_needs i j hj; unfold done; omega), hjp⟩, hnl a ha⟩
  · refine Finset.disjoint_left.2 fun a ha hb => (mem_bank.1 ha).2 ?_
    have := ord_snd_wsd i
    exact ⟨i, ⟨hx, rfl, hs⟩, ⟨done_self h, by unfold done; omega⟩, hb⟩
theorem bank_wsd {c : Dev nD} {n : ℕ} {i : Chan} (h : pos (.wsd i) = n) (hx : fromX i = false) (hs : snds i c = true) :
    bank (shOf i) c (n + 1) = bank (shOf i) c n ∪ swin i c ∧ Disjoint (bank (shOf i) c n) (swin i c) := by
  have ne1 : ∀ p, gotAct p ≠ Act.wsd i := by intro p; cases p <;> simp [gotAct]
  have hsn := ord_snd_wsd i
  constructor
  · ext a
    rw [Finset.mem_union, mem_bank, mem_bank]
    simp only [done_succ h (ne1 _), done_succ h (show Act.snd _ ≠ _ by simp)]
    constructor
    · rintro ⟨hg, hn⟩
      by_cases ha : a ∈ swin i c
      · exact .inr ha
      · refine .inl ⟨hg, ?_⟩
        rintro ⟨j, hj, hd, hw⟩
        by_cases e : j = i
        · subst e; exact ha hw
        · exact hn ⟨j, hj, ⟨hd.1, fun hh => hd.2 ((done_succ h (by simpa using e)).1 hh)⟩, hw⟩
    · rintro (⟨hg, hn⟩ | ha)
      · exact ⟨hg, fun ⟨j, hj, hd, hw⟩ => hn ⟨j, hj, ⟨hd.1, fun hh => hd.2 (Nat.lt_succ_of_lt hh)⟩, hw⟩⟩
      · obtain ⟨j, hj, hjp⟩ := needs_cover i c hx hs ha
        refine ⟨⟨.rcv j, show done n (.rcv j) by (have := ord_needs i j hj; unfold done; omega), hjp⟩, ?_⟩
        rintro ⟨j, hj, hd, hw⟩
        have hij : i ≠ j := by rintro rfl; exact hd.2 (done_self h)
        exact Finset.disjoint_left.1 (swin_disjoint i j c hx hj.1 hs hj.2.2 hj.2.1.symm hij) ha hw
  · refine Finset.disjoint_left.2 fun a ha hb => (mem_bank.1 ha).2 ?_
    exact ⟨i, ⟨hx, rfl, hs⟩, ⟨by unfold done; omega, not_done h⟩, hb⟩

theorem rfree_snd {c : Dev nD} {n : ℕ} {i : Chan} (h : pos (.snd i) = n) (hx : fromX i = true) :
    rfree c n = rfree c (n + 1) ∪ xswin i c ∧ Disjoint (rfree c (n + 1)) (xswin i c) := by
  constructor
  · ext a
    rw [Finset.mem_union, mem_rfree, mem_rfree]
    simp only [done_succ h (show Act.wsd _ ≠ _ by simp)]
    constructor
    · intro hn
      by_cases ha : a ∈ xswin i c
      · exact .inr ha
      · refine .inl ?_
        rintro ⟨j, hj, hd, hw⟩
        by_cases e : j = i
        · subst e; exact ha hw
        · exact hn ⟨j, hj, ⟨(done_succ h (by simpa using e)).1 hd.1, hd.2⟩, hw⟩
    · rintro (hn | ha)
      · exact fun ⟨j, hj, hd, hw⟩ => hn ⟨j, hj, ⟨Nat.lt_succ_of_lt hd.1, hd.2⟩, hw⟩
      · rintro ⟨j, hj, hd, hw⟩
        have hij : i ≠ j := by rintro rfl; exact not_done h hd.1
        exact Finset.disjoint_left.1 (xswin_disjoint i j c hx hj hij) ha hw
  · refine Finset.disjoint_left.2 fun a ha hb => (mem_rfree.1 ha) ?_
    have := ord_snd_wsd i
    exact ⟨i, hx, ⟨done_self h, by unfold done; omega⟩, hb⟩
theorem rfree_wsd {c : Dev nD} {n : ℕ} {i : Chan} (h : pos (.wsd i) = n) (hx : fromX i = true) :
    rfree c (n + 1) = rfree c n ∪ xswin i c ∧ Disjoint (rfree c n) (xswin i c) := by
  have hsn := ord_snd_wsd i
  constructor
  · ext a
    rw [Finset.mem_union, mem_rfree, mem_rfree]
    simp only [done_succ h (show Act.snd _ ≠ _ by simp)]
    constructor
    · intro hn
      by_cases ha : a ∈ xswin i c
      · exact .inr ha
      · refine .inl ?_
        rintro ⟨j, hj, hd, hw⟩
        by_cases e : j = i
        · subst e; exact ha hw
        · exact hn ⟨j, hj, ⟨hd.1, fun hh => hd.2 ((done_succ h (by simpa using e)).1 hh)⟩, hw⟩
    · rintro (hn | ha)
      · exact fun ⟨j, hj, hd, hw⟩ => hn ⟨j, hj, ⟨hd.1, fun hh => hd.2 (Nat.lt_succ_of_lt hh)⟩, hw⟩
      · rintro ⟨j, hj, hd, hw⟩
        have hij : i ≠ j := by rintro rfl; exact hd.2 (done_self h)
        exact Finset.disjoint_left.1 (xswin_disjoint i j c hx hj hij) ha hw
  · refine Finset.disjoint_left.2 fun a ha hb => (mem_rfree.1 ha) ?_
    exact ⟨i, hx, ⟨by unfold done; omega, not_done h⟩, hb⟩

theorem xrows_disjoint {k k' : Fin 8} (h : k ≠ k') : Disjoint (xrows (2 * k.val) 2) (xrows (2 * k'.val) 2) :=
  Finset.disjoint_left.2 fun a ha hb => by
    rw [mem_xrows] at ha hb
    exact h (Fin.ext (by omega))
theorem lfree_lst {n : ℕ} {k : Fin 8} (h : pos (.lst (.o k)) = n) :
    lfree n = lfree (n + 1) ∪ xrows (2 * k.val) 2 ∧ Disjoint (lfree (n + 1)) (xrows (2 * k.val) 2) := by
  constructor
  · ext a
    rw [Finset.mem_union, mem_lfree, mem_lfree]
    simp only [done_succ h (show Act.lwt _ ≠ _ by simp)]
    constructor
    · intro hn
      by_cases ha : a ∈ xrows (2 * k.val) 2
      · exact .inr ha
      · refine .inl ?_
        rintro ⟨j, hd, hw⟩
        by_cases e : j = k
        · subst e; exact ha hw
        · exact hn ⟨j, ⟨(done_succ h (by simpa using e)).1 hd.1, hd.2⟩, hw⟩
    · rintro (hn | ha)
      · exact fun ⟨j, hd, hw⟩ => hn ⟨j, ⟨Nat.lt_succ_of_lt hd.1, hd.2⟩, hw⟩
      · rintro ⟨j, hd, hw⟩
        have hij : k ≠ j := by rintro rfl; exact not_done h hd.1
        exact Finset.disjoint_left.1 (xrows_disjoint hij) ha hw
  · refine Finset.disjoint_left.2 fun a ha hb => (mem_lfree.1 ha) ?_
    have := ord_lst_lwt (.o k)
    exact ⟨k, ⟨done_self h, by unfold done; omega⟩, hb⟩
theorem lfree_lwt {n : ℕ} {k : Fin 8} (h : pos (.lwt (.o k)) = n) :
    lfree (n + 1) = lfree n ∪ xrows (2 * k.val) 2 ∧ Disjoint (lfree n) (xrows (2 * k.val) 2) := by
  have hsn := ord_lst_lwt (.o k)
  constructor
  · ext a
    rw [Finset.mem_union, mem_lfree, mem_lfree]
    simp only [done_succ h (show Act.lst _ ≠ _ by simp)]
    constructor
    · intro hn
      by_cases ha : a ∈ xrows (2 * k.val) 2
      · exact .inr ha
      · refine .inl ?_
        rintro ⟨j, hd, hw⟩
        by_cases e : j = k
        · subst e; exact ha hw
        · exact hn ⟨j, ⟨hd.1, fun hh => hd.2 ((done_succ h (by simpa using e)).1 hh)⟩, hw⟩
    · rintro (hn | ha)
      · exact fun ⟨j, hd, hw⟩ => hn ⟨j, ⟨hd.1, fun hh => hd.2 (Nat.lt_succ_of_lt hh)⟩, hw⟩
      · rintro ⟨j, hd, hw⟩
        have hij : k ≠ j := by rintro rfl; exact hd.2 (done_self h)
        exact Finset.disjoint_left.1 (xrows_disjoint hij) ha hw
  · refine Finset.disjoint_left.2 fun a ha hb => (mem_lfree.1 ha) ?_
    exact ⟨k, ⟨by unfold done; omega, not_done h⟩, hb⟩

/-! ## The parts of the state -/

instance : Fintype Sh := ⟨{.au, .ad, .bu, .bd}, by intro s; cases s <;> decide⟩

def tok (g : GSem nD τ sig) (r : ℕ) (d : Dir) : sProp 𝕄 := dutyTok ER g r d

def Ow (c : Dev nD) (n : ℕ) : sProp 𝕄 := iprop(∃ W, owes (c : Thread nD τ) (owed c n) W)
def posSt (c : Dev nD) (n : ℕ) (q : DmaSem sig) : sProp 𝕄 :=
  iprop(atPos ER (dC c q) (posOf c n q) ∅ 0 ∗ reached ER (dC c q) (posOf c n q))
def barPos (c : Dev nD) (n : ℕ) : sProp 𝕄 := atPos ER (barC c) (if done n .bar then 1 else 0) ∅ 0
def Ps (c : Dev nD) (n : ℕ) : sProp 𝕄 := bigSep Finset.univ (posSt c n)
def sigSt (c : Dev nD) (n : ℕ) (d : Dir) : sProp 𝕄 :=
  if has d c = true then (if done n (.sig d) then iprop(emp)
    else iprop(tok (barC (nb d c)) 0 (opp d) ∗ barPay (nb d c) (opp d) ∗ reached ER (barC (nb d c)) 0)) else iprop(emp)
def Bar (c : Dev nD) (n : ℕ) : sProp 𝕄 :=
  iprop(barPos c n ∗ if done n .bar then iprop(emp) else cred (tallyAt (barC c) () (nbs c)))
/-- What the barrier gives for one channel. -/
def leave (c : Dev nD) (i : Chan) : sProp 𝕄 :=
  iprop((∃ f, outP (tgt i c) (pre atom (swin i c)) fullShare f) ∗ reached ER (dC (tgt i c) (rS i)) 0)
def sndSt (c : Dev nD) (n : ℕ) (i : Chan) : sProp 𝕄 :=
  if snds i c = true then
    (if done n (.snd i) then (if done n (.wsd i) then iprop(emp) else cred (tallyAt (dC c (sS i)) () (amt i)))
      else iprop((tok (dC c (sS i)) 0 .P ∗ tok (dC (tgt i c) (rS i)) 0 .P) ∗ if done n .bar then leave c i else iprop(emp)))
  else iprop(emp)
def rcvSt (c : Dev nD) (n : ℕ) (i : Chan) : sProp 𝕄 :=
  if rcvs i c = true then (if done n (.rcv i) then iprop(emp) else cred (tallyAt (dC c (rS i)) () (amt i))) else iprop(emp)

variable (A : Dev nD → S16384x1024.Idx → Elt F .f32)

def jpre (c : Dev nD) : Job → sProp 𝕄
  | .f k => jsrc A c (.f k)
  | .p h => iprop((∃ f, pbP c (pre pslot {h}) fullShare f) ∗ jsrc A c (.p h))
  | .o k => iprop(∃ f, outP c (pre atom (owin k c)) fullShare f)
def jkeep (c : Dev nD) : Job → sProp 𝕄
  | .f k => jsrc A c (.f k)
  | .p h => iprop(jdst A c (.p h) ∗ jsrc A c (.p h))
  | .o _ => iprop(emp)
def jobSt (c : Dev nD) (n : ℕ) (j : Job) : sProp 𝕄 :=
  if done n (.lst j) then (if done n (.lwt j) then jkeep A c j else cred (tallyAt (dC c (lS j)) () (lamt (lN j))))
  else iprop(tok (dC c (lS j)) (lR j) .P ∗ jpre A c j)
def used (n : ℕ) (k : Fin 8) : Prop := ∃ k' : Fin 8, k'.val = k.val + 2 ∧ done n (.lst (.f k'))
open Classical in
def slotSt (c : Dev nD) (n : ℕ) : Fin 2 ⊕ Fin 8 → sProp 𝕄
  | .inl s => if done n (.lst (.f ⟨s.val, by omega⟩)) then iprop(emp) else iprop(∃ f, fbP c (pre fslot {s}) fullShare f)
  | .inr k => if done n (.lwt (.f k)) ∧ ¬ used n k then jdst A c (.f k) else iprop(emp)
def Xb (c : Dev nD) (n : ℕ) : sProp 𝕄 :=
  iprop(∃ f, ⌜∀ i, xatom i ∈ cvd c n → f i = XB A c i⌝ ∗ xbP c (pre xatom (lfree n)) fullShare.left f
    ∗ xbP c (pre xatom (rfree c n)) fullShare.right f)
def bankSt (c : Dev nD) (n : ℕ) (s : Sh) : sProp 𝕄 := outP c (pre atom (bank s c n)) (shq s) (fin A c)

def Sigs (c : Dev nD) (n : ℕ) : sProp 𝕄 := bigSep Finset.univ (sigSt c n)
def Snds (c : Dev nD) (n : ℕ) : sProp 𝕄 := bigSep Finset.univ (sndSt c n)
def Rcvs (c : Dev nD) (n : ℕ) : sProp 𝕄 := bigSep Finset.univ (rcvSt c n)
def Jobs (c : Dev nD) (n : ℕ) : sProp 𝕄 := bigSep Finset.univ (jobSt A c n)
def Slots (c : Dev nD) (n : ℕ) : sProp 𝕄 := bigSep Finset.univ (slotSt A c n)
def Banks (c : Dev nD) (n : ℕ) : sProp 𝕄 := bigSep Finset.univ (bankSt A c n)

/-- All a device holds. -/
def St (c : Dev nD) (n : ℕ) : sProp 𝕄 :=
  iprop(Ow c n ∗ Ps c n ∗ Sigs c n ∗ Bar c n ∗ Snds c n ∗ Rcvs c n ∗ Jobs A c n ∗ Slots A c n ∗ Xb A c n ∗ Banks A c n)

/-! ## One operation later -/

section Same
variable {c : Dev nD} {n : ℕ} {a : Act} (h : pos a = n)
include h

theorem Ow_same (h1 : ∀ d, a = .sig d → has d c = false := by simp) (h2 : ∀ i, a = .snd i → snds i c = false := by simp) :
    (Ow c (n + 1) : sProp 𝕄) = Ow c n := by unfold Ow; rw [owed_skip c h h1 h2]
theorem posSt_same (q : DmaSem sig)
    (h1 : ∀ i, q = sS i → Act.wsd i = a → snds i c = false) (h2 : ∀ i, q = rS i → Act.rcv i = a → rcvs i c = false)
    (h3 : ∀ j, q = lS j → Act.lwt j ≠ a) : (posSt c n q : sProp 𝕄) = posSt c (n + 1) q := by
  unfold posSt; rw [posOf_same c h q h1 h2 h3]
theorem Ps_same (h1 : ∀ i, Act.wsd i = a → snds i c = false := by simp) (h2 : ∀ i, Act.rcv i = a → rcvs i c = false := by simp)
    (h3 : ∀ j, Act.lwt j ≠ a := by simp) : (Ps c (n + 1) : sProp 𝕄) = Ps c n :=
  bigSep_congr fun q _ => (posSt_same h q (fun i _ => h1 i) (fun i _ => h2 i) (fun j _ => h3 j)).symm
theorem sigSt_same (d : Dir) (h1 : Act.sig d = a → has d c = false) : (sigSt c n d : sProp 𝕄) = sigSt c (n + 1) d := by
  unfold sigSt
  by_cases hd : has d c = true
  · have : Act.sig d ≠ a := fun e => by rw [h1 e] at hd; exact absurd hd (by decide)
    simp only [if_pos hd, done_succ h this]
  · simp only [if_neg hd]
theorem Sigs_same (h1 : ∀ d, Act.sig d = a → has d c = false := by simp) : (Sigs c (n + 1) : sProp 𝕄) = Sigs c n :=
  bigSep_congr fun d _ => (sigSt_same h d (h1 d)).symm
theorem Bar_same (h1 : Act.bar ≠ a := by simp) : (Bar c (n + 1) : sProp 𝕄) = Bar c n := by
  unfold Bar barPos; simp only [done_succ h h1]
theorem sndSt_same (i : Chan) (hb : Act.bar ≠ a) (h1 : Act.snd i = a → snds i c = false) (h2 : Act.wsd i = a → snds i c = false) :
    (sndSt c n i : sProp 𝕄) = sndSt c (n + 1) i := by
  unfold sndSt
  by_cases hd : snds i c = true
  · have e1 : Act.snd i ≠ a := fun e => by rw [h1 e] at hd; exact absurd hd (by decide)
    have e2 : Act.wsd i ≠ a := fun e => by rw [h2 e] at hd; exact absurd hd (by decide)
    simp only [if_pos hd, done_succ h hb, done_succ h e1, done_succ h e2]
  · simp only [if_neg hd]
theorem Snds_same (hb : Act.bar ≠ a := by simp) (h1 : ∀ i, Act.snd i = a → snds i c = false := by simp)
    (h2 : ∀ i, Act.wsd i = a → snds i c = false := by simp) : (Snds c (n + 1) : sProp 𝕄) = Snds c n :=
  bigSep_congr fun i _ => (sndSt_same h i hb (h1 i) (h2 i)).symm
theorem rcvSt_same (i : Chan) (h1 : Act.rcv i = a → rcvs i c = false) : (rcvSt c n i : sProp 𝕄) = rcvSt c (n + 1) i := by
  unfold rcvSt
  by_cases hd : rcvs i c = true
  · have e1 : Act.rcv i ≠ a := fun e => by rw [h1 e] at hd; exact absurd hd (by decide)
    simp only [if_pos hd, done_succ h e1]
  · simp only [if_neg hd]
theorem Rcvs_same (h1 : ∀ i, Act.rcv i = a → rcvs i c = false := by simp) : (Rcvs c (n + 1) : sProp 𝕄) = Rcvs c n :=
  bigSep_congr fun i _ => (rcvSt_same h i (h1 i)).symm
theorem jobSt_same (j : Job) (h1 : Act.lst j ≠ a) (h2 : Act.lwt j ≠ a) : (jobSt A c n j : sProp 𝕄) = jobSt A c (n + 1) j := by
  unfold jobSt; simp only [done_succ h h1, done_succ h h2]
theorem Jobs_same (h1 : ∀ j, Act.lst j ≠ a := by simp) (h2 : ∀ j, Act.lwt j ≠ a := by simp) : Jobs A c (n + 1) = Jobs A c n :=
  bigSep_congr fun j _ => (jobSt_same A h j (h1 j) (h2 j)).symm
theorem slotSt_inl_same (s : Fin 2) (h1 : Act.lst (.f ⟨s.val, by omega⟩) ≠ a) :
    (slotSt A c n (.inl s) : sProp 𝕄) = slotSt A c (n + 1) (.inl s) := by
  unfold slotSt; simp only [done_succ h h1]
theorem slotSt_inr_same (k : Fin 8) (h1 : ∀ k' : Fin 8, k'.val = k.val + 2 → Act.lst (.f k') ≠ a) (h2 : Act.lwt (.f k) ≠ a) :
    (slotSt A c n (.inr k) : sProp 𝕄) = slotSt A c (n + 1) (.inr k) := by
  have e : used (n + 1) k ↔ used n k := exists_congr fun k' => and_congr_right fun hk => done_succ h (h1 k' hk)
  classical exact if_congr (and_congr (done_succ h h2).symm (not_congr e.symm)) rfl rfl
theorem Slots_same (h1 : ∀ k, Act.lst (.f k) ≠ a := by simp) (h2 : ∀ k, Act.lwt (.f k) ≠ a := by simp) :
    Slots A c (n + 1) = Slots A c n :=
  bigSep_congr fun s _ => by
    cases s with
    | inl s => exact (slotSt_inl_same A h s (h1 _)).symm
    | inr k => exact (slotSt_inr_same A h k (fun _ _ => h1 _) (h2 _)).symm
theorem Xb_same (h1 : ∀ h, Act.pcv h ≠ a := by simp) (h2 : ∀ k, Act.cnv k ≠ a := by simp)
    (h3 : ∀ i, fromX i = true → Act.snd i ≠ a ∧ Act.wsd i ≠ a := by simp) (h4 : ∀ k, Act.lst (.o k) ≠ a := by simp)
    (h5 : ∀ k, Act.lwt (.o k) ≠ a := by simp) : Xb A c (n + 1) = Xb A c n := by
  unfold Xb; rw [cvd_same h h1 h2, rfree_same h h3, lfree_same h h4 h5]
theorem bankSt_same (s : Sh) (hp : ∀ p, gotAct p = a → piece c p = ∅)
    (h1 : ∀ i, fromX i = false → shOf i = s → snds i c = true → Act.snd i ≠ a ∧ Act.wsd i ≠ a) : bankSt A c n s = bankSt A c (n + 1) s := by
  unfold bankSt; rw [bank_same h hp h1]
theorem Banks_same (hp : ∀ p, gotAct p = a → piece c p = ∅ := by intro p; cases p <;> simp [gotAct])
    (h1 : ∀ i, fromX i = false → snds i c = true → Act.snd i ≠ a ∧ Act.wsd i ≠ a := by simp) : Banks A c (n + 1) = Banks A c n :=
  bigSep_congr fun s _ => (bankSt_same A h s hp (fun i hi _ hc => h1 i hi hc)).symm

/-- An operation the device does not issue. -/
theorem St_skip (h1 : ∀ d, Act.sig d = a → has d c = false) (h2 : ∀ i, Act.snd i = a → snds i c = false)
    (h3 : ∀ i, Act.wsd i = a → snds i c = false) (h4 : ∀ i, Act.rcv i = a → rcvs i c = false)
    (h5 : (∃ d, a = .sig d) ∨ (∃ i, a = .snd i ∧ fromX i = false) ∨ (∃ i, a = .wsd i ∧ fromX i = false) ∨ ∃ i, a = .rcv i) :
    St A c (n + 1) = St A c n := by
  have hbar : Act.bar ≠ a := by rintro rfl; simp at h5
  have hl1 : ∀ j, Act.lst j ≠ a := by rintro j rfl; simp at h5
  have hl2 : ∀ j, Act.lwt j ≠ a := by rintro j rfl; simp at h5
  have hp : ∀ j, Act.pcv j ≠ a := by rintro j rfl; simp at h5
  have hcn : ∀ j, Act.cnv j ≠ a := by rintro j rfl; simp at h5
  have hX : ∀ i, fromX i = true → Act.snd i ≠ a ∧ Act.wsd i ≠ a := by
    intro i hi
    constructor
    · rintro rfl; simp [hi] at h5
    · rintro rfl; simp [hi] at h5
  have hg : ∀ p, gotAct p = a → piece c p = ∅ := by
    intro p e
    cases p with
    | own k => exact absurd e (hl2 _)
    | rcv i => exact if_neg (by rw [h4 i e]; decide)
  have hB : ∀ i, fromX i = false → snds i c = true → Act.snd i ≠ a ∧ Act.wsd i ≠ a := by
    intro i _ hs
    constructor
    · intro e; rw [h2 i e] at hs; exact absurd hs (by decide)
    · intro e; rw [h3 i e] at hs; exact absurd hs (by decide)
  unfold St
  rw [Ow_same h (fun d e => h1 d e.symm) (fun d e => h2 d e.symm), Ps_same h h3 h4 hl2, Sigs_same h h1, Bar_same h hbar,
    Snds_same h hbar h2 h3, Rcvs_same h h4, Jobs_same A h hl1 hl2, Slots_same A h (fun _ => hl1 _) (fun _ => hl2 _),
    Xb_same A h hp hcn hX (fun _ => hl1 _) (fun _ => hl2 _), Banks_same A h hg hB]
end Same

end Cert.Ag
-- ==== Proof.Views.lean ====
/-
  The views the copies and the stores go through: their elements as sets of atoms, and what a copy leaves behind.
-/
module

public import proofs.«01_k».proof.Proof.State

@[expose] public section

noncomputable section

namespace Cert.Ag

open Cert.KernelIdeal Cert.KernelIdeal.Gen
open Idealize.ShloMosaic
open Idealize.ShloMosaic.ValueIdx (ix2 ix3)

variable {F : FTy → Type} [FloatOps F]

/-- A write through a view leaves what is to be there when it writes what is to be read. -/
theorem written {κ : Kind} {sp : Space} {s : Shape} {e : EltTy} {Val : EltTy → Type} (v : View sig κ sp s e) (f g : v.ty.Contents Val)
    (w : s.Idx → Val e) (h : ∀ j, v.read Val g j = w j) : ∀ i ∈ v.set, v.write Val f w Finset.univ i = g i := by
  intro i hi
  obtain ⟨j, -, rfl⟩ := Finset.mem_map.1 hi
  rw [View.write_emb_of_mem (h := Finset.mem_univ j), ← h j, View.read_apply, cast_cast, cast_eq]

abbrev outM (off sz : Fin 2 → ℕ) (inb : ∀ a, off a + sz a ≤ S32768x1024.size a) : Memref sig .tc .hbm ⟨2, sz⟩ .bf16 :=
  (Memref.whole main_v2).slice (Rect.unit (s := S32768x1024) off sz inb) (fun _ => rfl)
abbrev xbM (off sz : Fin 2 → ℕ) (inb : ∀ a, off a + sz a ≤ S16384x1024.size a) : Memref sig .tc .vmem ⟨2, sz⟩ .bf16 :=
  (Memref.whole cc0_scratch0).slice (Rect.unit (s := S16384x1024) off sz inb) (fun _ => rfl)
abbrev argM (off sz : Fin 2 → ℕ) (inb : ∀ a, off a + sz a ≤ S16384x1024.size a) : Memref sig .tc .hbm ⟨2, sz⟩ .f32 :=
  (Memref.whole main_arg0).slice (Rect.unit (s := S16384x1024) off sz inb) (fun _ => rfl)
abbrev fM (off : Fin 3 → ℕ) (inb : ∀ a, off a + S1x2048x1024.size a ≤ S2x2048x1024.size a) : Memref sig .tc .vmem S2048x1024 .f32 :=
  ((Memref.whole cc0_scratch1).slice (Rect.unit (s := S2x2048x1024) off S1x2048x1024.size inb) (fun _ => rfl)).squeeze S2048x1024 squeezes_S1x2048x1024_S2048x1024
abbrev pM (off : Fin 3 → ℕ) (inb : ∀ a, off a + S1x1024x1024.size a ≤ S2x1024x1024.size a) : Memref sig .tc .vmem S1024x1024 .f32 :=
  ((Memref.whole cc0_scratch2).slice (Rect.unit (s := S2x1024x1024) off S1x1024x1024.size inb) (fun _ => rfl)).squeeze S1024x1024 squeezes_S1x1024x1024_S1024x1024

theorem outM_set {off sz : Fin 2 → ℕ} {inb} {r n : ℕ} {g : Fin 3} (ho : off = ![1024 * r, col0 g]) (hs : sz = ![1024 * n, wid g]) :
    (outM off sz inb).view.set = pre atom (win r n g) := (View.set_slice_whole _ _).trans (unit_win inb ho hs)
theorem xbM_set {off sz : Fin 2 → ℕ} {inb} {r n : ℕ} {g : Fin 3} (ho : off = ![1024 * r, col0 g]) (hs : sz = ![1024 * n, wid g]) :
    (xbM off sz inb).view.set = pre xatom (xwin r n g) := (View.set_slice_whole _ _).trans (unit_xwin inb ho hs)
theorem outM_rows {off sz : Fin 2 → ℕ} {inb} {r n : ℕ} (ho : off = ![1024 * r, 0]) (hs : sz = ![1024 * n, 1024]) :
    (outM off sz inb).view.set = pre atom (rows r n) := (View.set_slice_whole _ _).trans (unit_rows inb ho hs)
theorem xbM_rows {off sz : Fin 2 → ℕ} {inb} {r n : ℕ} (ho : off = ![1024 * r, 0]) (hs : sz = ![1024 * n, 1024]) :
    (xbM off sz inb).view.set = pre xatom (xrows r n) := (View.set_slice_whole _ _).trans (unit_xrows inb ho hs)
theorem argM_rows {off sz : Fin 2 → ℕ} {inb} {r n : ℕ} (ho : off = ![1024 * r, 0]) (hs : sz = ![1024 * n, 1024]) :
    (argM off sz inb).view.set = pre xatom (xrows r n) := (View.set_slice_whole _ _).trans (unit_xrows inb ho hs)
theorem fM_set {off : Fin 3 → ℕ} {inb} {s : Fin 2} (ho : off = ![s.val, 0, 0]) : (fM off inb).view.set = pre fslot {s} :=
  (View.set_reshape _ _).trans ((View.set_slice_whole _ _).trans (unit_fslot inb ho rfl))
theorem pM_set {off : Fin 3 → ℕ} {inb} {s : Fin 2} (ho : off = ![s.val, 0, 0]) : (pM off inb).view.set = pre pslot {s} :=
  (View.set_reshape _ _).trans ((View.set_slice_whole _ _).trans (unit_pslot inb ho rfl))

/-! ## Where an index of a view lies -/

theorem unit_emb {n : ℕ} {d : Fin n → ℕ} {off sz : Fin n → ℕ} (inb) (j : (Rect.unit (s := ⟨n, d⟩) off sz inb).shape.Idx) (a : Fin n) :
    ((Rect.unit (s := ⟨n, d⟩) off sz inb).emb j a).val = off a + (j a).val := by
  rw [Rect.emb_apply]; show off a + 1 * (j a).val = _; omega

theorem xi_of {r c : ℕ} {i : S16384x1024.Idx} (h0 : r % 16384 = (i 0).val) (h1 : c % 1024 = (i 1).val) : xi r c = i := by
  refine funext (Fin.forall_fin_two.2 ⟨?_, ?_⟩)
  · exact Fin.ext h0
  · exact Fin.ext h1

variable (A : Dev nD → S16384x1024.Idx → Elt F .f32)

/-- A copy out of the converted block onto where the result holds it. -/
theorem read_x_out {offS offD sz : Fin 2 → ℕ} {inbS inbD} {c c' : Dev nD} {r rx : ℕ} (h0 : offS 0 = 1024 * rx) (h0' : offD 0 = 1024 * (16 * r + rx))
    (h1 : offS 1 = offD 1) (hown : ∀ j, own' c' (atom ((outM offD sz inbD).view.emb j)) = c) (j) :
    (outM offD sz inbD).view.read (Elt F) (fin A c') j = (xbM offS sz inbS).view.read (Elt F) (XB A c) j := by
  show fin A c' ((Rect.unit (s := S32768x1024) offD sz inbD).emb j) = XB A c ((Rect.unit (s := S16384x1024) offS sz inbS).emb j)
  unfold fin
  have e : own' c' (atom ((Rect.unit (s := S32768x1024) offD sz inbD).emb j)) = c := hown j
  rw [e]
  congr 1
  have i0 := ((Rect.unit (s := S16384x1024) offS sz inbS).emb j 0).isLt
  have i1 := ((Rect.unit (s := S16384x1024) offS sz inbS).emb j 1).isLt
  have b0 : ((Rect.unit (s := S16384x1024) offS sz inbS).emb j 0).val < 16384 := i0
  have b1 : ((Rect.unit (s := S16384x1024) offS sz inbS).emb j 1).val < 1024 := i1
  rw [unit_emb] at b0 b1
  refine xi_of ?_ ?_
  · rw [unit_emb, unit_emb]; omega
  · rw [unit_emb, unit_emb]; omega
/-- A copy of a part of the result onto the same part of another device's. -/
theorem read_out_out {off sz : Fin 2 → ℕ} {inb inb'} {c c' : Dev nD}
    (hown : ∀ j, own' c' (atom ((outM off sz inb).view.emb j)) = own' c (atom ((outM off sz inb).view.emb j))) (j) :
    (outM off sz inb).view.read (Elt F) (fin A c') j = (outM off sz inb').view.read (Elt F) (fin A c) j := by
  show fin A c' ((Rect.unit (s := S32768x1024) off sz inb).emb j) = fin A c ((Rect.unit (s := S32768x1024) off sz inb').emb j)
  unfold fin
  have e : own' c' (atom ((Rect.unit (s := S32768x1024) off sz inb).emb j)) = own' c (atom ((Rect.unit (s := S32768x1024) off sz inb).emb j)) := hown j
  rw [e]

theorem reshape_succ {a b : ℕ} (h : (⟨2, ![a, b]⟩ : Shape).numel = (⟨3, ![1, a, b]⟩ : Shape).numel) (j : (⟨2, ![a, b]⟩ : Shape).Idx) (d : Fin 2) :
    (Shape.reshapeEquiv h j d.succ).val = (j d).val := by
  have e : j = ix2 (j 0) (j 1) := (funext (Fin.forall_fin_two.2 ⟨rfl, rfl⟩))
  have h1 := (congrArg (Shape.reshapeEquiv h) e).trans (ValueIdx.reshapeEquiv_ix2_1ab h (j 0) (j 1))
  rw [h1]
  revert d
  exact Fin.forall_fin_two.2 ⟨rfl, rfl⟩

theorem fM_emb {off : Fin 3 → ℕ} {inb} (j : S2048x1024.Idx) (a : Fin 2) :
    ((fM off inb).view.emb j a.succ).val = off a.succ + (j a).val := by
  show ((Rect.unit (s := S2x2048x1024) off S1x2048x1024.size inb).emb (Shape.reshapeEquiv _ j) a.succ).val = _
  rw [unit_emb]
  congr 1
  exact reshape_succ _ j a
theorem pM_emb {off : Fin 3 → ℕ} {inb} (j : S1024x1024.Idx) (a : Fin 2) :
    ((pM off inb).view.emb j a.succ).val = off a.succ + (j a).val := by
  show ((Rect.unit (s := S2x1024x1024) off S1x1024x1024.size inb).emb (Shape.reshapeEquiv _ j) a.succ).val = _
  rw [unit_emb]
  congr 1
  exact reshape_succ _ j a

theorem read_arg_f {off : Fin 2 → ℕ} {off' : Fin 3 → ℕ} {inb inb'} {c : Dev nD} {k : Fin 8} (h : off = ![1024 * (2 * k.val), 0])
    (h1 : off' 1 = 0) (h2 : off' 2 = 0) (j) :
    (fM off' inb').view.read (Elt F) (FB A c k) j = (argM off S2048x1024.size inb).view.read (Elt F) (A c) j := by
  show FB A c k ((fM off' inb').view.emb j) = A c ((Rect.unit (s := S16384x1024) off S2048x1024.size inb).emb j)
  unfold FB
  congr 1
  have e1 := fM_emb (off := off') (inb := inb') j 0
  have e2 := fM_emb (off := off') (inb := inb') j 1
  have b0 : (j 0).val < 2048 := (j 0).isLt
  have b1 : (j 1).val < 1024 := (j 1).isLt
  have hk := k.isLt
  have e1' : ((fM off' inb').view.emb j 1).val = (j 0).val := e1.trans (by show off' 1 + _ = _; omega)
  have e2' : ((fM off' inb').view.emb j 2).val = (j 1).val := e2.trans (by show off' 2 + _ = _; omega)
  refine xi_of ?_ ?_
  · rw [unit_emb, e1']; have := congrFun h 0; simp at this; omega
  · rw [unit_emb, e2']; have := congrFun h 1; simp at this; omega
theorem read_arg_p {off : Fin 2 → ℕ} {off' : Fin 3 → ℕ} {inb inb'} {c : Dev nD} {h : Fin 2} (ho : off = ![1024 * idx h c, 0])
    (h1 : off' 1 = 0) (h2 : off' 2 = 0) (j) :
    (pM off' inb').view.read (Elt F) (PB A c h) j = (argM off S1024x1024.size inb).view.read (Elt F) (A c) j := by
  show PB A c h ((pM off' inb').view.emb j) = A c ((Rect.unit (s := S16384x1024) off S1024x1024.size inb).emb j)
  unfold PB
  congr 1
  have e1 := pM_emb (off := off') (inb := inb') j 0
  have e2 := pM_emb (off := off') (inb := inb') j 1
  have b0 : (j 0).val < 1024 := (j 0).isLt
  have b1 : (j 1).val < 1024 := (j 1).isLt
  have hk := idx_lt h c
  have e1' : ((pM off' inb').view.emb j 1).val = (j 0).val := e1.trans (by show off' 1 + _ = _; omega)
  have e2' : ((pM off' inb').view.emb j 2).val = (j 1).val := e2.trans (by show off' 2 + _ = _; omega)
  refine xi_of ?_ ?_
  · rw [unit_emb, e1']; have := congrFun ho 0; simp at this; omega
  · rw [unit_emb, e2']; have := congrFun ho 1; simp at this; omega

/-! ## What is converted -/

theorem cast_drop {α : Type} {a b : ℕ} (x : (⟨3, ![1, a, b]⟩ : Shape).Idx → α) (h : (⟨3, ![1, a, b]⟩ : Shape).ShapeCasts ⟨2, ![a, b]⟩)
    (j : (⟨2, ![a, b]⟩ : Shape).Idx) : shapeCast ⟨2, ![a, b]⟩ x h j = x (ix3 (0 : Fin 1) (j 0) (j 1)) := by
  have e : j = ix2 (j 0) (j 1) := (funext (Fin.forall_fin_two.2 ⟨rfl, rfl⟩))
  exact (congrArg _ e).trans (ValueIdx.shapeCast_1ab_ab_apply x h (j 0) (j 1))

/-- Narrowing a chunk read from its staging slot. -/
theorem pay_f {off : Fin 3 → ℕ} {off' : Fin 2 → ℕ} {inb inb'} {c : Dev nD} {k : Fin 8} (h1 : off 1 = 0) (h2 : off 2 = 0)
    (ho : off' = ![1024 * (2 * k.val), 0]) (j : S2048x1024.Idx) :
    ((Memref.whole cc0_scratch0).access (Rect.unit (s := S16384x1024) off' S2048x1024.size inb')).read (Elt F) (XB A c) j
      = k0_pay4 (F := F) (((Memref.whole cc0_scratch1).access (Rect.unit (s := S2x2048x1024) off S1x2048x1024.size inb)).read (Elt F) (FB A c k)) j := by
  have b0 : (j 0).val < 2048 := (j 0).isLt
  have b1 : (j 1).val < 1024 := (j 1).isLt
  have hk := k.isLt
  unfold k0_pay4
  rw [shapeCast_self]
  show XB A c ((Rect.unit (s := S16384x1024) off' S2048x1024.size inb').emb j) = FloatOps.truncf .bf16 bitsLt_bf16_f32 (shapeCast S2048x1024 _ _ j)
  refine Eq.trans ?_ (congrArg (FloatOps.truncf .bf16 bitsLt_bf16_f32) (cast_drop _ _ j).symm)
  show _ = FloatOps.truncf .bf16 bitsLt_bf16_f32 (FB A c k ((Rect.unit (s := S2x2048x1024) off S1x2048x1024.size inb).emb (ix3 0 (j 0) (j 1))))
  unfold XB FB
  congr 2
  refine (xi_of ?_ ?_).symm
  · rw [unit_emb, unit_emb, h1]; have := congrFun ho 0; simp at this; show (2048 * k.val + (0 + (j 0).val)) % 16384 = off' 0 + (j 0).val; omega
  · rw [unit_emb, unit_emb, h2]; have := congrFun ho 1; simp at this; show (0 + (j 1).val) % 1024 = off' 1 + (j 1).val; omega
theorem pay_p {off : Fin 3 → ℕ} {off' : Fin 2 → ℕ} {inb inb'} {c : Dev nD} {h : Fin 2} (h1 : off 1 = 0) (h2 : off 2 = 0)
    (ho : off' = ![1024 * idx h c, 0]) (j : S1024x1024.Idx) :
    ((Memref.whole cc0_scratch0).access (Rect.unit (s := S16384x1024) off' S1024x1024.size inb')).read (Elt F) (XB A c) j
      = k0_pay1 (F := F) (((Memref.whole cc0_scratch2).access (Rect.unit (s := S2x1024x1024) off S1x1024x1024.size inb)).read (Elt F) (PB A c h)) j := by
  have b0 : (j 0).val < 1024 := (j 0).isLt
  have b1 : (j 1).val < 1024 := (j 1).isLt
  have hk := idx_lt h c
  unfold k0_pay1
  rw [shapeCast_self]
  show XB A c ((Rect.unit (s := S16384x1024) off' S1024x1024.size inb').emb j) = FloatOps.truncf .bf16 bitsLt_bf16_f32 (shapeCast S1024x1024 _ _ j)
  refine Eq.trans ?_ (congrArg (FloatOps.truncf .bf16 bitsLt_bf16_f32) (cast_drop _ _ j).symm)
  show _ = FloatOps.truncf .bf16 bitsLt_bf16_f32 (PB A c h ((Rect.unit (s := S2x1024x1024) off S1x1024x1024.size inb).emb (ix3 0 (j 0) (j 1))))
  unfold XB PB
  congr 2
  refine (xi_of ?_ ?_).symm
  · rw [unit_emb, unit_emb, h1]; have := congrFun ho 0; simp at this; show (1024 * idx h c + (0 + (j 0).val)) % 16384 = off' 0 + (j 0).val; omega
  · rw [unit_emb, unit_emb, h2]; have := congrFun ho 1; simp at this; show (0 + (j 1).val) % 1024 = off' 1 + (j 1).val; omega

/-! ## Semaphores and amounts -/

theorem amount_win {off sz : Fin 2 → ℕ} {inb} (i : Chan) (hs : sz = ![1024 * nrow i, wid (grp i)]) : (outM off sz inb).view.dmaCredit = amt i := by
  have key : ∀ i, RefSig.tileCredit ⟨2, ![1024 * nrow i, wid (grp i)]⟩ .bf16 = amt i := by decide +kernel
  subst hs
  exact key i
theorem amount_own {off : Fin 2 → ℕ} {inb} : (outM off S2048x1024.size inb).view.dmaCredit = 131072 := by
  show RefSig.tileCredit ⟨2, ![2048, 1024]⟩ .bf16 = _
  decide +kernel
theorem amount_f {off : Fin 3 → ℕ} {inb} : (fM off inb).view.dmaCredit = 262144 := by
  show RefSig.tileCredit ⟨2, ![2048, 1024]⟩ .f32 = _
  decide +kernel
theorem amount_p {off : Fin 3 → ℕ} {inb} : (pM off inb).view.dmaCredit = 131072 := by
  show RefSig.tileCredit ⟨2, ![1024, 1024]⟩ .f32 = _
  decide +kernel

end Cert.Ag
-- ==== Proof.Steps.lean ====
/-
  One operation of the script: from what a device holds before to what it holds after.  First the signals, the waits.
-/
module

public import proofs.«01_k».proof.Proof.Views

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ
abbrev 𝒱₀ : Variants := Variants.none

/-- One member of a separating conjunction, to be put back changed. -/
theorem bs_focus {I : Type} [Fintype I] [DecidableEq I] {Φ Ψ : I → sProp 𝕄} (i : I) (h : ∀ j, j ≠ i → Φ j = Ψ j) :
    bigSep Finset.univ Φ ⊢ iprop(Φ i ∗ (Ψ i -∗ bigSep Finset.univ Ψ)) := by
  have hc : iprop(Φ i ∗ bigSep (Finset.univ.erase i) Ψ) ⊢ iprop(Φ i ∗ (Ψ i -∗ Ψ i ∗ bigSep (Finset.univ.erase i) Ψ)) := by
    iintro ⟨H, R⟩
    isplitl [H]
    · iexact H
    iintro H
    isplitl [H] <;> iassumption
  rw [bigSep_univ_split i (Φ := Φ), bigSep_univ_split i (Φ := Ψ),
    bigSep_congr (Φ := Φ) (Ψ := Ψ) (fun j hj => h j (Finset.ne_of_mem_erase hj))]
  exact hc

variable (A : Dev nD → S16384x1024.Idx → Elt F .f32)

/-- The invariants of all cells and the levels. -/
def Ctx (K : GSem nD τ sig → ℕ) : sProp 𝕄 :=
  iprop((levAts L lv : sProp 𝕄) ∗ (bigSep Finset.univ fun c : Dev nD => cellInv ER (Rd A) (K (barC c)) (barC c))
    ∗ bigSep Finset.univ fun c : Dev nD => bigSep Finset.univ fun q : DmaSem sig => cellInv ER (Rd A) (K (dC c q)) (dC c q))

instance (K : GSem nD τ sig → ℕ) : Persistent (Ctx A K) := by unfold Ctx; infer_instance

variable {A} {K : GSem nD τ sig → ℕ}

theorem ctx_lev : Ctx A K ⊢ (levAts L lv : sProp 𝕄) := by
  unfold Ctx; iintro ⟨H, _, _⟩; iexact H
theorem ctx_bar (c : Dev nD) : Ctx A K ⊢ cellInv ER (Rd A) (K (barC c)) (barC c) := by
  have h1 : (bigSep Finset.univ fun c : Dev nD => cellInv ER (Rd A) (K (barC c)) (barC c)) ⊢ cellInv ER (Rd A) (K (barC c)) (barC c) :=
    bigSep_elim (Finset.mem_univ c)
  unfold Ctx; iintro ⟨_, H, _⟩
  iapply h1 $$ H
theorem ctx_dma (c : Dev nD) (q : DmaSem sig) : Ctx A K ⊢ cellInv ER (Rd A) (K (dC c q)) (dC c q) := by
  have h1 : (bigSep Finset.univ fun c : Dev nD => bigSep Finset.univ fun q : DmaSem sig => cellInv ER (Rd A) (K (dC c q)) (dC c q))
      ⊢ cellInv ER (Rd A) (K (dC c q)) (dC c q) :=
    (bigSep_elim (Finset.mem_univ c)).trans (bigSep_elim (Finset.mem_univ q))
  unfold Ctx; iintro ⟨_, _, H⟩
  iapply h1 $$ H

section Steps
variable {dfs : Defs nD τ sig (Elt F) Λ₀} {c : Dev nD} {n : ℕ} {Q : PUnit → sProp (MT nD τ sig Unit (Elt F) ℕ UU ℕ)}
  {k : PUnit → Prog (TpuEff nD τ sig (Elt F) Λ₀ .tc) PUnit}

theorem step_sig {d : Dir} {dev : Dev nD} {sem : Sem sig} {k' : ℕ} (h : pos (.sig d) = n) (hd : has d c = true) (hdev : dev = nb d c)
    (hsem : sem = barrier0) (hk : k' = 1) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.semSignal (dev : Thread nD τ) sem k') k) Q) := by
  subst hdev hsem hk
  unfold St
  rw [Ps_same h, Bar_same h, Snds_same h, Rcvs_same h, Jobs_same A h, Slots_same A h, Xb_same A h, Banks_same A h]
  iintro ⟨#HC, HO, HP, HG, HB, HS, HR, HJ, HSl, HX, HK⟩ Hk
  unfold Ow
  icases HO with ⟨%W, HO⟩
  unfold Sigs
  ihave HG := (bs_focus (Φ := sigSt c n) (Ψ := sigSt c (n + 1)) d fun j hj => sigSt_same h j (fun e => absurd e (by simpa using hj))) $$ HG
  icases HG with ⟨HGi, HG⟩
  have e1 : sigSt c n d ⊢ iprop(dutyTok ER (barC (nb d c)) 0 (opp d) ∗ barPay (nb d c) (opp d) ∗ reached ER (barC (nb d c)) 0 : sProp 𝕄) := by
    unfold sigSt tok; rw [if_pos hd, if_neg (not_done h)]
  have e2 : iprop(emp : sProp 𝕄) ⊢ sigSt c (n + 1) d := by
    unfold sigSt; rw [if_pos hd, if_pos (done_self h)]
  ihave HGi := e1 $$ HGi
  icases HGi with ⟨Ht, Hpay, Hr⟩
  iapply (Rounds.wp_signal 𝒱₀ ER (Rd A) (c : Thread nD τ) none (dst := (nb d c : Thread nD τ)) (sem := barrier0) (r := 0) (d := opp d)
    (k' := 1) (κ := K (barC (nb d c))) (Finset.mem_filter.2 ⟨Finset.mem_univ _, has_opp d c hd⟩) rfl () (owed c (n + 1)) (owed_sig c h hd))
    $$ [HO Ht Hpay Hr]
  · isplitr
    · iapply (ctx_bar (nb d c)) $$ HC
    isplitl [HO]; · iexact HO
    isplitl [Ht]; · iexact Ht
    isplitl [Hpay]; · iapply (Entails.of_eq (payload_bar A _ 0 _).symm) $$ Hpay
    iexact Hr
  iintro HO
  iapply Hk
  isplitl [HO]; · iexists W; iexact HO
  isplitl [HP]; · iexact HP
  isplitl [HG]
  · iapply HG; iapply e2; iempintro
  isplitl [HB]; · iexact HB
  isplitl [HS]; · iexact HS
  isplitl [HR]; · iexact HR
  isplitl [HJ]; · iexact HJ
  isplitl [HSl]; · iexact HSl
  isplitl [HX]; · iexact HX
  iexact HK

/-- A wait for a copy: the credit is spent, the cell moves on a round. -/
theorem wait_core {q : DmaSem sig} {R N : ℕ} {sp sp' : Space} {s s' : Shape} {e e' : EltTy}
    {src : Memref sig (c : Thread nD τ).2.kind sp' s' e'} {κ' : Kind} {dst : Memref sig κ' sp s e} {hsrc : src.view.WordExact} {hdst : dst.view.WordExact}
    (O : CellTallies nD τ sig Unit) (W : Waits sig Unit)
    (hN : dst.view.dmaCredit = N) (hx : (Rd A).expect (dC c q) R = N)
    (hw : (levAts L lv : sProp 𝕄) ⊢ MayWait (c : Thread nD τ) (.dma q) () O) :
    iprop(Ctx A K ∗ owes (c : Thread nD τ) O W ∗ cred (tallyAt (dC c q) () N) ∗ atPos ER (dC c q) R ∅ 0)
      ⊢ iprop((((∃ W, owes (c : Thread nD τ) O W) ∗ (atPos ER (dC c q) (R + 1) ∅ 0 ∗ reached ER (dC c q) (R + 1))
          ∗ bigSep ((Rd A).duties (dC c q) R \ ∅) (fun d => (Rd A).payload (dC c q) R d)) -∗ wp frame (wpE dfs 𝒱₀ (c : Thread nD τ) none) Set.univ (k ⟨⟩) Q)
        -∗ wp frame (wpE dfs 𝒱₀ (c : Thread nD τ) none) Set.univ (.op (.waitDma2 q src dst hsrc hdst) k) Q) := by
  subst hN
  iintro ⟨#HC, HO, Hc, Hp⟩ Hk
  iapply (Rounds.wp_wait_rest_token 𝒱₀ ER (Rd A) (c : Thread nD τ) none (κ := K (dC c q))
    (wpE_waitDma2_eq (src := src) (dst := dst) 𝒱₀ (c : Thread nD τ) none Set.univ) (Set.mem_univ _) () (O := O) (W := W) (R := R) (m := 0) (T := ∅)
    ((Nat.zero_add _).trans hx.symm)) $$ [HO Hc Hp]
  · isplitr
    · iapply (ctx_dma c q) $$ HC
    isplitl [Hc]; · iexact Hc
    isplitl [HO]; · iexact HO
    isplitr
    · iapply (ctx_lev.trans hw) $$ HC
    iexact Hp
  iintro ⟨HO, Hp, Hr, Hpay⟩
  iapply Hk
  isplitl [HO]; · iexists _; iexact HO
  isplitl [Hp Hr]
  · isplitl [Hp] <;> iassumption
  iexact Hpay

end Steps
end Cert.Ag
-- ==== Proof.Parts.lean ====
/-
  How the parts of what a device holds change with an operation: the channels, the local copies and their slots, the converted block
  and the lanes of the result.
-/
module

public import proofs.«01_k».proof.Proof.Steps

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

variable {c : Dev nD} {n : ℕ}

theorem done_sigs {a : Act} (h : pos a = n) (ha : pos .bar ≤ pos a) (d : Dir) : done n (.sig d) := by
  have := ord_sig_bar d; unfold done; omega

section Chans
variable {i : Chan}

theorem sndSt_open (h : pos (.snd i) = n) (hs : snds i c = true) :
    (sndSt c n i : sProp 𝕄) = iprop((tok (dC c (sS i)) 0 .P ∗ tok (dC (tgt i c) (rS i)) 0 .P) ∗ leave c i) := by
  have := ord_bar_snd i
  unfold sndSt; rw [if_pos hs, if_neg (not_done h), if_pos (show done n .bar by unfold done; omega)]
theorem sndSt_sent (h : pos (.snd i) = n) (hs : snds i c = true) :
    (sndSt c (n + 1) i : sProp 𝕄) = cred (tallyAt (dC c (sS i)) () (amt i)) := by
  have := ord_snd_wsd i
  unfold sndSt; rw [if_pos hs, if_pos (done_self h), if_neg (show ¬ done (n + 1) (.wsd i) by unfold done; omega)]
theorem sndSt_wait (h : pos (.wsd i) = n) (hs : snds i c = true) :
    (sndSt c n i : sProp 𝕄) = cred (tallyAt (dC c (sS i)) () (amt i)) := by
  have := ord_snd_wsd i
  unfold sndSt; rw [if_pos hs, if_pos (show done n (.snd i) by unfold done; omega), if_neg (not_done h)]
theorem sndSt_end (h : pos (.wsd i) = n) (hs : snds i c = true) : (sndSt c (n + 1) i : sProp 𝕄) = iprop(emp) := by
  have := ord_snd_wsd i
  unfold sndSt; rw [if_pos hs, if_pos (show done (n + 1) (.snd i) by unfold done; omega), if_pos (done_self h)]
theorem rcvSt_wait (h : pos (.rcv i) = n) (hs : rcvs i c = true) :
    (rcvSt c n i : sProp 𝕄) = cred (tallyAt (dC c (rS i)) () (amt i)) := by
  unfold rcvSt; rw [if_pos hs, if_neg (not_done h)]
theorem rcvSt_end (h : pos (.rcv i) = n) (hs : rcvs i c = true) : (rcvSt c (n + 1) i : sProp 𝕄) = iprop(emp) := by
  unfold rcvSt; rw [if_pos hs, if_pos (done_self h)]

theorem posSt_at {q : DmaSem sig} {r : ℕ} (h : posOf c n q = r) :
    (posSt c n q : sProp 𝕄) = iprop(atPos ER (dC c q) r ∅ 0 ∗ reached ER (dC c q) r) := by unfold posSt; rw [h]

end Chans

variable (A : Dev nD → S16384x1024.Idx → Elt F .f32)

/-! ### Jobs and slots -/

theorem jobSt_open {j : Job} (h : pos (.lst j) = n) :
    (jobSt A c n j : sProp 𝕄) = iprop(tok (dC c (lS j)) (lR j) .P ∗ jpre A c j) := by
  unfold jobSt; rw [if_neg (not_done h)]
theorem jobSt_going {j : Job} (h : pos (.lst j) = n) :
    (jobSt A c (n + 1) j : sProp 𝕄) = cred (tallyAt (dC c (lS j)) () (lamt (lN j))) := by
  have := ord_lst_lwt j
  unfold jobSt; rw [if_pos (done_self h), if_neg (show ¬ done (n + 1) (.lwt j) by unfold done; omega)]
theorem jobSt_wait {j : Job} (h : pos (.lwt j) = n) :
    (jobSt A c n j : sProp 𝕄) = cred (tallyAt (dC c (lS j)) () (lamt (lN j))) := by
  have := ord_lst_lwt j
  unfold jobSt; rw [if_pos (show done n (.lst j) by unfold done; omega), if_neg (not_done h)]
theorem jobSt_done {j : Job} (h : done n (.lwt j)) : (jobSt A c n j : sProp 𝕄) = jkeep A c j := by
  have := ord_lst_lwt j
  unfold jobSt; rw [if_pos (show done n (.lst j) by unfold done at *; omega), if_pos h]

/-- Which slot a chunk goes into: an initial one, or the one an earlier chunk leaves. -/
def slotOf (k : Fin 8) : Fin 2 ⊕ Fin 8 := if h : k.val < 2 then .inl ⟨k.val, h⟩ else .inr ⟨k.val - 2, by omega⟩

theorem slot_take {k : Fin 8} (h : pos (.lst (.f k)) = n) :
    (slotSt A c n (slotOf k)) ⊢ iprop(∃ f, fbP c (pre fslot {⟨k.val % 2, Nat.mod_lt _ (by decide)⟩}) fullShare f) := by
  unfold slotOf
  by_cases hk : k.val < 2
  · rw [dif_pos hk]
    unfold slotSt
    have e : (⟨k.val, hk⟩ : Fin 2) = ⟨k.val % 2, Nat.mod_lt _ (by decide)⟩ := Fin.ext (Nat.mod_eq_of_lt hk).symm
    rw [← e]
    dsimp only
    rw [if_neg (not_done h)]
  · rw [dif_neg hk]
    unfold slotSt
    dsimp only
    have e : (⟨(k.val - 2) % 2, Nat.mod_lt _ (by decide)⟩ : Fin 2) = ⟨k.val % 2, Nat.mod_lt _ (by decide)⟩ := Fin.ext (by simp; omega)
    have h1 := ord_lR (.f ⟨k.val - 2, by omega⟩) (.f k) (by simp [lN]; omega) (by simp [lR]; omega)
    rw [if_pos ⟨show done n _ by unfold done; omega, fun ⟨k', hk', hd⟩ => by
      have : k' = k := Fin.ext (by simp at hk'; omega)
      subst this; exact not_done h hd⟩]
    unfold jdst
    dsimp only
    rw [e]
    iintro H
    iexists _
    iexact H
theorem slot_gone {k : Fin 8} (h : pos (.lst (.f k)) = n) : (slotSt A c (n + 1) (slotOf k)) = iprop(emp) := by
  unfold slotOf
  by_cases hk : k.val < 2
  · rw [dif_pos hk]
    unfold slotSt
    dsimp only
    rw [if_pos (done_self h)]
  · rw [dif_neg hk]
    unfold slotSt
    dsimp only
    rw [if_neg fun e => e.2 ⟨k, by simp; omega, done_self h⟩]
theorem slot_other {k : Fin 8} (h : pos (.lst (.f k)) = n) (z : Fin 2 ⊕ Fin 8) (hz : z ≠ slotOf k) :
    slotSt A c n z = slotSt A c (n + 1) z := by
  cases z with
  | inl s =>
    refine slotSt_inl_same A h s fun e => hz ?_
    have e : s.val = k.val := by simpa [Fin.ext_iff] using e
    unfold slotOf; rw [dif_pos (by omega)]; congr 1; exact Fin.ext e
  | inr j =>
    refine slotSt_inr_same A h j (fun k' hk' e => hz ?_) (by simp)
    have e : k' = k := by simpa using e
    subst e
    unfold slotOf; rw [dif_neg (by omega)]; congr 1; exact Fin.ext (by simp; omega)
theorem slot_has {k : Fin 8} (h : done n (.lwt (.f k))) (h' : ∀ k' : Fin 8, k'.val = k.val + 2 → n ≤ pos (.lst (.f k'))) :
    slotSt A c n (.inr k) = jdst A c (.f k) := by
  unfold slotSt
  dsimp only
  rw [if_pos ⟨h, fun ⟨k', hk', hd⟩ => by have := h' k' hk'; unfold done at hd; omega⟩]
theorem slot_empty {k : Fin 8} (h : ¬ done n (.lwt (.f k))) : slotSt A c n (.inr k) = iprop(emp) := by
  unfold slotSt
  dsimp only
  rw [if_neg fun e => h e.1]

/-! ### The converted block -/

theorem cvd_of_snd {i : Chan} (hx : fromX i = true) (h : pos (.snd i) ≤ n) : xswin i c ⊆ cvd c n := by
  intro a ha
  rw [mem_cvd]
  unfold xswin at ha
  rw [mem_xwin] at ha
  cases i with
  | inj g =>
    have := ord_pcv_snd g (.inj g)
    refine .inl ⟨g, by unfold done; omega, mem_xrows.2 ?_⟩
    exact ha.2
  | h3 j =>
    have hj := j.isLt
    have h2 : 4 * j.val ≤ a.1.val ∧ a.1.val < 4 * j.val + 4 := ha.2
    by_cases hk : a.1.val < 4 * j.val + 2
    · have := ord_cnv_h3 j ⟨2 * j.val, by omega⟩ (by simp)
      exact .inr ⟨⟨2 * j.val, by omega⟩, by unfold done; omega, mem_xrows.2 ⟨by simp; omega, by simp; omega⟩⟩
    · have := ord_cnv_h3 j ⟨2 * j.val + 1, by omega⟩ (by simp; omega)
      exact .inr ⟨⟨2 * j.val + 1, by omega⟩, by unfold done; omega, mem_xrows.2 ⟨by simp; omega, by simp; omega⟩⟩
  | a => cases hx
  | b => cases hx
theorem cvd_of_own {k : Fin 8} (h : pos (.lst (.o k)) ≤ n) : xrows (2 * k.val) 2 ⊆ cvd c n := by
  intro a ha
  rw [mem_cvd]
  have := ord_cnv_own' k k
  exact .inr ⟨k, by unfold done; omega, ha⟩

theorem xbP_congr {S : Finset S16384x1024.Idx} {q : PosShare TreeShare} {f g : S16384x1024.Idx → Elt F .bf16} (h : ∀ i ∈ S, f i = g i) :
    (xbP c S q f) = xbP c S q g := pointsTo_congr h
theorem Xb_snd {i : Chan} (h : pos (.snd i) = n) (hx : fromX i = true) :
    Xb A c n ⊢ iprop(Xb A c (n + 1) ∗ xbP c (pre xatom (xswin i c)) fullShare.right (XB A c)) := by
  unfold Xb
  rw [cvd_same h (by simp) (by simp), lfree_same h (by simp) (by simp), (rfree_snd h hx).1]
  have hd := (rfree_snd (c := c) h hx).2
  have hcv := cvd_of_snd (c := c) hx (le_of_eq h)
  iintro ⟨%f, %hf, HL, HR⟩
  have e1 : xbP c (pre xatom (rfree c (n + 1) ∪ xswin i c)) fullShare.right f
      ⊢ iprop(xbP c (pre xatom (rfree c (n + 1))) fullShare.right f ∗ xbP c (pre xatom (xswin i c)) fullShare.right (XB A c)) := by
    rw [pre_union, xbP_congr (S := pre xatom (xswin i c)) (f := XB A c) (g := f) fun i hi => (hf i (hcv (mem_pre.1 hi))).symm]
    exact (pointsTo_union (pre_disjoint hd)).1
  ihave HR := e1 $$ HR
  icases HR with ⟨HR, HS⟩
  isplitl [HL HR]
  · iexists f
    isplitr
    · ipureintro; exact hf
    isplitl [HL] <;> iassumption
  iexact HS
theorem Xb_wsd {i : Chan} (h : pos (.wsd i) = n) (hx : fromX i = true) :
    iprop(Xb A c n ∗ xbP c (pre xatom (xswin i c)) fullShare.right (XB A c)) ⊢ Xb A c (n + 1) := by
  have hs := ord_snd_wsd i
  unfold Xb
  rw [cvd_same h (by simp) (by simp), lfree_same h (by simp) (by simp), (rfree_wsd h hx).1]
  have hd := (rfree_wsd (c := c) h hx).2
  have hcv := cvd_of_snd (c := c) (n := n) hx (by omega)
  iintro ⟨⟨%f, %hf, HL, HR⟩, HS⟩
  have e1 : iprop(xbP c (pre xatom (rfree c n)) fullShare.right f ∗ xbP c (pre xatom (xswin i c)) fullShare.right (XB A c))
      ⊢ xbP c (pre xatom (rfree c n ∪ xswin i c)) fullShare.right f := by
    rw [pre_union, xbP_congr (S := pre xatom (xswin i c)) (f := XB A c) (g := f) fun i hi => (hf i (hcv (mem_pre.1 hi))).symm]
    exact (pointsTo_union (pre_disjoint hd)).2
  iexists f
  isplitr
  · ipureintro; exact hf
  isplitl [HL]; · iexact HL
  iapply e1
  isplitl [HR] <;> iassumption
theorem Xb_lst {k : Fin 8} (h : pos (.lst (.o k)) = n) : Xb A c n ⊢ iprop(Xb A c (n + 1) ∗ jsrc A c (.o k)) := by
  unfold Xb jsrc
  rw [cvd_same h (by simp) (by simp), rfree_same h (by simp), (lfree_lst h).1]
  have hd := (lfree_lst h).2
  have hcv := cvd_of_own (c := c) (le_of_eq h)
  iintro ⟨%f, %hf, HL, HR⟩
  have e1 : xbP c (pre xatom (lfree (n + 1) ∪ xrows (2 * k.val) 2)) fullShare.left f
      ⊢ iprop(xbP c (pre xatom (lfree (n + 1))) fullShare.left f ∗ xbP c (pre xatom (xrows (2 * k.val) 2)) fullShare.left (XB A c)) := by
    rw [pre_union, xbP_congr (S := pre xatom (xrows (2 * k.val) 2)) (f := XB A c) (g := f) fun i hi => (hf i (hcv (mem_pre.1 hi))).symm]
    exact (pointsTo_union (pre_disjoint hd)).1
  ihave HL := e1 $$ HL
  icases HL with ⟨HL, HS⟩
  isplitl [HL HR]
  · iexists f
    isplitr
    · ipureintro; exact hf
    isplitl [HL] <;> iassumption
  iexact HS
theorem Xb_lwt {k : Fin 8} (h : pos (.lwt (.o k)) = n) : iprop(Xb A c n ∗ jsrc A c (.o k)) ⊢ Xb A c (n + 1) := by
  have hs := ord_lst_lwt (.o k)
  unfold Xb jsrc
  rw [cvd_same h (by simp) (by simp), rfree_same h (by simp), (lfree_lwt h).1]
  have hd := (lfree_lwt h).2
  have hcv := cvd_of_own (c := c) (k := k) (n := n) (by omega)
  iintro ⟨⟨%f, %hf, HL, HR⟩, HS⟩
  have e1 : iprop(xbP c (pre xatom (lfree n)) fullShare.left f ∗ xbP c (pre xatom (xrows (2 * k.val) 2)) fullShare.left (XB A c))
      ⊢ xbP c (pre xatom (lfree n ∪ xrows (2 * k.val) 2)) fullShare.left f := by
    rw [pre_union, xbP_congr (S := pre xatom (xrows (2 * k.val) 2)) (f := XB A c) (g := f) fun i hi => (hf i (hcv (mem_pre.1 hi))).symm]
    exact (pointsTo_union (pre_disjoint hd)).2
  iexists f
  isplitr
  · ipureintro; exact hf
  isplitl [HL HS]
  · iapply e1
    isplitl [HL] <;> iassumption
  iexact HR

/-! ### The lanes of the result -/

theorem lanes {S : Finset S32768x1024.Idx} {f : S32768x1024.Idx → Elt F .bf16} :
    (outP c S fullShare f) ⊣⊢ (bigSep Finset.univ fun s : Sh => outP c S (shq s) f) := by
  have e : (bigSep Finset.univ fun s : Sh => outP c S (shq s) f)
      = iprop(outP c S fullShare.left.left f ∗ outP c S fullShare.left.right f ∗ outP c S fullShare.right.left f ∗ outP c S fullShare.right.right f) :=
    bigSep_univ_eq_bigSepL [Sh.au, .ad, .bu, .bd] (by decide) (by decide) _
  rw [e]
  have s0 : (outP c S fullShare f) ⊣⊢ iprop(outP c S fullShare.left f ∗ outP c S fullShare.right f) :=
    pointsTo_share (PosShare.mem_left_op_right fullShare)
  have s1 : (outP c S fullShare.left f) ⊣⊢ iprop(outP c S fullShare.left.left f ∗ outP c S fullShare.left.right f) :=
    pointsTo_share (PosShare.mem_left_op_right fullShare.left)
  have s2 : (outP c S fullShare.right f) ⊣⊢ iprop(outP c S fullShare.right.left f ∗ outP c S fullShare.right.right f) :=
    pointsTo_share (PosShare.mem_left_op_right fullShare.right)
  constructor
  · iintro H
    ihave H := s0.1 $$ H
    icases H with ⟨H1, H2⟩
    ihave H1 := s1.1 $$ H1
    ihave H2 := s2.1 $$ H2
    icases H1 with ⟨H1, H3⟩
    icases H2 with ⟨H2, H4⟩
    isplitl [H1]; · iexact H1
    isplitl [H3]; · iexact H3
    isplitl [H2]; · iexact H2
    iexact H4
  · iintro ⟨H1, H3, H2, H4⟩
    iapply s0.2
    isplitl [H1 H3]
    · iapply s1.2
      isplitl [H1] <;> iassumption
    · iapply s2.2
      isplitl [H2] <;> iassumption

theorem Banks_got {p : Piece} (h : pos (gotAct p) = n) :
    iprop(Banks A c n ∗ outP c (pre atom (piece c p)) fullShare (fin A c)) ⊢ Banks A c (n + 1) := by
  have hm : ∀ s : Sh, iprop(bankSt A c n s ∗ outP c (pre atom (piece c p)) (shq s) (fin A c)) ⊢ bankSt A c (n + 1) s := by
    intro s
    unfold bankSt outP
    rw [(bank_got h).1, pre_union]
    exact (pointsTo_union (pre_disjoint (bank_got h).2)).2
  unfold Banks
  refine (sep_mono_right lanes.1).trans ((Entails.of_eq (bigSep_sep _ _ _).symm).trans ?_)
  exact bigSep_mono fun s _ => hm s

theorem Banks_snd {i : Chan} (h : pos (.snd i) = n) (hx : fromX i = false) (hs : snds i c = true) :
    Banks A c n ⊢ iprop(Banks A c (n + 1) ∗ outP c (pre atom (swin i c)) (shq (shOf i)) (fin A c)) := by
  unfold Banks
  have hf := bs_focus (Φ := bankSt A c n) (Ψ := bankSt A c (n + 1)) (shOf i) fun s hss => bankSt_same A h s
    (by intro p; cases p <;> simp [gotAct]) fun j hj hjs _ => ⟨by rintro e; simp at e; subst e; exact hss hjs.symm, by simp⟩
  have e1 : bankSt A c n (shOf i) ⊢ iprop(bankSt A c (n + 1) (shOf i) ∗ outP c (pre atom (swin i c)) (shq (shOf i)) (fin A c)) := by
    unfold bankSt outP
    rw [(bank_snd h hx hs).1, pre_union]
    exact (pointsTo_union (pre_disjoint (bank_snd h hx hs).2)).1
  iintro H
  ihave H := hf $$ H
  icases H with ⟨H, Hr⟩
  ihave H := e1 $$ H
  icases H with ⟨H, Hs⟩
  isplitl [H Hr]
  · iapply Hr $$ H
  iexact Hs
theorem Banks_wsd {i : Chan} (h : pos (.wsd i) = n) (hx : fromX i = false) (hs : snds i c = true) :
    iprop(Banks A c n ∗ outP c (pre atom (swin i c)) (shq (shOf i)) (fin A c)) ⊢ Banks A c (n + 1) := by
  unfold Banks
  have hf := bs_focus (Φ := bankSt A c n) (Ψ := bankSt A c (n + 1)) (shOf i) fun s hss => bankSt_same A h s
    (by intro p; cases p <;> simp [gotAct]) fun j hj hjs _ => ⟨by simp, by rintro e; simp at e; subst e; exact hss hjs.symm⟩
  have e1 : iprop(bankSt A c n (shOf i) ∗ outP c (pre atom (swin i c)) (shq (shOf i)) (fin A c)) ⊢ bankSt A c (n + 1) (shOf i) := by
    unfold bankSt outP
    rw [(bank_wsd h hx hs).1, pre_union]
    exact (pointsTo_union (pre_disjoint (bank_wsd h hx hs).2)).2
  iintro ⟨H, Hs⟩
  ihave H := hf $$ H
  icases H with ⟨H, Hr⟩
  iapply Hr
  iapply e1
  isplitl [H] <;> iassumption

/-- Taking the source of a remote copy, and putting it back. -/
theorem take_src {i : Chan} (h : pos (.snd i) = n) (hs : snds i c = true) :
    iprop(Xb A c n ∗ Banks A c n) ⊢ iprop((Xb A c (n + 1) ∗ Banks A c (n + 1)) ∗ sndPay A c i) := by
  unfold sndPay
  by_cases hx : fromX i = true
  · rw [if_pos hx, Banks_same A h (by intro p; cases p <;> simp [gotAct]) fun j hj _ => ⟨by rintro e; simp at e; subst e; simp [hx] at hj, by simp⟩]
    iintro ⟨HX, HB⟩
    ihave HX := (Xb_snd A h hx) $$ HX
    icases HX with ⟨HX, HS⟩
    isplitl [HX HB]
    · isplitl [HX] <;> iassumption
    iexact HS
  · have hx' : fromX i = false := by simpa using hx
    rw [if_neg hx, Xb_same A h (by simp) (by simp) (fun j hj => ⟨by rintro e; simp at e; subst e; exact hx hj, by simp⟩) (by simp) (by simp)]
    iintro ⟨HX, HB⟩
    ihave HB := (Banks_snd A h hx' hs) $$ HB
    icases HB with ⟨HB, HS⟩
    isplitl [HX HB]
    · isplitl [HX] <;> iassumption
    iexact HS
theorem put_src {i : Chan} (h : pos (.wsd i) = n) (hs : snds i c = true) :
    iprop((Xb A c n ∗ Banks A c n) ∗ sndPay A c i) ⊢ iprop(Xb A c (n + 1) ∗ Banks A c (n + 1)) := by
  unfold sndPay
  by_cases hx : fromX i = true
  · rw [if_pos hx, Banks_same A h (by intro p; cases p <;> simp [gotAct]) fun j hj _ => ⟨by simp, by rintro e; simp at e; subst e; simp [hx] at hj⟩]
    iintro ⟨⟨HX, HB⟩, HS⟩
    isplitl [HX HS]
    · iapply (Xb_wsd A h hx)
      isplitl [HX] <;> iassumption
    iexact HB
  · have hx' : fromX i = false := by simpa using hx
    rw [if_neg hx, Xb_same A h (by simp) (by simp) (fun j hj => ⟨by simp, by rintro e; simp at e; subst e; exact hx hj⟩) (by simp) (by simp)]
    iintro ⟨⟨HX, HB⟩, HS⟩
    isplitl [HX]; · iexact HX
    iapply (Banks_wsd A h hx' hs)
    isplitl [HB] <;> iassumption

/-- What the barrier brings: for every channel a device sends on, the window it is to write. -/
theorem bar_leave : (bigSep ((Rd A).duties (barC c) 0 \ ∅) fun d => (Rd A).payload (barC c) 0 d)
    ⊢ bigSep Finset.univ fun i : Chan => if snds i c = true then leave c i else iprop(emp) := by
  rw [Finset.sdiff_empty, duties_bar]
  have h1 : (bigSep (Finset.univ.filter fun d => has d c = true) fun d => (Rd A).payload (barC c) 0 d)
      ⊢ bigSep Finset.univ fun d => barPay (F := F) c d := by
    rw [bigSep_filter]
    refine bigSep_mono fun d _ => ?_
    rw [payload_bar]
    by_cases hd : has d c = true
    · rw [if_pos hd]; exact Entails.refl _
    · rw [if_neg hd]
      unfold barPay
      have : ∀ i ∈ (Finset.univ : Finset Chan), (if dirOf i = d ∧ snds i c = true then
          iprop((∃ f, outP (F := F) (nb d c) (pre atom (swin i c)) fullShare f) ∗ reached ER (dC (nb d c) (rS i)) 0) else iprop(emp)) = iprop(emp) := by
        intro i _
        exact if_neg (fun e : dirOf i = d ∧ snds i c = true => hd (e.1 ▸ has_of_snds i c e.2))
      rw [bigSep_congr this]
      exact Entails.of_eq (bigSep_emp_const _).symm
  refine h1.trans ?_
  unfold barPay
  rw [bigSep_univ_comm]
  refine bigSep_mono fun i _ => ?_
  refine (bigSep_elim (Finset.mem_univ (dirOf i))).trans ?_
  by_cases hs : snds i c = true
  · rw [if_pos hs, if_pos ⟨rfl, hs⟩]
    unfold leave tgt
    exact Entails.refl _
  · rw [if_neg hs, if_neg (fun e : dirOf i = dirOf i ∧ snds i c = true => hs e.2)]
    exact Entails.refl _
theorem Snds_bar (h : pos .bar = n) :
    iprop(Snds c n ∗ bigSep Finset.univ fun i : Chan => if snds i c = true then leave c i else iprop(emp)) ⊢ (Snds c (n + 1) : sProp 𝕄) := by
  have hm : ∀ i : Chan, iprop(sndSt c n i ∗ (if snds i c = true then leave c i else iprop(emp))) ⊢ (sndSt c (n + 1) i : sProp 𝕄) := by
    intro i
    have := ord_bar_snd i
    unfold sndSt
    by_cases hs : snds i c = true
    · rw [if_pos hs, if_pos hs, if_pos hs, if_neg (show ¬ done n (.snd i) by unfold done; omega), if_neg (show ¬ done (n + 1) (.snd i) by unfold done; omega),
        if_neg (not_done h), if_pos (done_self h)]
      iintro ⟨⟨H, -⟩, HL⟩
      isplitl [H] <;> iassumption
    · rw [if_neg hs, if_neg hs, if_neg hs]
      iintro ⟨H, -⟩
      iexact H
  unfold Snds
  exact (Entails.of_eq (bigSep_sep _ _ _).symm).trans (bigSep_mono fun i _ => hm i)

end Cert.Ag
-- ==== Proof.Ends.lean ====
/-
  The two ends of the walk: what a device holds when its kernel begins makes the state before the script's first operation, and the
  state after the last gives everything back.
-/
module

public import proofs.«01_k».proof.Proof.Parts

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

theorem d0 (a : Act) : ¬ done 0 a := Nat.not_lt_zero _
theorem dE (a : Act) : done script.length a := pos_lt a

/-! ## Sums over the kinds -/

def jobE : Fin 8 ⊕ (Fin 2 ⊕ Fin 8) ≃ Job where
  toFun | .inl k => .f k | .inr (.inl h) => .p h | .inr (.inr k) => .o k
  invFun | .f k => .inl k | .p h => .inr (.inl h) | .o k => .inr (.inr k)
  left_inv x := by rcases x with k | h | k <;> rfl
  right_inv j := by cases j <;> rfl
def pieceE : Fin 8 ⊕ Chan ≃ Piece where
  toFun | .inl k => .own k | .inr i => .rcv i
  invFun | .own k => .inl k | .rcv i => .inr i
  left_inv x := by rcases x with k | i <;> rfl
  right_inv p := by cases p <;> rfl

theorem bigSep_job (Φ : Job → sProp 𝕄) : bigSep Finset.univ Φ
    = iprop((bigSep Finset.univ fun k => Φ (.f k)) ∗ (bigSep Finset.univ fun h => Φ (.p h)) ∗ bigSep Finset.univ fun k => Φ (.o k)) := by
  rw [bigSep_univ_equiv jobE, bigSep_univ_sum, bigSep_univ_sum]; rfl
theorem bigSep_piece (Φ : Piece → sProp 𝕄) : bigSep Finset.univ Φ
    = iprop((bigSep Finset.univ fun k => Φ (.own k)) ∗ bigSep Finset.univ fun i => Φ (.rcv i)) := by
  rw [bigSep_univ_equiv pieceE, bigSep_univ_sum]; rfl

/-! ## The buffers, cut up -/

theorem xrows_cover (a : XAtom) : ∃ k : Fin 8, a ∈ xrows (2 * k.val) 2 :=
  ⟨⟨a.1.val / 2, by omega⟩, by rw [mem_xrows]; dsimp only; omega⟩
theorem xrows_union : (Finset.univ : Finset (Fin 8)).biUnion (fun k => pre xatom (xrows (2 * k.val) 2)) = (Finset.univ : Finset S16384x1024.Idx) := by
  ext i
  obtain ⟨k, hk⟩ := xrows_cover (xatom i)
  simp only [Finset.mem_biUnion, Finset.mem_univ, true_and, iff_true]
  exact ⟨k, mem_pre.2 hk⟩
theorem piece_union (c : Dev nD) : (Finset.univ : Finset Piece).biUnion (fun p => pre atom (piece c p)) = (Finset.univ : Finset S32768x1024.Idx) := by
  ext i
  obtain ⟨k, hk⟩ := piece_cover c (atom i)
  simp only [Finset.mem_biUnion, Finset.mem_univ, true_and, iff_true]
  exact ⟨k, mem_pre.2 hk⟩

/-- What no local copy reads of the argument's right half. -/
def argRest (A : Dev nD → S16384x1024.Idx → Elt F .f32) (c : Dev nD) : sProp 𝕄 :=
  iprop(argP c (Finset.univ \ pre xatom (xrows (idx 0 c) 1)) fullShare.right.left (A c)
    ∗ argP c (Finset.univ \ pre xatom (xrows (idx 1 c) 1)) fullShare.right.right (A c))

variable (A : Dev nD → S16384x1024.Idx → Elt F .f32) (c : Dev nD)

theorem arg_split : (argP c Finset.univ fullShare (A c)) ⊣⊢
    iprop((bigSep Finset.univ fun k => jsrc A c (.f k)) ∗ (bigSep Finset.univ fun h => jsrc A c (.p h)) ∗ argRest A c) := by
  have s0 : (argP c Finset.univ fullShare (A c)) ⊣⊢ iprop(argP c Finset.univ fullShare.left (A c) ∗ argP c Finset.univ fullShare.right (A c)) :=
    pointsTo_share (PosShare.mem_left_op_right fullShare)
  have s1 : (argP c Finset.univ fullShare.right (A c)) ⊣⊢ iprop(argP c Finset.univ fullShare.right.left (A c) ∗ argP c Finset.univ fullShare.right.right (A c)) :=
    pointsTo_share (PosShare.mem_left_op_right fullShare.right)
  have s2 : (argP c Finset.univ fullShare.right.left (A c)) ⊣⊢ iprop(argP c (pre xatom (xrows (idx 0 c) 1)) fullShare.right.left (A c)
      ∗ argP c (Finset.univ \ pre xatom (xrows (idx 0 c) 1)) fullShare.right.left (A c)) := pointsTo_split_subset (Finset.subset_univ _)
  have s3 : (argP c Finset.univ fullShare.right.right (A c)) ⊣⊢ iprop(argP c (pre xatom (xrows (idx 1 c) 1)) fullShare.right.right (A c)
      ∗ argP c (Finset.univ \ pre xatom (xrows (idx 1 c) 1)) fullShare.right.right (A c)) := pointsTo_split_subset (Finset.subset_univ _)
  have s4 : (argP c Finset.univ fullShare.left (A c)) = bigSep Finset.univ fun k => jsrc A c (.f k) := by
    have h := pointsTo_biUnion (ℓ := (c : Thread nD τ).loc main_arg0) (q := fullShare.left) (f := A c) (Ix := Unit) (Name := ℕ) (U := UU) (Lvl := ℕ)
      (Finset.univ : Finset (Fin 8)) (fun k => pre xatom (xrows (2 * k.val) 2))
      (fun k _ k' _ hk => pre_disjoint (xrows_disjoint hk))
    have e : (argP c ((Finset.univ : Finset (Fin 8)).biUnion fun k => pre xatom (xrows (2 * k.val) 2)) fullShare.left (A c) : sProp 𝕄)
      = bigSep Finset.univ fun k => jsrc A c (.f k) := h
    rwa [xrows_union] at e
  have e2 : (bigSep Finset.univ fun h => jsrc A c (.p h)) = iprop(argP c (pre xatom (xrows (idx 0 c) 1)) fullShare.right.left (A c)
      ∗ argP c (pre xatom (xrows (idx 1 c) 1)) fullShare.right.right (A c)) := bigSep_fin_two _
  rw [e2, ← s4]
  unfold argRest
  constructor
  · iintro H
    ihave H0 := s0.1 $$ H
    icases H0 with ⟨HL, HR⟩
    ihave H1 := s1.1 $$ HR
    icases H1 with ⟨H2, H3⟩
    ihave H2 := s2.1 $$ H2
    icases H2 with ⟨H2, H2'⟩
    ihave H3 := s3.1 $$ H3
    icases H3 with ⟨H3, H3'⟩
    isplitl [HL]; · iexact HL
    isplitl [H2 H3]
    · isplitl [H2] <;> iassumption
    isplitl [H2'] <;> iassumption
  · iintro ⟨HL, ⟨H2, H3⟩, H2', H3'⟩
    iapply s0.2
    isplitl [HL]; · iexact HL
    iapply s1.2
    isplitl [H2 H2']
    · iapply s2.2
      isplitl [H2] <;> iassumption
    · iapply s3.2
      isplitl [H3] <;> iassumption

theorem out_split (f : S32768x1024.Idx → Elt F .bf16) : (outP c Finset.univ fullShare f)
    ⊢ iprop((bigSep Finset.univ fun k => iprop(∃ f, outP c (pre atom (owin k c)) fullShare f))
      ∗ bigSep Finset.univ fun i : Chan => if rcvs i c = true then iprop(∃ f, outP c (pre atom (rwin i c)) fullShare f) else iprop(emp)) := by
  have h := pointsTo_biUnion (ℓ := (c : Thread nD τ).loc main_v2) (q := fullShare) (f := f) (Ix := Unit) (Name := ℕ) (U := UU) (Lvl := ℕ)
      (Finset.univ : Finset Piece) (fun p => pre atom (piece c p)) (fun k _ k' _ hk => pre_disjoint (piece_disjoint c hk))
  have e : (outP c ((Finset.univ : Finset Piece).biUnion fun p => pre atom (piece c p)) fullShare f : sProp 𝕄)
      = bigSep Finset.univ fun p => outP c (pre atom (piece c p)) fullShare f := h
  rw [piece_union, bigSep_piece] at e
  have h1 : ∀ k : Fin 8, (outP c (pre atom (piece c (.own k))) fullShare f : sProp 𝕄) ⊢ iprop(∃ f, outP c (pre atom (owin k c)) fullShare f) := fun k => by
    iintro H; iexists f; iexact H
  have h2 : ∀ i : Chan, (outP c (pre atom (piece c (.rcv i))) fullShare f : sProp 𝕄)
      ⊢ (if rcvs i c = true then iprop(∃ f, outP c (pre atom (rwin i c)) fullShare f) else iprop(emp)) := fun i => by
    by_cases hi : rcvs i c = true
    · rw [if_pos hi, show piece c (.rcv i) = rwin i c from if_pos hi]
      iintro H; iexists f; iexact H
    · rw [if_neg hi]; iintro -; iempintro
  rw [e]
  exact BI.sep_mono (bigSep_mono fun k _ => h1 k) (bigSep_mono fun i _ => h2 i)

theorem slots_univ {ι : Type} [Fintype ι] [DecidableEq ι] (f : ι → Fin 2) : pre f {0} ∪ pre f {1} = Finset.univ := by
  rw [← pre_union, show ({0} ∪ {1} : Finset (Fin 2)) = Finset.univ from by decide, pre_univ]
theorem slots_disj {ι : Type} [Fintype ι] [DecidableEq ι] (f : ι → Fin 2) : Disjoint (pre f {0}) (pre f {1}) :=
  pre_disjoint (by decide)

/-- A buffer of two slots. -/
theorem two_split {ℓ : Loc nD τ sig} {I J S : Finset (Idx ℓ)} (hd : Disjoint I J) (hu : I ∪ J = S) {f : Buf (Elt F) ℓ} :
    (ℓ ↦[S]{fullShare} f : sProp 𝕄) ⊢ iprop((∃ f, ℓ ↦[I]{fullShare} f) ∗ ∃ f, ℓ ↦[J]{fullShare} f) := by
  subst hu
  refine (pointsTo_union hd).1.trans ?_
  iintro ⟨H1, H2⟩
  isplitl [H1]
  · iexists f; iexact H1
  · iexists f; iexact H2
theorem two_join {ℓ : Loc nD τ sig} {I J S : Finset (Idx ℓ)} (hd : Disjoint I J) (hu : I ∪ J = S) {f g : Buf (Elt F) ℓ} :
    iprop((ℓ ↦[I]{fullShare} f) ∗ ℓ ↦[J]{fullShare} g) ⊢ (iprop(∃ f, ℓ ↦[S]{fullShare} f) : sProp 𝕄) := by
  subst hu
  refine (pointsTo_join hd).trans ?_
  iintro H
  iexists _; iexact H

/-! ## The beginning -/

/-- A window received, with its cell. -/
def inWin (i : Chan) : sProp 𝕄 :=
  if rcvs i c = true then iprop((∃ f, outP c (pre atom (rwin i c)) fullShare f) ∗ reached ER (dC c (rS i)) 0) else iprop(emp)

theorem to_any (P : sProp 𝕄) : P ⊢ iprop(emp) := by iintro -; iempintro

theorem barPay_of (d : Dir) (hd : has d c = true) :
    (bigSep Finset.univ fun i : Chan => if has d c = true ∧ dirOf i = opp d then inWin (F := F) c i else iprop(emp)) ⊢ barPay (nb d c) (opp d) := by
  have h : ∀ i : Chan, (if has d c = true ∧ dirOf i = opp d then inWin (F := F) c i else iprop(emp))
      ⊢ (if dirOf i = opp d ∧ snds i (nb d c) = true then
        iprop((∃ f, outP (nb (opp d) (nb d c)) (pre atom (swin i (nb d c))) fullShare f) ∗ reached ER (dC (nb (opp d) (nb d c)) (rS i)) 0) else iprop(emp)) := fun i => by
    rw [nb_opp]
    by_cases hi : dirOf i = opp d
    · rw [if_pos ⟨hd, hi⟩]
      have e : src i c = nb d c := by unfold src; rw [hi, opp_opp]
      have er : rcvs i c = snds i (nb d c) := by unfold rcvs; rw [e, hi, opp_opp, hd]; exact Bool.true_and _
      unfold inWin rwin
      rw [er, e]
      by_cases hs : snds i (nb d c) = true
      · rw [if_pos hs, if_pos ⟨hi, hs⟩]
      · rw [if_neg hs, if_neg fun h => hs h.2]
    · rw [if_neg fun h => hi h.2, if_neg fun h => hi h.1]
  unfold barPay
  exact bigSep_mono fun i _ => h i

/-- The windows received, by the neighbour they are received from. -/
theorem windows : (bigSep Finset.univ fun i : Chan => inWin (F := F) c i)
    ⊢ bigSep Finset.univ fun d : Dir => if has d c = true then barPay (nb d c) (opp d) else iprop(emp) := by
  have h1 : ∀ i : Chan, inWin (F := F) c i ⊢ bigSep Finset.univ fun d : Dir => if has d c = true ∧ dirOf i = opp d then inWin c i else iprop(emp) := by
    intro i
    have e := bigSep_univ_split (opp (dirOf i)) (Φ := fun d : Dir => if has d c = true ∧ dirOf i = opp d then inWin (F := F) c i else iprop(emp))
    have h2 : (bigSep (Finset.univ.erase (opp (dirOf i))) fun d : Dir => if has d c = true ∧ dirOf i = opp d then inWin (F := F) c i else iprop(emp)) = iprop(emp) :=
      (bigSep_congr fun d hd => if_neg fun h => Finset.ne_of_mem_erase hd (by rw [h.2, opp_opp])).trans (bigSep_emp_const _)
    rw [h2] at e
    refine BIBase.Entails.trans ?_ (Entails.of_eq e.symm)
    have h3 : ∀ P : sProp 𝕄, P ⊢ iprop(P ∗ emp) := fun P => by
      iintro H
      isplitl [H]; · iexact H
      iempintro
    have h4 : inWin (F := F) c i ⊢ (if has (opp (dirOf i)) c = true ∧ dirOf i = opp (opp (dirOf i)) then inWin c i else iprop(emp)) := by
      by_cases hh : has (opp (dirOf i)) c = true
      · rw [if_pos ⟨hh, (opp_opp _).symm⟩]
      · rw [if_neg fun h => hh h.1]; exact to_any _
    exact h4.trans (h3 _)
  refine (bigSep_mono fun i _ => h1 i).trans ?_
  rw [bigSep_univ_comm]
  refine bigSep_mono fun d _ => ?_
  by_cases hd : has d c = true
  · rw [if_pos hd]; exact barPay_of c d hd
  · rw [if_neg hd]; exact to_any _

/-- The tokens of the duties a device pays. -/
def toks : sProp 𝕄 :=
  iprop((bigSep Finset.univ fun d : Dir => tok (barC (nb d c)) 0 (opp d))
    ∗ (bigSep Finset.univ fun i : Chan => iprop(tok (dC c (sS i)) 0 .P ∗ tok (dC (tgt i c) (rS i)) 0 .P))
    ∗ bigSep Finset.univ fun j : Job => tok (dC c (lS j)) (lR j) .P)
/-- The credit a device is launched with. -/
def creds : sProp 𝕄 :=
  iprop(cred (tallyAt (barC c) () (nbs c)) ∗ bigSep Finset.univ fun i : Chan => if rcvs i c = true then cred (tallyAt (dC c (rS i)) () (amt i)) else iprop(emp))
/-- The positions and the rounds reached at the beginning. -/
def starts : sProp 𝕄 :=
  iprop((bigSep Finset.univ fun q : DmaSem sig => iprop(atPos ER (dC c q) 0 ∅ 0 ∗ reached ER (dC c q) 0)) ∗ atPos ER (barC c) 0 ∅ 0
    ∗ bigSep Finset.univ fun d : Dir => reached ER (barC (nb d c)) 0)

theorem sigs_zero : iprop((bigSep Finset.univ fun d : Dir => tok (barC (nb d c)) 0 (opp d))
    ∗ (bigSep Finset.univ fun d : Dir => if has d c = true then barPay (F := F) (nb d c) (opp d) else iprop(emp))
    ∗ bigSep Finset.univ fun d : Dir => reached ER (barC (nb d c)) 0) ⊢ Sigs (F := F) c 0 := by
  have h : ∀ d : Dir, iprop(tok (barC (nb d c)) 0 (opp d) ∗ (if has d c = true then barPay (F := F) (nb d c) (opp d) else iprop(emp)) ∗ reached ER (barC (nb d c)) 0)
      ⊢ sigSt c 0 d := fun d => by
    unfold sigSt
    by_cases hd : has d c = true
    · rw [if_pos hd, if_pos hd, if_neg (d0 _)]
    · rw [if_neg hd, if_neg hd]; exact to_any _
  unfold Sigs
  rw [← bigSep_sep', ← bigSep_sep']
  exact bigSep_mono fun d _ => h d
theorem snds_zero : (bigSep Finset.univ fun i : Chan => iprop(tok (dC c (sS i)) 0 .P ∗ tok (dC (tgt i c) (rS i)) 0 .P)) ⊢ Snds (F := F) c 0 := by
  have h : ∀ i : Chan, iprop(tok (dC c (sS i)) 0 .P ∗ tok (dC (tgt i c) (rS i)) 0 .P) ⊢ sndSt (F := F) c 0 i := fun i => by
    unfold sndSt
    by_cases hd : snds i c = true
    · rw [if_pos hd, if_neg (d0 _), if_neg (d0 _)]
      iintro H
      isplitl [H]; · iexact H
      iempintro
    · rw [if_neg hd]; exact to_any _
  unfold Snds
  exact bigSep_mono fun i _ => h i
theorem rcvs_zero : (bigSep Finset.univ fun i : Chan => if rcvs i c = true then cred (tallyAt (dC c (rS i)) () (amt i)) else iprop(emp)) = Rcvs (F := F) c 0 := by
  unfold Rcvs rcvSt
  simp only [if_neg (d0 _)]
theorem slots_zero : iprop((∃ f, fbP c (pre fslot {0}) fullShare f) ∗ ∃ f, fbP c (pre fslot {1}) fullShare f) ⊢ Slots A c 0 := by
  have e : ∀ s : Fin 2, slotSt A c 0 (.inl s) = iprop(∃ f, fbP c (pre fslot {s}) fullShare f) := fun s => by unfold slotSt; exact if_neg (d0 _)
  have e0 : ∀ k : Fin 8, slotSt A c 0 (.inr k) = iprop(emp) := fun k => by unfold slotSt; exact if_neg fun h => d0 _ h.1
  have e1 : (bigSep Finset.univ fun k : Fin 8 => slotSt A c 0 (.inr k)) = iprop(emp) := (bigSep_congr fun k _ => e0 k).trans (bigSep_emp_const _)
  have e2 : (bigSep Finset.univ fun s : Fin 2 => slotSt A c 0 (.inl s)) = iprop((∃ f, fbP c (pre fslot {0}) fullShare f) ∗ ∃ f, fbP c (pre fslot {1}) fullShare f) := by
    rw [← e, ← e]; exact bigSep_fin_two _
  have e3 : Slots A c 0 = iprop(((∃ f, fbP c (pre fslot {0}) fullShare f) ∗ ∃ f, fbP c (pre fslot {1}) fullShare f) ∗ emp) := by
    rw [← e2, ← e1]; exact bigSep_univ_sum _
  rw [e3]
  iintro H
  isplitl [H]; · iexact H
  iempintro
theorem cvd_zero : cvd c 0 = ∅ := by
  ext a; rw [mem_cvd]; simp [d0]
theorem rfree_zero : rfree c 0 = Finset.univ := by ext a; rw [mem_rfree]; simp [d0]
theorem lfree_zero : lfree 0 = Finset.univ := by ext a; rw [mem_lfree]; simp [d0]
theorem bank_zero (s : Sh) : bank s c 0 = ∅ := by ext a; rw [mem_bank]; simp [d0]
theorem rfree_end : rfree c script.length = Finset.univ := by ext a; rw [mem_rfree]; simp [dE]
theorem lfree_end : lfree script.length = Finset.univ := by ext a; rw [mem_lfree]; simp [dE]
theorem bank_end (s : Sh) : bank s c script.length = Finset.univ := by
  ext a; rw [mem_bank]
  obtain ⟨p, hp⟩ := piece_cover c a
  simp only [Finset.mem_univ, iff_true]
  exact ⟨⟨p, dE _, hp⟩, fun ⟨i, _, h, _⟩ => h.2 (dE _)⟩
theorem xb_zero (f : S16384x1024.Idx → Elt F .bf16) : (xbP c Finset.univ fullShare f) ⊢ Xb A c 0 := by
  have s0 : (xbP c Finset.univ fullShare f) ⊣⊢ iprop(xbP c Finset.univ fullShare.left f ∗ xbP c Finset.univ fullShare.right f) :=
    pointsTo_share (PosShare.mem_left_op_right fullShare)
  unfold Xb
  rw [rfree_zero, lfree_zero, cvd_zero, pre_univ]
  iintro H
  iexists f
  isplitr
  · ipureintro; exact fun i hi => absurd hi (Finset.notMem_empty _)
  iapply s0.1 $$ H
theorem banks_zero : (iprop(emp) : sProp 𝕄) ⊢ Banks A c 0 := by
  have e : ∀ s : Sh, bankSt A c 0 s = iprop(emp) := fun s => by unfold bankSt; rw [bank_zero, pre_empty]; exact pointsTo_empty
  have e1 : Banks A c 0 = iprop(emp) := (bigSep_congr fun s _ => e s).trans (bigSep_emp_const _)
  exact Entails.of_eq e1.symm
theorem jobs_zero : iprop((bigSep Finset.univ fun j : Job => tok (dC c (lS j)) (lR j) .P) ∗ (bigSep Finset.univ fun k => jsrc A c (.f k))
    ∗ (bigSep Finset.univ fun h => jsrc A c (.p h)) ∗ (bigSep Finset.univ fun h => iprop(∃ f, pbP c (pre pslot {h}) fullShare f))
    ∗ bigSep Finset.univ fun k => iprop(∃ f, outP c (pre atom (owin k c)) fullShare f)) ⊢ Jobs A c 0 := by
  have e : Jobs A c 0 = iprop((bigSep Finset.univ fun j : Job => tok (dC c (lS j)) (lR j) .P) ∗ bigSep Finset.univ fun j => jpre A c j) := by
    unfold Jobs
    rw [← bigSep_sep']
    exact bigSep_congr fun j _ => if_neg (d0 _)
  have e2 : (bigSep Finset.univ fun h => jpre A c (.p h)) = iprop((bigSep Finset.univ fun h => iprop(∃ f, pbP c (pre pslot {h}) fullShare f))
      ∗ bigSep Finset.univ fun h => jsrc A c (.p h)) := bigSep_sep' _ _ _
  rw [e, bigSep_job (jpre A c), e2]
  iintro ⟨H1, H2, H3, H4, H5⟩
  isplitl [H1]; · iexact H1
  isplitl [H2]; · iexact H2
  isplitl [H3 H4]
  · isplitl [H4] <;> iassumption
  iexact H5

theorem wins_in : iprop((bigSep Finset.univ fun i : Chan => if rcvs i c = true then iprop(∃ f, outP (F := F) c (pre atom (rwin i c)) fullShare f) else iprop(emp))
    ∗ bigSep Finset.univ fun q : DmaSem sig => reached ER (dC c q) 0) ⊢ bigSep Finset.univ fun i : Chan => inWin c i := by
  have hr : ∀ i : Chan, (bigSep Finset.univ fun q : DmaSem sig => (reached ER (dC c q) 0 : sProp 𝕄)) ⊢ reached ER (dC c (rS i)) 0 := fun i =>
    bigSep_elim (Finset.mem_univ _)
  have h : ∀ i : Chan, iprop((bigSep Finset.univ fun q : DmaSem sig => (reached ER (dC c q) 0 : sProp 𝕄))
      ∗ (if rcvs i c = true then iprop(∃ f, outP (F := F) c (pre atom (rwin i c)) fullShare f) else iprop(emp))) ⊢ inWin c i := fun i => by
    unfold inWin
    by_cases hi : rcvs i c = true
    · rw [if_pos hi, if_pos hi]
      iintro ⟨HR, H⟩
      isplitl [H]; · iexact H
      iapply (hr i) $$ HR
    · rw [if_neg hi, if_neg hi]; exact to_any _
  iintro ⟨H, #HR⟩
  iapply (bigSep_with_persistent (fun i _ => h i))
  isplitr
  · iexact HR
  iexact H

/-- The beginning. -/
theorem enter : iprop((∃ W, owes (c : Thread nD τ) (owed c 0) W) ∗ starts c ∗ toks c ∗ creds c ∗ argP c Finset.univ fullShare (A c)
    ∗ (∃ f, outP c Finset.univ fullShare f) ∗ (∃ f, xbP c Finset.univ fullShare f) ∗ (∃ f, fbP c Finset.univ fullShare f)
    ∗ ∃ f, pbP c Finset.univ fullShare f) ⊢ iprop(St A c 0 ∗ argRest A c) := by
  have hfb : ∀ f, (fbP (F := F) c Finset.univ fullShare f) ⊢ iprop((∃ f, fbP c (pre fslot {0}) fullShare f) ∗ ∃ f, fbP c (pre fslot {1}) fullShare f) :=
    fun f => two_split (slots_disj _) (slots_univ _)
  have hpb : ∀ f, (pbP (F := F) c Finset.univ fullShare f) ⊢ (bigSep Finset.univ fun h => iprop(∃ f, pbP c (pre pslot {h}) fullShare f)) :=
    fun f => by
      have e : (bigSep Finset.univ fun h => iprop(∃ f, pbP (F := F) c (pre pslot {h}) fullShare f))
        = iprop((∃ f, pbP c (pre pslot {0}) fullShare f) ∗ ∃ f, pbP c (pre pslot {1}) fullShare f) := bigSep_fin_two _
      rw [e]
      exact two_split (slots_disj _) (slots_univ _)
  have hps : (bigSep Finset.univ fun q : DmaSem sig => iprop(atPos ER (dC c q) 0 ∅ 0 ∗ reached ER (dC c q) 0)) = Ps (F := F) c 0 := by
    unfold Ps posSt; simp only [posOf_zero]
  have hun : (bigSep Finset.univ fun q : DmaSem sig => iprop(atPos ER (dC c q) 0 ∅ 0 ∗ reached ER (dC c q) 0))
      ⊢ (iprop((bigSep Finset.univ fun q : DmaSem sig => atPos ER (dC c q) 0 ∅ 0) ∗ bigSep Finset.univ fun q : DmaSem sig => reached ER (dC c q) 0) : sProp 𝕄) :=
    Entails.of_eq (bigSep_sep' _ _ _)
  have hpa : (iprop((bigSep Finset.univ fun q : DmaSem sig => atPos ER (dC c q) 0 ∅ 0) ∗ bigSep Finset.univ fun q : DmaSem sig => reached ER (dC c q) 0) : sProp 𝕄)
      ⊢ Ps c 0 := (Entails.of_eq (bigSep_sep' _ _ _).symm).trans (Entails.of_eq hps)
  have hbar : barPos (F := F) c 0 = atPos ER (barC c) 0 ∅ 0 := by unfold barPos; rw [if_neg (d0 _)]
  have hbc : Bar (F := F) c 0 = iprop(atPos ER (barC c) 0 ∅ 0 ∗ cred (tallyAt (barC c) () (nbs c))) := by unfold Bar; rw [hbar, if_neg (d0 _)]
  unfold starts toks creds
  iintro ⟨HO, ⟨HP, HB, #HRB⟩, ⟨HT1, HT2, HT3⟩, ⟨HC1, HC2⟩, HA, ⟨%f1, Hout⟩, ⟨%f2, Hxb⟩, ⟨%f3, Hfb⟩, ⟨%f4, Hpb⟩⟩
  ihave HP := hun $$ HP
  icases HP with ⟨HP, #HR⟩
  ihave HA := (arg_split A c).1 $$ HA
  icases HA with ⟨HA1, HA2, HA3⟩
  ihave Hout := (out_split c f1) $$ Hout
  icases Hout with ⟨Ho1, Ho2⟩
  ihave Hw := (wins_in (F := F) c) $$ [Ho2]
  · isplitl [Ho2]; · iexact Ho2
    iexact HR
  ihave Hw := (windows (F := F) c) $$ Hw
  isplitr [HA3]
  · unfold St
    isplitl [HO]; · unfold Ow; iexact HO
    isplitl [HP]
    · iapply hpa
      isplitl [HP]; · iexact HP
      iexact HR
    isplitl [HT1 Hw]
    · iapply (sigs_zero (F := F) c)
      isplitl [HT1]; · iexact HT1
      isplitl [Hw]; · iexact Hw
      iexact HRB
    isplitl [HB HC1]
    · rw [hbc]
      isplitl [HB] <;> iassumption
    isplitl [HT2]
    · iapply (snds_zero (F := F) c) $$ HT2
    isplitl [HC2]
    · rw [← rcvs_zero]; iexact HC2
    isplitl [HT3 HA1 HA2 Hpb Ho1]
    · iapply (jobs_zero A c)
      isplitl [HT3]; · iexact HT3
      isplitl [HA1]; · iexact HA1
      isplitl [HA2]; · iexact HA2
      isplitl [Hpb]; · iapply (hpb f4) $$ Hpb
      iexact Ho1
    isplitl [Hfb]
    · iapply (slots_zero A c)
      iapply (hfb f3) $$ Hfb
    isplitl [Hxb]
    · iapply (xb_zero A c f2) $$ Hxb
    iapply (banks_zero A c)
    iempintro
  · iexact HA3

/-! ## The end -/

theorem owed_end : owed c script.length = 0 := by
  have e1 : ∑ d, owedSig c script.length d = 0 := Finset.sum_eq_zero fun d _ => if_neg fun h => h.2 (dE _)
  have e2 : ∑ i, owedSnd c script.length i = 0 := Finset.sum_eq_zero fun i _ => if_neg fun h => h.2 (dE _)
  unfold owed
  rw [e1, e2, add_zero]
theorem banks_end : Banks A c script.length ⊢ outP c Finset.univ fullShare (fin A c) := by
  have e : Banks A c script.length = bigSep Finset.univ fun s : Sh => outP c Finset.univ (shq s) (fin A c) := by
    unfold Banks bankSt; simp only [bank_end, pre_univ]
  rw [e]
  exact lanes.2
theorem xb_end : Xb A c script.length ⊢ iprop(∃ f, xbP c Finset.univ fullShare f) := by
  unfold Xb
  rw [rfree_end, lfree_end, pre_univ]
  iintro ⟨%f, -, H⟩
  iexists f
  have s0 : (xbP c Finset.univ fullShare f) ⊣⊢ iprop(xbP c Finset.univ fullShare.left f ∗ xbP c Finset.univ fullShare.right f) :=
    pointsTo_share (PosShare.mem_left_op_right fullShare)
  iapply s0.2 $$ H
theorem slots_end : Slots A c script.length ⊢ iprop(∃ f, fbP c Finset.univ fullShare f) := by
  have h6 : slotSt A c script.length (.inr 6) = fbP c (pre fslot {0}) fullShare (FB A c 6) :=
    if_pos ⟨dE _, fun ⟨k', h, _⟩ => by have := k'.isLt; simp at h; omega⟩
  have h7 : slotSt A c script.length (.inr 7) = fbP c (pre fslot {1}) fullShare (FB A c 7) :=
    if_pos ⟨dE _, fun ⟨k', h, _⟩ => by have := k'.isLt; simp at h; omega⟩
  have hs : Slots A c script.length ⊢ bigSep ({.inr 6, .inr 7} : Finset (Fin 2 ⊕ Fin 8)) (slotSt A c script.length) := bigSep_subset (Finset.subset_univ _)
  rw [bigSep_insert (by decide), bigSep_singleton, h6, h7] at hs
  exact hs.trans (two_join (slots_disj _) (slots_univ _))
theorem jobs_end : Jobs A c script.length ⊢ iprop((bigSep Finset.univ fun k => jsrc A c (.f k)) ∗ (bigSep Finset.univ fun h => jsrc A c (.p h))
    ∗ ∃ f, pbP c Finset.univ fullShare f) := by
  have e : Jobs A c script.length = bigSep Finset.univ fun j => jkeep A c j := by
    unfold Jobs
    exact bigSep_congr fun j _ => (if_pos (dE _)).trans (if_pos (dE _))
  have e2 : (bigSep Finset.univ fun h => jkeep A c (.p h)) = iprop((bigSep Finset.univ fun h => jdst A c (.p h))
      ∗ bigSep Finset.univ fun h => jsrc A c (.p h)) := bigSep_sep' _ _ _
  have e3 : (bigSep Finset.univ fun h => jdst A c (.p h)) ⊢ iprop(∃ f, pbP c Finset.univ fullShare f) := by
    have e4 : (bigSep Finset.univ fun h => jdst A c (.p h)) = iprop(pbP c (pre pslot {0}) fullShare (PB A c 0) ∗ pbP c (pre pslot {1}) fullShare (PB A c 1)) :=
      bigSep_fin_two _
    rw [e4]
    exact two_join (slots_disj _) (slots_univ _)
  rw [e, bigSep_job (jkeep A c), e2]
  iintro ⟨H1, ⟨H2, H3⟩, -⟩
  isplitl [H1]; · iexact H1
  isplitl [H3]; · iexact H3
  iapply e3 $$ H2

/-- The end. -/
theorem quit : iprop(St A c script.length ∗ argRest A c) ⊢ iprop((∃ W, owes (c : Thread nD τ) (0 : CellTallies nD τ sig Unit) W)
    ∗ (bigSep Finset.univ fun q : DmaSem sig => atPos ER (dC c q) (roundsOf c q) ∅ 0) ∗ atPos ER (barC c) 1 ∅ 0
    ∗ argP c Finset.univ fullShare (A c) ∗ outP c Finset.univ fullShare (fin A c)
    ∗ (∃ f, xbP c Finset.univ fullShare f) ∗ (∃ f, fbP c Finset.univ fullShare f) ∗ ∃ f, pbP c Finset.univ fullShare f) := by
  have hO : Ow c script.length = (iprop(∃ W, owes (c : Thread nD τ) (0 : CellTallies nD τ sig Unit) W) : sProp 𝕄) := by unfold Ow; rw [owed_end]
  have hP : Ps (F := F) c script.length ⊢ bigSep Finset.univ fun q : DmaSem sig => atPos ER (dC c q) (roundsOf c q) ∅ 0 := by
    have h : ∀ q : DmaSem sig, posSt (F := F) c script.length q ⊢ atPos ER (dC c q) (roundsOf c q) ∅ 0 := fun q => by
      unfold posSt
      rw [posOf_end]
      iintro ⟨H, -⟩; iexact H
    exact bigSep_mono fun q _ => h q
  have hB : Bar (F := F) c script.length ⊢ atPos ER (barC c) 1 ∅ 0 := by
    unfold Bar barPos
    rw [if_pos (dE _)]
    iintro ⟨H, -⟩; iexact H
  unfold St
  rw [hO]
  iintro ⟨⟨HO, HP, -, HB, -, -, HJ, HS, HX, HK⟩, HR⟩
  ihave HJ := (jobs_end A c) $$ HJ
  icases HJ with ⟨H1, H2, H3⟩
  isplitl [HO]; · iexact HO
  isplitl [HP]; · iapply hP $$ HP
  isplitl [HB]; · iapply hB $$ HB
  isplitl [H1 H2 HR]
  · iapply (arg_split A c).2
    isplitl [H1]; · iexact H1
    isplitl [H2] <;> iassumption
  isplitl [HK]; · iapply (banks_end A c) $$ HK
  isplitl [HX]; · iapply (xb_end A c) $$ HX
  isplitl [HS]; · iapply (slots_end A c) $$ HS
  iexact H3

end Cert.Ag
-- ==== Proof.Start.lean ====
/-
  What the launch deals: the cells' invariants and tokens, each token brought to the device that pays with it, and the credit.
-/
module

public import proofs.«01_k».proof.Proof.Ends

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

/-! ## The cells and the tokens -/

def barEmb : Dev nD ↪ GSem nD τ sig := ⟨fun c => barC c, fun _ _ h => congrArg (fun g : GSem nD τ sig => g.1.1) h⟩
def dmaEmb : Dev nD × DmaSem sig ↪ GSem nD τ sig :=
  ⟨fun x => dC x.1 x.2, fun _ _ h => Prod.ext (congrArg (fun g : GSem nD τ sig => g.1.1) h) (SemLoc.dma.inj (congrArg Prod.snd h))⟩

abbrev barCells : Finset (GSem nD τ sig) := Finset.univ.map barEmb
abbrev dmaCells : Finset (GSem nD τ sig) := Finset.univ.map dmaEmb

theorem dma_ne_bar {q : DmaSem sig} : (SemLoc.dma q : SemLoc sig) ≠ .reg barrier0 := nofun

theorem cells_disjoint : Disjoint barCells dmaCells := by
  rw [Finset.disjoint_left]
  rintro g h₁ h₂
  obtain ⟨c, -, rfl⟩ := Finset.mem_map.mp h₁
  obtain ⟨x, -, h⟩ := Finset.mem_map.mp h₂
  exact dma_ne_bar (congrArg Prod.snd h)

/-- A device's duties: its barrier's arrivals, its sends, its receives, its local copies. -/
abbrev Duty : Type := Dir ⊕ Chan ⊕ Chan ⊕ Job

def dutyOf : Duty → SemLoc sig × ℕ × Dir
  | .inl d => (.reg barrier0, 0, d)
  | .inr (.inl i) => (.dma (sS i), 0, .P)
  | .inr (.inr (.inl i)) => (.dma (rS i), 0, .P)
  | .inr (.inr (.inr j)) => (.dma (lS j), lR j, .P)

theorem dutyOf_inj : Function.Injective dutyOf := by
  have h : ∀ a b : Duty, dutyOf a = dutyOf b → a = b := by decide +kernel
  exact fun a b => h a b

def dutyEmb : Dev nD × Duty ↪ GSem nD τ sig × ℕ × Dir :=
  ⟨fun x => (((x.1 : Thread nD τ), (dutyOf x.2).1), (dutyOf x.2).2), fun _ _ h =>
    Prod.ext (congrArg (fun t : GSem nD τ sig × ℕ × Dir => t.1.1.1) h)
      (dutyOf_inj (Prod.ext (congrArg (fun t : GSem nD τ sig × ℕ × Dir => t.1.2) h) (congrArg (fun t : GSem nD τ sig × ℕ × Dir => t.2) h)))⟩
abbrev allToks : Finset (GSem nD τ sig × ℕ × Dir) := Finset.univ.map dutyEmb

/-! ## The tokens go to who pays -/

def nbE (d : Dir) : Dev nD ≃ Dev nD where
  toFun := nb d
  invFun := nb (opp d)
  left_inv := nb_opp d
  right_inv c := by have h := nb_opp (opp d) c; rwa [opp_opp] at h
def oppE : Dir ≃ Dir := ⟨opp, opp, opp_opp, opp_opp⟩

/-- The tokens of a device's own cells. -/
def mine (c : Dev nD) : sProp 𝕄 :=
  iprop((bigSep Finset.univ fun d : Dir => tok (barC c) 0 d) ∗ (bigSep Finset.univ fun i : Chan => tok (dC c (sS i)) 0 .P)
    ∗ (bigSep Finset.univ fun i : Chan => tok (dC c (rS i)) 0 .P) ∗ bigSep Finset.univ fun j : Job => tok (dC c (lS j)) (lR j) .P)

theorem toks_mine : bigSep allToks (fun x => (dutyTok ER x.1 x.2.1 x.2.2 : sProp 𝕄)) = bigSep Finset.univ fun c : Dev nD => mine c := by
  rw [bigSep_map, bigSep_univ_prod]
  refine bigSep_congr fun c _ => ?_
  rw [bigSep_univ_sum, bigSep_univ_sum, bigSep_univ_sum]
  rfl

theorem bar_toks : (bigSep Finset.univ fun c : Dev nD => bigSep Finset.univ fun d : Dir => (tok (barC c) 0 d : sProp 𝕄))
    = bigSep Finset.univ fun c : Dev nD => bigSep Finset.univ fun d : Dir => tok (barC (nb d c)) 0 (opp d) := by
  have h1 : ∀ d : Dir, (bigSep Finset.univ fun c : Dev nD => (tok (barC c) 0 (opp d) : sProp 𝕄))
      = bigSep Finset.univ fun c : Dev nD => tok (barC (nb d c)) 0 (opp d) := fun d =>
    bigSep_univ_equiv (nbE d) (fun c : Dev nD => (tok (barC c) 0 (opp d) : sProp 𝕄))
  have h2 : (bigSep Finset.univ fun d : Dir => bigSep Finset.univ fun c : Dev nD => (tok (barC c) 0 d : sProp 𝕄))
      = bigSep Finset.univ fun d : Dir => bigSep Finset.univ fun c : Dev nD => tok (barC c) 0 (opp d) :=
    bigSep_univ_equiv oppE (fun d : Dir => bigSep Finset.univ fun c : Dev nD => (tok (barC c) 0 d : sProp 𝕄))
  rw [bigSep_univ_comm, h2, bigSep_congr fun d _ => h1 d, bigSep_univ_comm]

theorem rcv_toks : (bigSep Finset.univ fun c : Dev nD => bigSep Finset.univ fun i : Chan => (tok (dC c (rS i)) 0 .P : sProp 𝕄))
    = bigSep Finset.univ fun c : Dev nD => bigSep Finset.univ fun i : Chan => tok (dC (tgt i c) (rS i)) 0 .P := by
  have h1 : ∀ i : Chan, (bigSep Finset.univ fun c : Dev nD => (tok (dC c (rS i)) 0 .P : sProp 𝕄))
      = bigSep Finset.univ fun c : Dev nD => tok (dC (tgt i c) (rS i)) 0 .P := fun i =>
    bigSep_univ_equiv (nbE (dirOf i)) (fun c : Dev nD => (tok (dC c (rS i)) 0 .P : sProp 𝕄))
  rw [bigSep_univ_comm, bigSep_congr fun i _ => h1 i, bigSep_univ_comm]

theorem toks_around : (bigSep Finset.univ fun c : Dev nD => (mine c : sProp 𝕄)) = bigSep Finset.univ fun c : Dev nD => toks c := by
  unfold mine toks
  simp only [bigSep_sep']
  rw [bar_toks, rcv_toks]
  have e : ∀ a b c d : sProp 𝕄, iprop(a ∗ b ∗ c ∗ d) = iprop(a ∗ (b ∗ c) ∗ d) := fun a b c d => by
    have h1 : iprop(a ∗ b ∗ c ∗ d) ⊢ iprop(a ∗ (b ∗ c) ∗ d) := by
      iintro ⟨Ha, Hb, Hc, Hd⟩
      isplitl [Ha]; · iexact Ha
      isplitr [Hd]
      · isplitl [Hb] <;> iassumption
      iexact Hd
    have h2 : iprop(a ∗ (b ∗ c) ∗ d) ⊢ iprop(a ∗ b ∗ c ∗ d) := by
      iintro ⟨Ha, ⟨Hb, Hc⟩, Hd⟩
      isplitl [Ha]; · iexact Ha
      isplitl [Hb]; · iexact Hb
      isplitl [Hc] <;> iassumption
    exact BI.equiv_iff.mp ⟨h1, h2⟩
  exact e _ _ _ _

/-! ## The credit -/

theorem owed_apply (d : Dev nD) (n : ℕ) (g : GSem nD τ sig) (u : Unit) :
    owed d n g u = (∑ e, owedSig d n e g u) + ∑ i, owedSnd d n i g u := by
  unfold owed; simp [Finset.sum_apply]

theorem owedSig_bar (d : Dev nD) (e : Dir) (c : Dev nD) : owedSig d 0 e (barC c) () = if has e d = true ∧ nb e d = c then 1 else 0 := by
  have h : barC c = barC (nb e d) ↔ nb e d = c :=
    ⟨fun h => (congrArg (fun g : GSem nD τ sig => g.1.1) h).symm, fun h => by rw [h]⟩
  unfold owedSig
  by_cases hh : has e d = true
  · rw [if_pos ⟨hh, d0 _⟩, tallyAt_apply]
    simp only [h, hh, and_true, true_and]
  · rw [if_neg (fun x => hh x.1), if_neg (fun x => hh x.1)]; rfl
theorem owedSig_dma (d : Dev nD) (e : Dir) (c : Dev nD) (q : DmaSem sig) : owedSig d 0 e (dC c q) () = 0 := by
  unfold owedSig
  split
  · rw [tallyAt_apply, if_neg]
    exact fun h => dma_ne_bar (congrArg Prod.snd h.1)
  · rfl
theorem owedSnd_bar (d : Dev nD) (i : Chan) (c : Dev nD) : owedSnd d 0 i (barC c) () = 0 := by
  unfold owedSnd
  split
  · rw [tallyAt_apply, if_neg]
    exact fun h => dma_ne_bar (congrArg Prod.snd h.1).symm
  · rfl
theorem rS_inj {i j : Chan} (h : rS i = rS j) : i = j := by
  have h' : ∀ i j : Chan, rS i = rS j → i = j := by decide +kernel
  exact h' i j h
theorem owedSnd_dma (d : Dev nD) (i : Chan) (c : Dev nD) (j : Chan) :
    owedSnd d 0 i (dC c (rS j)) () = if i = j ∧ d = src j c ∧ rcvs j c = true then amt j else 0 := by
  have hz : i ≠ j ∨ d ≠ src j c → owedSnd d 0 i (dC c (rS j)) () = 0 := fun hn => by
    unfold owedSnd
    by_cases hs : snds i d = true ∧ ¬ done 0 (.snd i)
    · rw [if_pos hs, tallyAt_apply, if_neg]
      intro h
      have hc : c = tgt i d := congrArg (fun g : GSem nD τ sig => g.1.1) h.1
      have hq : j = i := rS_inj (SemLoc.dma.inj (congrArg Prod.snd h.1))
      subst hq
      rcases hn with hn | hn
      · exact hn rfl
      · exact hn (by rw [hc, src_tgt])
    · rw [if_neg hs]; rfl
  by_cases hi : i = j
  · subst hi
    by_cases hd : d = src i c
    · subst hd
      have hr : rcvs i c = true ↔ snds i (src i c) = true :=
        ⟨fun h => by unfold rcvs at h; exact (Bool.and_eq_true_iff.mp h).2, fun h => by
          have h' := rcvs_tgt _ _ h
          rwa [tgt_src] at h'⟩
      unfold owedSnd
      by_cases hs : snds i (src i c) = true
      · rw [if_pos ⟨hs, d0 _⟩, tgt_src, tallyAt_apply, if_pos ⟨rfl, rfl⟩, if_pos ⟨rfl, rfl, hr.2 hs⟩]
      · rw [if_neg (fun x => hs x.1), if_neg (fun x => hs (hr.1 x.2.2))]; rfl
    · rw [hz (.inr hd), if_neg (fun x => hd x.2.1)]
  · rw [hz (.inl hi), if_neg (fun x => hi x.1)]

theorem owed_bar (c : Dev nD) : ∑ d, owed d 0 (barC c) () = nbs c := by
  have h : ∀ d, owed d 0 (barC c) () = ∑ e, if has e d = true ∧ nb e d = c then 1 else 0 := fun d => by
    rw [owed_apply, Finset.sum_congr rfl fun e _ => owedSig_bar d e c, Finset.sum_congr rfl fun i _ => owedSnd_bar d i c,
      Finset.sum_const_zero, Nat.add_zero]
  rw [Finset.sum_congr rfl fun d _ => h d]
  have h' : ∀ c : Dev nD, (∑ d : Dev nD, ∑ e : Dir, if has e d = true ∧ nb e d = c then 1 else 0) = nbs c := by decide +kernel
  exact h' c
theorem owed_rcv (c : Dev nD) (j : Chan) : ∑ d, owed d 0 (dC c (rS j)) () = if rcvs j c = true then amt j else 0 := by
  have h : ∀ d, owed d 0 (dC c (rS j)) () = if d = src j c ∧ rcvs j c = true then amt j else 0 := fun d => by
    rw [owed_apply, Finset.sum_congr rfl fun e _ => owedSig_dma d e c _, Finset.sum_const_zero, Nat.zero_add,
      Finset.sum_congr rfl fun i _ => owedSnd_dma d i c j, Finset.sum_eq_single j]
    · simp only [true_and]
    · exact fun i _ hi => if_neg fun x => hi x.1
    · exact fun h => absurd (Finset.mem_univ _) h
  rw [Finset.sum_congr rfl fun d _ => h d, Finset.sum_eq_single (src j c)]
  · simp only [true_and]
  · exact fun d _ hd => if_neg fun x => hd x.1
  · exact fun h => absurd (Finset.mem_univ _) h

theorem launch_bar (c : Dev nD) :
    tallyOn (barC c) (launchCredit (Pipeline.owing fun d => owed d 0) 0 (barC c)) = (tallyAt (barC c) () (nbs c) : CellTallies nD τ sig Unit) := by
  unfold tallyAt; refine congrArg _ (Finsupp.ext fun u => ?_); cases u
  rw [Pipeline.launchCredit_owing, Finsupp.single_eq_same, owed_bar]
theorem launch_rcv (c : Dev nD) (j : Chan) (h : rcvs j c = true) :
    tallyOn (dC c (rS j)) (launchCredit (Pipeline.owing fun d => owed d 0) 0 (dC c (rS j))) = (tallyAt (dC c (rS j)) () (amt j) : CellTallies nD τ sig Unit) := by
  unfold tallyAt; refine congrArg _ (Finsupp.ext fun u => ?_); cases u
  rw [Pipeline.launchCredit_owing, Finsupp.single_eq_same, owed_rcv, if_pos h]

def rEmb : Chan ↪ SemLoc sig := ⟨fun i => .dma (rS i), fun _ _ h => rS_inj (SemLoc.dma.inj h)⟩

theorem creds_launch (c : Dev nD) : (Pipeline.launchCred (fun d => owed d 0) c : sProp 𝕄) ⊢ creds c := by
  have hn : (SemLoc.reg barrier0 : SemLoc sig) ∉ Finset.univ.map rEmb := by
    intro h
    obtain ⟨i, -, h⟩ := Finset.mem_map.mp h
    exact dma_ne_bar h
  have h1 : ∀ i : Chan, (cred (tallyOn (dC c (rS i)) (launchCredit (Pipeline.owing fun d => owed d 0) 0 (dC c (rS i)))) : sProp 𝕄)
      ⊢ if rcvs i c = true then cred (tallyAt (dC c (rS i)) () (amt i)) else iprop(emp) := fun i => by
    by_cases h : rcvs i c = true
    · rw [if_pos h, launch_rcv c i h]
    · rw [if_neg h]
      iintro -
      iempintro
  have h2 : (bigSep (Finset.univ.map rEmb) fun sm => (cred (tallyOn ((c : Thread nD τ), sm) (launchCredit (Pipeline.owing fun d => owed d 0) 0 ((c : Thread nD τ), sm))) : sProp 𝕄))
      ⊢ bigSep Finset.univ fun i : Chan => if rcvs i c = true then cred (tallyAt (dC c (rS i)) () (amt i)) else iprop(emp) := by
    rw [bigSep_map]
    exact bigSep_mono fun i _ => h1 i
  have h3 : (Pipeline.launchCred (fun d => owed d 0) c : sProp 𝕄) ⊢ iprop(cred (tallyAt (barC c) () (nbs c))
      ∗ bigSep (Finset.univ.map rEmb) fun sm => cred (tallyOn ((c : Thread nD τ), sm) (launchCredit (Pipeline.owing fun d => owed d 0) 0 ((c : Thread nD τ), sm)))) := by
    unfold Pipeline.launchCred
    refine (bigSep_subset (Finset.subset_univ (insert (SemLoc.reg barrier0) (Finset.univ.map rEmb)))).trans ?_
    rw [bigSep_insert hn, launch_bar]
    exact BI.Entails.refl _
  unfold creds
  iintro H
  ihave H := h3 $$ H
  icases H with ⟨H1, H2⟩
  isplitl [H1]; · iexact H1
  iapply h2 $$ H2

/-! ## The records every device reads -/

variable (A : Dev nD → S16384x1024.Idx → Elt F .f32)

/-- The invariants of all cells under one map of names, and the barriers' first round begun. -/
def records (κ : GSem nD τ sig → ℕ) : sProp 𝕄 :=
  iprop((levAts L lv : sProp 𝕄) ∗ (bigSep (barCells ∪ dmaCells) fun g => cellInv ER (Rd A) (κ g) g) ∗ bigSep barCells fun g => reached ER g 0)

instance records_persistent (κ : GSem nD τ sig → ℕ) : BI.Persistent (records A κ) := by unfold records; infer_instance

theorem records_ctx (κ : GSem nD τ sig → ℕ) : records A κ ⊢ Ctx A κ := by
  have hb : ∀ c : Dev nD, (bigSep (barCells ∪ dmaCells) fun g => (cellInv ER (Rd A) (κ g) g : sProp 𝕄)) ⊢ cellInv ER (Rd A) (κ (barC c)) (barC c) := fun c =>
    bigSep_elim (Finset.mem_union_left _ (Finset.mem_map_of_mem barEmb (Finset.mem_univ c)))
  have hd : ∀ (c : Dev nD) (q : DmaSem sig), (bigSep (barCells ∪ dmaCells) fun g => (cellInv ER (Rd A) (κ g) g : sProp 𝕄))
      ⊢ cellInv ER (Rd A) (κ (dC c q)) (dC c q) := fun c q =>
    bigSep_elim (Finset.mem_union_right _ (Finset.mem_map_of_mem dmaEmb (Finset.mem_univ (c, q))))
  have h1 : (bigSep (barCells ∪ dmaCells) fun g => (cellInv ER (Rd A) (κ g) g : sProp 𝕄))
      ⊢ bigSep Finset.univ fun c : Dev nD => cellInv ER (Rd A) (κ (barC c)) (barC c) :=
    bigSep_intro_persistent fun c _ => hb c
  have h2 : (bigSep (barCells ∪ dmaCells) fun g => (cellInv ER (Rd A) (κ g) g : sProp 𝕄))
      ⊢ bigSep Finset.univ fun c : Dev nD => bigSep Finset.univ fun q : DmaSem sig => cellInv ER (Rd A) (κ (dC c q)) (dC c q) :=
    bigSep_intro_persistent fun c _ => bigSep_intro_persistent fun q _ => hd c q
  unfold records Ctx
  iintro ⟨#Hl, #Hi, -⟩
  isplitr; · iexact Hl
  isplitr; · iapply h1; iexact Hi
  iapply h2; iexact Hi

theorem records_reached (κ : GSem nD τ sig → ℕ) (c : Dev nD) : records A κ ⊢ bigSep Finset.univ fun d : Dir => reached ER (barC (nb d c)) 0 := by
  have h : ∀ d : Dir, records A κ ⊢ reached ER (barC (nb d c)) 0 := fun d => by
    have h : (bigSep barCells fun g => (reached ER g 0 : sProp 𝕄)) ⊢ reached ER (barC (nb d c)) 0 :=
      bigSep_elim (Finset.mem_map_of_mem barEmb (Finset.mem_univ (nb d c)))
    unfold records
    iintro ⟨-, -, H⟩
    iapply h $$ H
  exact bigSep_intro_persistent fun d _ => h d

/-- What a device holds of the protocol before its kernel begins. -/
def start (c : Dev nD) : sProp 𝕄 :=
  iprop((∃ K, Ctx A K) ∗ (bigSep Finset.univ fun d : Dir => reached ER (barC (nb d c)) 0) ∗ atPos ER (barC c) 0 ∅ 0
    ∗ (bigSep Finset.univ fun q : DmaSem sig => openTok ER (dC c q)) ∗ toks c ∗ creds c)

/-- Of it, what is its own. -/
def linear (c : Dev nD) : sProp 𝕄 :=
  iprop(atPos ER (barC c) 0 ∅ 0 ∗ (bigSep Finset.univ fun q : DmaSem sig => openTok ER (dC c q)) ∗ toks c)

theorem start_intro (κ : GSem nD τ sig → ℕ) (c : Dev nD) : iprop(records A κ ∗ (linear c ∗ creds c)) ⊢ start A c := by
  unfold start linear
  iintro ⟨#HR, ⟨H1, H2, H3⟩, H4⟩
  isplitr; · iexists κ; iapply (records_ctx A κ); iexact HR
  isplitr; · iapply (records_reached A κ c); iexact HR
  isplitl [H1]; · iexact H1
  isplitl [H2]; · iexact H2
  isplitl [H3] <;> iassumption

/-- The launch's cells and tokens, dealt. -/
theorem deal : iprop((levAts L lv : sProp 𝕄) ∗ (bigSep Finset.univ fun c : Dev nD => semVal (barC c) 0) ∗ BI.own (ER (launchOf barCells dmaCells allToks))
    ∗ bigSep Finset.univ fun c : Dev nD => creds c) ⊢ iprop(|={Set.univ}=> bigSep Finset.univ fun c : Dev nD => start A c) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun q : DmaSem sig => openTok ER (dC c q)) :=
    Entails.of_eq (by rw [bigSep_map, bigSep_univ_prod]; rfl)
  have htok : bigSep allToks (fun x => (dutyTok ER x.1 x.2.1 x.2.2 : sProp 𝕄)) ⊢ bigSep Finset.univ fun c : Dev nD => toks c :=
    Entails.of_eq (toks_mine.trans toks_around)
  have hlin : iprop((bigSep Finset.univ fun c : Dev nD => atPos ER (barC c) 0 ∅ 0)
      ∗ (bigSep Finset.univ fun c : Dev nD => bigSep Finset.univ fun q : DmaSem sig => openTok ER (dC c q)) ∗ bigSep Finset.univ fun c : Dev nD => toks c)
      ⊢ (bigSep Finset.univ fun c : Dev nD => linear c : sProp 𝕄) := by
    unfold linear
    rw [bigSep_sep', bigSep_sep']
  have hpair : iprop((bigSep Finset.univ fun c : Dev nD => (linear c : sProp 𝕄)) ∗ bigSep Finset.univ fun c : Dev nD => creds c)
      ⊢ bigSep Finset.univ fun c : Dev nD => iprop(linear c ∗ creds c) := by
    rw [bigSep_sep']
  have hall : ∀ κ, iprop(records A κ ∗ bigSep Finset.univ fun c : Dev nD => iprop(linear c ∗ creds c)) ⊢ bigSep Finset.univ fun c : Dev nD => start A c :=
    fun κ => bigSep_with_persistent (R := records A κ) (Φ := fun c => iprop(linear c ∗ creds c)) fun c _ => start_intro A κ c
  iintro ⟨#Hla, Hv, Hu, Hc⟩
  imod (Rounds.fund_launch ER (Rd A) cells_disjoint (fun g _ h => h) allToks) $$ [Hv Hu] with ⟨%κ, -, #Hinv, #Hr, Hat, Hopen, Htok⟩
  · isplitl [Hv]
    · iapply hv $$ Hv
    · iexact Hu
  imodintro
  iapply (hall κ)
  isplitr
  · unfold records
    isplitr; · iexact Hla
    isplitr; · iexact Hinv
    iexact Hr
  iapply hpair
  isplitr [Hc]
  · iapply hlin
    isplitl [Hat]; · iapply hat $$ Hat
    isplitl [Hopen]; · iapply hopen $$ Hopen
    iapply htok $$ Htok
  · iexact Hc

end Cert.Ag
-- ==== Proof.StepsB.lean ====
/-
  One operation of the script: the barrier, the remote copies and their waits, the local copies and theirs.
-/
module

public import proofs.«01_k».proof.Proof.Parts

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

variable {A : Dev nD → S16384x1024.Idx → Elt F .f32} {K : GSem nD τ sig → ℕ}
variable {dfs : Defs nD τ sig (Elt F) Λ₀} {c : Dev nD} {n : ℕ} {Q : PUnit → sProp (MT nD τ sig Unit (Elt F) ℕ UU ℕ)}
  {k : PUnit → Prog (TpuEff nD τ sig (Elt F) Λ₀ .tc) PUnit}

theorem step_bar {sem : Sem sig} {k' : ℕ} (h : pos .bar = n) (hsem : sem = barrier0) (hk : k' = nbs c) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.semWait sem k') k) Q) := by
  subst hsem hk
  unfold St
  rw [Ow_same h, Ps_same h, Sigs_same h, Rcvs_same h, Jobs_same A h, Slots_same A h, Xb_same A h, Banks_same A h]
  iintro ⟨#HC, HO, HP, HG, HB, HS, HR, HJ, HSl, HX, HK⟩ Hk
  unfold Ow
  icases HO with ⟨%W, HO⟩
  have e1 : Bar c n ⊢ iprop(atPos ER (barC c) 0 ∅ 0 ∗ cred (tallyAt (barC c) () (nbs c)) : sProp 𝕄) := by
    unfold Bar barPos; rw [if_neg (not_done h), if_neg (not_done h)]
  have e2 : (atPos ER (barC c) (0 + 1) ∅ 0 : sProp 𝕄) ⊢ Bar c (n + 1) := by
    unfold Bar barPos; rw [if_pos (done_self h), if_pos (done_self h)]
    iintro H
    isplitl [H]; · iexact H
    iempintro
  ihave HB := e1 $$ HB
  icases HB with ⟨Hp, Hc⟩
  iapply (Rounds.wp_wait_rest_token 𝒱₀ ER (Rd A) (c : Thread nD τ) none (κ := K (barC c))
    (wpE_semWait_eq 𝒱₀ (c : Thread nD τ) none Set.univ) (Set.mem_univ _) () (O := owed c n) (W := W) (R := 0) (m := 0) (T := ∅)
    ((Nat.zero_add _).trans (expect_bar A c).symm)) $$ [HO Hc Hp]
  · isplitr
    · iapply (ctx_bar c) $$ HC
    isplitl [Hc]; · iexact Hc
    isplitl [HO]; · iexact HO
    isplitr
    · iapply (ctx_lev.trans (mayWait c (done_sigs h le_rfl) (.reg barrier0) fun i _ => lvl_pos i)) $$ HC
    iexact Hp
  iintro ⟨HO, Hp, -, Hpay⟩
  ihave Hpay := (bar_leave A) $$ Hpay
  iapply Hk
  isplitl [HO]; · iexists _; iexact HO
  isplitl [HP]; · iexact HP
  isplitl [HG]; · iexact HG
  isplitl [Hp]; · iapply e2 $$ Hp
  isplitl [HS Hpay]
  · iapply (Snds_bar h)
    isplitl [HS] <;> iassumption
  isplitl [HR]; · iexact HR
  isplitl [HJ]; · iexact HJ
  isplitl [HSl]; · iexact HSl
  isplitl [HX]; · iexact HX
  iexact HK

section Wait
variable {q : DmaSem sig} {sp sp' : Space} {s s' : Shape} {e e' : EltTy}
    {src : Memref sig (c : Thread nD τ).2.kind sp' s' e'} {κ' : Kind} {dst : Memref sig κ' sp s e} {hsrc : src.view.WordExact} {hdst : dst.view.WordExact}

theorem step_rcv {i : Chan} (h : pos (.rcv i) = n) (hs : rcvs i c = true) (hq : q = rS i) (hN : dst.view.dmaCredit = amt i) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.waitDma2 q src dst hsrc hdst) k) Q) := by
  subst hq
  unfold St
  rw [Ow_same h, Sigs_same h, Bar_same h, Snds_same h, Jobs_same A h, Slots_same A h, Xb_same A h]
  iintro ⟨#HC, HO, HP, HG, HB, HS, HR, HJ, HSl, HX, HK⟩ Hk
  unfold Ow
  icases HO with ⟨%W, HO⟩
  have hP := bs_focus (F := F) (Φ := posSt c n) (Ψ := posSt c (n + 1)) (rS i) fun j hj => posSt_same h j (by simp)
    (fun i' hi' e => absurd (by rw [hi']; injection e with e; rw [e]) hj) (by simp)
  have hR := bs_focus (F := F) (Φ := rcvSt c n) (Ψ := rcvSt c (n + 1)) i fun j hj => rcvSt_same h j (fun e => absurd (by injection e) hj)
  unfold Ps Rcvs
  ihave HP := hP $$ HP
  icases HP with ⟨Hp, HP⟩
  ihave HR := hR $$ HR
  icases HR with ⟨Hc, HR⟩
  ihave Hp := (Entails.of_eq (posSt_at (posOf_rcv0 c i (not_done h)))) $$ Hp
  icases Hp with ⟨Hp, -⟩
  ihave Hc := (Entails.of_eq (rcvSt_wait h hs)) $$ Hc
  iapply (wait_core (owed c n) W hN (expect_rcv A c i hs) (mayWait c (done_sigs h (le_of_lt (ord_bar_rcv i))) _ fun j hj => by
    have : lvAt (.dma (rS i)) = lvl i := by simp only [lvAt, use_rS]
    rw [this]
    refine ord_lvl i j ?_
    have : pos (.rcv i) ≠ pos (.snd j) := fun e => by simpa using pos_inj e
    unfold done at hj; omega)) $$ [HO Hc Hp]
  · isplitr; · iexact HC
    isplitl [HO]; · iexact HO
    isplitl [Hc]; · iexact Hc
    iexact Hp
  iintro ⟨HO, Hp, Hpay⟩
  ihave Hpay := (Entails.of_eq (rest_rcv A c i hs)) $$ Hpay
  iapply Hk
  isplitl [HO]; · iexact HO
  isplitl [HP Hp]
  · iapply HP
    iapply (Entails.of_eq (posSt_at (posOf_rcv1 c i hs (done_self h))).symm) $$ Hp
  isplitl [HG]; · iexact HG
  isplitl [HB]; · iexact HB
  isplitl [HS]; · iexact HS
  isplitl [HR]
  · iapply HR
    iapply (Entails.of_eq (rcvSt_end h hs).symm)
    iempintro
  isplitl [HJ]; · iexact HJ
  isplitl [HSl]; · iexact HSl
  isplitl [HX]; · iexact HX
  iapply (Banks_got A (p := .rcv i) h)
  isplitl [HK]; · iexact HK
  have e : rcvPay A c i ⊢ outP c (pre atom (piece c (.rcv i))) fullShare (fin A c) := by
    have : piece c (.rcv i) = rwin i c := if_pos hs
    unfold rcvPay; rw [this]
  iapply e $$ Hpay

theorem step_wsd {i : Chan} (h : pos (.wsd i) = n) (hs : snds i c = true) (hq : q = sS i) (hN : dst.view.dmaCredit = amt i) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.waitDma2 q src dst hsrc hdst) k) Q) := by
  subst hq
  unfold St
  rw [Ow_same h, Sigs_same h, Bar_same h, Rcvs_same h, Jobs_same A h, Slots_same A h]
  iintro ⟨#HC, HO, HP, HG, HB, HS, HR, HJ, HSl, HX, HK⟩ Hk
  unfold Ow
  icases HO with ⟨%W, HO⟩
  have hP := bs_focus (F := F) (Φ := posSt c n) (Ψ := posSt c (n + 1)) (sS i) fun j hj => posSt_same h j
    (fun i' hi' e => absurd (by rw [hi']; injection e with e; rw [e]) hj) (by simp) (by simp)
  have hR := bs_focus (F := F) (Φ := sndSt c n) (Ψ := sndSt c (n + 1)) i fun j hj => sndSt_same h j (by simp) (by simp)
    (fun e => absurd (by injection e) hj)
  unfold Ps Snds
  ihave HP := hP $$ HP
  icases HP with ⟨Hp, HP⟩
  ihave HS := hR $$ HS
  icases HS with ⟨Hc, HS⟩
  ihave Hp := (Entails.of_eq (posSt_at (posOf_snd0 c i (not_done h)))) $$ Hp
  icases Hp with ⟨Hp, -⟩
  ihave Hc := (Entails.of_eq (sndSt_wait h hs)) $$ Hc
  have hb : pos .bar ≤ pos (.wsd i) := ((ord_bar_snd i).trans (ord_snd_wsd i)).le
  iapply (wait_core (owed c n) W hN (expect_snd A c i hs) (mayWait c (done_sigs h hb) _ fun j hj => by
    have : lvAt (.dma (sS i)) = 0 := by simp only [lvAt, use_sS]
    rw [this]
    exact lvl_pos j)) $$ [HO Hc Hp]
  · isplitr; · iexact HC
    isplitl [HO]; · iexact HO
    isplitl [Hc]; · iexact Hc
    iexact Hp
  iintro ⟨HO, Hp, Hpay⟩
  ihave Hpay := (Entails.of_eq (rest_snd A c i hs)) $$ Hpay
  ihave HXK := (put_src A h hs) $$ [HX HK Hpay]
  · isplitl [HX HK]
    · isplitl [HX] <;> iassumption
    iexact Hpay
  icases HXK with ⟨HX, HK⟩
  iapply Hk
  isplitl [HO]; · iexact HO
  isplitl [HP Hp]
  · iapply HP
    iapply (Entails.of_eq (posSt_at (posOf_snd1 c i hs (done_self h))).symm) $$ Hp
  isplitl [HG]; · iexact HG
  isplitl [HB]; · iexact HB
  isplitl [HS]
  · iapply HS
    iapply (Entails.of_eq (sndSt_end h hs).symm)
    iempintro
  isplitl [HR]; · iexact HR
  isplitl [HJ]; · iexact HJ
  isplitl [HSl]; · iexact HSl
  isplitl [HX]; · iexact HX
  iexact HK

/-- What the wait for a local copy leaves, the parts it changes still to be put together. -/
theorem step_lwt {j : Job} (h : pos (.lwt j) = n) (hq : q = lS j) (hN : dst.view.dmaCredit = lamt (lN j))
    (hput : iprop(((Slots A c n ∗ Xb A c n) ∗ Banks A c n) ∗ jobPay A c j)
      ⊢ iprop(((Slots A c (n + 1) ∗ Xb A c (n + 1)) ∗ Banks A c (n + 1)) ∗ jkeep A c j)) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.waitDma2 q src dst hsrc hdst) k) Q) := by
  subst hq
  unfold St
  rw [Ow_same h, Sigs_same h, Bar_same h, Snds_same h, Rcvs_same h]
  iintro ⟨#HC, HO, HP, HG, HB, HS, HR, HJ, HSl, HX, HK⟩ Hk
  unfold Ow
  icases HO with ⟨%W, HO⟩
  have hP := bs_focus (F := F) (Φ := posSt c n) (Ψ := posSt c (n + 1)) (lS j) fun q' hj => posSt_same h q' (by simp) (by simp)
    (fun i' hi' e => absurd (by rw [hi']; injection e with e; rw [e]) hj)
  have hR := bs_focus (F := F) (Φ := jobSt A c n) (Ψ := jobSt A c (n + 1)) j fun j' hj => jobSt_same A h j' (by simp)
    (fun e => absurd (by injection e) hj)
  unfold Ps Jobs
  ihave HP := hP $$ HP
  icases HP with ⟨Hp, HP⟩
  ihave HJ := hR $$ HJ
  icases HJ with ⟨Hc, HJ⟩
  ihave Hp := (Entails.of_eq (posSt_at (posOf_lwt c j h))) $$ Hp
  icases Hp with ⟨Hp, -⟩
  ihave Hc := (Entails.of_eq (jobSt_wait A h)) $$ Hc
  have hsg : ∀ d, done n (.sig d) := fun d => by have := ord_sig_lwt d j; unfold done; omega
  iapply (wait_core (owed c n) W hN (expect_loc A c j) (mayWait c hsg _ fun i hj => by
    have : lvAt (.dma (lS j)) = 0 := by simp only [lvAt, use_lS]
    rw [this]
    exact lvl_pos i)) $$ [HO Hc Hp]
  · isplitr; · iexact HC
    isplitl [HO]; · iexact HO
    isplitl [Hc]; · iexact Hc
    iexact Hp
  iintro ⟨HO, Hp, Hpay⟩
  ihave Hpay := (Entails.of_eq (rest_loc A c j)) $$ Hpay
  ihave HXK := hput $$ [HSl HX HK Hpay]
  · isplitl [HSl HX HK]
    · isplitl [HSl HX]
      · isplitl [HSl] <;> iassumption
      iexact HK
    iexact Hpay
  icases HXK with ⟨⟨⟨HSl, HX⟩, HK⟩, Hkeep⟩
  iapply Hk
  isplitl [HO]; · iexact HO
  isplitl [HP Hp]
  · iapply HP
    iapply (Entails.of_eq (posSt_at (posOf_lwt' c j h)).symm) $$ Hp
  isplitl [HG]; · iexact HG
  isplitl [HB]; · iexact HB
  isplitl [HS]; · iexact HS
  isplitl [HR]; · iexact HR
  isplitl [HJ Hkeep]
  · iapply HJ
    iapply (Entails.of_eq (jobSt_done A (done_self h)).symm) $$ Hkeep
  isplitl [HSl]; · iexact HSl
  isplitl [HX]; · iexact HX
  iexact HK

theorem step_lwt_f {x : Fin 8} (h : pos (.lwt (.f x)) = n) (hq : q = lS (.f x)) (hN : dst.view.dmaCredit = 262144) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.waitDma2 q src dst hsrc hdst) k) Q) := by
  refine step_lwt h hq (hN.trans (if_pos (by simp [lN]; omega)).symm) ?_
  rw [Xb_same A h, Banks_same A h]
  have hF := bs_focus (F := F) (Φ := slotSt A c n) (Ψ := slotSt A c (n + 1)) (.inr x) fun z hz => by
    cases z with
    | inl s => exact slotSt_inl_same A h s (by simp)
    | inr j => exact slotSt_inr_same A h j (by simp) (fun e => hz (by injection e with e; injection e with e; rw [e]))
  unfold jobPay jkeep Slots
  iintro ⟨⟨⟨HSl, HX⟩, HK⟩, ⟨Hd, Hs⟩⟩
  ihave HSl := hF $$ HSl
  icases HSl with ⟨-, HSl⟩
  isplitl [HSl HX HK Hd]
  · isplitl [HSl HX Hd]
    · isplitl [HSl Hd]
      · iapply HSl
        iapply (Entails.of_eq (slot_has A (done_self h) fun k' hk' => by
          have := ord_lR (.f x) (.f k') (by simp [lN]; omega) (by simp [lR]; omega)
          omega).symm) $$ Hd
      iexact HX
    iexact HK
  iexact Hs
theorem step_lwt_p {x : Fin 2} (h : pos (.lwt (.p x)) = n) (hq : q = lS (.p x)) (hN : dst.view.dmaCredit = 131072) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.waitDma2 q src dst hsrc hdst) k) Q) := by
  refine step_lwt h hq (hN.trans (if_neg (by simp [lN]; try omega)).symm) ?_
  rw [Xb_same A h, Banks_same A h, Slots_same A h]
  exact Entails.refl _
theorem step_lwt_o {x : Fin 8} (h : pos (.lwt (.o x)) = n) (hq : q = lS (.o x)) (hN : dst.view.dmaCredit = 131072) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.waitDma2 q src dst hsrc hdst) k) Q) := by
  refine step_lwt h hq (hN.trans (if_neg (by simp [lN]; try omega)).symm) ?_
  rw [Slots_same A h]
  have hb : iprop(Banks A c n ∗ jdst A c (.o x)) ⊢ Banks A c (n + 1) := Banks_got A (c := c) (p := .own x) h
  have hx := Xb_lwt A (c := c) h
  unfold jobPay jkeep
  iintro ⟨⟨⟨HSl, HX⟩, HK⟩, ⟨Hd, Hs⟩⟩
  isplitl [HSl HX HK Hd Hs]
  · isplitl [HSl HX Hs]
    · isplitl [HSl]; · iexact HSl
      iapply hx
      isplitl [HX] <;> iassumption
    iapply hb
    isplitl [HK]; · iexact HK
    iexact Hd
  iempintro
end Wait

section Local
variable {sp sp' : Space} {s : Shape} {e : EltTy} {src : Memref sig (c : Thread nD τ).2.kind sp s e} {dst : Memref sig (c : Thread nD τ).2.kind sp' s e}
  {q : DmaSem sig} {hsrc : src.view.WordExact} {hdst : dst.view.WordExact} {hsem : DmaTarget.Typed (nD := nD) sp (.dma q) (.here dst)}

theorem step_lst {j : Job} (h : pos (.lst j) = n) (hq : q = lS j) (hN : dst.view.dmaCredit = lamt (lN j))
    {qs : PosShare TreeShare} (fs : Buf (Elt F) (src.view.loc (c : Thread nD τ))) (fd : Buf (Elt F) (dst.view.loc (c : Thread nD τ)))
    (htake : iprop((Slots A c n ∗ Xb A c n) ∗ jpre A c j)
      ⊢ iprop((Slots A c (n + 1) ∗ Xb A c (n + 1)) ∗ (src.view.loc (c : Thread nD τ) ↦[src.view.set]{qs} fs)
        ∗ ∃ f, (dst.view.loc (c : Thread nD τ) ↦[dst.view.set]{fullShare} f)))
    (hpay : iprop((dst.view.loc (c : Thread nD τ) ↦[dst.view.set]{fullShare} fd) ∗ (src.view.loc (c : Thread nD τ) ↦[src.view.set]{qs} fs)) ⊢ jobPay A c j)
    (hread : ∀ x, dst.view.read (Elt F) fd x = src.view.read (Elt F) fs x) :
    iprop(Ctx A K ∗ St A c n) ⊢ iprop((St A c (n + 1) -∗ wp frame (wpE dfs 𝒱₀ (c : Thread nD τ) none) Set.univ (k ⟨⟩) Q) -∗ wp frame (wpE dfs 𝒱₀ (c : Thread nD τ) none) Set.univ (.op (.enqueueDma src (.here dst) (.dma q) hsrc hdst hsem) k) Q) := by
  subst hq
  unfold St
  rw [Ow_same h, Ps_same h, Sigs_same h, Bar_same h, Snds_same h, Rcvs_same h, Banks_same A h]
  iintro ⟨#HC, HO, HP, HG, HB, HS, HR, HJ, HSl, HX, HK⟩ Hk
  have hP := bs_focus (F := F) (Φ := posSt c n) (Ψ := posSt c n) (lS j) fun q' hj => rfl
  have hR := bs_focus (F := F) (Φ := jobSt A c n) (Ψ := jobSt A c (n + 1)) j fun j' hj => jobSt_same A h j'
    (fun e => absurd (by injection e) hj) (by simp)
  unfold Ps Jobs
  ihave HP := hP $$ HP
  icases HP with ⟨Hp, HP⟩
  ihave HJ := hR $$ HJ
  icases HJ with ⟨Hj, HJ⟩
  ihave Hp := (Entails.of_eq (posSt_at (posOf_lst c j h))) $$ Hp
  icases Hp with ⟨Hp, #Hr⟩
  ihave Hj := (Entails.of_eq (jobSt_open A h)) $$ Hj
  icases Hj with ⟨Ht, Hpre⟩
  ihave Htk := htake $$ [HSl HX Hpre]
  · isplitl [HSl HX]
    · isplitl [HSl] <;> iassumption
    iexact Hpre
  icases Htk with ⟨⟨HSl, HX⟩, Hs, ⟨%f, Hd⟩⟩
  unfold tok
  have hw : ∀ i ∈ dst.view.set, dst.view.write (Elt F) f (src.view.read (Elt F) fs) Finset.univ i = fd i := written dst.view f fd _ hread
  iapply (Rounds.wp_copy_pointsTo 𝒱₀ ER (Rd A) (c : Thread nD τ) none (κ := K (dC c (lS j))) (r := lR j) (d := Dir.P) (q := qs) (fs := fs) (fd := f) (src := src) (dst := dst) (sem := .dma (lS j))
    (by rw [duties_loc]; exact Finset.mem_singleton_self _) () (lamt (lN j)) (show dst.view.amount (.dma (lS j)) = _ from hN) (amount_loc A c j _ _)
    (by rw [payload_loc, pointsTo_congr hw]; exact hpay)) $$ [Hs Hd Ht]
  · isplitr
    · iapply (ctx_dma c (lS j)) $$ HC
    isplitl [Hs]; · iexact Hs
    isplitl [Hd]; · iexact Hd
    isplitl [Ht]; · iexact Ht
    iexact Hr
  iintro Hc
  iapply Hk
  isplitl [HO]; · iexact HO
  isplitl [HP Hp]
  · iapply HP
    iapply (Entails.of_eq (posSt_at (posOf_lst c j h)).symm)
    isplitl [Hp]; · iexact Hp
    iexact Hr
  isplitl [HG]; · iexact HG
  isplitl [HB]; · iexact HB
  isplitl [HS]; · iexact HS
  isplitl [HR]; · iexact HR
  isplitl [HJ Hc]
  · iapply HJ
    iapply (Entails.of_eq (jobSt_going A h).symm) $$ Hc
  isplitl [HSl]; · iexact HSl
  isplitl [HX]; · iexact HX
  iexact HK
end Local

theorem step_lst_f {x : Fin 8} {off : Fin 2 → ℕ} {off' : Fin 3 → ℕ} {inb inb'} {q : DmaSem sig} {hsrc hdst hsem}
    (h : pos (.lst (.f x)) = n) (hq : q = lS (.f x)) (ho : off = ![1024 * (2 * x.val), 0]) (ho' : off' = ![x.val % 2, 0, 0]) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.enqueueDma (argM off S2048x1024.size inb) (.here (fM off' inb')) (.dma q) hsrc hdst hsem) k) Q) := by
  have hs1 : (argM off S2048x1024.size inb).view.set = pre xatom (xrows (2 * x.val) 2) := argM_rows ho rfl
  have hs2 : (fM off' inb').view.set = pre fslot {⟨x.val % 2, Nat.mod_lt _ (by decide)⟩} := fM_set ho'
  refine step_lst h hq (amount_f.trans (if_pos (by simp [lN]; omega)).symm) (qs := fullShare.left) (A c) (FB A c x) ?_ ?_
    (read_arg_f A ho (by rw [ho']; rfl) (by rw [ho']; rfl))
  · rw [hs1, hs2, Xb_same A h]
    have hF := bs_focus (F := F) (Φ := slotSt A c n) (Ψ := slotSt A c (n + 1)) (slotOf x) (slot_other A h)
    unfold Slots jpre jsrc
    iintro ⟨⟨HSl, HX⟩, Hs⟩
    ihave HSl := hF $$ HSl
    icases HSl with ⟨Hd, HSl⟩
    ihave Hd := (slot_take A h) $$ Hd
    isplitl [HSl HX]
    · isplitl [HSl]
      · iapply HSl
        iapply (Entails.of_eq (slot_gone A h).symm)
        iempintro
      iexact HX
    isplitl [Hs]; · iexact Hs
    iexact Hd
  · rw [hs1, hs2]
    exact Entails.refl _
theorem step_lst_p {x : Fin 2} {off : Fin 2 → ℕ} {off' : Fin 3 → ℕ} {inb inb'} {q : DmaSem sig} {hsrc hdst hsem}
    (h : pos (.lst (.p x)) = n) (hq : q = lS (.p x)) (ho : off = ![1024 * idx x c, 0]) (ho' : off' = ![x.val, 0, 0]) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.enqueueDma (argM off S1024x1024.size inb) (.here (pM off' inb')) (.dma q) hsrc hdst hsem) k) Q) := by
  have hs1 : (argM off S1024x1024.size inb).view.set = pre xatom (xrows (idx x c) 1) := argM_rows ho rfl
  have hs2 : (pM off' inb').view.set = pre pslot {x} := pM_set ho'
  refine step_lst h hq (amount_p.trans (if_neg (by simp [lN]; try omega)).symm) (qs := if x = 0 then fullShare.right.left else fullShare.right.right)
    (A c) (PB A c x) ?_ ?_ (read_arg_p A ho (by rw [ho']; rfl) (by rw [ho']; rfl))
  · rw [hs1, hs2, Xb_same A h, Slots_same A h]
    unfold jpre jsrc
    iintro ⟨H, Hd, Hs⟩
    isplitl [H]; · iexact H
    isplitl [Hs]; · iexact Hs
    iexact Hd
  · rw [hs1, hs2]
    exact Entails.refl _
theorem step_lst_o {x : Fin 8} {off off' : Fin 2 → ℕ} {inb inb'} {q : DmaSem sig} {hsrc hdst hsem}
    (h : pos (.lst (.o x)) = n) (hq : q = lS (.o x)) (ho : off = ![1024 * (2 * x.val), 0]) (ho' : off' = ![1024 * orow x c, 0]) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.enqueueDma (xbM off S2048x1024.size inb) (.here (outM off' S2048x1024.size inb')) (.dma q) hsrc hdst hsem) k) Q) := by
  have hs1 : (xbM off S2048x1024.size inb).view.set = pre xatom (xrows (2 * x.val) 2) := xbM_rows ho rfl
  have hs2 : (outM off' S2048x1024.size inb').view.set = pre atom (owin x c) := outM_rows ho' rfl
  refine step_lst h hq (amount_own.trans (if_neg (by simp [lN]; try omega)).symm) (qs := fullShare.left) (XB A c) (fin A c) ?_ ?_
    (read_x_out A (r := cx c) (rx := 2 * x.val) (by rw [ho]; rfl) (by rw [ho']; show 1024 * orow x c = _; unfold orow; rfl) (by rw [ho, ho']; rfl)
      fun j => own_own x c (mem_pre.1 (hs2 ▸ View.emb_mem_set _ j)))
  · rw [hs1, hs2, Slots_same A h]
    have hx : Xb A c n ⊢ iprop(Xb A c (n + 1) ∗ ((xbM off S2048x1024.size inb).view.loc (c : Thread nD τ)
      ↦[pre xatom (xrows (2 * x.val) 2)]{fullShare.left} XB A c)) := Xb_lst A (c := c) h
    unfold jpre
    iintro ⟨⟨HSl, HX⟩, Hd⟩
    ihave HX := hx $$ HX
    icases HX with ⟨HX, Hs⟩
    isplitl [HSl HX]
    · isplitl [HSl] <;> iassumption
    isplitl [Hs]; · iexact Hs
    iexact Hd
  · rw [hs1, hs2]
    exact Entails.refl _

section Remote
variable {i : Chan} {sp : Space} {offD sz : Fin 2 → ℕ} {inbD} {src : Memref sig (c : Thread nD τ).2.kind sp ⟨2, sz⟩ .bf16} {q₁ q₂ : DmaSem sig} {dev : Dev nD}

theorem step_snd {hsc hsrc hdst hsem} (h : pos (.snd i) = n) (hs : snds i c = true) (hdev : dev = tgt i c) (hq₁ : q₁ = sS i) (hq₂ : q₂ = rS i)
    (ho : offD = ![1024 * row0 i c, col0 (grp i)]) (hz : sz = ![1024 * nrow i, wid (grp i)])
    {q : PosShare TreeShare} (fs : Buf (Elt F) (src.view.loc (c : Thread nD τ)))
    (hpay : sndPay A c i = (src.view.loc (c : Thread nD τ) ↦[src.view.set]{q} fs))
    (hread : ∀ x, (outM offD sz inbD).view.read (Elt F) (fin A (tgt i c)) x = src.view.read (Elt F) fs x) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.enqueueDma src (.remote (dev : Thread nD τ) (outM offD sz inbD) (.dma q₁) hsc) (.dma q₂) hsrc hdst hsem) k) Q) := by
  subst hdev hq₁ hq₂
  have hset : (outM offD sz inbD).view.set = pre atom (swin i c) := outM_set ho hz
  unfold St
  rw [Ps_same h, Sigs_same h, Bar_same h, Rcvs_same h, Jobs_same A h, Slots_same A h]
  iintro ⟨#HC, HO, HP, HG, HB, HS, HR, HJ, HSl, HX, HK⟩ Hk
  unfold Ow
  icases HO with ⟨%W, HO⟩
  have hw := ord_snd_wsd i
  have hP := bs_focus (F := F) (Φ := posSt c n) (Ψ := posSt c n) (sS i) fun q' hj => rfl
  have hR := bs_focus (F := F) (Φ := sndSt c n) (Ψ := sndSt c (n + 1)) i fun j hj => sndSt_same h j (by simp)
    (fun e => absurd (by injection e) hj) (by simp)
  have hp0 : posOf c n (sS i) = 0 := posOf_snd0 c i (by unfold done; omega)
  unfold Ps Snds
  ihave HP := hP $$ HP
  icases HP with ⟨Hp, HP⟩
  ihave HS := hR $$ HS
  icases HS with ⟨Hi, HS⟩
  ihave Hp := (Entails.of_eq (posSt_at hp0)) $$ Hp
  icases Hp with ⟨Hp, #Hr⟩
  ihave Hi := (Entails.of_eq (sndSt_open h hs)) $$ Hi
  unfold leave tok
  icases Hi with ⟨⟨Ht1, Ht2⟩, ⟨%f, Hd⟩, #Hr2⟩
  ihave Htk := (take_src A h hs) $$ [HX HK]
  · isplitl [HX] <;> iassumption
  icases Htk with ⟨⟨HX, HK⟩, Hsrc⟩
  have hwr : ∀ x ∈ (outM offD sz inbD).view.set, (outM offD sz inbD).view.write (Elt F) f (src.view.read (Elt F) fs) Finset.univ x = fin A (tgt i c) x :=
    written (outM offD sz inbD).view f (fin A (tgt i c)) _ hread
  have hpay2 : ((outM offD sz inbD).view.loc (tgt i c : Thread nD τ) ↦[(outM offD sz inbD).view.set]{fullShare}
      ((outM offD sz inbD).view.write (Elt F) f (src.view.read (Elt F) fs) Finset.univ)) ⊢ (Rd A).payload (dC (tgt i c) (rS i)) 0 .P := by
    rw [payload_rcv, pointsTo_congr hwr, hset]
    unfold rcvPay
    rw [rwin_tgt]
  have hdst' : outP (tgt i c) (pre atom (swin i c)) fullShare f
      ⊢ ((outM offD sz inbD).view.loc (tgt i c : Thread nD τ) ↦[(outM offD sz inbD).view.set]{fullShare} f) := by rw [hset]
  iapply (Rounds.wp_send_pointsTo 𝒱₀ ER (Rd A) (c : Thread nD τ) none (c' := (tgt i c : Thread nD τ)) (κ₁ := K (dC c (sS i))) (κ₂ := K (dC (tgt i c) (rS i)))
    (r₁ := 0) (r₂ := 0) (d₁ := Dir.P) (d₂ := Dir.P) (q := q) (fs := fs) (fd := f)
    (src := src) (dst := outM offD sz inbD) (sS := .dma (sS i)) (sem := .dma (rS i)) (O₀ := owed c n)
    (by rw [duties_snd A c i hs]; exact Finset.mem_singleton_self _) (by rw [duties_rcv A (tgt i c) i (rcvs_tgt i c hs)]; exact Finset.mem_singleton_self _)
    () () (amt i) (show (outM offD sz inbD).view.amount (.dma (rS i)) = _ from amount_win i hz) (amount_snd A c i _ _) (amount_rcv A (tgt i c) i _ _) (owed c (n + 1)) (owed_snd c h hs)
    (by rw [payload_snd, hpay]) hpay2) $$ [HO Hsrc Hd Ht1 Ht2]
  · isplitr
    · iapply (ctx_dma c (sS i)) $$ HC
    isplitr
    · iapply (ctx_dma (tgt i c) (rS i)) $$ HC
    isplitl [Hsrc]; · iapply (Entails.of_eq hpay) $$ Hsrc
    isplitl [Hd]; · iapply hdst' $$ Hd
    isplitl [HO]; · iexact HO
    isplitl [Ht1]; · iexact Ht1
    isplitr; · iexact Hr
    isplitl [Ht2]; · iexact Ht2
    iexact Hr2
  iintro ⟨Hc, HO⟩
  iapply Hk
  isplitl [HO]; · iexists W; iexact HO
  isplitl [HP Hp]
  · iapply HP
    iapply (Entails.of_eq (posSt_at hp0).symm)
    isplitl [Hp]; · iexact Hp
    iexact Hr
  isplitl [HG]; · iexact HG
  isplitl [HB]; · iexact HB
  isplitl [HS Hc]
  · iapply HS
    iapply (Entails.of_eq (sndSt_sent h hs).symm) $$ Hc
  isplitl [HR]; · iexact HR
  isplitl [HJ]; · iexact HJ
  isplitl [HSl]; · iexact HSl
  isplitl [HX]; · iexact HX
  iexact HK
end Remote

theorem step_snd_x {i : Chan} {offS offD sz : Fin 2 → ℕ} {inbS inbD} {q₁ q₂ : DmaSem sig} {dev : Dev nD} {hsc hsrc hdst hsem}
    (h : pos (.snd i) = n) (hx : fromX i = true) (hdev : dev = tgt i c) (hq₁ : q₁ = sS i) (hq₂ : q₂ = rS i)
    (ho : offS = ![1024 * xrow0 i c, col0 (grp i)]) (ho' : offD = ![1024 * row0 i c, col0 (grp i)]) (hz : sz = ![1024 * nrow i, wid (grp i)]) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.enqueueDma (xbM offS sz inbS) (.remote (dev : Thread nD τ) (outM offD sz inbD) (.dma q₁) hsc) (.dma q₂) hsrc hdst hsem) k) Q) := by
  have hs : snds i c = true := by cases i <;> first | rfl | cases hx
  have hset : (outM offD sz inbD).view.set = pre atom (swin i c) := outM_set ho' hz
  have hset' : (xbM offS sz inbS).view.set = pre xatom (xswin i c) := xbM_set ho hz
  refine step_snd h hs hdev hq₁ hq₂ ho' hz (q := fullShare.right) (XB A c) ?_
    (read_x_out A (r := cx c) (rx := xrow0 i c) (by rw [ho]; rfl) (by rw [ho', ← row_src i c hx]; rfl) (by rw [ho, ho']; rfl)
      fun j => own_src i c hx (mem_pre.1 (hset ▸ View.emb_mem_set _ j)))
  rw [hset']
  exact if_pos hx
theorem step_snd_o {i : Chan} {off sz : Fin 2 → ℕ} {inbS inbD} {q₁ q₂ : DmaSem sig} {dev : Dev nD} {hsc hsrc hdst hsem}
    (h : pos (.snd i) = n) (hx : fromX i = false) (hs : snds i c = true) (hdev : dev = tgt i c) (hq₁ : q₁ = sS i) (hq₂ : q₂ = rS i)
    (ho' : off = ![1024 * row0 i c, col0 (grp i)]) (hz : sz = ![1024 * nrow i, wid (grp i)]) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.enqueueDma (outM off sz inbS) (.remote (dev : Thread nD τ) (outM off sz inbD) (.dma q₁) hsc) (.dma q₂) hsrc hdst hsem) k) Q) := by
  have hset : (outM off sz inbS).view.set = pre atom (swin i c) := outM_set ho' hz
  refine step_snd h hs hdev hq₁ hq₂ ho' hz (q := shq (shOf i)) (fin A c) ?_
    (read_out_out A fun j => own_fwd i c hx hs (mem_pre.1 (hset ▸ View.emb_mem_set _ j)))
  rw [hset]
  exact if_neg (by rw [hx]; decide)

end Cert.Ag
-- ==== Proof.Sim.lean ====
/-
  Running a program whose stores are cut into smaller ones.

  A store may be replaced, in a program and in the bodies it calls, by several effects that together do to the state what the
  store does (`Quiet`): by a load of what is there and stores of the parts that differ.  `Rel` relates a program to one got from
  it in this way, and `meshRun_of_rel` carries the observation of a run from the second program back to the first.
-/
module

public import Idealize.ShloMosaic.Lib.ThreadCanStep
public import Idealize.ShloMosaic.Lib.Pipeline

@[expose] public section

namespace Cut
open Idealize.ShloMosaic Idealize.SL.Sem

variable {nD : Nat} {τ : Topo} {sig : RefSig} {Val : EltTy → Type} {Λ : Labels}

/-- What an unmasked store does to the interpreted state. -/
def stored {p : Proc τ} (d : Dev nD) (s : Phys nD τ sig Val) {cs : CoreSpace} {sh : Shape} {e : EltTy}
    (m : Memref sig p.kind cs sh e) (r : Rect sh) (w : r.shape.Idx → Val e) : Phys nD τ sig Val :=
  { s.writeView (d, p) (m.access r) w Finset.univ with
    ops := Phys.touch s.ops d (p.devRef m.view.ref) (Finset.univ : Finset r.shape.Idx) }

/-- `n` effects of a program on device `d`, run one after another from the state `s`, none of them a call. -/
inductive Quiet {p : Proc τ} (d : Dev nD) {α : Type} :
    Phys nD τ sig Val → Prog (TpuEff nD τ sig Val Λ p) α → Phys nD τ sig Val → Prog (TpuEff nD τ sig Val Λ p) α → Nat → Prop where
  | refl (s : Phys nD τ sig Val) (q : Prog (TpuEff nD τ sig Val Λ p) α) : Quiet d s q s q 0
  | step {s s' s'' : Phys nD τ sig Val} {ω : Valuation τ sig Val} {β : Type} {e : TpuEff nD τ sig Val Λ p β}
      {k : β → Prog (TpuEff nD τ sig Val Λ p) α} {a : β} {q : Prog (TpuEff nD τ sig Val Λ p) α} {n : Nat}
      (h : effStep (d, p) s ω e = some (a, s')) (ht : Quiet d s' (k a) s'' q n) : Quiet d s (.op e k) s'' q (n + 1)

theorem Quiet.trans {p : Proc τ} {d : Dev nD} {α : Type} {s s' s'' : Phys nD τ sig Val} {q q' q'' : Prog (TpuEff nD τ sig Val Λ p) α}
    {n n' : Nat} (h : Quiet d s q s' q' n) (h' : Quiet d s' q' s'' q'' n') : Quiet d s q s'' q'' (n + n') := by
  induction h with
  | refl => simpa using h'
  | step he _ ih => rw [Nat.add_right_comm]; exact .step he (ih h')

theorem Quiet.bind {p : Proc τ} {d : Dev nD} {α γ : Type} {s s' : Phys nD τ sig Val} {q q' : Prog (TpuEff nD τ sig Val Λ p) α}
    {n : Nat} (h : Quiet d s q s' q' n) (g : α → Prog (TpuEff nD τ sig Val Λ p) γ) : Quiet d s (q >>= g) s' (q' >>= g) n := by
  induction h with
  | refl => exact .refl _ _
  | step he _ ih => rw [Prog.bind_op]; exact .step he ih

theorem effStep_inl {Λ' : Labels} {p : Proc τ} {β : Type} (d : Dev nD) (s : Phys nD τ sig Val) (ω : Valuation τ sig Val)
    (e : TpuEff nD τ sig Val Λ p β) :
    effStep (Λ := Λ.sum Λ') (d, p) s ω e.inl = effStep (d, p) s ω e := by
  cases e with
  | assume P dec => cases dec <;> rfl
  | _ => rfl

theorem Quiet.inlProg {Λ' : Labels} {p : Proc τ} {d : Dev nD} {α : Type} {s s' : Phys nD τ sig Val}
    {q q' : Prog (TpuEff nD τ sig Val Λ p) α} {n : Nat} (h : Quiet d s q s' q' n) :
    Quiet (Λ := Λ.sum Λ') d s (TpuEff.inlProg q) s' (TpuEff.inlProg q') n := by
  induction h with
  | refl => exact .refl _ _
  | step he _ ih => exact .step ((effStep_inl _ _ _ _).trans he) ih

/-- The second program is the first with some of its stores replaced by effects that do the same. -/
inductive Rel {p : Proc τ} : {α : Type} → Prog (TpuEff nD τ sig Val Λ p) α → Prog (TpuEff nD τ sig Val Λ p) α → Prop where
  | ret {α : Type} (a : α) : Rel (.ret a) (.ret a)
  | op {α β : Type} (e : TpuEff nD τ sig Val Λ p β) (k k' : β → Prog (TpuEff nD τ sig Val Λ p) α)
      (h : ∀ a, Rel (k a) (k' a)) : Rel (.op e k) (.op e k')
  | store {α : Type} {cs : CoreSpace} {sh : Shape} {e : EltTy} (m : Memref sig p.kind cs sh e) (r : Rect sh)
      (w : r.shape.Idx → Val e) (hx : (m.access r).Stores Finset.univ) (hm : Finset.univ = Finset.univ ∨ ∀ a, r.stride a = 1)
      (k : PUnit → Prog (TpuEff nD τ sig Val Λ p) α) (q q' : Prog (TpuEff nD τ sig Val Λ p) α)
      (hq : ∀ (d : Dev nD) (s : Phys nD τ sig Val), ∃ n, Quiet d s q (stored d s m r w) q' (n + 1))
      (hk : Rel (k ⟨⟩) q') : Rel (.op (.store m r w Finset.univ hx hm) k) q

theorem Rel.refl {p : Proc τ} {α : Type} (q : Prog (TpuEff nD τ sig Val Λ p) α) : Rel q q := by
  induction q with
  | ret a => exact .ret a
  | op e k ih => exact .op e k k ih

theorem Rel.bind {p : Proc τ} {α γ : Type} {q q' : Prog (TpuEff nD τ sig Val Λ p) α} (h : Rel q q') :
    ∀ {g g' : α → Prog (TpuEff nD τ sig Val Λ p) γ}, (∀ a, Rel (g a) (g' a)) → Rel (q >>= g) (q' >>= g') := by
  induction h with
  | ret a => intro g g' hg; exact hg a
  | op e k k' _ ih => intro g g' hg; exact .op e _ _ fun a => ih a hg
  | store m r w hx hm k q q' hq _ ih =>
    intro g g' hg
    refine .store m r w hx hm _ _ (q' >>= g') (fun d s => ?_) (ih hg)
    obtain ⟨n, hn⟩ := hq d s
    exact ⟨n, hn.bind g'⟩

theorem Rel.inlProg {Λ' : Labels} {p : Proc τ} {α : Type} {q q' : Prog (TpuEff nD τ sig Val Λ p) α} (h : Rel q q') :
    Rel (Λ := Λ.sum Λ') (TpuEff.inlProg q) (TpuEff.inlProg q') := by
  induction h with
  | ret a => exact .ret a
  | op e k k' _ ih => exact .op e.inl _ _ ih
  | store m r w hx hm k q q' hq _ ih =>
    refine .store m r w hx hm _ _ _ (fun d s => ?_) ih
    obtain ⟨n, hn⟩ := hq d s
    exact ⟨n, hn.inlProg⟩

/-- Residual programs, related where both are left. -/
inductive ORel {p : Proc τ} : Option (Prog (TpuEff nD τ sig Val Λ p) PUnit) → Option (Prog (TpuEff nD τ sig Val Λ p) PUnit) → Prop where
  | none : ORel .none .none
  | some {q q' : Prog (TpuEff nD τ sig Val Λ p) PUnit} (h : Rel q q') : ORel (.some q) (.some q')

/-- Running states with one interpreted part and related residual programs. -/
structure StRel (s s' : RunSt nD τ sig Val Λ) : Prop where
  phys : s'.toPhys = s.toPhys
  prog : ∀ c, ORel (s.prog c) (s'.prog c)

theorem StRel.final_iff {s s' : RunSt nD τ sig Val Λ} (h : StRel s s') : Final s ↔ Final s' := by
  constructor
  · intro hf c
    have h1 := h.prog c
    rw [hf c] at h1
    revert h1
    generalize s'.prog c = x
    intro h1
    cases h1
    rfl
  · intro hf c
    have h1 := h.prog c
    rw [hf c] at h1
    revert h1
    generalize s.prog c = x
    intro h1
    cases h1
    rfl

variable {defs defs' : Defs nD τ sig Val Λ}

/-- A chain of `n` steps of one agent through the states `f`. -/
def Chain (defs : Defs nD τ sig Val Λ) (a : Agent nD τ) (f : Nat → RunSt nD τ sig Val Λ) (n : Nat) : Prop :=
  ∀ i < n, ¬ Final (f i) ∧ MeshStep defs a (f i) (f (i + 1))

/-- An effect that is no call steps its thread. -/
theorem meshStep_of_effStep {p : Proc τ} {d : Dev nD} {s : RunSt nD τ sig Val Λ} {ω : Valuation τ sig Val} {β : Type}
    {e : TpuEff nD τ sig Val Λ p β} {k : β → Prog (TpuEff nD τ sig Val Λ p) PUnit} {a : β} {s2 : Phys nD τ sig Val}
    (hp : s.prog (d, p) = some (.op e k)) (h : effStep (d, p) s.toPhys ω e = some (a, s2)) :
    ¬ Final s ∧ MeshStep defs (.thread (d, p)) s ((s.withPhys s2).setProg (d, p) (some (k a))) := by
  have hc : coreStep defs (d, p) s ω = some (some (k a), s.withPhys s2) := by
    rw [coreStep, hp, Option.bind_some]
    cases e with
    | call ℓ a => exact absurd h (by simp [effStep])
    | customCall ℓ a => exact absurd h (by simp [effStep])
    | _ => simp only [coreStepInner]; rw [h]; rfl
  exact ⟨not_final_of_coreStep hc, .core _ ω hc⟩

theorem chain_of_quiet {p : Proc τ} {d : Dev nD} {s₀ s₁ : Phys nD τ sig Val} {q q' : Prog (TpuEff nD τ sig Val Λ p) PUnit} {n : Nat}
    (h : Quiet d s₀ q s₁ q' n) : ∀ s : RunSt nD τ sig Val Λ, s.toPhys = s₀ → s.prog (d, p) = some q →
      ∃ f : Nat → RunSt nD τ sig Val Λ, f 0 = s ∧ f n = (s.withPhys s₁).setProg (d, p) (some q') ∧
        Chain defs (.thread (d, p)) f n := by
  induction h with
  | refl s₀ q =>
    intro s hs hq
    refine ⟨fun _ => s, rfl, ?_, fun i hi => absurd hi (Nat.not_lt_zero i)⟩
    subst hs
    show s = RunSt.mk s.toPhys (Function.update s.prog (d, p) (some q))
    rw [← hq, Function.update_eq_self]
  | @step s₀ s₁ s₂ ω β e k a q n he _ ih =>
    intro s hs hq
    subst hs
    have h1 := meshStep_of_effStep (defs := defs) hq he
    obtain ⟨f, hf0, hfn, hf⟩ := ih ((s.withPhys s₁).setProg (d, p) (some (k a))) rfl
      (by show Function.update s.prog (d, p) (some (k a)) (d, p) = _; rw [Function.update_self])
    refine ⟨fun i => match i with | 0 => s | i + 1 => f i, rfl, ?_, ?_⟩
    · show f n = _
      rw [hfn]
      show RunSt.mk s₂ (Function.update (Function.update s.prog (d, p) (some (k a))) (d, p) (some q)) = RunSt.mk s₂ _
      rw [Function.update_idem]
    · intro i hi
      cases i with
      | zero => show ¬ Final s ∧ MeshStep defs _ s (f 0); rw [hf0]; exact h1
      | succ i => exact hf i (Nat.lt_of_succ_lt_succ hi)

theorem orel_update {s s' : RunSt nD τ sig Val Λ} (h : StRel s s') (c : Thread nD τ)
    {x x' : Option (Prog (TpuEff nD τ sig Val Λ c.2) PUnit)} (hx : ORel x x') (c' : Thread nD τ) :
    ORel (Function.update s.prog c x c') (Function.update s'.prog c x' c') := by
  by_cases hc : c' = c
  · subst hc; rw [Function.update_self, Function.update_self]; exact hx
  · rw [Function.update_of_ne hc, Function.update_of_ne hc]; exact h.prog c'

/-- A state effect steps a thread of the program as `effStep` does. -/
theorem coreStepInner_eff {c : Thread nD τ} {m : RunSt nD τ sig Val Λ} {ω : Valuation τ sig Val} {β : Type}
    {e : TpuEff nD τ sig Val Λ c.2 β} {k : β → Prog (TpuEff nD τ sig Val Λ c.2) PUnit}
    (h1 : ∀ ℓ a, ¬ HEq e (TpuEff.call (nD := nD) (τ := τ) (sig := sig) (Val := Val) (Λ := Λ) (p := c.2) ℓ a))
    (h2 : ∀ ℓ a, ¬ HEq e (TpuEff.customCall (nD := nD) (τ := τ) (sig := sig) (Val := Val) (Λ := Λ) (p := c.2) ℓ a)) :
    coreStepInner defs c m ω (.op e k) = (effStep c m.toPhys ω e).map fun r => (some (k r.1), m.withPhys r.2) := by
  cases e with
  | call ℓ a => exact absurd HEq.rfl (h1 ℓ a)
  | customCall ℓ a => exact absurd HEq.rfl (h2 ℓ a)
  | _ => rfl

/-- One step of a thread whose program is the first of two related ones is some steps of the second. -/
theorem inner_sim (hd : ∀ p ℓ a, Rel (defs p ℓ a) (defs' p ℓ a)) {c : Thread nD τ} {s s' : RunSt nD τ sig Val Λ}
    {ω : Valuation τ sig Val} {q q' : Prog (TpuEff nD τ sig Val Λ c.2) PUnit}
    (h : Rel q q') (hs : StRel s s') (hq : s'.prog c = some q') {p' : Option (Prog (TpuEff nD τ sig Val Λ c.2) PUnit)}
    {m' : RunSt nD τ sig Val Λ} (hstep : coreStepInner defs c s ω q = some (p', m')) :
    ∃ n f, f 0 = s' ∧ StRel (m'.setProg c p') (f (n + 1)) ∧ Chain defs' (.thread c) f (n + 1) := by
  have one : ∀ (x' : Option (Prog (TpuEff nD τ sig Val Λ c.2) PUnit)) (s2 : Phys nD τ sig Val), m' = s.withPhys s2 → ORel p' x' →
      coreStepInner defs' c s' ω q' = some (x', s'.withPhys s2) →
      ∃ n f, f 0 = s' ∧ StRel (m'.setProg c p') (f (n + 1)) ∧ Chain defs' (.thread c) f (n + 1) := by
    intro x' s2 hm hx hst
    have hc : coreStep defs' c s' ω = some (x', s'.withPhys s2) := by rw [coreStep, hq, Option.bind_some]; exact hst
    refine ⟨0, fun i => match i with | 0 => s' | _ + 1 => (s'.withPhys s2).setProg c x', rfl, ?_, ?_⟩
    · subst hm
      exact ⟨rfl, fun c' => orel_update hs c hx c'⟩
    · intro i hi
      obtain rfl : i = 0 := by omega
      exact ⟨not_final_of_coreStep hc, .core _ ω hc⟩
  have hph : s'.toPhys = s.toPhys := hs.phys
  have hwp : ∀ s2, (s'.withPhys s2).toPhys = s2 := fun _ => rfl
  cases h with
  | ret a =>
    simp only [coreStepInner, Option.some.injEq, Prod.mk.injEq] at hstep
    obtain ⟨rfl, rfl⟩ := hstep
    refine one none s.toPhys rfl .none ?_
    simp only [coreStepInner, ← hph]
  | op e k k' hk =>
    have gen : (coreStepInner defs c s ω (.op e k) = (effStep c s.toPhys ω e).map fun r => (some (k r.1), s.withPhys r.2)) →
        (coreStepInner defs' c s' ω (.op e k') = (effStep c s'.toPhys ω e).map fun r => (some (k' r.1), s'.withPhys r.2)) →
        ∃ n f, f 0 = s' ∧ StRel (m'.setProg c p') (f (n + 1)) ∧ Chain defs' (.thread c) f (n + 1) := by
      intro g1 g2
      rw [g1] at hstep
      obtain ⟨⟨x, s2⟩, hes, hxm⟩ := Option.map_eq_some_iff.mp hstep
      obtain ⟨rfl, rfl⟩ := Prod.mk.inj hxm
      refine one (some (k' x)) s2 rfl (.some (hk x)) ?_
      rw [g2, hph, hes]
      rfl
    cases e with
    | call ℓ a =>
      simp only [coreStepInner, Option.some.injEq, Prod.mk.injEq] at hstep
      obtain ⟨rfl, rfl⟩ := hstep
      refine one _ s.toPhys rfl (.some ((hd c.2 ℓ a).bind hk)) ?_
      simp only [coreStepInner, ← hph]
    | customCall ℓ a =>
      simp only [coreStepInner, Option.some.injEq, Prod.mk.injEq] at hstep
      obtain ⟨rfl, rfl⟩ := hstep
      refine one _ (s.toPhys.forget c ω) rfl (.some ((hd c.2 ℓ a).bind fun r => .op .kernelExit _ _ fun _ => hk r)) ?_
      simp only [coreStepInner, ← hph]
    | _ => exact gen rfl rfl
  | store m r w hx hm k q q2 hqq hk =>
    simp only [coreStepInner, effStep, Option.map_some, Option.some.injEq, Prod.mk.injEq] at hstep
    obtain ⟨rfl, rfl⟩ := hstep
    obtain ⟨n, hn⟩ := hqq c.1 s.toPhys
    obtain ⟨f, hf0, hfn, hf⟩ := chain_of_quiet (defs := defs') hn s' hph hq
    refine ⟨n, f, hf0, ?_, hf⟩
    rw [hfn]
    exact ⟨rfl, fun c' => orel_update hs c (.some hk) c'⟩

theorem step_sim (hd : ∀ p ℓ a, Rel (defs p ℓ a) (defs' p ℓ a)) {s s' t : RunSt nD τ sig Val Λ} {a : Agent nD τ}
    (hs : StRel s s') (hn : ¬ Final s) (h : MeshStep defs a s t) :
    ∃ n f, f 0 = s' ∧ StRel t (f (n + 1)) ∧ Chain defs' a f (n + 1) := by
  have hn' : ¬ Final s' := fun hf => hn (hs.final_iff.2 hf)
  have one : ∀ t' : RunSt nD τ sig Val Λ, StRel t t' → MeshStep defs' a s' t' →
      ∃ n f, f 0 = s' ∧ StRel t (f (n + 1)) ∧ Chain defs' a f (n + 1) := by
    intro t' ht hst
    refine ⟨0, fun i => match i with | 0 => s' | _ + 1 => t', rfl, ht, ?_⟩
    intro i hi
    obtain rfl : i = 0 := by omega
    exact ⟨hn', hst⟩
  obtain ⟨s'p, s'q⟩ := s'
  have hph : s'p = s.toPhys := hs.phys
  subst hph
  cases h with
  | core c ω hc =>
    have ho := hs.prog c
    rw [coreStep] at hc
    revert hc ho
    generalize hx : s.prog c = x
    generalize hx' : RunSt.prog _ c = x'
    intro hc ho
    cases ho with
    | none => cases hc
    | some hqq =>
      rw [Option.bind_some] at hc
      exact inner_sim hd hqq hs hx' hc
  | dmaRead i M alt hi hM => exact one ⟨s.toPhys.dmaRead i _ M alt, s'q⟩ ⟨rfl, hs.prog⟩ (.dmaRead (m := ⟨s.toPhys, s'q⟩) i M alt hi hM)
  | dmaWrite i M hi hM => exact one ⟨s.toPhys.dmaWrite i _ M, s'q⟩ ⟨rfl, hs.prog⟩ (.dmaWrite (m := ⟨s.toPhys, s'q⟩) i M hi hM)
  | dmaPaySrc i k hi hk => exact one ⟨s.toPhys.dmaPaySrc i _ k, s'q⟩ ⟨rfl, hs.prog⟩ (.dmaPaySrc (m := ⟨s.toPhys, s'q⟩) i k hi hk)
  | dmaPayDst i k hi hk => exact one ⟨s.toPhys.dmaPayDst i _ k, s'q⟩ ⟨rfl, hs.prog⟩ (.dmaPayDst (m := ⟨s.toPhys, s'q⟩) i k hi hk)
  | dmaRetire i hi hk => exact one ⟨s.toPhys.dmaRetire i, s'q⟩ ⟨rfl, hs.prog⟩ (.dmaRetire (m := ⟨s.toPhys, s'q⟩) i hi hk)
  | serve i k alt hi hk => exact one ⟨s.toPhys.serve i _ k alt, s'q⟩ ⟨rfl, hs.prog⟩ (.serve (m := ⟨s.toPhys, s'q⟩) i k alt hi hk)
  | deliver i hi => exact one ⟨s.toPhys.deliver i _, s'q⟩ ⟨rfl, hs.prog⟩ (.deliver (m := ⟨s.toPhys, s'q⟩) i hi)

/-- What is enabled in the second state is enabled in the first. -/
theorem enabled_of_rel {s s' : RunSt nD τ sig Val Λ} {a : Agent nD τ}
    (hs : StRel s s') (h : Enabled defs' a s') : Enabled defs a s := by
  obtain ⟨t', h⟩ := h
  obtain ⟨s'p, s'q⟩ := s'
  have hph : s'p = s.toPhys := hs.phys
  subst hph
  cases h with
  | core c ω hc =>
    have ho := hs.prog c
    rw [coreStep] at hc
    revert hc ho
    generalize hx : s.prog c = x
    generalize hx' : RunSt.prog _ c = x'
    intro hc ho
    have fin : (∃ y, coreStep defs c s ω = some y) → Enabled defs (.thread c) s := by
      rintro ⟨⟨p', m'⟩, hy⟩
      exact ⟨_, .core c ω hy⟩
    cases ho with
    | none => cases hc
    | some hqq =>
      rw [Option.bind_some] at hc
      refine fin ?_
      rw [coreStep, hx, Option.bind_some]
      cases hqq with
      | ret a => exact ⟨_, rfl⟩
      | op e k k' hk =>
        cases e with
        | call ℓ a => exact ⟨_, rfl⟩
        | customCall ℓ a => exact ⟨_, rfl⟩
        | _ =>
          simp only [coreStepInner] at hc ⊢
          obtain ⟨y, hes, -⟩ := Option.map_eq_some_iff.mp hc
          exact ⟨_, by rw [hes]; rfl⟩
      | store m r w hx hm k q q2 hqq hk => exact ⟨_, rfl⟩
  | dmaRead i M alt hi hM => exact ⟨_, .dmaRead i M alt hi hM⟩
  | dmaWrite i M hi hM => exact ⟨_, .dmaWrite i M hi hM⟩
  | dmaPaySrc i k hi hk => exact ⟨_, .dmaPaySrc i k hi hk⟩
  | dmaPayDst i k hi hk => exact ⟨_, .dmaPayDst i k hi hk⟩
  | dmaRetire i hi hk => exact ⟨_, .dmaRetire i hi hk⟩
  | serve i k alt hi hk => exact ⟨_, .serve i k alt hi hk⟩
  | deliver i hi => exact ⟨_, .deliver i hi⟩

theorem reaches_of_chain {a : Agent nD τ} {f : Nat → RunSt nD τ sig Val Λ} {n : Nat} (h : Chain defs a f n) :
    Reaches defs (f 0) (f n) := by
  induction n with
  | zero => exact .refl
  | succ n ih =>
    exact .tail (ih fun i hi => h i (Nat.lt_succ_of_lt hi)) ⟨(h n (Nat.lt_succ_self n)).1, a, (h n (Nat.lt_succ_self n)).2⟩

theorem reaches_sim (hd : ∀ p ℓ a, Rel (defs p ℓ a) (defs' p ℓ a)) {s s' t : RunSt nD τ sig Val Λ}
    (hs : StRel s s') (h : Reaches defs s t) : ∃ t', StRel t t' ∧ Reaches defs' s' t' := by
  unfold Reaches at h
  induction h with
  | refl => exact ⟨s', hs, .refl⟩
  | tail _ hst ih =>
    obtain ⟨u', hu, hr⟩ := ih
    obtain ⟨hn, a, hs⟩ := hst
    obtain ⟨n, f, hf0, hft, hf⟩ := step_sim hd hu hn hs
    refine ⟨_, hft, ?_⟩
    have := reaches_of_chain hf
    rw [hf0] at this
    exact Relation.ReflTransGen.trans hr this

/-! ## Infinite runs -/

section Inf
variable {s₀ s₀' : RunSt nD τ sig Val Λ} (hd : ∀ p ℓ a, Rel (defs p ℓ a) (defs' p ℓ a)) (ρ : InfRun defs s₀) (h₀ : StRel s₀ s₀')

/-- One step of the run, followed in the second program. -/
structure Leg (n : Nat) where
  f : Nat → RunSt nD τ sig Val Λ
  len : Nat
  head : StRel (ρ.st n) (f 0)
  last : StRel (ρ.st (n + 1)) (f (len + 1))
  chain : Chain defs' (ρ.ag n) f (len + 1)

include hd in
theorem exists_leg (n : Nat) (s' : RunSt nD τ sig Val Λ) (hs : StRel (ρ.st n) s') :
    ∃ l : Leg (defs' := defs') ρ n, l.f 0 = s' := by
  obtain ⟨m, f, hf0, hft, hf⟩ := step_sim hd hs (ρ.step n).1 (ρ.step n).2
  exact ⟨⟨f, m, hf0 ▸ hs, hft, hf⟩, hf0⟩

/-- The legs of the run, each from where the one before ends. -/
noncomputable def legs : (n : Nat) → Leg (defs' := defs') ρ n
  | 0 => (exists_leg hd ρ 0 s₀' (by rw [ρ.head]; exact h₀)).choose
  | n + 1 => (exists_leg hd ρ (n + 1) _ (legs n).last).choose

theorem legs_zero : (legs hd ρ h₀ 0).f 0 = s₀' := (exists_leg hd ρ 0 s₀' (by rw [ρ.head]; exact h₀)).choose_spec

theorem legs_succ (n : Nat) : (legs hd ρ h₀ (n + 1)).f 0 = (legs hd ρ h₀ n).f ((legs hd ρ h₀ n).len + 1) :=
  (exists_leg hd ρ (n + 1) _ (legs hd ρ h₀ n).last).choose_spec

/-- Which leg, and which of its steps, the `j`-th step is. -/
noncomputable def place : Nat → Nat × Nat
  | 0 => (0, 0)
  | j + 1 => if (place j).2 < (legs hd ρ h₀ (place j).1).len then ((place j).1, (place j).2 + 1) else ((place j).1 + 1, 0)

theorem place_lt {j : Nat} (h : (place hd ρ h₀ j).2 < (legs hd ρ h₀ (place hd ρ h₀ j).1).len) :
    place hd ρ h₀ (j + 1) = ((place hd ρ h₀ j).1, (place hd ρ h₀ j).2 + 1) := by rw [place]; exact if_pos h

theorem place_ge {j : Nat} (h : ¬ (place hd ρ h₀ j).2 < (legs hd ρ h₀ (place hd ρ h₀ j).1).len) :
    place hd ρ h₀ (j + 1) = ((place hd ρ h₀ j).1 + 1, 0) := by rw [place]; exact if_neg h

theorem place_le (j : Nat) : (place hd ρ h₀ j).2 ≤ (legs hd ρ h₀ (place hd ρ h₀ j).1).len := by
  cases j with
  | zero => exact Nat.zero_le _
  | succ j =>
    by_cases h : (place hd ρ h₀ j).2 < (legs hd ρ h₀ (place hd ρ h₀ j).1).len
    · rw [place_lt hd ρ h₀ h]; exact h
    · rw [place_ge hd ρ h₀ h]; exact Nat.zero_le _

theorem place_mono (j : Nat) : (place hd ρ h₀ j).1 ≤ (place hd ρ h₀ (j + 1)).1 := by
  rw [place]
  split
  · exact Nat.le_refl _
  · exact Nat.le_succ _

theorem place_mono_le {i j : Nat} (h : i ≤ j) : (place hd ρ h₀ i).1 ≤ (place hd ρ h₀ j).1 := by
  induction h with
  | refl => exact Nat.le_refl _
  | step _ ih => exact ih.trans (place_mono hd ρ h₀ _)

theorem place_leg {n j : Nat} (hj : place hd ρ h₀ j = (n, 0)) :
    ∀ i ≤ (legs hd ρ h₀ n).len, place hd ρ h₀ (j + i) = (n, i) := by
  intro i
  induction i with
  | zero => intro _; exact hj
  | succ i ih =>
    intro hi
    have h := ih (Nat.le_of_succ_le hi)
    rw [← Nat.add_assoc, place, h]
    exact if_pos hi

theorem exists_place (n : Nat) : ∃ j, place hd ρ h₀ j = (n, 0) := by
  induction n with
  | zero => exact ⟨0, rfl⟩
  | succ n ih =>
    obtain ⟨j, hj⟩ := ih
    have h := place_leg hd ρ h₀ hj _ (Nat.le_refl _)
    refine ⟨j + (legs hd ρ h₀ n).len + 1, ?_⟩
    rw [place, h]
    exact if_neg (Nat.lt_irrefl _)

/-- The run followed in the second program. -/
noncomputable def follow : InfRun defs' s₀' where
  st j := (legs hd ρ h₀ (place hd ρ h₀ j).1).f (place hd ρ h₀ j).2
  ag j := ρ.ag (place hd ρ h₀ j).1
  head := legs_zero hd ρ h₀
  step j := by
    have h := (legs hd ρ h₀ (place hd ρ h₀ j).1).chain _ (Nat.lt_succ_of_le (place_le hd ρ h₀ j))
    have hnext : (legs hd ρ h₀ (place hd ρ h₀ (j + 1)).1).f (place hd ρ h₀ (j + 1)).2
        = (legs hd ρ h₀ (place hd ρ h₀ j).1).f ((place hd ρ h₀ j).2 + 1) := by
      by_cases hlt : (place hd ρ h₀ j).2 < (legs hd ρ h₀ (place hd ρ h₀ j).1).len
      · rw [place_lt hd ρ h₀ hlt]
      · have he := Nat.le_antisymm (place_le hd ρ h₀ j) (Nat.not_lt.mp hlt)
        rw [place_ge hd ρ h₀ hlt, he]
        exact legs_succ hd ρ h₀ _
    rw [hnext]
    exact h

theorem follow_fair (hf : ρ.WeaklyFair) : (follow hd ρ h₀).WeaklyFair := by
  intro a J hen
  obtain ⟨n, hn, ha⟩ := hf a ((place hd ρ h₀ J).1 + 1) fun n hn => by
    obtain ⟨j, hj⟩ := exists_place hd ρ h₀ n
    have hJ : J ≤ j := by
      by_contra hlt
      have := place_mono_le hd ρ h₀ (Nat.le_of_lt (Nat.lt_of_not_le hlt))
      rw [hj] at this
      exact absurd (hn.trans this) (Nat.not_succ_le_self _)
    have h := hen j hJ
    change Enabled defs' a ((legs hd ρ h₀ (place hd ρ h₀ j).1).f (place hd ρ h₀ j).2) at h
    rw [hj] at h
    exact enabled_of_rel (legs hd ρ h₀ n).head h
  obtain ⟨j, hj⟩ := exists_place hd ρ h₀ n
  refine ⟨j, ?_, ?_⟩
  · by_contra hlt
    have := place_mono_le hd ρ h₀ (Nat.le_of_lt (Nat.lt_of_not_le hlt))
    rw [hj] at this
    exact absurd (hn.trans this) (Nat.not_succ_le_self _)
  · show ρ.ag (place hd ρ h₀ j).1 = a
    rw [hj]
    exact ha

end Inf

/-- The observation of a run of the second program holds of the first. -/
theorem meshRun_of_rel (hd : ∀ p ℓ a, Rel (defs p ℓ a) (defs' p ℓ a)) {Q : MemSt nD τ sig Val → Prop}
    {s s' : RunSt nD τ sig Val Λ} (hs : StRel s s') (h : MeshRun defs' Q s') : MeshRun defs Q s where
  post t ht hf := by
    obtain ⟨t', htt, hr⟩ := reaches_sim hd hs ht
    have := h.post t' hr (htt.final_iff.1 hf)
    rwa [htt.phys] at this
  progress t ht hf := by
    obtain ⟨t', htt, hr⟩ := reaches_sim hd hs ht
    obtain ⟨a, u, hu⟩ := h.progress t' hr fun hf' => hf (htt.final_iff.2 hf')
    obtain ⟨v, hv⟩ := enabled_of_rel (defs := defs) htt ⟨u, hu⟩
    exact ⟨a, v, hv⟩
  fair ρ hρ := h.fair (follow hd ρ hs) (follow_fair hd ρ hs hρ)

/-- The bodies a pipeline runs are related where the kernel's are. -/
theorem rel_pipeline {Λ₀ : Labels} {P : Type} {pcs : P → Pipeline.PCfg sig Λ₀ Val} {defs₀ defs₀' : Defs nD τ sig Val Λ₀}
    (h : ∀ p ℓ a, Rel (defs₀ p ℓ a) (defs₀' p ℓ a)) :
    ∀ p ℓ a, Rel (Pipeline.defs pcs defs₀ p ℓ a) (Pipeline.defs pcs defs₀' p ℓ a) := by
  intro p ℓ a
  cases ℓ with
  | inl ℓ =>
    cases p <;> exact (h _ ℓ a).inlProg
  | inr ℓ => cases ℓ <;> cases p <;> exact .refl _

/-- The observation of one program under bodies cut so holds under the bodies. -/
theorem theta_of_rel {p : (c : Thread nD τ) → Prog (TpuEff nD τ sig Val Λ c.2) PUnit} {m : MemSt nD τ sig Val}
    {Q : PUnit × MemSt nD τ sig Val → Prop}
    (hd : ∀ p ℓ a, Rel (defs p ℓ a) (defs' p ℓ a)) (h : θ_run defs' p m Q) : θ_run defs p m Q :=
  meshRun_of_rel hd ⟨rfl, fun c => .some (.refl (p c))⟩ h

end Cut
-- ==== Proof.Split.lean ====
/-
  A store cut into blocks: a load of the elements the store would write, a store of a first block, and, for each further block,
  a store of it if what it would write there differs from what was loaded.  `Cutting` is such a division of a store's rectangle,
  `tr` replaces every unmasked store for which a division is given, `rel_tr` relates the program to the one got so, and
  `wp_cut` runs the effects that stand for the store, owning wholly only the blocks that may differ.
-/
module

public import proofs.«01_k».proof.Proof.Sim
public import Idealize.ShloMosaic.Rules
public import Idealize.ShloMosaic.Lib.Tactic

@[expose] public section

namespace Cut
open Idealize.ShloMosaic
open Idealize.SL.RA Idealize.SL.BI Idealize.SL.Sem
open scoped Idealize.SL.BI
open Idealize.SL.BI.BIBase Idealize.SL.BI.Laws
open PCS URA

variable {nD : Nat} {τ : Topo} {sig : RefSig} {Val : EltTy → Type} {Λ : Labels}

/-- A part of the rectangle `r`, itself a rectangle a store can write. -/
structure Block {κ : Kind} {cs : CoreSpace} {s : Shape} {e : EltTy} (m : Memref sig κ cs s e) (r : Rect s) where
  rect : Rect s
  inj : rect.shape.Idx → r.shape.Idx
  hemb : ∀ y, rect.emb y = r.emb (inj y)
  pos : 0 < rect.shape.numel
  ok : (m.access rect).Stores Finset.univ

/-- A rectangle divided into blocks, a first one and the rest. -/
structure Cutting {κ : Kind} {cs : CoreSpace} {s : Shape} {e : EltTy} (m : Memref sig κ cs s e) (r : Rect s) where
  hl : m.view.LoadsAt r
  first : Block m r
  rest : List (Block m r)
  cover : ∀ x : r.shape.Idx, ∃ b ∈ first :: rest, ∃ y, b.inj y = x

/-- What differs between the loaded and the stored on the block. -/
def Differs {κ : Kind} {cs : CoreSpace} {s : Shape} {e : EltTy} {m : Memref sig κ cs s e} {r : Rect s} (b : Block m r)
    (old w : r.shape.Idx → Val e) : Prop := ∃ y, old (b.inj y) ≠ w (b.inj y)

open Classical in
/-- The stores of the blocks that differ, then `k`. -/
noncomputable def blockStores {p : Proc τ} {α : Type} {cs : CoreSpace} {s : Shape} {e : EltTy} {m : Memref sig p.kind cs s e}
    {r : Rect s} (old w : r.shape.Idx → Val e) (k : Prog (TpuEff nD τ sig Val Λ p) α) :
    List (Block m r) → Prog (TpuEff nD τ sig Val Λ p) α
  | [] => k
  | b :: bs =>
    if Differs b old w then
      .op (.store m b.rect (fun y => w (b.inj y)) Finset.univ b.ok (.inl rfl)) fun _ => blockStores old w k bs
    else blockStores old w k bs

/-- The effects that stand for the store of `w`. -/
noncomputable def cutStore {p : Proc τ} {α : Type} {cs : CoreSpace} {s : Shape} {e : EltTy} {m : Memref sig p.kind cs s e}
    {r : Rect s} (C : Cutting m r) (w : r.shape.Idx → Val e) (k : Prog (TpuEff nD τ sig Val Λ p) α) :
    Prog (TpuEff nD τ sig Val Λ p) α :=
  .op (.load m r.toLoadRect C.hl) fun old =>
    .op (.store m C.first.rect (fun y => w (C.first.inj y)) Finset.univ C.first.ok (.inl rfl)) fun _ =>
      blockStores old w k C.rest

/-- For some stores, a division of the rectangle. -/
abbrev Plan (sig : RefSig) (κ : Kind) :=
  {cs : CoreSpace} → {s : Shape} → {e : EltTy} → (m : Memref sig κ cs s e) → (r : Rect s) → Option (Cutting m r)

open Classical in
/-- One effect and its continuation, a store the plan divides replaced. -/
noncomputable def trOp {p : Proc τ} (pl : Plan sig p.kind) {α : Type} : {β : Type} → TpuEff nD τ sig Val Λ p β →
    (β → Prog (TpuEff nD τ sig Val Λ p) α) → Prog (TpuEff nD τ sig Val Λ p) α
  | _, .store m r w M hx hm, k =>
    if M = Finset.univ then
      match pl m r with
      | none => .op (.store m r w M hx hm) k
      | some C => cutStore C w (k ⟨⟩)
    else .op (.store m r w M hx hm) k
  | _, e, k => .op e k

/-- The program with every store the plan divides replaced. -/
noncomputable def tr {p : Proc τ} (pl : Plan sig p.kind) {α : Type} : Prog (TpuEff nD τ sig Val Λ p) α →
    Prog (TpuEff nD τ sig Val Λ p) α
  | .ret a => .ret a
  | .op e k => trOp pl e fun x => tr pl (k x)

section Tr
variable {p : Proc τ} (pl : Plan sig p.kind)

theorem blockStores_bind {α γ : Type} {cs : CoreSpace} {s : Shape} {e : EltTy} {m : Memref sig p.kind cs s e}
    {r : Rect s} (old w : r.shape.Idx → Val e) (k : Prog (TpuEff nD τ sig Val Λ p) α) (f : α → Prog (TpuEff nD τ sig Val Λ p) γ)
    (bs : List (Block m r)) : blockStores old w k bs >>= f = blockStores old w (k >>= f) bs := by
  induction bs with
  | nil => rfl
  | cons b bs ih =>
    rw [blockStores, blockStores]
    split
    · rw [Prog.bind_op, ih]
    · exact ih

theorem trOp_bind {α β γ : Type} (e : TpuEff nD τ sig Val Λ p β) (k : β → Prog (TpuEff nD τ sig Val Λ p) α)
    (f : α → Prog (TpuEff nD τ sig Val Λ p) γ) : trOp pl e k >>= f = trOp pl e fun x => k x >>= f := by
  cases e with
  | store m r w M hx hm =>
    rw [trOp, trOp]
    split
    · split
      · rfl
      · rw [cutStore, cutStore, Prog.bind_op]
        simp only [Prog.bind_op, blockStores_bind]
    · rfl
  | _ => rfl

theorem tr_bind {α γ : Type} (q : Prog (TpuEff nD τ sig Val Λ p) α) (f : α → Prog (TpuEff nD τ sig Val Λ p) γ) :
    tr pl (q >>= f) = tr pl q >>= fun x => tr pl (f x) := by
  induction q with
  | ret a => rfl
  | op e k ih =>
    rw [Prog.bind_op, tr, tr, trOp_bind]
    congr 1
    funext x
    exact ih x

theorem tr_ret {α : Type} (a : α) : tr pl (.ret a : Prog (TpuEff nD τ sig Val Λ p) α) = .ret a := rfl
theorem tr_op {α β : Type} (e : TpuEff nD τ sig Val Λ p β) (k : β → Prog (TpuEff nD τ sig Val Λ p) α) :
    tr pl (.op e k) = trOp pl e fun x => tr pl (k x) := rfl
theorem tr_dite {α : Type} (P : Prop) [Decidable P] (a : P → Prog (TpuEff nD τ sig Val Λ p) α) (b : ¬ P → Prog (TpuEff nD τ sig Val Λ p) α) :
    tr pl (if h : P then a h else b h) = if h : P then tr pl (a h) else tr pl (b h) := by split <;> rfl
end Tr

/-! ## What the effects do -/

section Good
variable {κ : Kind} {cs : CoreSpace} {s : Shape} {e : EltTy} {m : Memref sig κ cs s e} {r : Rect s}

/-- Contents on the way from `f` to what the store leaves, with the blocks `rem` still to come. -/
structure Good (f : m.view.ty.Contents Val) (w : r.shape.Idx → Val e) (rem : List (Block m r)) (g : m.view.ty.Contents Val) : Prop where
  off : ∀ i ∉ (m.access r).set, g i = f i
  done : ∀ x : r.shape.Idx, (∀ b ∈ rem, ∀ y, b.inj y ≠ x) → (m.access r).read Val g x = w x
  mid : ∀ x : r.shape.Idx, (m.access r).read Val g x = (m.access r).read Val f x ∨ (m.access r).read Val g x = w x

theorem access_emb (b : Block m r) (y : b.rect.shape.Idx) : (m.access b.rect).emb y = (m.access r).emb (b.inj y) := by
  show m.view.emb (b.rect.emb y) = m.view.emb (r.emb (b.inj y))
  rw [b.hemb]

theorem Block.set_subset (b : Block m r) : (m.access b.rect).set ⊆ (m.access r).set := by
  intro i hi
  obtain ⟨y, -, rfl⟩ := Finset.mem_map.mp hi
  rw [access_emb]
  exact View.emb_mem_set _ _

theorem Good.store {f : m.view.ty.Contents Val} {w : r.shape.Idx → Val e} {b : Block m r} {rem : List (Block m r)}
    {g : m.view.ty.Contents Val} (h : Good f w (b :: rem) g) :
    Good f w rem ((m.access b.rect).write Val g (fun y => w (b.inj y)) Finset.univ) := by
  have key : ∀ x : r.shape.Idx,
      (∀ y, b.inj y = x → (m.access r).read Val ((m.access b.rect).write Val g (fun y => w (b.inj y)) Finset.univ) x = w x) ∧
      ((∀ y, b.inj y ≠ x) → (m.access r).read Val ((m.access b.rect).write Val g (fun y => w (b.inj y)) Finset.univ) x
        = (m.access r).read Val g x) := by
    intro x
    constructor
    · rintro y rfl
      have := View.read_write_of_mem (v := m.access b.rect) (Val := Val) g (fun y => w (b.inj y)) (Finset.mem_univ y)
      rw [View.read_apply] at this ⊢
      rw [access_emb b y] at this
      exact this
    · intro hy
      refine View.read_congr_at x ?_
      refine View.write_of_not_mem (v := m.access b.rect) g _ _ ?_
      intro hmem
      obtain ⟨y, -, hyx⟩ := Finset.mem_map.mp hmem
      rw [access_emb b y] at hyx
      exact hy y ((m.access r).emb.injective hyx)
  refine ⟨fun i hi => ?_, fun x hx => ?_, fun x => ?_⟩
  · rw [View.write_of_not_mem (v := m.access b.rect) g _ _ fun hmem => hi (b.set_subset hmem)]
    exact h.off i hi
  · by_cases hy : ∃ y, b.inj y = x
    · obtain ⟨y, hy⟩ := hy
      exact (key x).1 y hy
    · rw [(key x).2 fun y h' => hy ⟨y, h'⟩]
      refine h.done x fun b' hb' y h' => ?_
      rcases List.mem_cons.mp hb' with rfl | hb'
      · exact hy ⟨y, h'⟩
      · exact hx b' hb' y h'
  · by_cases hy : ∃ y, b.inj y = x
    · obtain ⟨y, hy⟩ := hy
      exact .inr ((key x).1 y hy)
    · rw [(key x).2 fun y h' => hy ⟨y, h'⟩]
      exact h.mid x

theorem Good.skip {f : m.view.ty.Contents Val} {w : r.shape.Idx → Val e} {b : Block m r} {rem : List (Block m r)}
    {g : m.view.ty.Contents Val} (h : Good f w (b :: rem) g) (hb : ¬ Differs b (m.view.readAt Val r.toLoadRect f) w) :
    Good f w rem g := by
  refine ⟨h.off, fun x hx => ?_, h.mid⟩
  by_cases hy : ∃ y, b.inj y = x
  · obtain ⟨y, rfl⟩ := hy
    rcases h.mid (b.inj y) with h' | h'
    · rw [h']
      by_contra hne
      exact hb ⟨y, hne⟩
    · exact h'
  · refine h.done x fun b' hb' y h' => ?_
    rcases List.mem_cons.mp hb' with rfl | hb'
    · exact hy ⟨y, h'⟩
    · exact hx b' hb' y h'

theorem Good.eq {f : m.view.ty.Contents Val} {w : r.shape.Idx → Val e} {g : m.view.ty.Contents Val} (h : Good f w [] g) :
    g = (m.access r).write Val f w Finset.univ := by
  funext i
  by_cases hi : i ∈ (m.access r).set
  · obtain ⟨x, -, rfl⟩ := Finset.mem_map.mp hi
    have h1 := h.done x fun b hb => absurd hb List.not_mem_nil
    have h2 := View.read_write_of_mem (v := m.access r) (Val := Val) f w (Finset.mem_univ x)
    rw [View.read_apply] at h1 h2
    exact (cast_bijective _).injective (h1.trans h2.symm)
  · rw [h.off i hi, View.write_of_not_mem (v := m.access r) f w _ hi]

theorem Good.init (C : Cutting m r) (f : m.view.ty.Contents Val) (w : r.shape.Idx → Val e) : Good f w (C.first :: C.rest) f := by
  refine ⟨fun _ _ => rfl, fun x hx => ?_, fun x => .inl rfl⟩
  obtain ⟨b, hb, y, hy⟩ := C.cover x
  exact absurd hy (hx b hb y)

end Good

theorem touch_touch {X Y : Type} {ops : Thread nD τ → Option (PendingOp τ sig Val)} {d : Dev nD} {b : DevRef τ sig}
    {M : Finset X} {N : Finset Y} (hM : M.Nonempty) (hN : N.Nonempty) :
    Phys.touch (Phys.touch ops d b M) d b N = Phys.touch ops d b M := by
  funext c
  simp only [Phys.touch, Option.map_map]
  congr 1
  funext po
  simp only [Function.comp, hM, hN, true_and]
  by_cases h : c.1 = d ∧ (b ∈ po.op.bufs ∨ b ∈ scopedRefs sig c.2)
  · rw [if_pos h]; rw [if_pos h]
  · rw [if_neg h]; rw [if_neg h]

theorem touch_eq {X Y : Type} {ops : Thread nD τ → Option (PendingOp τ sig Val)} {d : Dev nD} {b : DevRef τ sig}
    {M : Finset X} {N : Finset Y} (hM : M.Nonempty) (hN : N.Nonempty) :
    Phys.touch ops d b M = Phys.touch ops d b N := by
  funext c
  simp only [Phys.touch, hM, hN, true_and]

theorem univ_nonempty_of_numel {s : Shape} (h : 0 < s.numel) : (Finset.univ : Finset s.Idx).Nonempty := by
  rw [← Finset.card_pos, Finset.card_univ, Shape.card_idx]; exact h

theorem phys_ext {s t : Phys nD τ sig Val} (h1 : s.mem = t.mem) (h2 : s.dmas = t.dmas) (h3 : s.streams = t.streams)
    (h4 : s.sigs = t.sigs) (h5 : s.ops = t.ops) (h6 : s.issued = t.issued) : s = t := by
  cases s; cases t; simp_all

section Run
variable {p : Proc τ} {α : Type} {cs : CoreSpace} {s : Shape} {e : EltTy} {m : Memref sig p.kind cs s e} {r : Rect s}

/-- The state with `g` in the store's buffer and pending operations touched. -/
def mid (d : Dev nD) (s₀ : Phys nD τ sig Val) (m : Memref sig p.kind cs s e) (g : m.view.ty.Contents Val)
    (X : Type) (M : Finset X) : Phys nD τ sig Val :=
  { s₀.write (m.view.loc (d, p)) g with ops := Phys.touch s₀.ops d (p.devRef m.view.ref) M }

theorem stored_mid (d : Dev nD) (s₀ : Phys nD τ sig Val) (g : m.view.ty.Contents Val) {X : Type} {M : Finset X} (hM : M.Nonempty)
    (b : Block m r) (w : b.rect.shape.Idx → Val e) :
    stored d (mid d s₀ m g X M) m b.rect w = mid d s₀ m ((m.access b.rect).write Val g w Finset.univ) X M := by
  have hN := univ_nonempty_of_numel b.pos
  have hmem : ((mid d s₀ m g X M).mem.mem (m.view.loc (d, p))) = g := by
    show Function.update _ _ _ _ = _
    rw [Function.update_self]
  refine phys_ext ?_ rfl rfl rfl ?_ rfl
  · show (s₀.mem.write (m.view.loc (d, p)) g).write (m.view.loc (d, p))
      ((m.access b.rect).write Val ((mid d s₀ m g X M).mem.mem (m.view.loc (d, p))) w Finset.univ) = s₀.mem.write _ _
    rw [hmem]
    unfold MemSt.write
    congr 1
    exact Function.update_idem _ _ _
  · exact touch_touch hM hN

theorem quiet_blockStores (d : Dev nD) (s₀ : Phys nD τ sig Val) (w : r.shape.Idx → Val e) (k : Prog (TpuEff nD τ sig Val Λ p) α)
    {X : Type} {M : Finset X} (hM : M.Nonempty) (f : m.view.ty.Contents Val) (bs : List (Block m r)) :
    ∀ g, Good f w bs g → ∃ n, Quiet d (mid d s₀ m g X M) (blockStores (m.view.readAt Val r.toLoadRect f) w k bs)
      (mid d s₀ m ((m.access r).write Val f w Finset.univ) X M) k n := by
  induction bs with
  | nil => intro g hg; rw [hg.eq]; exact ⟨0, .refl _ _⟩
  | cons b bs ih =>
    intro g hg
    rw [blockStores]
    split
    · obtain ⟨n, hn⟩ := ih _ hg.store
      refine ⟨n + 1, .step (ω := fun b => s₀.mem.mem (d, b)) (a := ⟨⟩) (s' := mid d s₀ m _ X M) ?_ hn⟩
      rw [← stored_mid d s₀ g hM b]
      rfl
    · next hd => exact ih _ (hg.skip hd)

theorem quiet_cutStore (d : Dev nD) (s₀ : Phys nD τ sig Val) (C : Cutting m r) (w : r.shape.Idx → Val e)
    (k : Prog (TpuEff nD τ sig Val Λ p) α) (hpos : 0 < r.shape.numel) :
    ∃ n, Quiet d s₀ (cutStore C w k) (stored d s₀ m r w) k (n + 1) := by
  have hN := univ_nonempty_of_numel C.first.pos
  obtain ⟨n, hn⟩ := quiet_blockStores d s₀ w k hN (s₀.mem.mem (m.view.loc (d, p))) C.rest _ (Good.init C _ w).store
  refine ⟨n + 1, .step (ω := fun b => s₀.mem.mem (d, b)) (a := m.view.readAt Val r.toLoadRect (s₀.mem.mem (m.view.loc (d, p)))) (s' := s₀) rfl ?_⟩
  refine .step (ω := fun b => s₀.mem.mem (d, b)) (a := ⟨⟩) (s' := mid d s₀ m _ _ (Finset.univ : Finset C.first.rect.shape.Idx)) rfl ?_
  have : stored d s₀ m r w = mid d s₀ m ((m.access r).write Val (s₀.mem.mem (m.view.loc (d, p))) w Finset.univ) _ (Finset.univ : Finset C.first.rect.shape.Idx) := by
    refine phys_ext rfl rfl rfl rfl ?_ rfl
    exact touch_eq (univ_nonempty_of_numel hpos) hN
  rw [this]
  exact hn

end Run

theorem rel_tr {p : Proc τ} (pl : Plan sig p.kind)
    (hpl : ∀ {cs : CoreSpace} {s : Shape} {e : EltTy} (m : Memref sig p.kind cs s e) (r : Rect s), (pl m r).isSome → 0 < r.shape.numel)
    {α : Type} (q : Prog (TpuEff nD τ sig Val Λ p) α) : Rel q (tr pl q) := by
  induction q with
  | ret a => exact .ret a
  | op e k ih =>
    rw [tr_op]
    cases e with
    | store m r w M hx hm =>
      rw [trOp]
      split
      · next hM =>
        subst hM
        split
        · exact .op _ _ _ ih
        · next C hC =>
          exact .store m r w hx hm k _ _ (fun d s => quiet_cutStore d s C w _ (hpl m r (by rw [hC]; rfl))) (ih ⟨⟩)
      · exact .op _ _ _ ih
    | _ => exact .op _ _ _ ih

/-! ## Running the effects in the logic -/

section Wp
variable {Ix : Type} [DecidableEq Ix] {Name : Type} [DecidableEq Name] {U : Type} [URA U] {Lvl : Type} [Preorder Lvl]
local notation "𝕄" => MT nD τ sig Ix Val Name U Lvl
variable {defs : Defs nD τ sig Val Λ} (𝒱 : Variants) (c : Thread nD τ) (bd : Option 𝒱.V) {Γ : PendingWaitsCtx sig Ix} (E : Set Name)
variable {α : Type} {Q : α → sProp (MT nD τ sig Ix Val Name U Lvl)} {cs : CoreSpace} {s : Shape} {e : EltTy} {m : Memref sig c.2.kind cs s e} {r : Rect s}

theorem wp_blockStores {w : r.shape.Idx → Val e} {k : Prog (TpuEff nD τ sig Val Λ c.2) α} {S : Finset (Idx (m.view.loc c))}
    (f : m.view.ty.Contents Val) (bs : List (Block m r))
    (hS : ∀ b ∈ bs, (m.access b.rect).set ⊆ S ∨ ¬ Differs b (m.view.readAt Val r.toLoadRect f) w) :
    ∀ g : Buf Val (m.view.loc c), Good f w bs g →
    ((m.view.loc c ↦[S]{fullShare} g : sProp 𝕄))
      ⊢ iprop(((m.view.loc c ↦[S]{fullShare} ((m.access r).write Val f w Finset.univ)) -∗ wp frame (wpE' defs 𝒱 c bd Γ) E k Q)
        -∗ wp frame (wpE' defs 𝒱 c bd Γ) E (blockStores (m.view.readAt Val r.toLoadRect f) w k bs) Q) := by
  induction bs with
  | nil =>
    intro g hg
    rw [hg.eq, blockStores]
    iintro H Hk
    iapply Hk $$ H
  | cons b bs ih =>
    intro g hg
    have ih := ih fun b' hb' => hS b' (List.mem_cons_of_mem _ hb')
    rw [blockStores]
    split
    · next hd =>
      have hb : (m.access b.rect).set ⊆ S := (hS b List.mem_cons_self).resolve_right fun h => h hd
      iintro H Hk
      iapply wp_store (defs := defs) 𝒱 c bd E (m := m) (r := b.rect) (S := S) (f := g) hb $$ H
      iintro H
      iapply ih _ hg.store $$ H Hk
    · next hd => exact ih g (hg.skip hd)

theorem wp_cut (C : Cutting m r) {w : r.shape.Idx → Val e} {k : Prog (TpuEff nD τ sig Val Λ c.2) α} {S T : Finset (Idx (m.view.loc c))}
    {qa qb : PosShare TreeShare} (hq : fullShare ∈ qa ·? qb)
    (f : Buf Val (m.view.loc c)) (hT : (m.access r).set ⊆ T) (hST : S ⊆ T)
    (hoff : ∀ i ∈ T, i ∉ S → ((m.access r).write Val f w Finset.univ : Buf Val (m.view.loc c)) i = f i)
    (hS : ∀ b ∈ C.first :: C.rest, (m.access b.rect).set ⊆ S ∨ ¬ Differs b (m.view.readAt Val r.toLoadRect f) w)
    (h1 : (m.access C.first.rect).set ⊆ S) :
    iprop((m.view.loc c ↦[T]{qa} f) ∗ (m.view.loc c ↦[S]{qb} f) : sProp 𝕄)
      ⊢ iprop((((m.view.loc c ↦[T]{qa} ((m.access r).write Val f w Finset.univ)) ∗
            (m.view.loc c ↦[S]{qb} ((m.access r).write Val f w Finset.univ))) -∗ wp frame (wpE' defs 𝒱 c bd Γ) E k Q)
        -∗ wp frame (wpE' defs 𝒱 c bd Γ) E (cutStore C w k) Q) := by
  have hu : ∀ (g : Buf Val (m.view.loc c)), (m.view.loc c ↦[T]{qa} g : sProp 𝕄) ⊣⊢
      iprop((m.view.loc c ↦[S]{qa} g) ∗ (m.view.loc c ↦[T \ S]{qa} g)) := fun g => pointsTo_split_subset hST
  have hc : (m.view.loc c ↦[T \ S]{qa} f : sProp 𝕄) ⊢ (m.view.loc c ↦[T \ S]{qa} ((m.access r).write Val f w Finset.univ)) := by
    rw [pointsTo_congr (ℓ := m.view.loc c) (I := T \ S) (f := f) (g := (m.access r).write Val f w Finset.univ)
      fun i hi => (hoff i (Finset.mem_sdiff.mp hi).1 (Finset.mem_sdiff.mp hi).2).symm]
  rw [cutStore]
  iintro ⟨HT, HS⟩ Hk
  iapply wp_load (defs := defs) 𝒱 c bd E (m := m) (r := r.toLoadRect) (S := T) (f := f) (by
    have : m.view.setOn r.set = (m.access r).set := by rw [View.set_slice]; rfl
    rw [this]; exact hT) $$ HT
  iintro HT
  ihave HT := (hu f).1 $$ HT
  icases HT with ⟨HTS, HTo⟩
  ihave HF := (pointsTo_share (ℓ := m.view.loc c) (I := S) (f := f) (Ix := Ix) (Name := Name) (U := U) (Lvl := Lvl) hq).2 $$ [HTS HS]
  · isplitl [HTS] <;> iassumption
  iapply wp_store (defs := defs) 𝒱 c bd E (m := m) (r := C.first.rect) (S := S) (f := f) h1 $$ HF
  iintro HF
  iapply wp_blockStores (defs := defs) 𝒱 c bd E f C.rest (fun b hb => hS b (List.mem_cons_of_mem _ hb)) _ (Good.init C f w).store $$ HF
  iintro HF
  ihave HF := (pointsTo_share (ℓ := m.view.loc c) (I := S) (f := (m.access r).write Val f w Finset.univ) (Ix := Ix) (Name := Name) (U := U) (Lvl := Lvl) hq).1 $$ HF
  icases HF with ⟨HTS, HS⟩
  ihave HTo := hc $$ HTo
  iapply Hk
  isplitl [HTS HTo]
  · iapply (hu _).2
    isplitl [HTS] <;> iassumption
  · iassumption

end Wp
end Cut
-- ==== Proof.StepsC.lean ====
/-
  One operation of the script, continued: the two conversions.  A conversion of an injected block comes before any copy out of the
  converted block, so the block is held wholly.  A conversion of a chunk may come while parts of the chunk, converted before, are
  being copied: there the store is run as its blocks (`Cut.wp_cut`), of which those being copied do not differ.
-/
module

public import proofs.«01_k».proof.Proof.StepsB
public import proofs.«01_k».proof.Proof.Split

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

/-! ## The blocks of a chunk's store -/

/-- A coordinate of an index, at any rank. -/
def cd {s : Shape} (i : s.Idx) (a : ℕ) : ℕ := if h : a < s.rank then (i ⟨a, h⟩).val else 0

/-- The first block is in the last column group; each further one lies in one row block and one column group. -/
structure Nice {κ : Kind} {cs : CoreSpace} {s : Shape} {e : EltTy} {m : Memref sig κ cs s e} {r : Rect s} (C : Cut.Cutting m r) : Prop where
  first : ∀ y, colg (cd (C.first.rect.emb y) 1) = 2
  rest : ∀ b ∈ C.rest, ∃ (R : ℕ) (g : Fin 3), ∀ y, cd (b.rect.emb y) 0 / 1024 = R ∧ colg (cd (b.rect.emb y) 1) = g

abbrev xbW : Memref sig .tc .vmem S16384x1024 .bf16 := Memref.whole cc0_scratch0

variable (A : Dev nD → S16384x1024.Idx → Elt F .f32) {c : Dev nD} {n : ℕ}

theorem cvd_pcv {h : Fin 2} (hp : pos (.pcv h) = n) : ∀ a ∈ cvd c (n + 1), a ∈ cvd c n ∨ a ∈ xrows (idx h c) 1 := by
  intro a ha
  rw [mem_cvd] at ha ⊢
  rcases ha with ⟨h', hd, ha⟩ | ⟨k, hd, ha⟩
  · by_cases e : h' = h
    · exact .inr (e ▸ ha)
    · exact .inl (.inl ⟨h', (done_succ hp (by simpa using e)).1 hd, ha⟩)
  · exact .inl (.inr ⟨k, (done_succ hp (by simp)).1 hd, ha⟩)
theorem cvd_cnv {k : Fin 8} (hp : pos (.cnv k) = n) : ∀ a ∈ cvd c (n + 1), a ∈ cvd c n ∨ a ∈ xrows (2 * k.val) 2 := by
  intro a ha
  rw [mem_cvd] at ha ⊢
  rcases ha with ⟨h', hd, ha⟩ | ⟨k', hd, ha⟩
  · exact .inl (.inl ⟨h', (done_succ hp (by simp)).1 hd, ha⟩)
  · by_cases e : k' = k
    · exact .inr (e ▸ ha)
    · exact .inl (.inr ⟨k', (done_succ hp (by simpa using e)).1 hd, ha⟩)
theorem lfree_cnv {k : Fin 8} (hp : pos (.cnv k) = n) : lfree n = Finset.univ := by
  ext a
  simp only [mem_lfree, Finset.mem_univ, iff_true]
  rintro ⟨k', ⟨hd, -⟩, -⟩
  have := ord_cnv_own' k k'
  unfold done at hd; omega
theorem lfree_pcv {h : Fin 2} (hp : pos (.pcv h) = n) : lfree n = Finset.univ := by
  ext a
  simp only [mem_lfree, Finset.mem_univ, iff_true]
  rintro ⟨k', ⟨hd, -⟩, -⟩
  have h1 := ord_pcv_snd h (.h3 0)
  have h2 := ord_cnv_own' 7 k'
  have h3 := (ord_h3_cnv 0 7).2 (by decide)
  unfold done at hd; omega
theorem rfree_pcv {h : Fin 2} (hp : pos (.pcv h) = n) : rfree c n = Finset.univ := by
  ext a
  simp only [mem_rfree, Finset.mem_univ, iff_true]
  rintro ⟨i, -, ⟨hd, -⟩, -⟩
  have h1 := ord_pcv_snd h i
  unfold done at hd; omega

/-- A window that is not free is converted. -/
theorem cvd_of_not_rfree {a : XAtom} (h : a ∉ rfree c n) : a ∈ cvd c n := by
  rw [mem_rfree, not_not] at h
  obtain ⟨i, hx, ⟨hd, -⟩, ha⟩ := h
  exact cvd_of_snd hx (Nat.le_of_lt hd) ha
/-- The last column group of a chunk is free when it is converted. -/
theorem rfree_first {k : Fin 8} (hp : pos (.cnv k) = n) {a : XAtom} (ha : a ∈ xrows (2 * k.val) 2) (hg : a.2 = 2) : a ∈ rfree c n := by
  rw [mem_rfree]
  rintro ⟨i, hx, ⟨hd, -⟩, hm⟩
  rw [mem_xrows] at ha
  unfold xswin at hm
  rw [mem_xwin] at hm
  cases i with
  | inj h =>
    have e : (grp (.inj h)).val = 2 := by rw [← hm.1, hg]; rfl
    have : h.val = 2 := e
    omega
  | h3 j =>
    have h1 : 2 * j.val + 1 < k.val := (ord_h3_cnv j k).1 (by unfold done at hd; omega)
    have h2 : a.1.val < 4 * j.val + 4 := hm.2.2
    omega
  | a => cases hx
  | b => cases hx

/-- What a store of the converted values leaves: on the rows stored they are there, elsewhere nothing has changed. -/
theorem stored_xb {off sz : Fin 2 → ℕ} {inb} {S : Finset XAtom} (f : S16384x1024.Idx → Elt F .bf16)
    (w : (Rect.unit (s := S16384x1024) off sz inb).shape.Idx → Elt F .bf16)
    (hset : (xbW.access (Rect.unit (s := S16384x1024) off sz inb)).set = pre xatom S)
    (hw : ∀ j, (xbW.access (Rect.unit (s := S16384x1024) off sz inb)).read (Elt F) (XB A c) j = w j) :
    ∀ i, (xatom i ∈ S → (xbW.access (Rect.unit (s := S16384x1024) off sz inb)).write (Elt F) f w Finset.univ i = XB A c i) ∧
      (xatom i ∉ S → (xbW.access (Rect.unit (s := S16384x1024) off sz inb)).write (Elt F) f w Finset.univ i = f i) := by
  intro i
  constructor
  · intro h
    exact written (xbW.access (Rect.unit (s := S16384x1024) off sz inb)) f (XB A c) w hw i (hset ▸ mem_pre.2 h)
  · intro h
    exact View.write_of_not_mem (v := xbW.access (Rect.unit (s := S16384x1024) off sz inb)) f w _
      fun hm => h (mem_pre.1 (show i ∈ pre xatom S from hset ▸ (show i ∈ (xbW.access (Rect.unit (s := S16384x1024) off sz inb)).set from hm)))

theorem Xb_pcv {h : Fin 2} (hp : pos (.pcv h) = n) {f g : S16384x1024.Idx → Elt F .bf16} (hf : ∀ i, xatom i ∈ cvd c n → f i = XB A c i)
    (hg : ∀ i, (xatom i ∈ xrows (idx h c) 1 → g i = XB A c i) ∧ (xatom i ∉ xrows (idx h c) 1 → g i = f i)) :
    xbP c Finset.univ fullShare g ⊢ Xb A c (n + 1) := by
  unfold Xb
  rw [lfree_same hp (by simp) (by simp), rfree_same hp (by simp), lfree_pcv hp, rfree_pcv (c := c) hp, pre_univ]
  iintro H
  iexists g
  isplitr
  · ipureintro
    intro i hi
    by_cases h' : xatom i ∈ xrows (idx h c) 1
    · exact (hg i).1 h'
    · exact ((hg i).2 h').trans (hf i ((cvd_pcv hp _ hi).resolve_right h'))
  iapply (pointsTo_share (PosShare.mem_left_op_right fullShare)).1 $$ H
theorem Xb_cnv {k : Fin 8} (hp : pos (.cnv k) = n) {f g : S16384x1024.Idx → Elt F .bf16} (hf : ∀ i, xatom i ∈ cvd c n → f i = XB A c i)
    (hg : ∀ i, (xatom i ∈ xrows (2 * k.val) 2 → g i = XB A c i) ∧ (xatom i ∉ xrows (2 * k.val) 2 → g i = f i)) :
    iprop(xbP c Finset.univ fullShare.left g ∗ xbP c (pre xatom (rfree c n)) fullShare.right g) ⊢ Xb A c (n + 1) := by
  unfold Xb
  rw [lfree_same hp (by simp) (by simp), rfree_same hp (by simp), lfree_cnv hp, pre_univ]
  iintro H
  iexists g
  isplitr
  · ipureintro
    intro i hi
    by_cases h' : xatom i ∈ xrows (2 * k.val) 2
    · exact (hg i).1 h'
    · exact ((hg i).2 h').trans (hf i ((cvd_cnv hp _ hi).resolve_right h'))
  iexact H
theorem Xb_whole {h : Fin 2} (hp : pos (.pcv h) = n) :
    Xb A c n ⊢ iprop(∃ f, ⌜∀ i, xatom i ∈ cvd c n → f i = XB A c i⌝ ∗ xbP c Finset.univ fullShare f) := by
  unfold Xb
  rw [lfree_pcv hp, rfree_pcv (c := c) hp, pre_univ]
  iintro ⟨%f, %hf, HL, HR⟩
  iexists f
  isplitr
  · ipureintro; exact hf
  iapply (pointsTo_share (PosShare.mem_left_op_right fullShare)).2
  isplitl [HL] <;> iassumption
theorem Xb_left {k : Fin 8} (hp : pos (.cnv k) = n) :
    Xb A c n ⊢ iprop(∃ f, ⌜∀ i, xatom i ∈ cvd c n → f i = XB A c i⌝ ∗ xbP c Finset.univ fullShare.left f
      ∗ xbP c (pre xatom (rfree c n)) fullShare.right f) := by
  unfold Xb
  rw [lfree_cnv hp, pre_univ]

/-- Of the blocks of a chunk's store, those not free do not differ. -/
theorem block_free {k : Fin 8} (hp : pos (.cnv k) = n) {off sz : Fin 2 → ℕ} {inb}
    {C : Cut.Cutting xbW (Rect.unit (s := S16384x1024) off sz inb)} (hC : Nice C)
    (w : (Rect.unit (s := S16384x1024) off sz inb).shape.Idx → Elt F .bf16) (f : S16384x1024.Idx → Elt F .bf16)
    (hf : ∀ i, xatom i ∈ cvd c n → f i = XB A c i)
    (hw : ∀ j, (xbW.access (Rect.unit (s := S16384x1024) off sz inb)).read (Elt F) (XB A c) j = w j)
    (hset : (xbW.access (Rect.unit (s := S16384x1024) off sz inb)).set = pre xatom (xrows (2 * k.val) 2)) :
    (xbW.access C.first.rect).set ⊆ pre xatom (rfree c n) ∧
    ∀ b ∈ C.rest, (xbW.access b.rect).set ⊆ pre xatom (rfree c n) ∨
      ¬ Cut.Differs b (xbW.view.readAt (Elt F) (Rect.unit (s := S16384x1024) off sz inb).toLoadRect f) w := by
  constructor
  · intro i hi
    have hs : i ∈ pre xatom (xrows (2 * k.val) 2) := hset ▸ C.first.set_subset hi
    obtain ⟨y, -, rfl⟩ := Finset.mem_map.1 hi
    exact mem_pre.2 (rfree_first hp (mem_pre.1 hs) (hC.first y))
  · intro b hb
    obtain ⟨R, g, hRg⟩ := hC.rest b hb
    by_cases hfree : ∃ y, xatom (b.rect.emb y) ∈ rfree c n
    · obtain ⟨y₀, h0⟩ := hfree
      refine .inl fun i hi => ?_
      obtain ⟨y, -, rfl⟩ := Finset.mem_map.1 hi
      have e : xatom (b.rect.emb y) = xatom (b.rect.emb y₀) :=
        Prod.ext (Fin.ext ((hRg y).1.trans (hRg y₀).1.symm)) ((hRg y).2.trans (hRg y₀).2.symm)
      exact mem_pre.2 (show xatom (b.rect.emb y) ∈ _ by rw [e]; exact h0)
    · refine .inr ?_
      rintro ⟨y, hy⟩
      refine hy ?_
      have h1 := hf (b.rect.emb y) (cvd_of_not_rfree fun h => hfree ⟨y, h⟩)
      have h2 := hw (b.inj y)
      rw [← h2]
      have e : b.rect.emb y = (Rect.unit (s := S16384x1024) off sz inb).emb (b.inj y) := b.hemb y
      rw [e] at h1
      exact h1

section Steps
variable {A} {K : GSem nD τ sig → ℕ} {dfs : Defs nD τ sig (Elt F) Λ₀} {Q : PUnit → sProp (MT nD τ sig Unit (Elt F) ℕ UU ℕ)}
  {k : PUnit → Prog (TpuEff nD τ sig (Elt F) Λ₀ .tc) PUnit}

theorem step_pcv {h : Fin 2} {off : Fin 3 → ℕ} {off' : Fin 2 → ℕ} {inb inb' hl hl'} {M hx hm} (hp : pos (.pcv h) = n)
    (ho : off = ![h.val, 0, 0]) (ho' : off' = ![1024 * idx h c, 0]) (hM : M = Finset.univ) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.load (Memref.whole cc0_scratch2) (Rect.unit (s := S2x1024x1024) off S1x1024x1024.size inb).toLoadRect hl) fun v =>
          .op (.load xbW (Rect.unit (s := S16384x1024) off' S1024x1024.size inb').toLoadRect hl') fun _ =>
          .op (.store xbW (Rect.unit (s := S16384x1024) off' S1024x1024.size inb') (k0_pay1 (F := F) v) M hx hm) k) Q) := by
  subst hM
  have hset : ((Memref.whole cc0_scratch2).access (Rect.unit (s := S2x1024x1024) off S1x1024x1024.size inb)).set = pre pslot {h} :=
    (View.set_slice_whole _ _).trans (unit_pslot inb ho rfl)
  have hset' : (xbW.access (Rect.unit (s := S16384x1024) off' S1024x1024.size inb')).set = pre xatom (xrows (idx h c) 1) :=
    (View.set_slice_whole _ _).trans (unit_xrows inb' ho' rfl)
  have hpay := fun j => pay_p (inb := inb) (inb' := inb') A (c := c) (h := h) (off := off) (off' := off') (by rw [ho]; rfl) (by rw [ho]; rfl) ho' j
  unfold St
  rw [Ow_same hp, Ps_same hp, Sigs_same hp, Bar_same hp, Snds_same hp, Rcvs_same hp, Jobs_same A hp, Slots_same A hp, Banks_same A hp]
  iintro ⟨-, HO, HP, HG, HB, HS, HR, HJ, HSl, HX, HK⟩ Hk
  have hlw := ord_lwt_pcv h
  have hF := bs_focus (F := F) (Φ := jobSt A c n) (Ψ := jobSt A c n) (.p h) fun j hj => rfl
  have hF' : jobSt A c n (.p h) = iprop(pbP c (pre pslot {h}) fullShare (PB A c h) ∗ jsrc A c (.p h)) :=
    jobSt_done A (j := .p h) (by unfold done; omega)
  rw [hF'] at hF
  unfold Jobs
  ihave HJ := hF $$ HJ
  icases HJ with ⟨⟨Hp, Hs⟩, HJ⟩
  iapply (wp_load_rect (defs := dfs) 𝒱₀ (c : Thread nD τ) none Set.univ (m := Memref.whole cc0_scratch2)
    (r := Rect.unit (s := S2x1024x1024) off S1x1024x1024.size inb) (S := pre pslot {h}) (f := PB A c h) (le_of_eq hset)) $$ Hp
  iintro Hp
  ihave HX := (Xb_whole A hp) $$ HX
  icases HX with ⟨%f, %hf, HX⟩
  iapply (wp_load_rect (defs := dfs) 𝒱₀ (c : Thread nD τ) none Set.univ (m := xbW)
    (r := Rect.unit (s := S16384x1024) off' S1024x1024.size inb') (S := Finset.univ) (f := f) (Finset.subset_univ _)) $$ HX
  iintro HX
  iapply (wp_store (defs := dfs) 𝒱₀ (c : Thread nD τ) none Set.univ (m := xbW)
    (r := Rect.unit (s := S16384x1024) off' S1024x1024.size inb') (S := Finset.univ) (f := f) (Finset.subset_univ _)) $$ HX
  iintro HX
  iapply Hk
  isplitl [HO]; · iexact HO
  isplitl [HP]; · iexact HP
  isplitl [HG]; · iexact HG
  isplitl [HB]; · iexact HB
  isplitl [HS]; · iexact HS
  isplitl [HR]; · iexact HR
  isplitl [HJ Hp Hs]
  · iapply HJ
    isplitl [Hp] <;> iassumption
  isplitl [HSl]; · iexact HSl
  isplitl [HX]
  · iapply (Xb_pcv A hp hf (stored_xb A f _ hset' hpay)) $$ HX
  iexact HK

theorem step_cnv {x : Fin 8} {off : Fin 3 → ℕ} {off' : Fin 2 → ℕ} {inb inb' hl hl'}
    {C : Cut.Cutting xbW (Rect.unit (s := S16384x1024) off' S2048x1024.size inb')} (hC : Nice C) (hp : pos (.cnv x) = n)
    (ho : off = ![x.val % 2, 0, 0]) (ho' : off' = ![1024 * (2 * x.val), 0]) :
    iprop(Ctx A K ∗ St A c n) ⊢ iprop((St A c (n + 1) -∗ wp frame (wpE dfs 𝒱₀ (c : Thread nD τ) none) Set.univ (k ⟨⟩) Q)
      -∗ wp frame (wpE dfs 𝒱₀ (c : Thread nD τ) none) Set.univ (.op (.load (Memref.whole cc0_scratch1) (Rect.unit (s := S2x2048x1024) off S1x2048x1024.size inb).toLoadRect hl) fun v =>
          .op (.load xbW (Rect.unit (s := S16384x1024) off' S2048x1024.size inb').toLoadRect hl') fun _ =>
          Cut.cutStore C (k0_pay4 (F := F) v) (k ⟨⟩)) Q) := by
  have hset : ((Memref.whole cc0_scratch1).access (Rect.unit (s := S2x2048x1024) off S1x2048x1024.size inb)).set
      = pre fslot {⟨x.val % 2, Nat.mod_lt _ (by decide)⟩} := (View.set_slice_whole _ _).trans (unit_fslot inb ho rfl)
  have hset' : (xbW.access (Rect.unit (s := S16384x1024) off' S2048x1024.size inb')).set = pre xatom (xrows (2 * x.val) 2) :=
    (View.set_slice_whole _ _).trans (unit_xrows inb' ho' rfl)
  have hpay := fun j => pay_f (inb := inb) (inb' := inb') A (c := c) (k := x) (off := off) (off' := off') (by rw [ho]; rfl) (by rw [ho]; rfl) ho' j
  unfold St
  rw [Ow_same hp, Ps_same hp, Sigs_same hp, Bar_same hp, Snds_same hp, Rcvs_same hp, Jobs_same A hp, Slots_same A hp, Banks_same A hp]
  iintro ⟨-, HO, HP, HG, HB, HS, HR, HJ, HSl, HX, HK⟩ Hk
  have hlw := ord_lwt_cnv x
  have hF := bs_focus (F := F) (Φ := slotSt A c n) (Ψ := slotSt A c n) (.inr x) fun j hj => rfl
  have hF' : slotSt A c n (.inr x) = fbP c ((Memref.whole cc0_scratch1).access (Rect.unit (s := S2x2048x1024) off S1x2048x1024.size inb)).set
      fullShare (FB A c x) := by
    rw [hset]
    exact slot_has A (by unfold done; omega) fun k' hk' => by
      have := ord_cnv_lst x k' (by omega) (by omega)
      omega
  rw [hF'] at hF
  unfold Slots
  ihave HSl := hF $$ HSl
  icases HSl with ⟨Hp, HSl⟩
  iapply (wp_load_rect (defs := dfs) 𝒱₀ (c : Thread nD τ) none Set.univ (m := Memref.whole cc0_scratch1)
    (r := Rect.unit (s := S2x2048x1024) off S1x2048x1024.size inb)
    (f := FB A c x) (Finset.Subset.refl _)) $$ Hp
  iintro Hp
  ihave HX := (Xb_left A hp) $$ HX
  icases HX with ⟨%f, %hf, HL, HR'⟩
  iapply (wp_load_rect (defs := dfs) 𝒱₀ (c : Thread nD τ) none Set.univ (m := xbW)
    (r := Rect.unit (s := S16384x1024) off' S2048x1024.size inb') (S := Finset.univ) (f := f) (Finset.subset_univ _)) $$ HL
  iintro HL
  have hb := block_free A hp hC _ f hf hpay hset'
  have hst := stored_xb A f _ hset' hpay
  iapply (Cut.wp_cut (defs := dfs) 𝒱₀ (c : Thread nD τ) none Set.univ C (S := pre xatom (rfree c n)) (T := Finset.univ)
    (PosShare.mem_left_op_right fullShare) f (Finset.subset_univ _) (Finset.subset_univ _) (fun i _ hi => by
      have hcv : xatom i ∈ cvd c n := cvd_of_not_rfree fun h => hi (mem_pre.2 h)
      by_cases h' : xatom i ∈ xrows (2 * x.val) 2
      · exact ((hst i).1 h').trans (hf i hcv).symm
      · exact (hst i).2 h')
    (fun b hm => (List.mem_cons.1 hm).elim (fun e => .inl (e ▸ hb.1)) (hb.2 b)) hb.1) $$ [HL HR']
  · isplitl [HL] <;> iassumption
  iintro ⟨HL, HR'⟩
  iapply Hk
  isplitl [HO]; · iexact HO
  isplitl [HP]; · iexact HP
  isplitl [HG]; · iexact HG
  isplitl [HB]; · iexact HB
  isplitl [HS]; · iexact HS
  isplitl [HR]; · iexact HR
  isplitl [HJ]; · iexact HJ
  isplitl [HSl Hp]
  · iapply HSl $$ Hp
  isplitl [HL HR']
  · iapply (Xb_cnv A hp hf hst)
    isplitl [HL] <;> iassumption
  iexact HK
end Steps

end Cert.Ag
-- ==== Proof.Plan.lean ====
/-
  The division of the stores of whole chunks into blocks: the last column group of all rows first, then, for each half of the rows,
  the other two column groups.  `plan` divides the stores of 2048 x 1024 elements that can be divided so; those are the eight
  chunks' (`plan_chunk`), the stores of injected blocks are left as they are (`plan_small`).
-/
module

public import proofs.«01_k».proof.Proof.StepsC

@[expose] public section

noncomputable section

namespace Cert.Ag

open Cert.KernelIdeal Cert.KernelIdeal.Gen
open Idealize.ShloMosaic

open Classical in
/-- The division of a store's rectangle, where there is to be one. -/
def plan : Cut.Plan sig .tc := fun m r =>
  if h : r.shape.numel = 2097152 ∧ ∃ C : Cut.Cutting m r, Nice C then some h.2.choose else none

theorem plan_pos {cs : CoreSpace} {s : Shape} {e : EltTy} (m : Memref sig .tc cs s e) (r : Rect s) (h : (plan m r).isSome) :
    0 < r.shape.numel := by
  unfold plan at h
  by_cases hc : r.shape.numel = 2097152 ∧ ∃ C : Cut.Cutting m r, Nice C
  · rw [hc.1]; decide
  · rw [dif_neg hc] at h; cases h

theorem plan_small {cs : CoreSpace} {s : Shape} {e : EltTy} (m : Memref sig .tc cs s e) (r : Rect s) (h : r.shape.numel ≠ 2097152) :
    plan m r = none := dif_neg fun e => h e.1
theorem plan_of {cs : CoreSpace} {s : Shape} {e : EltTy} {m : Memref sig .tc cs s e} {r : Rect s} (hn : r.shape.numel = 2097152)
    (h : ∃ C : Cut.Cutting m r, Nice C) : ∃ C, plan m r = some C ∧ Nice C :=
  ⟨_, dif_pos ⟨hn, h⟩, h.choose_spec⟩

section Chunk
variable {off : Fin 2 → ℕ} (inb : ∀ a, off a + S2048x1024.size a ≤ S16384x1024.size a)

/-- The part of a chunk at `lo`, of `sz` elements. -/
def blockAt (lo sz : Fin 2 → ℕ) (hin : ∀ a, lo a + sz a ≤ S2048x1024.size a) (hpos : 0 < (⟨2, sz⟩ : Shape).numel)
    (h0 : 2 ∣ off 0) (hl : 2 ∣ lo 0) (hs : 2 ∣ sz 0) : Cut.Block xbW (Rect.unit (s := S16384x1024) off S2048x1024.size inb) where
  rect := Rect.unit (s := S16384x1024) (fun a => off a + lo a) sz (fun a => by have := inb a; have := hin a; omega)
  inj y := fun a => ⟨lo a + (y a).val, by have : (y a).val < sz a := (y a).isLt; have := hin a; show _ < S2048x1024.size a; omega⟩
  hemb y := by
    funext a
    refine Fin.ext ?_
    rw [unit_emb, unit_emb]
    exact Nat.add_assoc _ _ _
  pos := hpos
  ok := View.stores_vmem hpos ((Memref.isWhole_whole cc0_scratch0).storeExact_slice rfl _
    (.inr ⟨le_refl _, rfl, .inl ⟨Nat.dvd_add h0 hl, hs⟩⟩)) (fun _ => rfl)

theorem blockAt_nice {lo sz : Fin 2 → ℕ} {hin hpos h0 hl hs} (y) (a : Fin 2) :
    cd ((blockAt inb lo sz hin hpos h0 hl hs).rect.emb y) a.val = off a + lo a + (y a).val := by
  have e : cd ((blockAt inb lo sz hin hpos h0 hl hs).rect.emb y) a.val = ((blockAt inb lo sz hin hpos h0 hl hs).rect.emb y a).val :=
    dif_pos a.isLt
  rw [e]
  exact unit_emb (d := ![16384, 1024]) (off := fun a => off a + lo a) (sz := sz) (fun a => by have := inb a; have := hin a; show _ ≤ S16384x1024.size a; omega) y a

theorem blockAt_cover {lo sz : Fin 2 → ℕ} {hin hpos h0 hl hs} (x : (Rect.unit (s := S16384x1024) off S2048x1024.size inb).shape.Idx)
    (hx : ∀ a, lo a ≤ (x a).val ∧ (x a).val < lo a + sz a) : ∃ y, (blockAt inb lo sz hin hpos h0 hl hs).inj y = x :=
  ⟨fun a => ⟨(x a).val - lo a, by have := hx a; show _ < sz a; omega⟩, funext fun a => Fin.ext (by
    have := hx a
    show lo a + ((x a).val - lo a) = (x a).val
    omega)⟩

variable (h0 : 2 ∣ off 0)

def firstBlock : Cut.Block xbW (Rect.unit (s := S16384x1024) off S2048x1024.size inb) :=
  blockAt inb ![0, 768] ![2048, 256] (by decide) (by decide) h0 (by decide) (by decide)
theorem blk_in : ∀ i : Fin 4, ∀ a, (![1024 * (i.val / 2), 384 * (i.val % 2)] : Fin 2 → ℕ) a + (![1024, 384] : Fin 2 → ℕ) a ≤ S2048x1024.size a := by decide
theorem blk_two : ∀ i : Fin 4, 2 ∣ (![1024 * (i.val / 2), 384 * (i.val % 2)] : Fin 2 → ℕ) 0 := by decide
def nextBlock (i : Fin 4) : Cut.Block xbW (Rect.unit (s := S16384x1024) off S2048x1024.size inb) :=
  blockAt inb ![1024 * (i.val / 2), 384 * (i.val % 2)] ![1024, 384] (blk_in i) (by decide) h0 (blk_two i) (by decide)

/-- A chunk's division. -/
def chunk : Cut.Cutting xbW (Rect.unit (s := S16384x1024) off S2048x1024.size inb) where
  hl := View.loadsAt_vmem h_S2048x1024
  first := firstBlock inb h0
  rest := (List.finRange 4).map (nextBlock inb h0)
  cover x := by
    have h0' : (x 0).val < 2048 := (x 0).isLt
    have h1' : (x 1).val < 1024 := (x 1).isLt
    by_cases hc : 768 ≤ (x 1).val
    · exact ⟨_, List.mem_cons_self, blockAt_cover inb x (Fin.forall_fin_two.2 ⟨⟨Nat.zero_le _, by simpa using h0'⟩, ⟨hc, by simpa using h1'⟩⟩)⟩
    · refine ⟨nextBlock inb h0 ⟨2 * ((x 0).val / 1024) + (x 1).val / 384, by omega⟩,
        List.mem_cons_of_mem _ (List.mem_map_of_mem (List.mem_finRange _)), blockAt_cover inb x (Fin.forall_fin_two.2 ⟨?_, ?_⟩)⟩
      · simp; omega
      · simp; omega

theorem chunk_nice {k : Fin 8} (ho : off = ![1024 * (2 * k.val), 0]) : Nice (chunk inb h0) := by
  have e0 : off 0 = 1024 * (2 * k.val) := by rw [ho]; rfl
  have e1 : off 1 = 0 := by rw [ho]; rfl
  constructor
  · intro y
    have h := blockAt_nice (lo := ![0, 768]) (sz := ![2048, 256]) (hin := by decide) (hpos := by decide) (h0 := h0) (hl := by decide) (hs := by decide) inb y 1
    have hy : (y 1).val < 256 := (y 1).isLt
    refine (colg_iff _ ?_ 2).2 ?_
    · exact lt_of_eq_of_lt h (by simp; omega)
    · rw [show cd ((chunk inb h0).first.rect.emb y) 1 = _ from h]
      simp [col0, wid]; omega
  · intro b hb
    obtain ⟨i, -, rfl⟩ := List.mem_map.1 hb
    refine ⟨2 * k.val + i.val / 2, ⟨i.val % 2, by omega⟩, fun y => ?_⟩
    have hb0 := blockAt_nice (lo := ![1024 * (i.val / 2), 384 * (i.val % 2)]) (sz := ![1024, 384]) (hin := blk_in i)
      (hpos := by decide) (h0 := h0) (hl := blk_two i) (hs := by decide) inb y 0
    have hb1 := blockAt_nice (lo := ![1024 * (i.val / 2), 384 * (i.val % 2)]) (sz := ![1024, 384]) (hin := blk_in i)
      (hpos := by decide) (h0 := h0) (hl := blk_two i) (hs := by decide) inb y 1
    have y0 : (y 0).val < 1024 := (y 0).isLt
    have y1 : (y 1).val < 384 := (y 1).isLt
    constructor
    · rw [show cd ((nextBlock inb h0 i).rect.emb y) 0 = _ from hb0]
      simp; omega
    · rw [show cd ((nextBlock inb h0 i).rect.emb y) 1 = _ from hb1]
      refine (colg_iff _ (by simp; omega) _).2 ?_
      have hw : wid ⟨i.val % 2, by omega⟩ = 384 := if_neg fun e => by have := congrArg Fin.val e; simp at this; omega
      rw [hw]
      simp [col0]; omega

theorem plan_chunk {k : Fin 8} (ho : off = ![1024 * (2 * k.val), 0]) :
    ∃ C, plan xbW (Rect.unit (s := S16384x1024) off S2048x1024.size inb) = some C ∧ Nice C :=
  plan_of (show (⟨2, ![2048, 1024]⟩ : Shape).numel = _ from by decide)
    ⟨_, chunk_nice inb (by rw [ho]; exact ⟨1024 * k.val, by show 1024 * (2 * k.val) = _; omega⟩) ho⟩
end Chunk

end Cert.Ag
-- ==== Proof.Walk.lean ====
/-
  The walk along the script: `Part n W q` says that a piece of the body runs from the state before the script's operation `n`, when
  the rest, which `W` describes, runs from where the piece ends.  One lemma an operation of the script, in the shape the kernel's
  text has it, each with what it takes of the text: which offsets, which device, under which condition.
-/
module

public import proofs.«01_k».proof.Proof.Plan

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

/-- What the walk is made under: the contents of the argument, the cells' invariants, the program's definitions, the device. -/
structure Env (F : FTy → Type) [FloatOps F] where
  A : Dev nD → S16384x1024.Idx → Elt F .f32
  K : GSem nD τ sig → ℕ
  dfs : Defs nD τ sig (Elt F) Λ₀
  c : Dev nD

abbrev PG (F : FTy → Type) (α : Type) : Type 1 := Prog (TpuEff nD τ sig (Elt F) Λ₀ .tc) α

/-- The program runs from the state before operation `n` to the state after the last. -/
def Runs (e : Env F) (n : ℕ) (q : PG F PUnit) : Prop :=
  ∀ Q : PUnit → sProp (MT nD τ sig Unit (Elt F) ℕ UU ℕ), iprop((Ctx e.A e.K ∗ St e.A e.c n) ∗ (St e.A e.c script.length -∗ Q ⟨⟩))
    ⊢ wp frame (wpE e.dfs 𝒱₀ (e.c : Thread nD τ) none) Set.univ (Cut.tr plan q) Q

def Part (e : Env F) (n : ℕ) {α : Type} (W : (α → PG F PUnit) → Prop) (q : PG F α) : Prop :=
  ∀ f, W f → Runs e n (q >>= f)
/-- The rest runs from operation `m`, whatever the piece returns (of which `P` holds). -/
def To (e : Env F) (m : ℕ) {α : Type} (P : α → Prop) (f : α → PG F PUnit) : Prop := ∀ a, P a → Runs e m (f a)
/-- The same, with nothing said of what the piece returns. -/
abbrev Go (e : Env F) (m : ℕ) {α : Type} : (α → PG F PUnit) → Prop := To e m fun _ => True

variable {e : Env F} {n m : ℕ} {α β : Type} {W : (α → PG F PUnit) → Prop}

theorem Runs.stop : Runs e script.length (pure ⟨⟩) := fun Q => by
  show _ ⊢ wp frame _ _ (.ret _) Q
  rw [wp_ret]
  iintro ⟨⟨-, HS⟩, Hk⟩
  imodintro
  iapply Hk $$ HS

theorem Part.done {P : α → Prop} {a : α} (h : P a) : Part e n (To e n P) (pure a) := fun f hf => hf a h
theorem Part.go {a : α} (h : n = m := by rfl) : Part e n (Go e m) (pure a) := fun f hf => h ▸ hf a trivial

theorem Part.seq {P : β → Prop} {q : PG F β} {g : β → PG F α} (hq : Part e n (To e m P) q) (hg : ∀ b, P b → Part e m W (g b)) :
    Part e n W (q >>= g) := fun f hf => by
  rw [Prog.bind_assoc]
  exact hq _ fun b hb => hg b hb f hf
theorem Part.then {q : PG F β} {g : β → PG F α} (hq : Part e n (Go e m) q) (hg : ∀ b, Part e m W (g b)) :
    Part e n W (q >>= g) := hq.seq fun b _ => hg b

/-- One effect whose step is known. -/
theorem Part.op {x : TpuEff nD τ sig (Elt F) Λ₀ .tc PUnit} {g : PUnit → PG F α}
    (ht : ∀ k : PUnit → PG F PUnit, Cut.trOp plan x k = .op x k)
    (hs : ∀ (k : PUnit → PG F PUnit) (Q : PUnit → sProp (MT nD τ sig Unit (Elt F) ℕ UU ℕ)), iprop(Ctx e.A e.K ∗ St e.A e.c n)
      ⊢ iprop((St e.A e.c (n + 1) -∗ wp frame (wpE e.dfs 𝒱₀ (e.c : Thread nD τ) none) Set.univ (k ⟨⟩) Q)
        -∗ wp frame (wpE e.dfs 𝒱₀ (e.c : Thread nD τ) none) Set.univ (.op x k) Q))
    (hg : Part e (n + 1) W (g ⟨⟩)) : Part e n W (Prog.op x .ret >>= g) := fun f hf Q => by
  show _ ⊢ wp frame _ _ (Cut.trOp plan x fun y => Cut.tr plan (g y >>= f)) Q
  rw [ht]
  iintro ⟨⟨#HC, HS⟩, Hk⟩
  iapply (hs _ Q) $$ [HS]
  · isplitr
    · iexact HC
    iexact HS
  iintro HS
  iapply (hg f hf Q)
  isplitl [HS]
  · isplitr
    · iexact HC
    iexact HS
  iexact Hk

/-- An effect under a condition that says whether the device issues it. -/
theorem Part.cond {p : Prop} [Decidable p] {t : p → PG F α} {g : PG F α} (h : ¬ p → St e.A e.c (n + 1) = St e.A e.c n)
    (ht : ∀ hp, Part e n W (t hp)) (hg : Part e (n + 1) W g) : Part e n W (if hp : p then t hp else g) := by
  by_cases hp : p
  · rw [dif_pos hp]; exact ht hp
  · rw [dif_neg hp]
    intro f hf Q
    have hr := hg f hf Q
    rw [h hp] at hr
    exact hr

/-! ## The operations -/

section Ops
variable {c : Dev nD} {A : Dev nD → S16384x1024.Idx → Elt F .f32} {K : GSem nD τ sig → ℕ} {dfs : Defs nD τ sig (Elt F) Λ₀}
  {g : PUnit → PG F α}

theorem p_dev {g : Dev nD → PG F α} (hg : Part (Env.mk A K dfs c) n W (g c)) : Part (Env.mk A K dfs c) n W (Prog.lift .deviceId >>= g) := fun f hf Q => by
  show _ ⊢ wp frame _ _ (.op .deviceId fun y => Cut.tr plan (g y >>= f)) Q
  rw [wp_deviceId]
  exact hg f hf Q

theorem p_sig (d : Dir) {dev : Dev nD → ℕ} {lt} {w : BitVec 32} (hg : Part (Env.mk A K dfs c) (n + 1) W (g ⟨⟩)) (h : pos (.sig d) = n := by decide +kernel)
    (hd : ∀ c, has d c = true := by decide +kernel) (hdev : ∀ c, dev c = (nb d c).val := by decide +kernel)
    (hw : w.toInt = ((1 : ℕ) : ℤ) := by decide +kernel) :
    Part (Env.mk A K dfs c) n W (semSignalWord (⟨dev c, lt⟩ : Dev nD) (SemArray.scalar (sig.barrier 0 rfl) : Sems sig S_).sem w >>= g) := by
  unfold semSignalWord
  rw [hw]
  exact Part.op (fun _ => rfl) (fun k Q => step_sig (k := k) h (hd c) (Fin.ext (hdev c)) rfl rfl) hg

theorem p_sigs (d : Dir) {cond : Dev nD → BitVec 1} {dev : Dev nD → ℕ} {lt : cond c = 1#1 → dev c < nD} {w : BitVec 32} {g : PG F α}
    (hg : Part (Env.mk A K dfs c) (n + 1) W g) (h : pos (.sig d) = n := by decide +kernel)
    (hc : ∀ c, cond c = 1#1 ↔ has d c = true := by decide +kernel)
    (hdev : ∀ c, cond c = 1#1 → dev c = (nb d c).val := by decide +kernel) (hw : w.toInt = ((1 : ℕ) : ℤ) := by decide +kernel) :
    Part (Env.mk A K dfs c) n W (if hh : cond c = 1#1 then
      semSignalWord (⟨dev c, lt hh⟩ : Dev nD) (SemArray.scalar (sig.barrier 0 rfl) : Sems sig S_).sem w >>= fun _ => g else g) := by
  refine Part.cond (fun hn => ?_) (fun hh => ?_) hg
  · have hf : has d c = false := by simpa using fun x => hn ((hc c).2 x)
    exact St_skip A h (by rintro _ ⟨⟩; exact hf) (by simp) (by simp) (by simp) (.inl ⟨d, rfl⟩)
  · unfold semSignalWord
    rw [hw]
    exact Part.op (fun _ => rfl) (fun k Q => step_sig (k := k) h ((hc c).1 hh) (Fin.ext (hdev c hh)) rfl rfl) hg

theorem p_bar {wd : Dev nD → BitVec 32} (hg : Part (Env.mk A K dfs c) (n + 1) W (g ⟨⟩)) (h : pos .bar = n := by decide +kernel)
    (hw : ∀ c, (wd c).toInt = ((nbs c : ℕ) : ℤ) := by decide +kernel) :
    Part (Env.mk A K dfs c) n W (semWaitWord (SemArray.scalar (sig.barrier 0 rfl) : Sems sig S_).sem (wd c) >>= g) := by
  unfold semWaitWord
  rw [hw]
  exact Part.op (fun _ => rfl) (fun k Q => step_bar (k := k) h rfl rfl) hg

section Waits
variable {q : DmaSem sig} {sp sp' : Space} {s s' : Shape} {el el' : EltTy}
    {src : Memref sig .tc sp' s' el'} {dst : Memref sig .tc sp s el} {hsrc : src.view.WordExact} {hdst : dst.view.WordExact}

theorem p_lwt_f (x : Fin 8) (hg : Part (Env.mk A K dfs c) (n + 1) W (g ⟨⟩)) (h : pos (.lwt (.f x)) = n := by decide +kernel)
    (hq : q = lS (.f x) := by rfl) (hN : RefSig.tileCredit s el = 262144 := by decide +kernel) :
    Part (Env.mk A K dfs c) n W (Prog.lift (.waitDma2 q src dst hsrc hdst) >>= g) :=
  Part.op (fun _ => rfl) (fun k Q => step_lwt_f (k := k) h hq hN) hg
theorem p_lwt_p (x : Fin 2) (hg : Part (Env.mk A K dfs c) (n + 1) W (g ⟨⟩)) (h : pos (.lwt (.p x)) = n := by decide +kernel)
    (hq : q = lS (.p x) := by rfl) (hN : RefSig.tileCredit s el = 131072 := by decide +kernel) :
    Part (Env.mk A K dfs c) n W (Prog.lift (.waitDma2 q src dst hsrc hdst) >>= g) :=
  Part.op (fun _ => rfl) (fun k Q => step_lwt_p (k := k) h hq hN) hg
theorem p_lwt_o (x : Fin 8) (hg : Part (Env.mk A K dfs c) (n + 1) W (g ⟨⟩)) (h : pos (.lwt (.o x)) = n := by decide +kernel)
    (hq : q = lS (.o x) := by rfl) (hN : RefSig.tileCredit s el = 131072 := by decide +kernel) :
    Part (Env.mk A K dfs c) n W (Prog.lift (.waitDma2 q src dst hsrc hdst) >>= g) :=
  Part.op (fun _ => rfl) (fun k Q => step_lwt_o (k := k) h hq hN) hg
theorem p_rcv (i : Chan) (hg : Part (Env.mk A K dfs c) (n + 1) W (g ⟨⟩)) (h : pos (.rcv i) = n := by decide +kernel)
    (hs : ∀ c, rcvs i c = true := by decide +kernel) (hq : q = rS i := by rfl)
    (hN : RefSig.tileCredit s el = amt i := by decide +kernel) :
    Part (Env.mk A K dfs c) n W (Prog.lift (.waitDma2 q src dst hsrc hdst) >>= g) :=
  Part.op (fun _ => rfl) (fun k Q => step_rcv (k := k) h (hs c) hq hN) hg
theorem p_wsd (i : Chan) (hg : Part (Env.mk A K dfs c) (n + 1) W (g ⟨⟩)) (h : pos (.wsd i) = n := by decide +kernel)
    (hs : ∀ c, snds i c = true := by decide +kernel) (hq : q = sS i := by rfl)
    (hN : RefSig.tileCredit s el = amt i := by decide +kernel) :
    Part (Env.mk A K dfs c) n W (Prog.lift (.waitDma2 q src dst hsrc hdst) >>= g) :=
  Part.op (fun _ => rfl) (fun k Q => step_wsd (k := k) h (hs c) hq hN) hg
end Waits

section CondWaits
variable {q : DmaSem sig} {sp sp' : Space} {s s' : Shape} {el el' : EltTy} {cond : Dev nD → BitVec 1} {g : PG F α}
    {src : cond c = 1#1 → Memref sig .tc sp' s' el'} {dst : cond c = 1#1 → Memref sig .tc sp s el}
    {hsrc : ∀ hh, (src hh).view.WordExact} {hdst : ∀ hh, (dst hh).view.WordExact}

theorem p_rcvs (i : Chan) (hg : Part (Env.mk A K dfs c) (n + 1) W g) (h : pos (.rcv i) = n := by decide +kernel)
    (hc : ∀ c, cond c = 1#1 ↔ rcvs i c = true := by decide +kernel) (hq : q = rS i := by rfl)
    (hN : RefSig.tileCredit s el = amt i := by decide +kernel) :
    Part (Env.mk A K dfs c) n W (if hh : cond c = 1#1 then Prog.lift (.waitDma2 q (src hh) (dst hh) (hsrc hh) (hdst hh)) >>= fun _ => g else g) := by
  refine Part.cond (fun hn => ?_) (fun hh => Part.op (fun _ => rfl) (fun k Q => step_rcv (k := k) h ((hc c).1 hh) hq hN) hg) hg
  have hf : rcvs i c = false := by simpa using fun x => hn ((hc c).2 x)
  exact St_skip A h (by simp) (by simp) (by simp) (by rintro _ ⟨⟩; exact hf) (.inr (.inr (.inr ⟨i, rfl⟩)))
theorem p_wsds (i : Chan) (hg : Part (Env.mk A K dfs c) (n + 1) W g) (h : pos (.wsd i) = n := by decide +kernel)
    (hx : fromX i = false := by rfl) (hc : ∀ c, cond c = 1#1 ↔ snds i c = true := by decide +kernel) (hq : q = sS i := by rfl)
    (hN : RefSig.tileCredit s el = amt i := by decide +kernel) :
    Part (Env.mk A K dfs c) n W (if hh : cond c = 1#1 then Prog.lift (.waitDma2 q (src hh) (dst hh) (hsrc hh) (hdst hh)) >>= fun _ => g else g) := by
  refine Part.cond (fun hn => ?_) (fun hh => Part.op (fun _ => rfl) (fun k Q => step_wsd (k := k) h ((hc c).1 hh) hq hN) hg) hg
  have hf : snds i c = false := by simpa using fun x => hn ((hc c).2 x)
  exact St_skip A h (by simp) (by simp) (by rintro _ ⟨⟩; exact hf) (by simp) (.inr (.inr (.inl ⟨i, rfl, hx⟩)))
end CondWaits

section Copies
variable {q q₁ q₂ : DmaSem sig}

theorem p_lst_f (x : Fin 8) {off : Fin 2 → ℕ} {off' : Fin 3 → ℕ} {inb'} {inb hsrc hdst hsem} (hg : Part (Env.mk A K dfs c) (n + 1) W (g ⟨⟩))
    (h : pos (.lst (.f x)) = n := by decide +kernel)
    (hq : q = lS (.f x) := by rfl) (ho : off = ![1024 * (2 * x.val), 0] := by decide +kernel)
    (ho' : off' = ![x.val % 2, 0, 0] := by decide +kernel) :
    Part (Env.mk A K dfs c) n W (Prog.lift (.enqueueDma (argM off S2048x1024.size inb) (.here (fM off' inb')) (.dma q) hsrc hdst hsem) >>= g) :=
  Part.op (fun _ => rfl) (fun k Q => step_lst_f (k := k) h hq ho ho') hg
theorem p_lst_p (x : Fin 2) {off : Fin 2 → ℕ} {off' : Fin 3 → ℕ} {inb'} {inb hsrc hdst hsem} (hg : Part (Env.mk A K dfs c) (n + 1) W (g ⟨⟩)) (h : pos (.lst (.p x)) = n := by decide +kernel)
    (hq : q = lS (.p x) := by rfl) (ho : off = ![1024 * idx x c, 0] := by revert c; decide +kernel)
    (ho' : off' = ![x.val, 0, 0] := by decide +kernel) :
    Part (Env.mk A K dfs c) n W (Prog.lift (.enqueueDma (argM off S1024x1024.size inb) (.here (pM off' inb')) (.dma q) hsrc hdst hsem) >>= g) :=
  Part.op (fun _ => rfl) (fun k Q => step_lst_p (k := k) h hq ho ho') hg
theorem p_lst_o (x : Fin 8) {off : Fin 2 → ℕ} {off' : Fin 2 → ℕ} {inb'} {inb hsrc hdst hsem} (hg : Part (Env.mk A K dfs c) (n + 1) W (g ⟨⟩))
    (h : pos (.lst (.o x)) = n := by decide +kernel) (hq : q = lS (.o x) := by rfl)
    (ho : off = ![1024 * (2 * x.val), 0] := by decide +kernel)
    (ho' : off' = ![1024 * orow x c, 0] := by revert c; decide +kernel) :
    Part (Env.mk A K dfs c) n W (Prog.lift (.enqueueDma (xbM off S2048x1024.size inb) (.here (outM off' S2048x1024.size inb')) (.dma q)
      hsrc hdst hsem) >>= g) :=
  Part.op (fun _ => rfl) (fun k Q => step_lst_o (k := k) h hq ho ho') hg

theorem p_snd (i : Chan) {off off' : Fin 2 → ℕ} {sz : Fin 2 → ℕ} {inb'} {dev : ℕ} {lt} {hsc}
    {inb hsrc hdst hsem}
    (hg : Part (Env.mk A K dfs c) (n + 1) W (g ⟨⟩)) (h : pos (.snd i) = n := by decide +kernel) (hx : fromX i = true := by rfl)
    (hdev : dev = (tgt i c).val := by revert c; decide +kernel) (hq₁ : q₁ = sS i := by rfl) (hq₂ : q₂ = rS i := by rfl)
    (ho : off = ![1024 * xrow0 i c, col0 (grp i)] := by revert c; decide +kernel)
    (ho' : off' = ![1024 * row0 i c, col0 (grp i)] := by revert c; decide +kernel)
    (hz : sz = ![1024 * nrow i, wid (grp i)] := by decide +kernel) :
    Part (Env.mk A K dfs c) n W (Prog.lift (.enqueueDma (xbM off sz inb)
      (.remote (Dev.tc (⟨dev, lt⟩ : Dev nD)) (outM off' sz inb') (.dma q₁) hsc) (.dma q₂) hsrc hdst hsem) >>= g) :=
  Part.op (fun _ => rfl) (fun k Q => step_snd_x (k := k) h hx (Fin.ext hdev) hq₁ hq₂ ho ho' hz) hg
end Copies

theorem p_snds (i : Chan) {cond : Dev nD → BitVec 1} {off : Dev nD → Fin 2 → ℕ} {sz : Fin 2 → ℕ} {q₁ q₂ : DmaSem sig}
    {dev : Dev nD → ℕ} {lt : cond c = 1#1 → dev c < nD} {inb inb' : cond c = 1#1 → ∀ a, off c a + sz a ≤ S32768x1024.size a} {g : PG F α}
    {hsrc : ∀ hh, (outM (off c) sz (inb hh)).view.WordExact} {hdst : ∀ hh, (outM (off c) sz (inb' hh)).view.WordExact}
    {hsem : ∀ hh, (DmaTarget.remote (p := .tc) (Dev.tc (⟨dev c, lt hh⟩ : Dev nD)) (outM (off c) sz (inb' hh)) (.dma q₁)).Typed .hbm (.dma q₂)}
    (hg : Part (Env.mk A K dfs c) (n + 1) W g) (h : pos (.snd i) = n := by decide +kernel) (hx : fromX i = false := by rfl)
    (hc : ∀ c, cond c = 1#1 ↔ snds i c = true := by decide +kernel)
    (hdev : ∀ c, cond c = 1#1 → dev c = (tgt i c).val := by decide +kernel) (hq₁ : q₁ = sS i := by rfl) (hq₂ : q₂ = rS i := by rfl)
    (ho : ∀ c, cond c = 1#1 → off c = ![1024 * row0 i c, col0 (grp i)] := by decide +kernel)
    (hz : sz = ![1024 * nrow i, wid (grp i)] := by decide +kernel) :
    Part (Env.mk A K dfs c) n W (if hh : cond c = 1#1 then Prog.lift (.enqueueDma (outM (off c) sz (inb hh))
      (.remote (Dev.tc (⟨dev c, lt hh⟩ : Dev nD)) (outM (off c) sz (inb' hh)) (.dma q₁)) (.dma q₂) (hsrc hh) (hdst hh) (hsem hh))
        >>= fun _ => g else g) := by
  refine Part.cond (fun hn => ?_) (fun hh => Part.op (fun _ => rfl) (fun k Q =>
    step_snd_o (k := k) h hx ((hc c).1 hh) (Fin.ext (hdev c hh)) hq₁ hq₂ (ho c hh) hz) hg) hg
  have hf : snds i c = false := by simpa using fun x => hn ((hc c).2 x)
  exact St_skip A h (by simp) (by rintro _ ⟨⟩; exact hf) (by simp) (by simp) (.inr (.inl ⟨i, rfl, hx⟩))

/-! ## The conversions -/

section Conv
variable {off : Fin 3 → ℕ} {off' : Dev nD → Fin 2 → ℕ} {inb inb' hl hl' hx hm}

theorem trOp_small {cs : CoreSpace} {s : Shape} {el : EltTy} {mm : Memref sig .tc cs s el} {r : Rect s} (hr : r.shape.numel ≠ 2097152)
    (w : r.shape.Idx → Elt F el) (M : Finset r.shape.Idx) (hx hm) (k : PUnit → PG F PUnit) :
    Cut.trOp plan (.store mm r w M hx hm) k = .op (.store mm r w M hx hm) k := by
  unfold Cut.trOp
  simp only [plan_small mm r hr]
  split <;> rfl

theorem tr_loads {cs cs' : CoreSpace} {s s' : Shape} {el el' : EltTy} {m₁ : Memref sig .tc cs s el} {m₂ : Memref sig .tc cs' s' el'}
    {r₁ : LoadRect s} {r₂ : LoadRect s'} {h₁ : m₁.view.LoadsAt r₁} {h₂ : m₂.view.LoadsAt r₂} {x : _ → TpuEff nD τ sig (Elt F) Λ₀ .tc PUnit} {k : PG F PUnit}
    (ht : ∀ v, Cut.trOp plan (x v) (fun _ => Cut.tr plan k) = .op (x v) fun _ => Cut.tr plan k) :
    Cut.tr plan (.op (.load m₁ r₁ h₁) fun v => .op (.load m₂ r₂ h₂) fun _ => .op (x v) fun _ => k)
      = .op (.load m₁ r₁ h₁) fun v => .op (.load m₂ r₂ h₂) fun _ => .op (x v) fun _ => Cut.tr plan k := by
  show Prog.op _ (fun v => Prog.op _ fun _ => Cut.trOp plan (x v) fun _ => Cut.tr plan k) = _
  simp only [ht]
theorem small_p {off' : Fin 2 → ℕ} (inb') : (Rect.unit (s := S16384x1024) off' S1024x1024.size inb').shape.numel ≠ 2097152 := by
  have : (⟨2, ![1024, 1024]⟩ : Shape).numel ≠ 2097152 := by decide
  exact this

end Conv
end Ops
end Cert.Ag
-- ==== Proof.Conv.lean ====
/-
  The walk, continued: the conversions.  An injected block's is the loads and the store it is written as; a chunk's store is run as
  its blocks, which is what the divided program (`plan`) has in its place.
-/
module

public import proofs.«01_k».proof.Proof.Walk

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ
variable {e : Env F} {n m : ℕ} {α β : Type} {W : (α → PG F PUnit) → Prop}
variable {c : Dev nD} {A : Dev nD → S16384x1024.Idx → Elt F .f32} {K : GSem nD τ sig → ℕ} {dfs : Defs nD τ sig (Elt F) Λ₀}
  {g : PUnit → PG F α}
variable {off : Fin 3 → ℕ} {off' : Fin 2 → ℕ} {inb inb' hl hl' M hx hm}

theorem tr_pcv {k : PG F PUnit} :
    Cut.tr plan (.op (.load (Memref.whole cc0_scratch2) (Rect.unit (s := S2x1024x1024) off S1x1024x1024.size inb).toLoadRect hl) fun v =>
      .op (.load xbW (Rect.unit (s := S16384x1024) off' S1024x1024.size inb').toLoadRect hl') fun _ =>
      .op (.store xbW (Rect.unit (s := S16384x1024) off' S1024x1024.size inb') (k0_pay1 (F := F) v) M hx hm) fun _ => k) =
    (.op (.load (Memref.whole cc0_scratch2) (Rect.unit (s := S2x1024x1024) off S1x1024x1024.size inb).toLoadRect hl) fun v =>
      .op (.load xbW (Rect.unit (s := S16384x1024) off' S1024x1024.size inb').toLoadRect hl') fun _ =>
      .op (.store xbW (Rect.unit (s := S16384x1024) off' S1024x1024.size inb') (k0_pay1 (F := F) v) M hx hm) fun _ => Cut.tr plan k) :=
  tr_loads fun v => trOp_small (small_p inb') (k0_pay1 (F := F) v) M hx hm fun _ => Cut.tr plan k

theorem Runs.step {q q' k : PG F PUnit} (ht : Cut.tr plan q = q')
    (hs : ∀ (Q : PUnit → sProp (MT nD τ sig Unit (Elt F) ℕ UU ℕ)), iprop(Ctx e.A e.K ∗ St e.A e.c n)
      ⊢ iprop((St e.A e.c (n + 1) -∗ wp frame (wpE e.dfs 𝒱₀ (e.c : Thread nD τ) none) Set.univ (Cut.tr plan k) Q)
        -∗ wp frame (wpE e.dfs 𝒱₀ (e.c : Thread nD τ) none) Set.univ q' Q))
    (hk : Runs e (n + 1) k) : Runs e n q := fun Q => by
  rw [ht]
  iintro ⟨⟨#HC, HS⟩, Hk⟩
  iapply (hs Q) $$ [HS]
  · isplitr
    · iexact HC
    iexact HS
  iintro HS
  iapply (hk Q)
  isplitl [HS]
  · isplitr
    · iexact HC
    iexact HS
  iexact Hk

theorem step_pcv' {h : Fin 2} {k : PG F PUnit} (hk : Runs (Env.mk A K dfs c) (n + 1) k) (hp : pos (.pcv h) = n)
    (ho : off = ![h.val, 0, 0]) (ho' : off' = ![1024 * idx h c, 0]) (hM : M = Finset.univ) :
    Runs (Env.mk A K dfs c) n (.op (.load (Memref.whole cc0_scratch2) (Rect.unit (s := S2x1024x1024) off S1x1024x1024.size inb).toLoadRect hl) fun v =>
      .op (.load xbW (Rect.unit (s := S16384x1024) off' S1024x1024.size inb').toLoadRect hl') fun _ =>
      .op (.store xbW (Rect.unit (s := S16384x1024) off' S1024x1024.size inb') (k0_pay1 (F := F) v) M hx hm) fun _ => k) := by
  refine Runs.step tr_pcv (fun Q => ?_) hk
  have h2 := step_pcv (A := A) (K := K) (dfs := dfs) (inb := inb) (inb' := inb') (hl := hl) (hl' := hl') (hx := hx) (hm := hm) (Q := Q)
    (k := fun _ => Cut.tr plan k) hp ho ho' hM
  dsimp only at h2 ⊢
  exact h2

theorem p_pcv {off' : Fin 2 → ℕ} {inb' hl' M hx hm} (h : Fin 2) (hg : Part (Env.mk A K dfs c) (n + 1) W (g ⟨⟩)) (hp : pos (.pcv h) = n := by decide +kernel)
    (ho : off = ![h.val, 0, 0] := by decide +kernel) (ho' : off' = ![1024 * idx h c, 0] := by revert c; decide +kernel)
    (hM : M = Finset.univ := by rfl) :
    Part (Env.mk A K dfs c) n W (Prog.lift (.load (Memref.whole cc0_scratch2) (Rect.unit (s := S2x1024x1024) off S1x1024x1024.size inb).toLoadRect hl)
      >>= fun v => Prog.lift (.load xbW (Rect.unit (s := S16384x1024) off' S1024x1024.size inb').toLoadRect hl') >>= fun _ =>
        Prog.lift (.store xbW (Rect.unit (s := S16384x1024) off' S1024x1024.size inb') (k0_pay1 (F := F) v) M hx hm) >>= g) :=
  fun f hf => step_pcv' (k := g ⟨⟩ >>= f) (hg f hf) hp ho ho' hM

/-- What follows the loads of the second injected block: its store, and a run from after it. -/
def Stored (e : Env F) (m : ℕ) (f : FVec F S1024x1024 .bf16 → PG F PUnit) : Prop :=
  ∃ (off' : Fin 2 → ℕ) (inb' : ∀ a, off' a + S1024x1024.size a ≤ S16384x1024.size a)
    (M : Finset (Rect.unit (s := S16384x1024) off' S1024x1024.size inb').shape.Idx)
    (hx : (xbW.access (Rect.unit (s := S16384x1024) off' S1024x1024.size inb')).Stores M)
    (hm : M = Finset.univ ∨ ∀ a, (Rect.unit (s := S16384x1024) off' S1024x1024.size inb').stride a = 1) (k : PG F PUnit),
    off' = ![1024 * idx 1 e.c, 0] ∧ M = Finset.univ ∧ Runs e m k ∧
    ∀ v, f v = Prog.op (.store xbW (Rect.unit (s := S16384x1024) off' S1024x1024.size inb') (k0_pay3 (F := F) v) M hx hm) fun _ => k

theorem p_pcv_pre {off' : Fin 2 → ℕ} {inb' hl'} (h1 : n + 1 = m := by rfl) (hp : pos (.pcv 1) = n := by decide +kernel)
    (ho : off = ![1, 0, 0] := by decide +kernel) (ho' : off' = ![1024 * idx 1 c, 0] := by revert c; decide +kernel) :
    Part (Env.mk A K dfs c) n (Stored (Env.mk A K dfs c) m) (Prog.lift (.load (Memref.whole cc0_scratch2) (Rect.unit (s := S2x1024x1024) off S1x1024x1024.size inb).toLoadRect hl)
      >>= fun v => Prog.lift (.load xbW (Rect.unit (s := S16384x1024) off' S1024x1024.size inb').toLoadRect hl') >>= fun _ =>
        pure (k0_pay2 (F := F) v)) := by
  subst h1
  rintro f ⟨o2, i2, M, hx, hm, k, h2, hM, hk, hf⟩
  have e2 : off' = o2 := ho'.trans h2.symm
  subst e2
  have := step_pcv' (off := off) (off' := off') (inb := inb) (inb' := i2) (hl := hl) (hl' := hl') (hx := hx) (hm := hm) hk hp ho ho' hM
  show Runs (Env.mk A K dfs c) n (Prog.op _ fun v => Prog.op _ fun _ => f (k0_pay2 v))
  simp only [hf]
  exact this

/-! ## Chunks -/

theorem trOp_cut {cs : CoreSpace} {s : Shape} {el : EltTy} {mm : Memref sig .tc cs s el} {r : Rect s} {C : Cut.Cutting mm r} (hC : plan mm r = some C)
    (w : r.shape.Idx → Elt F el) {M : Finset r.shape.Idx} (hM : M = Finset.univ) (hx hm) (k : PUnit → PG F PUnit) :
    Cut.trOp plan (.store mm r w M hx hm) k = Cut.cutStore C w (k ⟨⟩) := by
  unfold Cut.trOp
  simp only [hC]
  exact if_pos hM
theorem tr_loads' {cs cs' : CoreSpace} {s s' : Shape} {el el' : EltTy} {m₁ : Memref sig .tc cs s el} {m₂ : Memref sig .tc cs' s' el'}
    {r₁ : LoadRect s} {r₂ : LoadRect s'} {h₁ : m₁.view.LoadsAt r₁} {h₂ : m₂.view.LoadsAt r₂} {x : _ → TpuEff nD τ sig (Elt F) Λ₀ .tc PUnit} {k : PG F PUnit}
    {y : _ → PG F PUnit} (ht : ∀ v, Cut.trOp plan (x v) (fun _ => Cut.tr plan k) = y v) :
    Cut.tr plan (.op (.load m₁ r₁ h₁) fun v => .op (.load m₂ r₂ h₂) fun _ => .op (x v) fun _ => k)
      = .op (.load m₁ r₁ h₁) fun v => .op (.load m₂ r₂ h₂) fun _ => y v := by
  show Prog.op _ (fun v => Prog.op _ fun _ => Cut.trOp plan (x v) fun _ => Cut.tr plan k) = _
  simp only [ht]

section Chunk

theorem trOp_cnv {k : PG F PUnit} {C : Cut.Cutting xbW (Rect.unit (s := S16384x1024) off' S2048x1024.size inb')}
    (hC : plan xbW (Rect.unit (s := S16384x1024) off' S2048x1024.size inb') = some C) (hM : M = Finset.univ) (v : Vec F S1x2048x1024 .f32) :
    Cut.trOp plan (.store xbW (Rect.unit (s := S16384x1024) off' S2048x1024.size inb') (k0_pay4 (F := F) v) M hx hm) (fun _ => Cut.tr plan k)
      = Cut.cutStore C (k0_pay4 (F := F) v) (Cut.tr plan k) :=
  trOp_cut hC _ hM hx hm fun _ => Cut.tr plan k

theorem tr_cnv {k : PG F PUnit} {C : Cut.Cutting xbW (Rect.unit (s := S16384x1024) off' S2048x1024.size inb')}
    (h : ∀ v, Cut.trOp plan (.store xbW (Rect.unit (s := S16384x1024) off' S2048x1024.size inb') (k0_pay4 (F := F) v) M hx hm)
      (fun _ => Cut.tr plan k) = Cut.cutStore C (k0_pay4 (F := F) v) (Cut.tr plan k)) :
    Cut.tr plan (.op (.load (Memref.whole cc0_scratch1) (Rect.unit (s := S2x2048x1024) off S1x2048x1024.size inb).toLoadRect hl) fun v =>
      .op (.load xbW (Rect.unit (s := S16384x1024) off' S2048x1024.size inb').toLoadRect hl') fun _ =>
      .op (.store xbW (Rect.unit (s := S16384x1024) off' S2048x1024.size inb') (k0_pay4 (F := F) v) M hx hm) fun _ => k) =
    (.op (.load (Memref.whole cc0_scratch1) (Rect.unit (s := S2x2048x1024) off S1x2048x1024.size inb).toLoadRect hl) fun v =>
      .op (.load xbW (Rect.unit (s := S16384x1024) off' S2048x1024.size inb').toLoadRect hl') fun _ =>
      Cut.cutStore C (k0_pay4 (F := F) v) (Cut.tr plan k)) :=
  tr_loads' h

theorem step_cnv' {x : Fin 8} {k : PG F PUnit} (hk : Runs (Env.mk A K dfs c) (n + 1) k) (hp : pos (.cnv x) = n)
    (ho : off = ![x.val % 2, 0, 0]) (ho' : off' = ![1024 * (2 * x.val), 0]) (hM : M = Finset.univ) :
    Runs (Env.mk A K dfs c) n (.op (.load (Memref.whole cc0_scratch1) (Rect.unit (s := S2x2048x1024) off S1x2048x1024.size inb).toLoadRect hl) fun v =>
      .op (.load xbW (Rect.unit (s := S16384x1024) off' S2048x1024.size inb').toLoadRect hl') fun _ =>
      .op (.store xbW (Rect.unit (s := S16384x1024) off' S2048x1024.size inb') (k0_pay4 (F := F) v) M hx hm) fun _ => k) := by
  obtain ⟨C, hC, hN⟩ := plan_chunk inb' ho'
  refine Runs.step (tr_cnv (trOp_cnv hC hM)) (fun Q => ?_) hk
  have h2 := step_cnv (c := c) (A := A) (K := K) (dfs := dfs) (inb := inb) (inb' := inb') (hl := hl) (hl' := hl') (Q := Q)
    (k := fun (_ : PUnit.{1}) => Cut.tr plan k) hN hp ho ho'
  dsimp only at h2 ⊢
  exact h2

theorem p_cnv {off' : Fin 2 → ℕ} {inb' hl' M hx hm} {pay : Vec F S1x2048x1024 .f32 → Vec F S2048x1024 .bf16} (x : Fin 8)
    (hg : Part (Env.mk A K dfs c) (n + 1) W (g ⟨⟩)) (hp : pos (.cnv x) = n := by decide +kernel)
    (ho : off = ![x.val % 2, 0, 0] := by decide +kernel) (ho' : off' = ![1024 * (2 * x.val), 0] := by decide +kernel)
    (hM : M = Finset.univ := by rfl) (hpay : pay = k0_pay4 (F := F) := by rfl) :
    Part (Env.mk A K dfs c) n W (Prog.lift (.load (Memref.whole cc0_scratch1) (Rect.unit (s := S2x2048x1024) off S1x2048x1024.size inb).toLoadRect hl)
      >>= fun v => Prog.lift (.load xbW (Rect.unit (s := S16384x1024) off' S2048x1024.size inb').toLoadRect hl') >>= fun _ =>
        Prog.lift (.store xbW (Rect.unit (s := S16384x1024) off' S2048x1024.size inb') (pay v) M hx hm) >>= g) := by
  subst hpay
  exact fun f hf => step_cnv' (k := g ⟨⟩ >>= f) (hg f hf) hp ho ho' hM
end Chunk

/-! ## The arguments -/

/-- A function of the kernel's arguments at them. -/
abbrev app.{u} {β : Sort u} (q : (arg0 : Memref sig .tc .hbm S16384x1024 .f32) → arg0.IsWhole → (arg1 : Memref sig .tc .hbm S32768x1024 .bf16) →
    arg1.IsWhole → (arg2 : Memref sig .tc .hbm S32768x1024 .bf16) → arg2.IsWhole → (arg3 : Memref sig .tc .vmem S16384x1024 .bf16) →
    arg3.IsWhole → (arg4 : Memref sig .tc .vmem S2x2048x1024 .f32) → arg4.IsWhole → (arg5 : Memref sig .tc .vmem S2x1024x1024 .f32) →
    arg5.IsWhole → DmaSems sig S2 → DmaSems sig S2 → DmaSems sig S2 → DmaSems sig S2 → DmaSems sig S2 → DmaSems sig S4 → DmaSems sig S4 →
    DmaSems sig S12 → DmaSems sig S12 → DmaSems sig S24 → DmaSems sig S24 → β) : β :=
  q (Memref.whole main_arg0) (Memref.isWhole_whole _) (Memref.whole main_v2) (Memref.isWhole_whole _) (Memref.whole main_v2)
    (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7 cc0_scratch8
    cc0_scratch9 cc0_scratch10 cc0_scratch11 cc0_scratch12 cc0_scratch13

end Cert.Ag
-- ==== Proof.BodyA.lean ====
/-
  The parts of the kernel's body, each against its stretch of the script: the first half.
-/
module

public import proofs.«01_k».proof.Proof.Conv

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ
variable {c : Dev nD} {A : Dev nD → S16384x1024.Idx → Elt F .f32} {K : GSem nD τ sig → ℕ} {dfs : Defs nD τ sig (Elt F) Λ₀}

theorem part1 : Part (Env.mk A K dfs c) 0 (To (Env.mk A K dfs c) 1 fun r => r.1 = c ∧ r.2.2.2.2.2.2.2.1 = SemArray.scalar (sig.barrier 0 rfl)) (app (k0_part1 (F := F))) := by
  rw [k0_part1_eq_skeleton]
  unfold app k0_part1_skel
  refine p_dev ?_
  refine p_sig .P ?_
  exact .done ⟨rfl, rfl⟩

theorem part2 (v2 v5 v8 v20 v22 v23 v25 v26 v28 v29 v30 c3_i32_19) :
    Part (Env.mk A K dfs c) 1 (Go (Env.mk A K dfs c) 7) (app (k0_part2 (F := F)) c v2 v5 v8 (SemArray.scalar (sig.barrier 0 rfl)) v20 v22 v23 v25 v26 v28 v29 v30 c3_i32_19) := by
  rw [k0_part2_eq_skeleton]
  unfold app k0_part2_skel
  refine p_sigs .yd ?_
  refine p_sigs .yu ?_
  refine p_sigs .zd ?_
  refine p_sigs .zu ?_
  refine p_lst_p 0 ?_
  refine p_lst_p 1 ?_
  exact .go

theorem part3 (v49 v51) :
    Part (Env.mk A K dfs c) 7 (Stored (Env.mk A K dfs c) 13) (app (k0_part3 (F := F)) c (SemArray.scalar (sig.barrier 0 rfl)) v49 v51) := by
  rw [k0_part3_eq_skeleton]
  unfold app k0_part3_skel
  refine p_lst_f 0 ?_
  refine p_bar ?_
  refine p_lwt_p 0 ?_
  refine p_pcv 0 ?_
  refine p_lwt_p 1 ?_
  exact p_pcv_pre

theorem p_stored {n : ℕ} {α : Type} {W : (α → PG F PUnit) → Prop} {g : PUnit → PG F α} {off' : Fin 2 → ℕ} {inb' M hx hm}
    (hg : Part (Env.mk A K dfs c) n W (g ⟨⟩))
    (ho : off' = ![1024 * idx 1 c, 0] := by revert c; decide +kernel) (hM : M = Finset.univ := by rfl) :
    ∀ f, W f → Stored (Env.mk A K dfs c) n fun v => (Prog.lift (.store xbW (Rect.unit (s := S16384x1024) off' S1024x1024.size inb') (k0_pay3 (F := F) v)
      M hx hm) >>= g) >>= f := fun f hf => ⟨off', inb', M, hx, hm, g ⟨⟩ >>= f, ho, hM, hg f hf, fun _ => rfl⟩

theorem Part.into {e : Env F} {n : ℕ} {α β : Type} {W : (α → PG F PUnit) → Prop} {V : (β → PG F PUnit) → Prop} {q : PG F β}
    {g : β → PG F α} (hq : Part e n V q) (hg : ∀ f, W f → V fun b => g b >>= f) : Part e n W (q >>= g) := fun f hf => by
  rw [Prog.bind_assoc]
  exact hq _ (hg f hf)

theorem part4 (v5 v8 v9 v12 v49 v51) : ∀ f, Go (Env.mk A K dfs c) 15 f →
    Stored (Env.mk A K dfs c) 13 fun v => app (k0_part4 (F := F)) c v5 v8 v9 v12 v49 v51 v >>= f := by
  rw [k0_part4_eq_skeleton]
  unfold app k0_part4_skel
  refine p_stored (n := 13) ?_
  refine p_snd (.inj 0) ?_
  refine p_snd (.inj 1) ?_
  exact .go

theorem part5 (v2 v5 v8 v9 v11 v12) :
    Part (Env.mk A K dfs c) 15 (Go (Env.mk A K dfs c) 17) (app (k0_part5 (F := F)) c v2 v5 v8 v9 v11 v12) := by
  rw [k0_part5_eq_skeleton]
  unfold app k0_part5_skel
  refine p_rcv (.inj 0) ?_
  refine p_snds (.a 0 0 0) ?_
  exact .go

theorem part6 (v2 v5 v8 v9 v11) :
    Part (Env.mk A K dfs c) 17 (Go (Env.mk A K dfs c) 19) (app (k0_part6 (F := F)) c v2 v5 v8 v9 v11) := by
  rw [k0_part6_eq_skeleton]
  unfold app k0_part6_skel
  refine p_snds (.a 0 1 0) ?_
  refine p_rcv (.inj 1) ?_
  exact .go

theorem part7 (v2 v5 v8 v11 v191) :
    Part (Env.mk A K dfs c) 19 (Go (Env.mk A K dfs c) 20) (app (k0_part7 (F := F)) c v2 v5 v8 v11 v191) := by
  rw [k0_part7_eq_skeleton]
  unfold app k0_part7_skel
  refine p_snds (.a 1 0 0) ?_
  exact .go

theorem part8 (v2 v8 v11 v214 v216 v224) :
    Part (Env.mk A K dfs c) 20 (Go (Env.mk A K dfs c) 24) (app (k0_part8 (F := F)) c v2 v8 v11 v214 v216 v224) := by
  rw [k0_part8_eq_skeleton]
  unfold app k0_part8_skel
  refine p_snds (.a 1 1 0) ?_
  refine p_lwt_f 0 ?_
  refine p_lst_f 1 ?_
  refine p_cnv 0 ?_
  exact .go

theorem part9 (v5 v8 v9) :
    Part (Env.mk A K dfs c) 24 (Go (Env.mk A K dfs c) 28) (app (k0_part9 (F := F)) c v5 v8 v9) := by
  rw [k0_part9_eq_skeleton]
  unfold app k0_part9_skel
  refine p_lwt_f 1 ?_
  refine p_lst_f 2 ?_
  refine p_cnv 1 ?_
  refine p_snd (.h3 0) ?_
  exact .go

theorem part10 (v2 v5 v8 v11 v277 v279 v280 c0_i32_208 c3_i32_209) :
    Part (Env.mk A K dfs c) 28 (Go (Env.mk A K dfs c) 29) (app (k0_part10 (F := F)) c v2 v5 v8 v11 v277 v279 v280 c0_i32_208 c3_i32_209) := by
  rw [k0_part10_eq_skeleton]
  unfold app k0_part10_skel
  refine p_rcvs (.a 0 0 0) ?_
  exact .go

theorem part11 (v2 v5 v8 v11 v299 c3_i32_234 v314) :
    Part (Env.mk A K dfs c) 29 (Go (Env.mk A K dfs c) 31) (app (k0_part11 (F := F)) c v2 v5 v8 v11 v299 c3_i32_234 v314) := by
  rw [k0_part11_eq_skeleton]
  unfold app k0_part11_skel
  refine p_snds (.a 0 0 1) ?_
  refine p_rcvs (.a 0 1 0) ?_
  exact .go

theorem part12 (v2 v5 v8 v11 v340 v341 v342 v344 v345) :
    Part (Env.mk A K dfs c) 31 (Go (Env.mk A K dfs c) 32) (app (k0_part12 (F := F)) c v2 v5 v8 v11 v340 v341 v342 v344 v345) := by
  rw [k0_part12_eq_skeleton]
  unfold app k0_part12_skel
  refine p_snds (.a 0 1 1) ?_
  exact .go

theorem part13 (v2 v5 v8 v11 v376 v377 c0_i32_288) :
    Part (Env.mk A K dfs c) 32 (Go (Env.mk A K dfs c) 34) (app (k0_part13 (F := F)) c v2 v5 v8 v11 v376 v377 c0_i32_288) := by
  rw [k0_part13_eq_skeleton]
  unfold app k0_part13_skel
  refine p_rcvs (.a 1 0 0) ?_
  refine p_snds (.a 1 0 1) ?_
  exact .go

theorem part14 (v2 v5 v8 v11 v400 v402 v403 c0_i32_313) :
    Part (Env.mk A K dfs c) 34 (Go (Env.mk A K dfs c) 36) (app (k0_part14 (F := F)) c v2 v5 v8 v11 v400 v402 v403 c0_i32_313) := by
  rw [k0_part14_eq_skeleton]
  unfold app k0_part14_skel
  refine p_rcvs (.a 1 1 0) ?_
  refine p_snds (.a 1 1 1) ?_
  exact .go

theorem part15 :
    Part (Env.mk A K dfs c) 36 (Go (Env.mk A K dfs c) 41) (app (k0_part15 (F := F))) := by
  rw [k0_part15_eq_skeleton]
  unfold app k0_part15_skel
  refine p_lwt_f 2 ?_
  refine p_lst_f 3 ?_
  refine p_cnv 2 ?_
  refine p_lwt_f 3 ?_
  refine p_lst_f 4 ?_
  exact .go

theorem part16 (v5 v8 v9 v11) :
    Part (Env.mk A K dfs c) 41 (Go (Env.mk A K dfs c) 43) (app (k0_part16 (F := F)) c v5 v8 v9 v11) := by
  rw [k0_part16_eq_skeleton]
  unfold app k0_part16_skel
  refine p_cnv 3 ?_
  refine p_snd (.h3 1) ?_
  exact .go

theorem part17 (v2 v5 v8 v11 v485 v488) :
    Part (Env.mk A K dfs c) 43 (Go (Env.mk A K dfs c) 45) (app (k0_part17 (F := F)) c v2 v5 v8 v11 v485 v488) := by
  rw [k0_part17_eq_skeleton]
  unfold app k0_part17_skel
  refine p_rcvs (.a 0 0 1) ?_
  refine p_snds (.a 0 0 2) ?_
  exact .go

theorem part18 (v2 v5 v8 v11 v526 v528 v529 c3_i32_417 v530) :
    Part (Env.mk A K dfs c) 45 (Go (Env.mk A K dfs c) 46) (app (k0_part18 (F := F)) c v2 v5 v8 v11 v526 v528 v529 c3_i32_417 v530) := by
  rw [k0_part18_eq_skeleton]
  unfold app k0_part18_skel
  refine p_rcvs (.a 0 1 1) ?_
  exact .go

theorem part19 (v2 v5 v8 v11 v548 v564) :
    Part (Env.mk A K dfs c) 46 (Go (Env.mk A K dfs c) 48) (app (k0_part19 (F := F)) c v2 v5 v8 v11 v548 v564) := by
  rw [k0_part19_eq_skeleton]
  unfold app k0_part19_skel
  refine p_snds (.a 0 1 2) ?_
  refine p_rcvs (.a 1 0 1) ?_
  exact .go

theorem part20 (v2 v5 v8 v11 v589 v590 v591 v595) :
    Part (Env.mk A K dfs c) 48 (Go (Env.mk A K dfs c) 49) (app (k0_part20 (F := F)) c v2 v5 v8 v11 v589 v590 v591 v595) := by
  rw [k0_part20_eq_skeleton]
  unfold app k0_part20_skel
  refine p_snds (.a 1 0 2) ?_
  exact .go

theorem part21 (v2 v5 v8 v11 v625) :
    Part (Env.mk A K dfs c) 49 (Go (Env.mk A K dfs c) 52) (app (k0_part21 (F := F)) c v2 v5 v8 v11 v625) := by
  rw [k0_part21_eq_skeleton]
  unfold app k0_part21_skel
  refine p_rcvs (.a 1 1 1) ?_
  refine p_snds (.a 1 1 2) ?_
  refine p_lwt_f 4 ?_
  exact .go

theorem part22 (v5 v9) :
    Part (Env.mk A K dfs c) 52 (Go (Env.mk A K dfs c) 57) (app (k0_part22 (F := F)) v5 v9) := by
  rw [k0_part22_eq_skeleton]
  unfold app k0_part22_skel
  refine p_lst_f 5 ?_
  refine p_cnv 4 ?_
  refine p_lwt_f 5 ?_
  refine p_lst_f 6 ?_
  refine p_cnv 5 ?_
  exact .go

theorem part23 (v2 v5 v8 v11 v682 v683) :
    Part (Env.mk A K dfs c) 57 (Go (Env.mk A K dfs c) 59) (app (k0_part23 (F := F)) c v2 v5 v8 v11 v682 v683) := by
  rw [k0_part23_eq_skeleton]
  unfold app k0_part23_skel
  refine p_snd (.h3 2) ?_
  refine p_rcvs (.a 0 0 2) ?_
  exact .go

theorem part24 (v2 v5 v8 v11 v713 v715 v716) :
    Part (Env.mk A K dfs c) 59 (Go (Env.mk A K dfs c) 60) (app (k0_part24 (F := F)) c v2 v5 v8 v11 v713 v715 v716) := by
  rw [k0_part24_eq_skeleton]
  unfold app k0_part24_skel
  refine p_rcvs (.a 0 1 2) ?_
  exact .go

theorem part25 (v2 v5 v8 v11 v733 v736 c0_i32_597 c3_i32_598) :
    Part (Env.mk A K dfs c) 60 (Go (Env.mk A K dfs c) 62) (app (k0_part25 (F := F)) c v2 v5 v8 v11 v733 v736 c0_i32_597 c3_i32_598) := by
  rw [k0_part25_eq_skeleton]
  unfold app k0_part25_skel
  refine p_rcvs (.a 1 0 2) ?_
  refine p_rcvs (.a 1 1 2) ?_
  exact .go

theorem part26 (v2 v5 v8 v11 v775 v776 v777 v779 c4096_i32_625) :
    Part (Env.mk A K dfs c) 62 (Go (Env.mk A K dfs c) 64) (app (k0_part26 (F := F)) c v2 v5 v8 v11 v775 v776 v777 v779 c4096_i32_625) := by
  rw [k0_part26_eq_skeleton]
  unfold app k0_part26_skel
  refine p_snds (.b 0 0 0 0) ?_
  refine p_snds (.b 0 0 0 1) ?_
  exact .go

theorem part27 (v2 v5 v8 v11) :
    Part (Env.mk A K dfs c) 64 (Go (Env.mk A K dfs c) 65) (app (k0_part27 (F := F)) c v2 v5 v8 v11) := by
  rw [k0_part27_eq_skeleton]
  unfold app k0_part27_skel
  refine p_snds (.b 0 1 0 0) ?_
  exact .go

theorem part28 (v2 v5 v8 v11 v832 v834 v841 c4096_i32_680) :
    Part (Env.mk A K dfs c) 65 (Go (Env.mk A K dfs c) 67) (app (k0_part28 (F := F)) c v2 v5 v8 v11 v832 v834 v841 c4096_i32_680) := by
  rw [k0_part28_eq_skeleton]
  unfold app k0_part28_skel
  refine p_snds (.b 0 1 0 1) ?_
  refine p_snds (.b 1 0 0 0) ?_
  exact .go

theorem part29 (v2 v5 v8 v11 v870 v871 v872) :
    Part (Env.mk A K dfs c) 67 (Go (Env.mk A K dfs c) 68) (app (k0_part29 (F := F)) c v2 v5 v8 v11 v870 v871 v872) := by
  rw [k0_part29_eq_skeleton]
  unfold app k0_part29_skel
  refine p_snds (.b 1 0 0 1) ?_
  exact .go

theorem part30 (v2 v5 v8 v11 v903 v904) :
    Part (Env.mk A K dfs c) 68 (Go (Env.mk A K dfs c) 71) (app (k0_part30 (F := F)) c v2 v5 v8 v11 v903 v904) := by
  rw [k0_part30_eq_skeleton]
  unfold app k0_part30_skel
  refine p_snds (.b 1 1 0 0) ?_
  refine p_snds (.b 1 1 0 1) ?_
  refine p_lwt_f 6 ?_
  exact .go

theorem part31 (v5 v8 v9) :
    Part (Env.mk A K dfs c) 71 (Go (Env.mk A K dfs c) 75) (app (k0_part31 (F := F)) c v5 v8 v9) := by
  rw [k0_part31_eq_skeleton]
  unfold app k0_part31_skel
  refine p_lst_f 7 ?_
  refine p_cnv 6 ?_
  refine p_lwt_f 7 ?_
  refine p_cnv 7 ?_
  exact .go

end Cert.Ag
-- ==== Proof.BodyB.lean ====
/-
  The parts of the kernel's body, each against its stretch of the script: the second half.
-/
module

public import proofs.«01_k».proof.Proof.Conv

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ
variable {c : Dev nD} {A : Dev nD → S16384x1024.Idx → Elt F .f32} {K : GSem nD τ sig → ℕ} {dfs : Defs nD τ sig (Elt F) Λ₀}

theorem part32 (v12) :
    Part (Env.mk A K dfs c) 75 (Go (Env.mk A K dfs c) 81) (app (k0_part32 (F := F)) c v12) := by
  rw [k0_part32_eq_skeleton]
  unfold app k0_part32_skel
  refine p_snd (.h3 3) ?_
  refine p_lst_o 0 ?_
  refine p_lwt_o 0 ?_
  refine p_lst_o 1 ?_
  refine p_lwt_o 1 ?_
  refine p_lst_o 2 ?_
  exact .go

theorem part33 (v2 v5 v8 v11 v12) :
    Part (Env.mk A K dfs c) 81 (Go (Env.mk A K dfs c) 85) (app (k0_part33 (F := F)) c v2 v5 v8 v11 v12) := by
  rw [k0_part33_eq_skeleton]
  unfold app k0_part33_skel
  refine p_lwt_o 2 ?_
  refine p_lst_o 3 ?_
  refine p_lwt_o 3 ?_
  refine p_rcvs (.b 0 0 0 0) ?_
  exact .go

theorem part34 (v2 v5 v8 v11) :
    Part (Env.mk A K dfs c) 85 (Go (Env.mk A K dfs c) 86) (app (k0_part34 (F := F)) c v2 v5 v8 v11) := by
  rw [k0_part34_eq_skeleton]
  unfold app k0_part34_skel
  refine p_snds (.b 0 0 1 0) ?_
  exact .go

theorem part35 (v2 v5 v8 v11 v1037 v1040 v1048) :
    Part (Env.mk A K dfs c) 86 (Go (Env.mk A K dfs c) 88) (app (k0_part35 (F := F)) c v2 v5 v8 v11 v1037 v1040 v1048) := by
  rw [k0_part35_eq_skeleton]
  unfold app k0_part35_skel
  refine p_rcvs (.b 0 0 0 1) ?_
  refine p_snds (.b 0 0 1 1) ?_
  exact .go

theorem part36 (v2 v5 v8 v11 v1074 v1076 v1077 c0_i32_893 c3_i32_894) :
    Part (Env.mk A K dfs c) 88 (Go (Env.mk A K dfs c) 89) (app (k0_part36 (F := F)) c v2 v5 v8 v11 v1074 v1076 v1077 c0_i32_893 c3_i32_894) := by
  rw [k0_part36_eq_skeleton]
  unfold app k0_part36_skel
  refine p_rcvs (.b 0 1 0 0) ?_
  exact .go

theorem part37 (v2 v5 v8 v11 v1108 v1109) :
    Part (Env.mk A K dfs c) 89 (Go (Env.mk A K dfs c) 91) (app (k0_part37 (F := F)) c v2 v5 v8 v11 v1108 v1109) := by
  rw [k0_part37_eq_skeleton]
  unfold app k0_part37_skel
  refine p_snds (.b 0 1 1 0) ?_
  refine p_rcvs (.b 0 1 0 1) ?_
  exact .go

theorem part38 (v2 v5 v8 v11 v1131 v1133 c3_i32_949 v1139) :
    Part (Env.mk A K dfs c) 91 (Go (Env.mk A K dfs c) 93) (app (k0_part38 (F := F)) c v2 v5 v8 v11 v1131 v1133 c3_i32_949 v1139) := by
  rw [k0_part38_eq_skeleton]
  unfold app k0_part38_skel
  refine p_snds (.b 0 1 1 1) ?_
  refine p_rcvs (.b 1 0 0 0) ?_
  exact .go

theorem part39 (v2 v5 v8 v11 v1168 v1169 c1_i32_977) :
    Part (Env.mk A K dfs c) 93 (Go (Env.mk A K dfs c) 94) (app (k0_part39 (F := F)) c v2 v5 v8 v11 v1168 v1169 c1_i32_977) := by
  rw [k0_part39_eq_skeleton]
  unfold app k0_part39_skel
  refine p_snds (.b 1 0 1 0) ?_
  exact .go

theorem part40 (v2 v5 v8 v11 v1200 v1201) :
    Part (Env.mk A K dfs c) 94 (Go (Env.mk A K dfs c) 96) (app (k0_part40 (F := F)) c v2 v5 v8 v11 v1200 v1201) := by
  rw [k0_part40_eq_skeleton]
  unfold app k0_part40_skel
  refine p_rcvs (.b 1 0 0 1) ?_
  refine p_snds (.b 1 0 1 1) ?_
  exact .go

theorem part41 (v2 v5 v8 v11 v1222 v1224 v1225 c0_i32_1031) :
    Part (Env.mk A K dfs c) 96 (Go (Env.mk A K dfs c) 98) (app (k0_part41 (F := F)) c v2 v5 v8 v11 v1222 v1224 v1225 c0_i32_1031) := by
  rw [k0_part41_eq_skeleton]
  unfold app k0_part41_skel
  refine p_rcvs (.b 1 1 0 0) ?_
  refine p_snds (.b 1 1 1 0) ?_
  exact .go

theorem part42 (v2 v5 v8 v11 v1259 v1260 c0_i32_1058) :
    Part (Env.mk A K dfs c) 98 (Go (Env.mk A K dfs c) 99) (app (k0_part42 (F := F)) c v2 v5 v8 v11 v1259 v1260 c0_i32_1058) := by
  rw [k0_part42_eq_skeleton]
  unfold app k0_part42_skel
  refine p_rcvs (.b 1 1 0 1) ?_
  exact .go

theorem part43 (v2 v5 v12 v1279 v1281 c0_i32_1085 c3_i32_1086) :
    Part (Env.mk A K dfs c) 99 (Go (Env.mk A K dfs c) 105) (app (k0_part43 (F := F)) c v2 v5 v12 v1279 v1281 c0_i32_1085 c3_i32_1086) := by
  rw [k0_part43_eq_skeleton]
  unfold app k0_part43_skel
  refine p_snds (.b 1 1 1 1) ?_
  refine p_lst_o 4 ?_
  refine p_lwt_o 4 ?_
  refine p_lst_o 5 ?_
  refine p_lwt_o 5 ?_
  refine p_lst_o 6 ?_
  exact .go

theorem part44 (v5 v11 v12) :
    Part (Env.mk A K dfs c) 105 (Go (Env.mk A K dfs c) 108) (app (k0_part44 (F := F)) c v5 v11 v12) := by
  rw [k0_part44_eq_skeleton]
  unfold app k0_part44_skel
  refine p_lwt_o 6 ?_
  refine p_lst_o 7 ?_
  refine p_lwt_o 7 ?_
  exact .go

theorem part45 (v2 v5 v8 v11 v1347 v1348) :
    Part (Env.mk A K dfs c) 108 (Go (Env.mk A K dfs c) 110) (app (k0_part45 (F := F)) c v2 v5 v8 v11 v1347 v1348) := by
  rw [k0_part45_eq_skeleton]
  unfold app k0_part45_skel
  refine p_rcvs (.b 0 0 1 0) ?_
  refine p_snds (.b 0 0 2 0) ?_
  exact .go

theorem part46 (v2 v5 v8 v11 v1369 v1371 v1372 c0_i32_1167 c3_i32_1168) :
    Part (Env.mk A K dfs c) 110 (Go (Env.mk A K dfs c) 112) (app (k0_part46 (F := F)) c v2 v5 v8 v11 v1369 v1371 v1372 c0_i32_1167 c3_i32_1168) := by
  rw [k0_part46_eq_skeleton]
  unfold app k0_part46_skel
  refine p_rcvs (.b 0 0 1 1) ?_
  refine p_snds (.b 0 0 2 1) ?_
  exact .go

theorem part47 (v2 v5 v8 v11 v1406 v1408) :
    Part (Env.mk A K dfs c) 112 (Go (Env.mk A K dfs c) 113) (app (k0_part47 (F := F)) c v2 v5 v8 v11 v1406 v1408) := by
  rw [k0_part47_eq_skeleton]
  unfold app k0_part47_skel
  refine p_rcvs (.b 0 1 1 0) ?_
  exact .go

theorem part48 (v2 v5 v8 v11 v1426 c3_i32_1223 v1439) :
    Part (Env.mk A K dfs c) 113 (Go (Env.mk A K dfs c) 115) (app (k0_part48 (F := F)) c v2 v5 v8 v11 v1426 c3_i32_1223 v1439) := by
  rw [k0_part48_eq_skeleton]
  unfold app k0_part48_skel
  refine p_snds (.b 0 1 2 0) ?_
  refine p_rcvs (.b 0 1 1 1) ?_
  exact .go

theorem part49 (v2 v5 v8 v11 v1463 v1464 v1465 v1469 c2048_i32_1251) :
    Part (Env.mk A K dfs c) 115 (Go (Env.mk A K dfs c) 117) (app (k0_part49 (F := F)) c v2 v5 v8 v11 v1463 v1464 v1465 v1469 c2048_i32_1251) := by
  rw [k0_part49_eq_skeleton]
  unfold app k0_part49_skel
  refine p_snds (.b 0 1 2 1) ?_
  refine p_rcvs (.b 1 0 1 0) ?_
  exact .go

theorem part50 (v2 v5 v8 v11 v1498 v1499) :
    Part (Env.mk A K dfs c) 117 (Go (Env.mk A K dfs c) 118) (app (k0_part50 (F := F)) c v2 v5 v8 v11 v1498 v1499) := by
  rw [k0_part50_eq_skeleton]
  unfold app k0_part50_skel
  refine p_snds (.b 1 0 2 0) ?_
  exact .go

theorem part51 (v2 v5 v8 v11 v1517 v1520 c0_i32_1307) :
    Part (Env.mk A K dfs c) 118 (Go (Env.mk A K dfs c) 120) (app (k0_part51 (F := F)) c v2 v5 v8 v11 v1517 v1520 c0_i32_1307) := by
  rw [k0_part51_eq_skeleton]
  unfold app k0_part51_skel
  refine p_rcvs (.b 1 0 1 1) ?_
  refine p_snds (.b 1 0 2 1) ?_
  exact .go

theorem part52 (v2 v5 v8 v11 v1554 v1556 v1557 v1560) :
    Part (Env.mk A K dfs c) 120 (Go (Env.mk A K dfs c) 122) (app (k0_part52 (F := F)) c v2 v5 v8 v11 v1554 v1556 v1557 v1560) := by
  rw [k0_part52_eq_skeleton]
  unfold app k0_part52_skel
  refine p_rcvs (.b 1 1 1 0) ?_
  refine p_snds (.b 1 1 2 0) ?_
  exact .go

theorem part53 (v2 v5 v8 v11 c1_i32_1361) :
    Part (Env.mk A K dfs c) 122 (Go (Env.mk A K dfs c) 123) (app (k0_part53 (F := F)) c v2 v5 v8 v11 c1_i32_1361) := by
  rw [k0_part53_eq_skeleton]
  unfold app k0_part53_skel
  refine p_rcvs (.b 1 1 1 1) ?_
  exact .go

theorem part54 (v2 v5 v8 v11 v1611 v1613 v1622) :
    Part (Env.mk A K dfs c) 123 (Go (Env.mk A K dfs c) 125) (app (k0_part54 (F := F)) c v2 v5 v8 v11 v1611 v1613 v1622) := by
  rw [k0_part54_eq_skeleton]
  unfold app k0_part54_skel
  refine p_snds (.b 1 1 2 1) ?_
  refine p_rcvs (.b 0 0 2 0) ?_
  exact .go

theorem part55 (v2 v5 v8 v11 v1646 v1648 v1649 v1651) :
    Part (Env.mk A K dfs c) 125 (Go (Env.mk A K dfs c) 127) (app (k0_part55 (F := F)) c v2 v5 v8 v11 v1646 v1648 v1649 v1651) := by
  rw [k0_part55_eq_skeleton]
  unfold app k0_part55_skel
  refine p_rcvs (.b 0 0 2 1) ?_
  refine p_rcvs (.b 0 1 2 0) ?_
  exact .go

theorem part56 (v2 v5 v8 v11) :
    Part (Env.mk A K dfs c) 127 (Go (Env.mk A K dfs c) 128) (app (k0_part56 (F := F)) c v2 v5 v8 v11) := by
  rw [k0_part56_eq_skeleton]
  unfold app k0_part56_skel
  refine p_rcvs (.b 0 1 2 1) ?_
  exact .go

theorem part57 (v2 v5 v8 v11 v1700 v1703 v1712) :
    Part (Env.mk A K dfs c) 128 (Go (Env.mk A K dfs c) 130) (app (k0_part57 (F := F)) c v2 v5 v8 v11 v1700 v1703 v1712) := by
  rw [k0_part57_eq_skeleton]
  unfold app k0_part57_skel
  refine p_rcvs (.b 1 0 2 0) ?_
  refine p_rcvs (.b 1 0 2 1) ?_
  exact .go

theorem part58 (v2 v5 v8 v11 v1736 v1738 v1739 v1741) :
    Part (Env.mk A K dfs c) 130 (Go (Env.mk A K dfs c) 132) (app (k0_part58 (F := F)) c v2 v5 v8 v11 v1736 v1738 v1739 v1741) := by
  rw [k0_part58_eq_skeleton]
  unfold app k0_part58_skel
  refine p_rcvs (.b 1 1 2 0) ?_
  refine p_rcvs (.b 1 1 2 1) ?_
  exact .go

theorem part59 (v5 v8 v9) :
    Part (Env.mk A K dfs c) 132 (Go (Env.mk A K dfs c) 136) (app (k0_part59 (F := F)) c v5 v8 v9) := by
  rw [k0_part59_eq_skeleton]
  unfold app k0_part59_skel
  refine p_wsd (.inj 0) ?_
  refine p_wsd (.inj 1) ?_
  refine p_wsd (.h3 0) ?_
  refine p_rcv (.h3 0) ?_
  exact .go

theorem part60 (v5 v8 v9) :
    Part (Env.mk A K dfs c) 136 (Go (Env.mk A K dfs c) 140) (app (k0_part60 (F := F)) c v5 v8 v9) := by
  rw [k0_part60_eq_skeleton]
  unfold app k0_part60_skel
  refine p_wsd (.h3 1) ?_
  refine p_rcv (.h3 1) ?_
  refine p_wsd (.h3 2) ?_
  refine p_rcv (.h3 2) ?_
  exact .go

theorem part61 (v5 v8 v9 v141 v162 v193 v214 v299 v340) :
    Part (Env.mk A K dfs c) 140 (Go (Env.mk A K dfs c) 148) (app (k0_part61 (F := F)) c v5 v8 v9 v141 v162 v193 v214 v299 v340) := by
  rw [k0_part61_eq_skeleton]
  unfold app k0_part61_skel
  refine p_wsd (.h3 3) ?_
  refine p_rcv (.h3 3) ?_
  refine p_wsds (.a 0 0 0) ?_
  refine p_wsds (.a 0 1 0) ?_
  refine p_wsds (.a 1 0 0) ?_
  refine p_wsds (.a 1 1 0) ?_
  refine p_wsds (.a 0 0 1) ?_
  refine p_wsds (.a 0 1 1) ?_
  exact .go

theorem part62 (v381 v422 v507 v548 v589 v630 v775 v794 v813 v832) :
    Part (Env.mk A K dfs c) 148 (Go (Env.mk A K dfs c) 158) (app (k0_part62 (F := F)) c v381 v422 v507 v548 v589 v630 v775 v794 v813 v832) := by
  rw [k0_part62_eq_skeleton]
  unfold app k0_part62_skel
  refine p_wsds (.a 1 0 1) ?_
  refine p_wsds (.a 1 1 1) ?_
  refine p_wsds (.a 0 0 2) ?_
  refine p_wsds (.a 0 1 2) ?_
  refine p_wsds (.a 1 0 2) ?_
  refine p_wsds (.a 1 1 2) ?_
  refine p_wsds (.b 0 0 0 0) ?_
  refine p_wsds (.b 0 0 0 1) ?_
  refine p_wsds (.b 0 1 0 0) ?_
  refine p_wsds (.b 0 1 0 1) ?_
  exact .go

theorem part63 (v851 v870 v889 v908 v1020 v1057 v1094 v1131 v1168 v1205) :
    Part (Env.mk A K dfs c) 158 (Go (Env.mk A K dfs c) 168) (app (k0_part63 (F := F)) c v851 v870 v889 v908 v1020 v1057 v1094 v1131 v1168 v1205) := by
  rw [k0_part63_eq_skeleton]
  unfold app k0_part63_skel
  refine p_wsds (.b 1 0 0 0) ?_
  refine p_wsds (.b 1 0 0 1) ?_
  refine p_wsds (.b 1 1 0 0) ?_
  refine p_wsds (.b 1 1 0 1) ?_
  refine p_wsds (.b 0 0 1 0) ?_
  refine p_wsds (.b 0 0 1 1) ?_
  refine p_wsds (.b 0 1 1 0) ?_
  refine p_wsds (.b 0 1 1 1) ?_
  refine p_wsds (.b 1 0 1 0) ?_
  refine p_wsds (.b 1 0 1 1) ?_
  exact .go

theorem part64 (v1242 v1279 v1352 v1389 v1426 v1463 v1500 v1537 v1574 v1611) :
    Part (Env.mk A K dfs c) 168 (Go (Env.mk A K dfs c) 178) (app (k0_part64 (F := F)) c v1242 v1279 v1352 v1389 v1426 v1463 v1500 v1537 v1574 v1611) := by
  rw [k0_part64_eq_skeleton]
  unfold app k0_part64_skel
  refine p_wsds (.b 1 1 1 0) ?_
  refine p_wsds (.b 1 1 1 1) ?_
  refine p_wsds (.b 0 0 2 0) ?_
  refine p_wsds (.b 0 0 2 1) ?_
  refine p_wsds (.b 0 1 2 0) ?_
  refine p_wsds (.b 0 1 2 1) ?_
  refine p_wsds (.b 1 0 2 0) ?_
  refine p_wsds (.b 1 0 2 1) ?_
  refine p_wsds (.b 1 1 2 0) ?_
  refine p_wsds (.b 1 1 2 1) ?_
  exact .go

end Cert.Ag
-- ==== Proof.Body.lean ====
/-
  The parts of the kernel's body in a row, and with them the whole body.
-/
module

public import proofs.«01_k».proof.Proof.BodyA
public import proofs.«01_k».proof.Proof.BodyB

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ
variable {c : Dev nD} {A : Dev nD → S16384x1024.Idx → Elt F .f32} {K : GSem nD τ sig → ℕ} {dfs : Defs nD τ sig (Elt F) Λ₀}

/-- The store between two pieces, the second of them run on. -/
theorem Stored.bind {e : Env F} {n m : ℕ} {α β : Type} {W : (α → PG F PUnit) → Prop} {q : FVec F S1024x1024 .bf16 → PG F β} {g : β → PG F α}
    (hq : ∀ f, Go e m f → Stored e n fun v => q v >>= f) (hg : ∀ b, Part e m W (g b)) (f) (hf : W f) :
    Stored e n fun v => (q v >>= g) >>= f := by
  simp only [Prog.bind_assoc]
  exact hq _ fun b _ => hg b f hf

set_option maxHeartbeats 10000000 in
theorem part65 : Part (Env.mk A K dfs c) 0 (To (Env.mk A K dfs c) 140 fun r => r.1 = c) (app (k0_part65 (F := F))) := by
  rw [k0_part65_eq_skeleton]
  unfold app k0_part65_skel
  refine Part.seq part1 ?_
  rintro ⟨w, _, _, _, _, _, _, s, _, _, _, _, _, _, _, _, _⟩ ⟨hw, hs⟩
  obtain rfl : w = c := hw
  obtain rfl : s = SemArray.scalar (sig.barrier 0 rfl) := hs
  dsimp only
  refine Part.then (part2 _ _ _ _ _ _ _ _ _ _ _ _) ?_
  rintro ⟨_, _⟩
  refine Part.into (part3 _ _) fun f hf => ?_
  refine Stored.bind (part4 _ _ _ _ _ _) ?_ f hf
  rintro _
  refine Part.then (part5 _ _ _ _ _ _) ?_
  rintro _
  refine Part.then (part6 _ _ _ _ _) ?_
  rintro ⟨_, _⟩
  refine Part.then (part7 _ _ _ _ _) ?_
  rintro ⟨_, _, _, _⟩
  refine Part.then (part8 _ _ _ _ _ _) ?_
  rintro _
  refine Part.then (part9 _ _ _) ?_
  rintro ⟨_, _, _, _, _⟩
  refine Part.then (part10 _ _ _ _ _ _ _ _ _) ?_
  rintro ⟨_, _, _⟩
  refine Part.then (part11 _ _ _ _ _ _ _) ?_
  rintro ⟨_, _, _, _, _⟩
  refine Part.then (part12 _ _ _ _ _ _ _ _ _) ?_
  rintro ⟨_, _, _⟩
  refine Part.then (part13 _ _ _ _ _ _ _) ?_
  rintro ⟨_, _, _, _, _⟩
  refine Part.then (part14 _ _ _ _ _ _ _ _) ?_
  rintro _
  refine Part.then (part15) ?_
  rintro _
  refine Part.then (part16 _ _ _ _) ?_
  rintro ⟨_, _⟩
  refine Part.then (part17 _ _ _ _ _ _) ?_
  rintro ⟨_, _, _, _, _, _⟩
  refine Part.then (part18 _ _ _ _ _ _ _ _ _) ?_
  rintro ⟨_, _⟩
  refine Part.then (part19 _ _ _ _ _ _) ?_
  rintro ⟨_, _, _, _⟩
  refine Part.then (part20 _ _ _ _ _ _ _ _) ?_
  rintro _
  refine Part.then (part21 _ _ _ _ _) ?_
  rintro _
  refine Part.then (part22 _ _) ?_
  rintro ⟨_, _⟩
  refine Part.then (part23 _ _ _ _ _ _) ?_
  rintro ⟨_, _, _⟩
  refine Part.then (part24 _ _ _ _ _ _ _) ?_
  rintro ⟨_, _, _, _⟩
  refine Part.then (part25 _ _ _ _ _ _ _ _) ?_
  rintro ⟨_, _, _, _, _⟩
  refine Part.then (part26 _ _ _ _ _ _ _ _ _) ?_
  rintro _
  refine Part.then (part27 _ _ _ _) ?_
  rintro ⟨_, _, _, _, _⟩
  refine Part.then (part28 _ _ _ _ _ _ _ _) ?_
  rintro ⟨_, _, _, _⟩
  refine Part.then (part29 _ _ _ _ _ _ _) ?_
  rintro ⟨_, _, _⟩
  refine Part.then (part30 _ _ _ _ _ _) ?_
  rintro _
  refine Part.then (part31 _ _ _) ?_
  rintro _
  refine Part.then (part32 _) ?_
  rintro _
  refine Part.then (part33 _ _ _ _ _) ?_
  rintro _
  refine Part.then (part34 _ _ _ _) ?_
  rintro ⟨_, _, _, _⟩
  refine Part.then (part35 _ _ _ _ _ _ _) ?_
  rintro ⟨_, _, _, _, _, _⟩
  refine Part.then (part36 _ _ _ _ _ _ _ _ _) ?_
  rintro ⟨_, _, _⟩
  refine Part.then (part37 _ _ _ _ _ _) ?_
  rintro ⟨_, _, _, _⟩
  refine Part.then (part38 _ _ _ _ _ _ _ _) ?_
  rintro ⟨_, _, _⟩
  refine Part.then (part39 _ _ _ _ _ _ _) ?_
  rintro ⟨_, _⟩
  refine Part.then (part40 _ _ _ _ _ _) ?_
  rintro ⟨_, _, _, _, _⟩
  refine Part.then (part41 _ _ _ _ _ _ _ _) ?_
  rintro ⟨_, _, _, _⟩
  refine Part.then (part42 _ _ _ _ _ _ _) ?_
  rintro ⟨_, _, _, _⟩
  refine Part.then (part43 _ _ _ _ _ _ _) ?_
  rintro _
  refine Part.then (part44 _ _ _) ?_
  rintro ⟨_, _⟩
  refine Part.then (part45 _ _ _ _ _ _) ?_
  rintro ⟨_, _, _, _, _, _⟩
  refine Part.then (part46 _ _ _ _ _ _ _ _ _) ?_
  rintro ⟨_, _, _⟩
  refine Part.then (part47 _ _ _ _ _ _) ?_
  rintro ⟨_, _, _⟩
  refine Part.then (part48 _ _ _ _ _ _ _) ?_
  rintro ⟨_, _, _, _, _⟩
  refine Part.then (part49 _ _ _ _ _ _ _ _ _) ?_
  rintro ⟨_, _⟩
  refine Part.then (part50 _ _ _ _ _ _) ?_
  rintro ⟨_, _, _, _⟩
  refine Part.then (part51 _ _ _ _ _ _ _) ?_
  rintro ⟨_, _, _, _, _⟩
  refine Part.then (part52 _ _ _ _ _ _ _ _) ?_
  rintro ⟨_, _⟩
  refine Part.then (part53 _ _ _ _ _) ?_
  rintro ⟨_, _, _⟩
  refine Part.then (part54 _ _ _ _ _ _ _) ?_
  rintro ⟨_, _, _, _⟩
  refine Part.then (part55 _ _ _ _ _ _ _ _) ?_
  rintro _
  refine Part.then (part56 _ _ _ _) ?_
  rintro ⟨_, _, _⟩
  refine Part.then (part57 _ _ _ _ _ _ _) ?_
  rintro ⟨_, _, _, _⟩
  refine Part.then (part58 _ _ _ _ _ _ _ _) ?_
  rintro _
  refine Part.then (part59 _ _ _) ?_
  rintro _
  refine Part.then (part60 _ _ _) ?_
  rintro _
  exact .done rfl

set_option maxHeartbeats 4000000 in
/-- The kernel's body runs through the whole script. -/
theorem body_runs : Runs (Env.mk A K dfs c) 0 (app (cc0_body (F := F))) := by
  have h : Part (Env.mk A K dfs c) 0 (Go (Env.mk A K dfs c) 178) (app (cc0_body (F := F))) := by
    rw [cc0_body_eq_skeleton]
    unfold app cc0_body_skel
    refine Part.seq part65 ?_
    rintro ⟨w, _, _, _, _, _, _, _, _, _, _, _, _, _, _, _, _, _, _, _, _, _, _, _, _, _, _, _, _, _, _, _, _, _, _, _, _, _, _, _⟩ hw
    obtain rfl : w = c := hw
    refine Part.then (part61 _ _ _ _ _ _ _ _ _) ?_
    rintro _
    refine Part.then (part62 _ _ _ _ _ _ _ _ _ _) ?_
    rintro _
    refine Part.then (part63 _ _ _ _ _ _ _ _ _ _) ?_
    rintro _
    refine Part.then (part64 _ _ _ _ _ _ _ _ _ _) ?_
    rintro _
    exact .go
  have h2 := h pure fun _ _ => Runs.stop
  rwa [bind_pure] at h2

end Cert.Ag
-- ==== Proof.Region.lean ====
/-
  The kernel's region of @main and the two host operations before it.
-/
module

public import proofs.«01_k».proof.Proof.Start
public import proofs.«01_k».proof.Proof.Body

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

/-- The table of the cut program's body. -/
def cutDefs : Defs nD τ sig (Elt F) Λ₀ := Defs.onTc fun
  | 0, (_, _) => Cut.tr plan (app (cc0_body (F := F)))
  | ⟨_ + 1, h⟩, _ => absurd h (Nat.not_lt.2 (Nat.le_add_left _ _))

/-! ## The cells opened before the kernel and closed after -/

section Cells
variable (A : Dev nD → S16384x1024.Idx → Elt F .f32) (K : GSem nD τ sig → ℕ) (c : Dev nD)

theorem open_all : iprop(Ctx A K ∗ bigSep Finset.univ fun q : DmaSem sig => iprop(openTok ER (dC c q) ∗ semVal (dC c q) 0))
    ⊢ iprop(|={Set.univ}=> bigSep Finset.univ fun q : DmaSem sig => iprop(atPos ER (dC c q) 0 ∅ 0 ∗ reached ER (dC c q) 0)) := by
  have h : ∀ q : DmaSem sig, iprop(Ctx A K ∗ (openTok ER (dC c q) ∗ semVal (dC c q) 0))
      ⊢ iprop(|={Set.univ}=> (atPos ER (dC c q) 0 ∅ 0 ∗ reached ER (dC c q) 0)) := fun q => by
    have ho : iprop(cellInv ER (Rd A) (K (dC c q)) (dC c q) ∗ openTok ER (dC c q) ∗ semVal (dC c q) 0)
        ⊢ iprop(|={Set.univ}=> (atPos ER (dC c q) 0 ∅ 0 ∗ reached ER (dC c q) 0)) := Rounds.cell_open ER (Rd A) (g := dC c q) (Set.mem_univ _)
    iintro ⟨HC, Ho, Hv⟩
    ihave HI := (ctx_dma c q) $$ HC
    iapply ho
    isplitl [HI]; · iexact HI
    isplitl [Ho] <;> iassumption
  have h2 : iprop(Ctx A K ∗ bigSep Finset.univ fun q : DmaSem sig => iprop(openTok ER (dC c q) ∗ semVal (dC c q) 0))
      ⊢ bigSep Finset.univ fun q : DmaSem sig => iprop(|={Set.univ}=> (atPos ER (dC c q) 0 ∅ 0 ∗ reached ER (dC c q) 0)) :=
    bigSep_with_persistent fun q _ => h q
  exact h2.trans (BI.bigSep_fupd Finset.univ _)

theorem close_all : iprop(Ctx A K ∗ (bigSep Finset.univ fun q : DmaSem sig => atPos ER (dC c q) (roundsOf c q) ∅ 0) ∗ atPos ER (barC c) 1 ∅ 0)
    ⊢ iprop(|={Set.univ}=> ((bigSep Finset.univ fun q : DmaSem sig => semVal (dC c q) 0) ∗ semVal (barC c) 0)) := by
  have h : ∀ q : DmaSem sig, iprop(Ctx A K ∗ atPos ER (dC c q) (roundsOf c q) ∅ 0) ⊢ iprop(|={Set.univ}=> semVal (dC c q) 0) := fun q => by
    have ho : iprop(cellInv ER (Rd A) (K (dC c q)) (dC c q) ∗ atPos ER (dC c q) (roundsOf c q) ∅ 0) ⊢ iprop(|={Set.univ}=> semVal (dC c q) 0) :=
      cell_close ER (Rd A) (Set.mem_univ _) id (duties_none A c q)
    iintro ⟨HC, Ha⟩
    ihave HI := (ctx_dma c q) $$ HC
    iapply ho
    isplitl [HI] <;> iassumption
  have h2 : iprop(Ctx A K ∗ bigSep Finset.univ fun q : DmaSem sig => atPos ER (dC c q) (roundsOf c q) ∅ 0)
      ⊢ bigSep Finset.univ fun q : DmaSem sig => iprop(|={Set.univ}=> semVal (dC c q) 0) :=
    bigSep_with_persistent fun q _ => h q
  have h3 := h2.trans (BI.bigSep_fupd Finset.univ _)
  have hb : iprop(cellInv ER (Rd A) (K (barC c)) (barC c) ∗ atPos ER (barC c) 1 ∅ 0) ⊢ iprop(|={Set.univ}=> semVal (barC c) 0) :=
    cell_close ER (Rd A) (Set.mem_univ _) id fun r hr => by
      obtain ⟨r, rfl⟩ := Nat.exists_eq_add_of_le' hr
      rfl
  iintro ⟨#HC, H1, H2⟩
  imod h3 $$ [H1] with H1
  · isplitr; · iexact HC
    iexact H1
  ihave HI := (ctx_bar c) $$ HC
  imod hb $$ [HI H2] with H2
  · isplitl [HI] <;> iassumption
  imodintro
  isplitl [H1] <;> iassumption

/-- The three scratch buffers, whatever they hold. -/
def scr : sProp 𝕄 :=
  iprop((∃ f, xbP (F := F) c Finset.univ fullShare f) ∗ (∃ f, fbP (F := F) c Finset.univ fullShare f) ∗ ∃ f, pbP (F := F) c Finset.univ fullShare f)
/-- What the kernel's body starts from beside them. -/
def Xc : sProp 𝕄 :=
  iprop((∃ K, Ctx A K) ∗ starts c ∗ toks c ∗ creds c ∗ argP c Finset.univ fullShare (A c) ∗ ∃ f, outP (F := F) c Finset.univ fullShare f)
/-- What it ends with. -/
def Yc : sProp 𝕄 :=
  iprop(semVal (barC c) 0 ∗ argP c Finset.univ fullShare (A c) ∗ outP c Finset.univ fullShare (fin A c))

theorem wp_upd {dfs : Defs nD τ sig (Elt F) Λ₀} (p : PG F PUnit) (Q : PUnit → sProp (MT nD τ sig Unit (Elt F) ℕ UU ℕ)) :
    wp frame (wpE dfs 𝒱₀ (c : Thread nD τ) none) Set.univ p (fun a => iprop(|={Set.univ}=> Q a))
      ⊢ wp frame (wpE dfs 𝒱₀ (c : Thread nD τ) none) Set.univ p Q := wp_fupd _ _ _ _ _

theorem body_spec {dfs : Defs nD τ sig (Elt F) Λ₀} (Q : PUnit → sProp (MT nD τ sig Unit (Elt F) ℕ UU ℕ)) :
    iprop(((∃ W, owes (c : Thread nD τ) (owed c 0) W) ∗ Xc A c ∗ scr c)
      ∗ (((∃ W, owes (c : Thread nD τ) (0 : CellTallies nD τ sig Unit) W) ∗ Yc A c ∗ (bigSep Finset.univ fun q : DmaSem sig => semVal (dC c q) 0) ∗ scr c) -∗ Q ⟨⟩))
      ⊢ wp frame (wpE dfs 𝒱₀ (c : Thread nD τ) none) Set.univ (Cut.tr plan (app (cc0_body (F := F)))) Q := by
  refine BIBase.Entails.trans ?_ (wp_upd _ _ _)
  unfold Xc scr Yc
  iintro ⟨⟨HO, ⟨⟨%K, #HC⟩, Hs, Ht, Hc, Ha, Ho⟩, Hx, Hf, Hp⟩, Hk⟩
  ihave H := (enter A c) $$ [HO Hs Ht Hc Ha Ho Hx Hf Hp]
  · isplitl [HO]; · iexact HO
    isplitl [Hs]; · iexact Hs
    isplitl [Ht]; · iexact Ht
    isplitl [Hc]; · iexact Hc
    isplitl [Ha]; · iexact Ha
    isplitl [Ho]; · iexact Ho
    isplitl [Hx]; · iexact Hx
    isplitl [Hf] <;> iassumption
  icases H with ⟨HS, HR⟩
  have hr := body_runs (c := c) (A := A) (K := K) (dfs := dfs) (fun a => iprop(|={Set.univ}=> Q a))
  dsimp only at hr
  iapply hr
  isplitl [HS]
  · isplitr; · iexact HC
    iexact HS
  iintro HS
  ihave H := (quit A c) $$ [HS HR]
  · isplitl [HS] <;> iassumption
  icases H with ⟨HO, Hq, Hb, Ha, Ho, Hx, Hf, Hp⟩
  imod (close_all A K c) $$ [Hq Hb] with ⟨Hq, Hb⟩
  · isplitr; · iexact HC
    isplitl [Hq] <;> iassumption
  imodintro
  iapply Hk
  isplitl [HO]; · iexact HO
  isplitl [Hb Ha Ho]
  · isplitl [Hb]; · iexact Hb
    isplitl [Ha] <;> iassumption
  isplitl [Hq]; · iexact Hq
  isplitl [Hx]; · iexact Hx
  isplitl [Hf] <;> iassumption

end Cells

/-! ## The pipeline's proof data -/

variable (m : (ℓ : Loc nD τ sig) → Buf (Elt F) ℓ)

/-- What each device's argument holds. -/
abbrev av (c : Dev nD) : S16384x1024.Idx → Elt F .f32 := m ((c : Thread nD τ).loc main_arg0)

def dat0 (c : Dev nD) : Pipeline.Dat τ (Elt F) Unit ℕ UU ℕ cfg0 c where
  A w := w.elim0
  after w := w.elim0
  Φ t := if t.val = 0 then iprop(Xc (av m) c ∗ scr c) else iprop(Yc (av m) c ∗ (bigSep Finset.univ fun q : DmaSem sig => semVal (dC c q) 0) ∗ scr c)
  q w := w.elim0
  owed t := if t.val = 0 then owed c 0 else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem bigSep_none {M : Type} [URA M] (Φ : Fin 0 → sProp M) : bigSep Finset.univ Φ = (BI.emp : sProp M) :=
  bigSep_univ_eq_bigSepL [] (by decide) (by decide) Φ
theorem no_arrays (c : Dev nD) (Fa) : ((pdats (F := F) m 0 c).arrays Fa : sProp 𝕄) = BI.emp := bigSep_none _
theorem no_tables (c : Dev nD) (q) (pf) : (Pipeline.prefHeld (Ix := Unit) (Name := ℕ) (U := UU) (Lvl := ℕ) (Val := Elt F) (pcfgs (F := F) 0).pre c q pf : sProp 𝕄) = BI.emp :=
  bigSep_none _
theorem rest_scr (c : Dev nD) : (Pipeline.scopedRest (Ix := Unit) (Name := ℕ) (U := UU) (Lvl := ℕ) (Val := Elt F) (Pipeline.pin (pcfgs (F := F)) adm 0).spec c : sProp 𝕄) = scr c :=
  scopedRest0_eq c

theorem owed_zero (c : Dev nD) : (pdats (F := F) m 0 c).owed 0 = owed c 0 := by
  show (if ((0 : Fin (cfg0.N + 1)).val = 0) then owed c 0 else 0) = owed c 0; exact if_pos rfl
theorem owed_first (c : Dev nD) : (dat0 (F := F) m c).owed t0_0.castSucc = owed c 0 := by
  show (if (t0_0.castSucc : Fin (cfg0.N + 1)).val = 0 then owed c 0 else 0) = owed c 0; exact if_pos rfl
theorem owed_last (c : Dev nD) : (pdats (F := F) m 0 c).owed (Fin.last _) = 0 := by
  show (if (Fin.last cfg0.N).val = 0 then owed c 0 else 0) = 0
  rw [Fin.val_last, if_neg (by rw [show cfg0.N = 1 from N_0]; decide)]

theorem owes_in {cfg : Pipeline.Cfg sig Λ₀} {c : Dev nD} (dat : Pipeline.Dat τ (Elt F) Unit ℕ UU ℕ cfg c) (t : Fin (cfg.N + 1))
    (O : CellTallies nD τ sig Unit) (h0 : dat.owed t = O) (hr : dat.recorded t = Set.univ := by first | rfl | skip) :
    iprop(∃ W, owes (c : Thread nD τ) O W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owes_out {cfg : Pipeline.Cfg sig Λ₀} {c : Dev nD} (dat : Pipeline.Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Pipeline.Dat.owesAt Pipeline.owesWithin; rw [h0]
  iintro ⟨%W, -, HO⟩; iexists W; iexact HO

theorem body0 (c : Dev nD) : Pipeline.BodyObligation (dat0 (F := F) m c) cutDefs 𝒱₀ () Set.univ := fun t => by
  obtain rfl := fin_N0 t
  rw [bigSep_none, bigSep_none]
  rw [show (dat0 m c).Φ t0_0.castSucc = iprop(Xc (av m) c ∗ scr c) from rfl,
    show (dat0 m c).Φ t0_0.succ = iprop(Yc (av m) c ∗ (bigSep Finset.univ fun q : DmaSem sig => semVal (dC c q) 0) ∗ scr c) from rfl]
  iintro ⟨⟨HX, Hs⟩, HO, -⟩
  ihave HO' := (owes_out (dat0 m c) _ (owed c 0) (owed_first m c)) $$ HO
  iapply (body_spec (av m) c (dfs := cutDefs) _)
  isplitl [HX Hs HO']
  · isplitl [HO']; · iexact HO'
    isplitl [HX] <;> iassumption
  iintro ⟨HO, HY, Hq, Hs⟩
  isplitr [HO]
  · isplitl [HY]; · iexact HY
    isplitl [Hq] <;> iassumption
  isplitl [HO]; · iapply (owes_in (dat0 m c) t0_0.succ 0 (owed_last m c)); iexact HO
  iempintro

/-! ## The segments -/

local notation "ℍ" => Pipeline.HostSeg (Name := ℕ) (U := UU) (pcfgs (F := F)) cutDefs 𝒱₀ L lv
local notation "ℝ𝕊" => Pipeline.RegionSeg (pcfgs (F := F)) adm (pdats m) () cutDefs 𝒱₀ L lv

abbrev pt (c : Dev nD) (b : Ref sig .tc) (f : b.ty.Contents (Elt F)) : sProp 𝕄 := ((c : Dev nD), (Proc.devRef .tc b : DevRef τ sig)) ↦{fullShare} f

/-- What the launch's memory holds of a device. -/
def V₀ (c : Dev nD) : Valuation τ sig (Elt F) := fun b => m (c, b)

/-- What rides past the host operations. -/
def side (c : Dev nD) : sProp 𝕄 := iprop(pt c main_arg0 (V₀ m c main_arg0) ∗ start (av m) c ∗ owes (c : Thread nD τ) (owed c 0) ∅)

/-- The result's buffer allocated. -/
def seg0 : ℍ := Pipeline.HostSeg.alloc _ _ _ _ _ main_v1 ⟨by decide, rfl⟩ (V₀ m) fun c => iprop(pt c main_v2 (V₀ m c main_v2) ∗ side m c)

abbrev copyOp : HloOp τ sig (Elt F) := StableHlo.unary main_v1 main_v2 id
def bufs2 : Finset (DevRef τ sig) := {Proc.devRef .tc main_v1, Proc.devRef .tc main_v2}
theorem copy_sub : ∀ op ∈ [(copyOp : HloOp τ sig (Elt F))], op.bufs ⊆ bufs2 := fun op h => by
  simp only [List.mem_singleton] at h; subst h
  show ({Proc.devRef .tc main_v1, Proc.devRef .tc main_v2} : Finset (DevRef τ sig)) ⊆ bufs2; decide
theorem copy_fresh : ∀ op ∈ [(copyOp : HloOp τ sig (Elt F))], op.fresh = ∅ := fun op h => by
  simp only [List.mem_singleton] at h; subst h; rfl

omit [FloatOps F] in
theorem bufs2_eq (c : Dev nD) (W : Valuation τ sig (Elt F)) :
    (StableHlo.held (c : Thread nD τ) bufs2 W : sProp 𝕄) = iprop(pt c main_v1 (W main_v1) ∗ pt c main_v2 (W main_v2)) := by
  unfold StableHlo.held
  rw [bigSep_eq_bigSepL_of_eq [Proc.devRef .tc main_v1, Proc.devRef .tc main_v2] (by decide) (by decide)]
  rfl

/-- It copied into the buffer the kernel writes. -/
def seg1 : ℍ where
  prog := StableHlo.seq [copyOp]
  pre c := iprop((∃ r, pt c main_v1 r) ∗ pt c main_v2 (V₀ m c main_v2) ∗ side m c)
  post c := iprop((∃ f, pt c main_v2 f) ∗ side m c)
  run c {β} k K := by
    have hV : ∀ r : (Proc.devRef .tc main_v1 : DevRef τ sig).ty.Contents (Elt F),
        iprop(pt c main_v1 r ∗ pt c main_v2 (V₀ m c main_v2)) = (StableHlo.held (c : Thread nD τ) bufs2 (Function.update (V₀ m c) (Proc.devRef .tc main_v1) r) : sProp 𝕄) := fun r => by
      rw [bufs2_eq, Function.update_self, Function.update_of_ne (by decide)]
    iintro ⟨Hk, Hbd, ⟨⟨%r, H1⟩, H2, Hs⟩, -⟩
    have hseq := StableHlo.wp_seq (defs := Pipeline.defs (pcfgs (F := F)) cutDefs) (Variants.lift 𝒱₀) none Set.univ c bufs2 k (K := K) [copyOp] copy_sub copy_fresh
      (Function.update (V₀ m c) (Proc.devRef .tc main_v1) r)
    iapply hseq $$ [Hbd H1 H2]
    · isplitl [Hbd]; · iexact Hbd
      iapply (Entails.of_eq (hV r))
      isplitl [H1] <;> iassumption
    iintro ⟨Hbd, Hh⟩
    iapply Hk
    isplitl [Hbd]; · iexact Hbd
    ihave Hh := (Entails.of_eq (bufs2_eq c _)) $$ Hh
    icases Hh with ⟨-, H2⟩
    isplitl [H2]; · iexists _; iexact H2
    iexact Hs

def dmaOwn : Pipeline.OwnSemFacts (cfg0.spec) (fun q : DmaSem sig => (SemLoc.dma q : SemLoc sig)) where
  isScoped := by decide
  inj := fun _ _ h => SemLoc.dma.inj h
  disj := fun _ w => w.elim0

/-- The kernel's region: everything the protocol needs goes in, the cells opened on the way; the argument, the result and the
    barrier's counter come out. -/
def reg0 : ℝ𝕊 0 where
  win := winFacts0.to₀
  block_pos w := w.elim0
  stage_whole w := w.elim0
  K := DmaSem sig
  osem q := .dma q
  ho := dmaOwn
  hbody c := (body0 m c).loose
  hwaits c := Pipeline.cellsWaits_intro _ (pdats m) () 0 c fun w => w.elim0
  pre c := iprop((∃ f, pt c main_v2 f) ∗ side m c)
  post c := iprop(Yc (av m) c ∗ ∃ W, owes (c : Thread nD τ) (0 : CellTallies nD τ sig Unit) W)
  X := Xc (av m)
  Y := Yc (av m)
  Z _ := iprop(emp)
  hentry c := by
    have ho : (Pipeline.ownSems0 (fun q : DmaSem sig => (SemLoc.dma q : SemLoc sig)) c : sProp 𝕄) = bigSep Finset.univ fun q : DmaSem sig => semVal (dC c q) 0 := rfl
    have hp : iprop((bigSep Finset.univ fun q : DmaSem sig => openTok ER (dC c q)) ∗ bigSep Finset.univ fun q : DmaSem sig => semVal (dC c q) 0)
        = (bigSep Finset.univ fun q : DmaSem sig => iprop(openTok ER (dC c q) ∗ semVal (dC c q) 0) : sProp 𝕄) := (bigSep_sep' _ _ _).symm
    rw [ho, no_arrays, no_tables]
    unfold side start Xc starts
    iintro ⟨⟨Hv, Ha, ⟨⟨%K, #HC⟩, #Hr, Hb, Hopen, Ht, Hc⟩, HO⟩, Hsem, -⟩
    imod (open_all (av m) K c) $$ [Hopen Hsem] with Hat
    · isplitr; · iexact HC
      iapply (Entails.of_eq hp)
      isplitl [Hopen] <;> iassumption
    imodintro
    isplitr; · iempintro
    isplitr; · iempintro
    isplitl [HO]
    · iapply (owes_in (pdats m 0 c) 0 (owed c 0) (owed_zero m c))
      iexists ∅; iexact HO
    isplitl
    · isplitr; · iexists K; iexact HC
      isplitl [Hat Hb]
      · isplitl [Hat]; · iexact Hat
        isplitl [Hb]; · iexact Hb
        iexact Hr
      isplitl [Ht]; · iexact Ht
      isplitl [Hc]; · iexact Hc
      isplitl [Ha]; · iexact Ha
      iexact Hv
    iempintro
  hin c := by
    rw [show (pdats m 0 c).Φ 0 = iprop(Xc (av m) c ∗ scr c) from rfl, rest_scr]
    iintro ⟨HX, -, Hs⟩
    isplitl [HX] <;> iassumption
  hout c := by
    rw [show (pdats m 0 c).Φ (Fin.last _) = iprop(Yc (av m) c ∗ (bigSep Finset.univ fun q : DmaSem sig => semVal (dC c q) 0) ∗ scr c) from rfl, rest_scr]
    exact BI.Entails.refl _
  hexit c := by
    rw [no_arrays]
    iintro ⟨-, HO, HY, -⟩
    imodintro
    isplitl [HY]; · iexact HY
    iapply (owes_out (pdats m 0 c) _ 0 (owed_last m c)); iexact HO

/-- @main as the list. -/
def segs : List (Pipeline.Seg (pcfgs (F := F)) adm (pdats m) () cutDefs 𝒱₀ L lv) := [.host (seg0 m), .host (seg1 m), .region (reg0 m)]

theorem main_eq (c : Dev nD) : main (F := F) c = Pipeline.Seg.run (segs m) := by
  simp only [main, segs, Pipeline.Seg.run, seg0, seg1, Pipeline.HostSeg.alloc, StableHlo.seq, Prog.lift, Prog.bind_op, Prog.bind_ret,
    bind_pure_comp]
  rfl

end Cert.Ag
-- ==== Proof.Whole.lean ====
/-
  The run of @main on the whole mesh.
-/
module

public import proofs.«01_k».proof.Proof.Region

@[expose] public section

noncomputable section

namespace Cert.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]
local notation "𝕄" => MT nD τ sig Unit (Elt F) ℕ UU ℕ

variable (m : (ℓ : Loc nD τ sig) → Buf (Elt F) ℓ) (ρ : Dev nD → PrngReg)

/-- The launch's resources: the pipeline's, of which there are none to speak of, and the protocol's. -/
def u₀ (F : FTy → Type) [FloatOps F] : UU :=
  (initOf (Pipeline.cells (Pipeline.pin (pcfgs (F := F)) adm) cellOf_inj) (Pipeline.launchToks (Pipeline.pin (pcfgs (F := F)) adm) cellOf_inj),
    launchOf barCells dmaCells allToks)

/-- The protocol's all begin with device 0. -/
def atZero (c : Dev nD) : sProp 𝕄 := if c = 0 then BI.own (ER (launchOf barCells dmaCells allToks)) else iprop(emp)

omit [FloatOps F] in
theorem atZero_all : bigSep Finset.univ (atZero (F := F)) = BI.own (ER (launchOf barCells dmaCells allToks)) := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def bufs3 : Finset (DevRef τ sig) := (StableHlo.tcRefs τ sig).filter fun b => ¬ b.isScoped

omit [FloatOps F] in
theorem bufs3_eq (c : Dev nD) : (unscopedBufs c (fun b => m ((c : Thread nD τ).loc b)) : sProp 𝕄)
    = iprop(pt c main_arg0 (V₀ m c main_arg0) ∗ pt c main_v1 (V₀ m c main_v1) ∗ pt c main_v2 (V₀ m c main_v2)) := by
  have h : (unscopedBufs c (fun b => V₀ m c b) : sProp 𝕄) = StableHlo.held (c : Thread nD τ) bufs3 (V₀ m c) := by
    unfold unscopedBufs StableHlo.held bufs3 StableHlo.tcRefs
    rw [Finset.filter_map, BI.bigSep_map]
    rfl
  refine Eq.trans h ?_
  unfold StableHlo.held
  rw [bigSep_eq_bigSepL_of_eq [Proc.devRef .tc main_arg0, Proc.devRef .tc main_v1, Proc.devRef .tc main_v2] (by decide) (by decide)]
  rfl

theorem unscoped_bar : ∀ sm : SemLoc sig, sm.isScoped .tc = false → sm = .reg barrier0 := by decide
omit [FloatOps F] in
theorem sems_bar (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- The first state of a device's thread. -/
abbrev T₀ (c : Dev nD) : sProp 𝕄 := iprop(pt c main_v1 (V₀ m c main_v1) ∗ (pt c main_v2 (V₀ m c main_v2) ∗ side m c))

/-- What of the launch's holdings is no cell's. -/
def plain (c : Dev nD) : sProp 𝕄 :=
  iprop(pt c main_arg0 (V₀ m c main_arg0) ∗ pt c main_v1 (V₀ m c main_v1) ∗ pt c main_v2 (V₀ m c main_v2) ∗ owes (c : Thread nD τ) (owed c 0) ∅)

theorem init : iprop((bigSep Finset.univ fun c : Dev nD => iprop(unscopedBufs c (fun b => m ((c : Thread nD τ).loc b)) ∗ unscopedSems0 c
      ∗ owes (c : Thread nD τ) (owed c 0) ∅ ∗ Pipeline.launchCred (fun d => owed d 0) c ∗ prngReg c (ρ c) ∗ atZero c)) ∗ levAts L lv)
    ⊢ (|={Set.univ}=> bigSep Finset.univ (T₀ m) : sProp 𝕄) := by
  have hc : ∀ c : Dev nD, iprop(unscopedBufs c (fun b => m ((c : Thread nD τ).loc b)) ∗ unscopedSems0 c
      ∗ owes (c : Thread nD τ) (owed c 0) ∅ ∗ Pipeline.launchCred (fun d => owed d 0) c ∗ prngReg c (ρ c) ∗ atZero c)
      ⊢ (iprop(plain m c ∗ semVal (barC c) 0 ∗ atZero c ∗ creds c) : sProp 𝕄) := fun c => by
    rw [bufs3_eq, sems_bar]
    unfold plain
    iintro ⟨⟨Ha, H1, H2⟩, Hs, HO, Hcr, -, HG⟩
    ihave Hc := (creds_launch (F := F) c) $$ Hcr
    isplitl [Ha H1 H2 HO]
    · isplitl [Ha]; · iexact Ha
      isplitl [H1]; · iexact H1
      isplitl [H2] <;> iassumption
    isplitl [Hs]; · iexact Hs
    isplitl [HG] <;> iassumption
  have h1 : (bigSep Finset.univ fun c : Dev nD => iprop(unscopedBufs c (fun b => m ((c : Thread nD τ).loc b)) ∗ unscopedSems0 c
      ∗ owes (c : Thread nD τ) (owed c 0) ∅ ∗ Pipeline.launchCred (fun d => owed d 0) c ∗ prngReg c (ρ c) ∗ atZero c))
      ⊢ (bigSep Finset.univ fun c : Dev nD => iprop(plain m c ∗ semVal (barC c) 0 ∗ atZero c ∗ creds c) : sProp 𝕄) := bigSep_mono fun c _ => hc c
  have h2 : (bigSep Finset.univ fun c : Dev nD => iprop(plain m c ∗ semVal (barC c) 0 ∗ atZero c ∗ creds c) : sProp 𝕄)
      = iprop((bigSep Finset.univ fun c : Dev nD => plain m c) ∗ (bigSep Finset.univ fun c : Dev nD => semVal (barC c) 0)
        ∗ BI.own (ER (launchOf barCells dmaCells allToks)) ∗ bigSep Finset.univ fun c : Dev nD => creds c) := by
    rw [bigSep_sep', bigSep_sep', bigSep_sep', ← atZero_all]
  have h3 : ∀ c : Dev nD, iprop(plain m c ∗ start (av m) c) ⊢ T₀ m c := fun c => by
    unfold plain T₀ side
    iintro ⟨⟨Ha, H1, H2, HO⟩, Hs⟩
    isplitl [H1]; · iexact H1
    isplitl [H2]; · iexact H2
    isplitl [Ha]; · iexact Ha
    isplitl [Hs] <;> iassumption
  have h4 : iprop((bigSep Finset.univ fun c : Dev nD => plain m c) ∗ bigSep Finset.univ fun c : Dev nD => start (av m) c)
      ⊢ (bigSep Finset.univ (T₀ m) : sProp 𝕄) := by
    rw [← bigSep_sep']
    exact bigSep_mono fun c _ => h3 c
  iintro ⟨H, Hla⟩
  ihave H := h1 $$ H
  ihave H := (Entails.of_eq h2) $$ H
  icases H with ⟨HP, Hv, HG, Hc⟩
  imod (deal (av m)) $$ [Hla Hv HG Hc] with Hs
  · isplitl [Hla]; · iexact Hla
    isplitl [Hv]; · iexact Hv
    isplitl [HG] <;> iassumption
  imodintro
  iapply h4
  isplitl [HP] <;> iassumption

set_option backward.isDefEq.respectTransparency.types false in
/-- The cut program's run: every device's argument ends as it began, the result holds what `fin` says, every counter is zero. -/
theorem run_cut : θ_run (Pipeline.defs pcfgs cutDefs) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = fin (av m) c) ∧ r.2.sem = fun _ => 0) :=
  Pipeline.θ_run_regions_kit_sems (pcfgs (F := F)) adm (pdats m) () cellOf_inj EP cutDefs 𝒱₀ L lv m ρ main (segs m)
    (fun c Q => by rw [main_eq m c])
    (by simp only [segs, Pipeline.Seg.pipes_host, Pipeline.Seg.pipes_region, Pipeline.Seg.pipes_nil]; decide)
    (O₀ := fun d => owed d 0) (hL := fun g h => if_neg h) (G := atZero) (u₀ := u₀ F)
    (hu₀ := by
      unfold u₀
      iintro Hu
      ihave H := (ownU_pair _ _) $$ Hu
      icases H with ⟨HP, HX⟩
      imodintro
      isplitl [HP]; · iexact HP
      rw [atZero_all]; iexact HX)
    (T₀ := T₀ m) (Tₙ := Yc (av m))
    (hch := ⟨fun c => .rfl, fun c => .rfl, fun c => .rfl, fun c => .rfl⟩)
    (hinit := init m ρ)
    (QY := fun c s => (s.mem ((c : Thread nD τ).loc main_arg0) = m ((c : Thread nD τ).loc main_arg0)
      ∧ s.mem ((c : Thread nD τ).loc main_v2) = fin (av m) c) ∧ s.sem (barC c) = 0)
    (hfin := fun c s' => by
      unfold Yc
      iintro ⟨⟨Hb, Hx, Hy⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1,
      sem_eq_zero hs fun c sm hsm => by
        obtain rfl := unscoped_bar sm hsm
        exact (h c).2⟩)

theorem rel_onTc {D D' : (ℓ : Λ₀.Label) → Λ₀.Args ℓ → Prog (TpuEff nD τ sig (Elt F) Λ₀ .tc) (Λ₀.Result ℓ)} (h : ∀ ℓ a, Cut.Rel (D ℓ a) (D' ℓ a)) :
    ∀ p ℓ a, Cut.Rel (Defs.onTc D p ℓ a) (Defs.onTc D' p ℓ a)
  | .tc, ℓ, a => h ℓ a
  | .scScalar _, _, _ => .refl _
  | .scVector _ _, _, _ => .refl _
theorem rel_body (q : PG F PUnit) : Cut.Rel q (Cut.tr plan q) := Cut.rel_tr (p := (Proc.tc : Proc τ)) plan plan_pos q

theorem cut_rel : ∀ p ℓ a, Cut.Rel ((defs₀ (F := F)) p ℓ a) ((cutDefs (F := F)) p ℓ a) :=
  rel_onTc fun
    | 0, (_, _) => rel_body (app (cc0_body (F := F)))
    | ⟨_ + 1, h⟩, _ => absurd h (Nat.not_lt.2 (Nat.le_add_left _ _))

/-- The kernel's. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = fin (av m) c) ∧ r.2.sem = fun _ => 0) :=
  Cut.theta_of_rel (Cut.rel_pipeline cut_rel) (run_cut m ρ)

end Cert.Ag
-- ==== Proof.Ref.lean ====
/-
  The run of the reference: one conversion on the host.
-/
module

public import proofs.«01_k».proof.Defs
public import Idealize.ShloMosaic.Lib.StableHlo.Run
public import Idealize.ShloMosaic.Lib.Quiescent
public import proofs.«01_k».proof.Proof.Gen.ReferenceIdeal

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

/-- The conversion. -/
abbrev ops : List (HloOp τ sig (Elt F)) :=
  [unary main_arg0 main_v0 ((truncf .bf16 · bitsLt_bf16_f32) : (⟨S32768x1024, .f32⟩ : BufTy).Contents (Elt F) → (⟨S32768x1024, .bf16⟩ : BufTy).Contents (Elt F))]

theorem main_ops (c : Dev nD) : main (F := F) c = seq ops := by simp only [main, seq]

/-- What the conversion makes of an array. -/
abbrev narrow (v : (⟨S32768x1024, .f32⟩ : BufTy).Contents (Elt F)) : (⟨S32768x1024, .bf16⟩ : BufTy).Contents (Elt F) :=
  truncf .bf16 v bitsLt_bf16_f32

theorem after_out (V : Valuation τ sig (Elt F)) :
    after ops V (main_v0 : DevRef τ sig) = narrow (V (main_arg0 : DevRef τ sig)) := by
  simp only [after_cons, after_nil]
  rfl

theorem after_arg (V : Valuation τ sig (Elt F)) : after ops V (main_arg0 : DevRef τ sig) = V (main_arg0 : DevRef τ sig) := by
  simp only [after_cons, after_nil]
  rfl

theorem no_refs : (Finset.univ.filter fun b : Ref sig .tc => b.isScoped) = ∅ := by decide
theorem no_sems : (Finset.univ.filter fun s : SemLoc sig => s.isScoped .tc) = ∅ := by decide

/-- The reference ends with the narrowed array, its argument and the counters as they were. -/
theorem ref_run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_v0) = narrow (m ((c.tc : Thread nD τ).loc main_arg0)))
      ∧ r.2.sem = fun _ => 0 :=
  (θ_run defs _ _).mono
    (fun r h => ⟨fun c => ⟨(h c main_arg0).trans (after_arg _), (h c main_v0).trans (after_out _)⟩,
      Idealize.ShloMosaic.sem_eq_zero_of_no_sems (by decide) r.2⟩)
    (run_seq no_refs no_sems defs main (fun _ => ops) main_ops (fun _ => unary_bufs_sub ..) m ρ)

end Cert.Ref

end
-- ==== Proof.lean ====
/-
  The five claims of the all-gather: the three frames, that the reading over the reals is the program's own, and
  that every device ends with the whole array the reference computes.
-/
module

public import proofs.«01_k».proof.Defs
public import proofs.«01_k».proof.Proof.Whole
public import proofs.«01_k».proof.Proof.Ref
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The kernel's program and its reading over the reals are one text: the run is proved once, over any float values. -/
theorem frame_kernel : Cert.quiescent_Kernel := fun m ρ _ =>
  (θ_run Cert.KernelIdeal.defs _ _).mono (fun _ h => ⟨fun c => (h.1 c).1, h.2⟩) (Cert.Ag.run_main (F := Bits) m ρ)

theorem frame_ideal : Cert.quiescent_KernelIdeal := fun m ρ _ =>
  (θ_run Cert.KernelIdeal.defs _ _).mono (fun _ h => ⟨fun c => (h.1 c).1, h.2⟩) (Cert.Ag.run_main (F := Ideal) m ρ)

theorem frame_reference : Cert.quiescent_ReferenceIdeal := fun m ρ _ =>
  (θ_run Cert.ReferenceIdeal.defs _ _).mono (fun _ h => ⟨fun c => (h.1 c).1, h.2⟩) (Cert.Ref.ref_run (F := Ideal) m ρ)

/-- Whoever gave the result a row has that half of the array. -/
theorem own_half : ∀ (c : Dev Cert.KernelIdeal.nD) (a : Cert.Ag.Atom), (Cert.Ag.own' c a).val / 16 = a.1.val / 16 := by
  have key : ∀ (c : Fin 32) (r : Fin 32) (g : Fin 3), (Cert.Ag.own' c (r, g)).val / 16 = r.val / 16 := by decide +kernel
  exact fun c a => key c a.1 a.2

/-- The block of the array a device holds. -/
abbrev blk (c : Dev Cert.KernelIdeal.nD) := Layout.meshBlock [2, 4, 4] (![[0], []] : Fin 2 → List ℕ) c

theorem blk_row : ∀ c : Dev Cert.KernelIdeal.nD, (blk c 0).val = c.val / 16 := by decide +kernel
theorem blk_col : ∀ c : Dev Cert.KernelIdeal.nD, (blk c 1).val = 0 := by decide +kernel

theorem fits : Layout.TilesN ⟨2, ![16384, 1024]⟩ ⟨2, ![32768, 1024]⟩ (fun b => Layout.cutSize [2, 4, 4] ((![[0], []] : Fin 2 → List ℕ) b)) := by decide

/-- An index of a block, in the whole array. -/
theorem idx_row (c : Dev Cert.KernelIdeal.nD) (i : (⟨2, ![16384, 1024]⟩ : Shape).Idx) : (fits.idx (blk c) i 0).val = c.val / 16 * 16384 + (i 0).val :=
  (fits.idx_val (blk c) i 0).trans (congrArg (fun n : ℕ => n * 16384 + (i 0).val) (blk_row c))
theorem idx_col (c : Dev Cert.KernelIdeal.nD) (i : (⟨2, ![16384, 1024]⟩ : Shape).Idx) : (fits.idx (blk c) i 1).val = (i 1).val :=
  (fits.idx_val (blk c) i 1).trans ((congrArg (fun n : ℕ => n * 1024 + (i 1).val) (blk_col c)).trans (by simp only [Nat.zero_mul, Nat.zero_add]))

/-- What every device ends with is the narrowed whole array. -/
theorem fin_whole (A : Dev Cert.KernelIdeal.nD → Cert.KernelIdeal.S16384x1024.Idx → Elt Ideal .f32)
    (X : Cert.ReferenceIdeal.S32768x1024.Idx → Elt Ideal .f32)
    (h : ∀ c, A c = Layout.blockN ⟨2, ![16384, 1024]⟩ ⟨2, ![32768, 1024]⟩ (Layout.meshBlock [2, 4, 4] ![[0], []] c) X)
    (c : Dev Cert.KernelIdeal.nD) : Cert.Ag.fin A c = Cert.Ref.narrow (F := Ideal) X := by
  funext i
  unfold Cert.Ag.fin Cert.Ag.XB
  rw [h]
  refine congrArg (FloatOps.truncf (F := Ideal) (φ := .f32) .bf16 _) (congrArg X ?_)
  have h0 : (i 0).val < 32768 := (i 0).isLt
  have h1 : (i 1).val < 1024 := (i 1).isLt
  have ho := own_half c (Cert.Ag.atom i)
  have ha : (Cert.Ag.atom i).1.val = (i 0).val / 1024 := rfl
  have e0 : (Cert.Ag.xi (i 0).val (i 1).val 0).val = (i 0).val % 16384 := rfl
  have e1 : (Cert.Ag.xi (i 0).val (i 1).val 1).val = (i 1).val % 1024 := rfl
  refine funext (Fin.forall_fin_two.2 ⟨Fin.ext ?_, Fin.ext ?_⟩)
  · refine (idx_row (Cert.Ag.own' c (Cert.Ag.atom i)) (Cert.Ag.xi (i 0).val (i 1).val)).trans ?_
    rw [ho, ha]
    omega
  · refine (idx_col (Cert.Ag.own' c (Cert.Ag.atom i)) (Cert.Ag.xi (i 0).val (i 1).val)).trans ?_
    omega

theorem value : Cert.algebraic_KernelIdeal_ReferenceIdeal := by
  intro m ρ m' ρ' _ h
  refine ⟨Cert.Ref.narrow (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ k c => ⟨(k.1 c).2.trans (fin_whole _ _ h c), (k.1 c).1⟩) (Cert.Ag.run_main (F := Ideal) m ρ)
  · exact (θ_run Cert.ReferenceIdeal.defs _ _).mono (fun _ k => ⟨(k.1 0).2, (k.1 0).1⟩) (Cert.Ref.ref_run (F := Ideal) m' ρ')

theorem claim : Cert.Claim :=
  ⟨Cert.Kernel.Gen.facts, Cert.KernelIdeal.Gen.facts, Cert.ReferenceIdeal.Gen.facts,
    frame_kernel, frame_ideal, frame_reference, trivial, value⟩

end Cert.Proof

end
